-- ==== Defs.lean ====
def Pre_DiffLatent (m : (ℓ : Loc Cert.DiffLatent.nD Cert.DiffLatent.τ Cert.DiffLatent.sig) → Buf (Elt Bits) ℓ) : Prop :=
  True

def Pre_DiffLatentIdeal (m : (ℓ : Loc Cert.DiffLatentIdeal.nD Cert.DiffLatentIdeal.τ Cert.DiffLatentIdeal.sig) → Buf (Elt Ideal) ℓ) : Prop :=
  True

def Pre_DiffLatentIdeal_finite_scores [hPre_finite_scores : Cert.Pre_finite_scores.Facts] (m : (ℓ : Loc Cert.DiffLatentIdeal.nD Cert.DiffLatentIdeal.τ Cert.DiffLatentIdeal.sig) → Buf (Elt Ideal) ℓ) : Prop :=
  ∀ c : Dev Cert.DiffLatentIdeal.nD,
    (Cert.Pre_finite_scores.fn (F := Ideal) (m ((c.tc : Thread Cert.DiffLatentIdeal.nD Cert.DiffLatentIdeal.τ).loc Cert.DiffLatentIdeal.main_arg0)) (m ((c.tc : Thread Cert.DiffLatentIdeal.nD Cert.DiffLatentIdeal.τ).loc Cert.DiffLatentIdeal.main_arg1)) (m ((c.tc : Thread Cert.DiffLatentIdeal.nD Cert.DiffLatentIdeal.τ).loc Cert.DiffLatentIdeal.main_arg2)) (m ((c.tc : Thread Cert.DiffLatentIdeal.nD Cert.DiffLatentIdeal.τ).loc Cert.DiffLatentIdeal.main_arg3)) (m ((c.tc : Thread Cert.DiffLatentIdeal.nD Cert.DiffLatentIdeal.τ).loc Cert.DiffLatentIdeal.main_arg4)) (m ((c.tc : Thread Cert.DiffLatentIdeal.nD Cert.DiffLatentIdeal.τ).loc Cert.DiffLatentIdeal.main_arg5))) = (fun _ => 1#1)

def Pre_DiffLatentRefIdeal (m : (ℓ : Loc Cert.DiffLatentRefIdeal.nD Cert.DiffLatentRefIdeal.τ Cert.DiffLatentRefIdeal.sig) → Buf (Elt Ideal) ℓ) : Prop :=
  True

def Pre_DiffLatentRefIdeal_finite_scores [hPre_finite_scores : Cert.Pre_finite_scores.Facts] (m : (ℓ : Loc Cert.DiffLatentRefIdeal.nD Cert.DiffLatentRefIdeal.τ Cert.DiffLatentRefIdeal.sig) → Buf (Elt Ideal) ℓ) : Prop :=
  ∀ c : Dev Cert.DiffLatentRefIdeal.nD,
    (Cert.Pre_finite_scores.fn (F := Ideal) (m ((c.tc : Thread Cert.DiffLatentRefIdeal.nD Cert.DiffLatentRefIdeal.τ).loc Cert.DiffLatentRefIdeal.main_arg0)) (m ((c.tc : Thread Cert.DiffLatentRefIdeal.nD Cert.DiffLatentRefIdeal.τ).loc Cert.DiffLatentRefIdeal.main_arg1)) (m ((c.tc : Thread Cert.DiffLatentRefIdeal.nD Cert.DiffLatentRefIdeal.τ).loc Cert.DiffLatentRefIdeal.main_arg2)) (m ((c.tc : Thread Cert.DiffLatentRefIdeal.nD Cert.DiffLatentRefIdeal.τ).loc Cert.DiffLatentRefIdeal.main_arg3)) (m ((c.tc : Thread Cert.DiffLatentRefIdeal.nD Cert.DiffLatentRefIdeal.τ).loc Cert.DiffLatentRefIdeal.main_arg4)) (m ((c.tc : Thread Cert.DiffLatentRefIdeal.nD Cert.DiffLatentRefIdeal.τ).loc Cert.DiffLatentRefIdeal.main_arg5))) = (fun _ => 1#1)

def Pre_FfnDense (m : (ℓ : Loc Cert.FfnDense.nD Cert.FfnDense.τ Cert.FfnDense.sig) → Buf (Elt Bits) ℓ) : Prop :=
  True

def Pre_FfnDenseIdeal (m : (ℓ : Loc Cert.FfnDenseIdeal.nD Cert.FfnDenseIdeal.τ Cert.FfnDenseIdeal.sig) → Buf (Elt Ideal) ℓ) : Prop :=
  True

def Pre_FfnDenseRefIdeal (m : (ℓ : Loc Cert.FfnDenseRefIdeal.nD Cert.FfnDenseRefIdeal.τ Cert.FfnDenseRefIdeal.sig) → Buf (Elt Ideal) ℓ) : Prop :=
  True

def Pre_FfnMoe [hPre_experts_in_range : Cert.Pre_experts_in_range.Facts] (m : (ℓ : Loc Cert.FfnMoe.nD Cert.FfnMoe.τ Cert.FfnMoe.sig) → Buf (Elt Bits) ℓ) : Prop :=
  ∀ c : Dev Cert.FfnMoe.nD,
    (Cert.Pre_experts_in_range.fn (F := Bits) (m ((c.tc : Thread Cert.FfnMoe.nD Cert.FfnMoe.τ).loc Cert.FfnMoe.main_arg0)) (m ((c.tc : Thread Cert.FfnMoe.nD Cert.FfnMoe.τ).loc Cert.FfnMoe.main_arg1)) (m ((c.tc : Thread Cert.FfnMoe.nD Cert.FfnMoe.τ).loc Cert.FfnMoe.main_arg2)) (m ((c.tc : Thread Cert.FfnMoe.nD Cert.FfnMoe.τ).loc Cert.FfnMoe.main_arg3)) (m ((c.tc : Thread Cert.FfnMoe.nD Cert.FfnMoe.τ).loc Cert.FfnMoe.main_arg4)) (m ((c.tc : Thread Cert.FfnMoe.nD Cert.FfnMoe.τ).loc Cert.FfnMoe.main_arg5)) (m ((c.tc : Thread Cert.FfnMoe.nD Cert.FfnMoe.τ).loc Cert.FfnMoe.main_arg6))) = (fun _ => 1#1)

def Pre_FfnMoeIdeal [hPre_experts_in_range : Cert.Pre_experts_in_range.Facts] (m : (ℓ : Loc Cert.FfnMoeIdeal.nD Cert.FfnMoeIdeal.τ Cert.FfnMoeIdeal.sig) → Buf (Elt Ideal) ℓ) : Prop :=
  ∀ c : Dev Cert.FfnMoeIdeal.nD,
    (Cert.Pre_experts_in_range.fn (F := Ideal) (m ((c.tc : Thread Cert.FfnMoeIdeal.nD Cert.FfnMoeIdeal.τ).loc Cert.FfnMoeIdeal.main_arg0)) (m ((c.tc : Thread Cert.FfnMoeIdeal.nD Cert.FfnMoeIdeal.τ).loc Cert.FfnMoeIdeal.main_arg1)) (m ((c.tc : Thread Cert.FfnMoeIdeal.nD Cert.FfnMoeIdeal.τ).loc Cert.FfnMoeIdeal.main_arg2)) (m ((c.tc : Thread Cert.FfnMoeIdeal.nD Cert.FfnMoeIdeal.τ).loc Cert.FfnMoeIdeal.main_arg3)) (m ((c.tc : Thread Cert.FfnMoeIdeal.nD Cert.FfnMoeIdeal.τ).loc Cert.FfnMoeIdeal.main_arg4)) (m ((c.tc : Thread Cert.FfnMoeIdeal.nD Cert.FfnMoeIdeal.τ).loc Cert.FfnMoeIdeal.main_arg5)) (m ((c.tc : Thread Cert.FfnMoeIdeal.nD Cert.FfnMoeIdeal.τ).loc Cert.FfnMoeIdeal.main_arg6))) = (fun _ => 1#1)

def Pre_FfnMoeRefIdeal [hPre_experts_in_range : Cert.Pre_experts_in_range.Facts] (m : (ℓ : Loc Cert.FfnMoeRefIdeal.nD Cert.FfnMoeRefIdeal.τ Cert.FfnMoeRefIdeal.sig) → Buf (Elt Ideal) ℓ) : Prop :=
  ∀ c : Dev Cert.FfnMoeRefIdeal.nD,
    (Cert.Pre_experts_in_range.fn (F := Ideal) (m ((c.tc : Thread Cert.FfnMoeRefIdeal.nD Cert.FfnMoeRefIdeal.τ).loc Cert.FfnMoeRefIdeal.main_arg0)) (m ((c.tc : Thread Cert.FfnMoeRefIdeal.nD Cert.FfnMoeRefIdeal.τ).loc Cert.FfnMoeRefIdeal.main_arg1)) (m ((c.tc : Thread Cert.FfnMoeRefIdeal.nD Cert.FfnMoeRefIdeal.τ).loc Cert.FfnMoeRefIdeal.main_arg2)) (m ((c.tc : Thread Cert.FfnMoeRefIdeal.nD Cert.FfnMoeRefIdeal.τ).loc Cert.FfnMoeRefIdeal.main_arg3)) (m ((c.tc : Thread Cert.FfnMoeRefIdeal.nD Cert.FfnMoeRefIdeal.τ).loc Cert.FfnMoeRefIdeal.main_arg4)) (m ((c.tc : Thread Cert.FfnMoeRefIdeal.nD Cert.FfnMoeRefIdeal.τ).loc Cert.FfnMoeRefIdeal.main_arg5)) (m ((c.tc : Thread Cert.FfnMoeRefIdeal.nD Cert.FfnMoeRefIdeal.τ).loc Cert.FfnMoeRefIdeal.main_arg6))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_NormPrompt (m : (ℓ : Loc Cert.NormPrompt.nD Cert.NormPrompt.τ Cert.NormPrompt.sig) → Buf (Elt Bits) ℓ) : Prop :=
  True

def Pre_NormPromptIdeal (m : (ℓ : Loc Cert.NormPromptIdeal.nD Cert.NormPromptIdeal.τ Cert.NormPromptIdeal.sig) → Buf (Elt Ideal) ℓ) : Prop :=
  True

def Pre_NormPromptRefIdeal (m : (ℓ : Loc Cert.NormPromptRefIdeal.nD Cert.NormPromptRefIdeal.τ Cert.NormPromptRefIdeal.sig) → Buf (Elt Ideal) ℓ) : Prop :=
  True

def Pre_NormSample (m : (ℓ : Loc Cert.NormSample.nD Cert.NormSample.τ Cert.NormSample.sig) → Buf (Elt Bits) ℓ) : Prop :=
  True

def Pre_NormSampleIdeal (m : (ℓ : Loc Cert.NormSampleIdeal.nD Cert.NormSampleIdeal.τ Cert.NormSampleIdeal.sig) → Buf (Elt Ideal) ℓ) : Prop :=
  True

def Pre_NormSampleRefIdeal (m : (ℓ : Loc Cert.NormSampleRefIdeal.nD Cert.NormSampleRefIdeal.τ Cert.NormSampleRefIdeal.sig) → Buf (Elt Ideal) ℓ) : Prop :=
  True

def Pre_MlaA (m : (ℓ : Loc Cert.MlaA.nD Cert.MlaA.τ Cert.MlaA.sig) → Buf (Elt Bits) ℓ) : Prop :=
  True

def Pre_MlaAIdeal (m : (ℓ : Loc Cert.MlaAIdeal.nD Cert.MlaAIdeal.τ Cert.MlaAIdeal.sig) → Buf (Elt Ideal) ℓ) : Prop :=
  True

def Pre_MlaARefIdeal (m : (ℓ : Loc Cert.MlaARefIdeal.nD Cert.MlaARefIdeal.τ Cert.MlaARefIdeal.sig) → Buf (Elt Ideal) ℓ) : Prop :=
  True

def Pre_MlaCkv (m : (ℓ : Loc Cert.MlaCkv.nD Cert.MlaCkv.τ Cert.MlaCkv.sig) → Buf (Elt Bits) ℓ) : Prop :=
  True

def Pre_MlaCkvIdeal (m : (ℓ : Loc Cert.MlaCkvIdeal.nD Cert.MlaCkvIdeal.τ Cert.MlaCkvIdeal.sig) → Buf (Elt Ideal) ℓ) : Prop :=
  True

def Pre_MlaCkvRefIdeal (m : (ℓ : Loc Cert.MlaCkvRefIdeal.nD Cert.MlaCkvRefIdeal.τ Cert.MlaCkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQRefIdeal (m : (ℓ : Loc Cert.MlaQRefIdeal.nD Cert.MlaQRefIdeal.τ Cert.MlaQRefIdeal.sig) → Buf (Elt Ideal) ℓ) : Prop :=
  True

def Pre_MlaKvb (m : (ℓ : Loc Cert.MlaKvb.nD Cert.MlaKvb.τ Cert.MlaKvb.sig) → Buf (Elt Bits) ℓ) : Prop :=
  True

def Pre_MlaKvbIdeal (m : (ℓ : Loc Cert.MlaKvbIdeal.nD Cert.MlaKvbIdeal.τ Cert.MlaKvbIdeal.sig) → Buf (Elt Ideal) ℓ) : Prop :=
  True

def Pre_MlaKvbRefIdeal (m : (ℓ : Loc Cert.MlaKvbRefIdeal.nD Cert.MlaKvbRefIdeal.τ Cert.MlaKvbRefIdeal.sig) → Buf (Elt Ideal) ℓ) : Prop :=
  True

def Pre_MlaLatent (m : (ℓ : Loc Cert.MlaLatent.nD Cert.MlaLatent.τ Cert.MlaLatent.sig) → Buf (Elt Bits) ℓ) : Prop :=
  True

def Pre_MlaLatentIdeal (m : (ℓ : Loc Cert.MlaLatentIdeal.nD Cert.MlaLatentIdeal.τ Cert.MlaLatentIdeal.sig) → Buf (Elt Ideal) ℓ) : Prop :=
  True

def Pre_MlaLatentIdeal_finite_mla [hPre_finite_mla : Cert.Pre_finite_mla.Facts] (m : (ℓ : Loc Cert.MlaLatentIdeal.nD Cert.MlaLatentIdeal.τ Cert.MlaLatentIdeal.sig) → Buf (Elt Ideal) ℓ) : Prop :=
  ∀ c : Dev Cert.MlaLatentIdeal.nD,
    (Cert.Pre_finite_mla.fn (F := Ideal) (m ((c.tc : Thread Cert.MlaLatentIdeal.nD Cert.MlaLatentIdeal.τ).loc Cert.MlaLatentIdeal.main_arg0)) (m ((c.tc : Thread Cert.MlaLatentIdeal.nD Cert.MlaLatentIdeal.τ).loc Cert.MlaLatentIdeal.main_arg1)) (m ((c.tc : Thread Cert.MlaLatentIdeal.nD Cert.MlaLatentIdeal.τ).loc Cert.MlaLatentIdeal.main_arg2)) (m ((c.tc : Thread Cert.MlaLatentIdeal.nD Cert.MlaLatentIdeal.τ).loc Cert.MlaLatentIdeal.main_arg3))) = (fun _ => 1#1)

def Pre_MlaLatentRefIdeal (m : (ℓ : Loc Cert.MlaLatentRefIdeal.nD Cert.MlaLatentRefIdeal.τ Cert.MlaLatentRefIdeal.sig) → Buf (Elt Ideal) ℓ) : Prop :=
  True

def Pre_MlaLatentRefIdeal_finite_mla [hPre_finite_mla : Cert.Pre_finite_mla.Facts] (m : (ℓ : Loc Cert.MlaLatentRefIdeal.nD Cert.MlaLatentRefIdeal.τ Cert.MlaLatentRefIdeal.sig) → Buf (Elt Ideal) ℓ) : Prop :=
  ∀ c : Dev Cert.MlaLatentRefIdeal.nD,
    (Cert.Pre_finite_mla.fn (F := Ideal) (m ((c.tc : Thread Cert.MlaLatentRefIdeal.nD Cert.MlaLatentRefIdeal.τ).loc Cert.MlaLatentRefIdeal.main_arg0)) (m ((c.tc : Thread Cert.MlaLatentRefIdeal.nD Cert.MlaLatentRefIdeal.τ).loc Cert.MlaLatentRefIdeal.main_arg1)) (m ((c.tc : Thread Cert.MlaLatentRefIdeal.nD Cert.MlaLatentRefIdeal.τ).loc Cert.MlaLatentRefIdeal.main_arg2)) (m ((c.tc : Thread Cert.MlaLatentRefIdeal.nD Cert.MlaLatentRefIdeal.τ).loc Cert.MlaLatentRefIdeal.main_arg3))) = (fun _ => 1#1)

def quiescent_DiffLatent [hDiffLatent : Cert.DiffLatent.Facts] : Prop :=
  ∀ (m : (ℓ : Loc Cert.DiffLatent.nD Cert.DiffLatent.τ Cert.DiffLatent.sig) → Buf (Elt Bits) ℓ) (g : Dev Cert.DiffLatent.nD → PrngReg), Pre_DiffLatent m →
    θ_run (Cert.DiffLatent.defs (F := Bits)) (onTc (τ := Cert.DiffLatent.τ) (Cert.DiffLatent.main (F := Bits))) ⟨m, fun _ => 0, g⟩ (fun r => (∀ c : Dev Cert.DiffLatent.nD,
      r.2.mem ((c.tc : Thread Cert.DiffLatent.nD Cert.DiffLatent.τ).loc Cert.DiffLatent.main_arg0) = m ((c.tc : Thread Cert.DiffLatent.nD Cert.DiffLatent.τ).loc Cert.DiffLatent.main_arg0)
      ∧ r.2.mem ((c.tc : Thread Cert.DiffLatent.nD Cert.DiffLatent.τ).loc Cert.DiffLatent.main_arg1) = m ((c.tc : Thread Cert.DiffLatent.nD Cert.DiffLatent.τ).loc Cert.DiffLatent.main_arg1)
      ∧ r.2.mem ((c.tc : Thread Cert.DiffLatent.nD Cert.DiffLatent.τ).loc Cert.DiffLatent.main_arg2) = m ((c.tc : Thread Cert.DiffLatent.nD Cert.DiffLatent.τ).loc Cert.DiffLatent.main_arg2)
      ∧ r.2.mem ((c.tc : Thread Cert.DiffLatent.nD Cert.DiffLatent.τ).loc Cert.DiffLatent.main_arg3) = m ((c.tc : Thread Cert.DiffLatent.nD Cert.DiffLatent.τ).loc Cert.DiffLatent.main_arg3)
      ∧ r.2.mem ((c.tc : Thread Cert.DiffLatent.nD Cert.DiffLatent.τ).loc Cert.DiffLatent.main_arg4) = m ((c.tc : Thread Cert.DiffLatent.nD Cert.DiffLatent.τ).loc Cert.DiffLatent.main_arg4)
      ∧ r.2.mem ((c.tc : Thread Cert.DiffLatent.nD Cert.DiffLatent.τ).loc Cert.DiffLatent.main_arg5) = m ((c.tc : Thread Cert.DiffLatent.nD Cert.DiffLatent.τ).loc Cert.DiffLatent.main_arg5))
      ∧ r.2.sem = fun _ => 0)

def quiescent_DiffLatentIdeal [hDiffLatentIdeal : Cert.DiffLatentIdeal.Facts] : Prop :=
  ∀ (m : (ℓ : Loc Cert.DiffLatentIdeal.nD Cert.DiffLatentIdeal.τ Cert.DiffLatentIdeal.sig) → Buf (Elt Ideal) ℓ) (g : Dev Cert.DiffLatentIdeal.nD → PrngReg), Pre_DiffLatentIdeal m →
    θ_run (Cert.DiffLatentIdeal.defs (F := Ideal)) (onTc (τ := Cert.DiffLatentIdeal.τ) (Cert.DiffLatentIdeal.main (F := Ideal))) ⟨m, fun _ => 0, g⟩ (fun r => (∀ c : Dev Cert.DiffLatentIdeal.nD,
      r.2.mem ((c.tc : Thread Cert.DiffLatentIdeal.nD Cert.DiffLatentIdeal.τ).loc Cert.DiffLatentIdeal.main_arg0) = m ((c.tc : Thread Cert.DiffLatentIdeal.nD Cert.DiffLatentIdeal.τ).loc Cert.DiffLatentIdeal.main_arg0)
      ∧ r.2.mem ((c.tc : Thread Cert.DiffLatentIdeal.nD Cert.DiffLatentIdeal.τ).loc Cert.DiffLatentIdeal.main_arg1) = m ((c.tc : Thread Cert.DiffLatentIdeal.nD Cert.DiffLatentIdeal.τ).loc Cert.DiffLatentIdeal.main_arg1)
      ∧ r.2.mem ((c.tc : Thread Cert.DiffLatentIdeal.nD Cert.DiffLatentIdeal.τ).loc Cert.DiffLatentIdeal.main_arg2) = m ((c.tc : Thread Cert.DiffLatentIdeal.nD Cert.DiffLatentIdeal.τ).loc Cert.DiffLatentIdeal.main_arg2)
      ∧ r.2.mem ((c.tc : Thread Cert.DiffLatentIdeal.nD Cert.DiffLatentIdeal.τ).loc Cert.DiffLatentIdeal.main_arg3) = m ((c.tc : Thread Cert.DiffLatentIdeal.nD Cert.DiffLatentIdeal.τ).loc Cert.DiffLatentIdeal.main_arg3)
      ∧ r.2.mem ((c.tc : Thread Cert.DiffLatentIdeal.nD Cert.DiffLatentIdeal.τ).loc Cert.DiffLatentIdeal.main_arg4) = m ((c.tc : Thread Cert.DiffLatentIdeal.nD Cert.DiffLatentIdeal.τ).loc Cert.DiffLatentIdeal.main_arg4)
      ∧ r.2.mem ((c.tc : Thread Cert.DiffLatentIdeal.nD Cert.DiffLatentIdeal.τ).loc Cert.DiffLatentIdeal.main_arg5) = m ((c.tc : Thread Cert.DiffLatentIdeal.nD Cert.DiffLatentIdeal.τ).loc Cert.DiffLatentIdeal.main_arg5))
      ∧ r.2.sem = fun _ => 0)

def quiescent_DiffLatentIdeal_pre_finite_scores [hDiffLatentIdeal : Cert.DiffLatentIdeal.Facts] [hPre_finite_scores : Cert.Pre_finite_scores.Facts] : Prop :=
  ∀ (m : (ℓ : Loc Cert.DiffLatentIdeal.nD Cert.DiffLatentIdeal.τ Cert.DiffLatentIdeal.sig) → Buf (Elt Ideal) ℓ) (g : Dev Cert.DiffLatentIdeal.nD → PrngReg), Pre_DiffLatentIdeal_finite_scores m →
    θ_run (Cert.DiffLatentIdeal.defs (F := Ideal)) (onTc (τ := Cert.DiffLatentIdeal.τ) (Cert.DiffLatentIdeal.main (F := Ideal))) ⟨m, fun _ => 0, g⟩ (fun r => (∀ c : Dev Cert.DiffLatentIdeal.nD,
      r.2.mem ((c.tc : Thread Cert.DiffLatentIdeal.nD Cert.DiffLatentIdeal.τ).loc Cert.DiffLatentIdeal.main_arg0) = m ((c.tc : Thread Cert.DiffLatentIdeal.nD Cert.DiffLatentIdeal.τ).loc Cert.DiffLatentIdeal.main_arg0)
      ∧ r.2.mem ((c.tc : Thread Cert.DiffLatentIdeal.nD Cert.DiffLatentIdeal.τ).loc Cert.DiffLatentIdeal.main_arg1) = m ((c.tc : Thread Cert.DiffLatentIdeal.nD Cert.DiffLatentIdeal.τ).loc Cert.DiffLatentIdeal.main_arg1)
      ∧ r.2.mem ((c.tc : Thread Cert.DiffLatentIdeal.nD Cert.DiffLatentIdeal.τ).loc Cert.DiffLatentIdeal.main_arg2) = m ((c.tc : Thread Cert.DiffLatentIdeal.nD Cert.DiffLatentIdeal.τ).loc Cert.DiffLatentIdeal.main_arg2)
      ∧ r.2.mem ((c.tc : Thread Cert.DiffLatentIdeal.nD Cert.DiffLatentIdeal.τ).loc Cert.DiffLatentIdeal.main_arg3) = m ((c.tc : Thread Cert.DiffLatentIdeal.nD Cert.DiffLatentIdeal.τ).loc Cert.DiffLatentIdeal.main_arg3)
      ∧ r.2.mem ((c.tc : Thread Cert.DiffLatentIdeal.nD Cert.DiffLatentIdeal.τ).loc Cert.DiffLatentIdeal.main_arg4) = m ((c.tc : Thread Cert.DiffLatentIdeal.nD Cert.DiffLatentIdeal.τ).loc Cert.DiffLatentIdeal.main_arg4)
      ∧ r.2.mem ((c.tc : Thread Cert.DiffLatentIdeal.nD Cert.DiffLatentIdeal.τ).loc Cert.DiffLatentIdeal.main_arg5) = m ((c.tc : Thread Cert.DiffLatentIdeal.nD Cert.DiffLatentIdeal.τ).loc Cert.DiffLatentIdeal.main_arg5))
      ∧ r.2.sem = fun _ => 0)

def quiescent_DiffLatentRefIdeal [hDiffLatentRefIdeal : Cert.DiffLatentRefIdeal.Facts] : Prop :=
  ∀ (m : (ℓ : Loc Cert.DiffLatentRefIdeal.nD Cert.DiffLatentRefIdeal.τ Cert.DiffLatentRefIdeal.sig) → Buf (Elt Ideal) ℓ) (g : Dev Cert.DiffLatentRefIdeal.nD → PrngReg), Pre_DiffLatentRefIdeal m →
    θ_run (Cert.DiffLatentRefIdeal.defs (F := Ideal)) (onTc (τ := Cert.DiffLatentRefIdeal.τ) (Cert.DiffLatentRefIdeal.main (F := Ideal))) ⟨m, fun _ => 0, g⟩ (fun r => (∀ c : Dev Cert.DiffLatentRefIdeal.nD,
      r.2.mem ((c.tc : Thread Cert.DiffLatentRefIdeal.nD Cert.DiffLatentRefIdeal.τ).loc Cert.DiffLatentRefIdeal.main_arg0) = m ((c.tc : Thread Cert.DiffLatentRefIdeal.nD Cert.DiffLatentRefIdeal.τ).loc Cert.DiffLatentRefIdeal.main_arg0)
      ∧ r.2.mem ((c.tc : Thread Cert.DiffLatentRefIdeal.nD Cert.DiffLatentRefIdeal.τ).loc Cert.DiffLatentRefIdeal.main_arg1) = m ((c.tc : Thread Cert.DiffLatentRefIdeal.nD Cert.DiffLatentRefIdeal.τ).loc Cert.DiffLatentRefIdeal.main_arg1)
      ∧ r.2.mem ((c.tc : Thread Cert.DiffLatentRefIdeal.nD Cert.DiffLatentRefIdeal.τ).loc Cert.DiffLatentRefIdeal.main_arg2) = m ((c.tc : Thread Cert.DiffLatentRefIdeal.nD Cert.DiffLatentRefIdeal.τ).loc Cert.DiffLatentRefIdeal.main_arg2)
      ∧ r.2.mem ((c.tc : Thread Cert.DiffLatentRefIdeal.nD Cert.DiffLatentRefIdeal.τ).loc Cert.DiffLatentRefIdeal.main_arg3) = m ((c.tc : Thread Cert.DiffLatentRefIdeal.nD Cert.DiffLatentRefIdeal.τ).loc Cert.DiffLatentRefIdeal.main_arg3)
      ∧ r.2.mem ((c.tc : Thread Cert.DiffLatentRefIdeal.nD Cert.DiffLatentRefIdeal.τ).loc Cert.DiffLatentRefIdeal.main_arg4) = m ((c.tc : Thread Cert.DiffLatentRefIdeal.nD Cert.DiffLatentRefIdeal.τ).loc Cert.DiffLatentRefIdeal.main_arg4)
      ∧ r.2.mem ((c.tc : Thread Cert.DiffLatentRefIdeal.nD Cert.DiffLatentRefIdeal.τ).loc Cert.DiffLatentRefIdeal.main_arg5) = m ((c.tc : Thread Cert.DiffLatentRefIdeal.nD Cert.DiffLatentRefIdeal.τ).loc Cert.DiffLatentRefIdeal.main_arg5))
      ∧ r.2.sem = fun _ => 0)

def quiescent_DiffLatentRefIdeal_pre_finite_scores [hDiffLatentRefIdeal : Cert.DiffLatentRefIdeal.Facts] [hPre_finite_scores : Cert.Pre_finite_scores.Facts] : Prop :=
  ∀ (m : (ℓ : Loc Cert.DiffLatentRefIdeal.nD Cert.DiffLatentRefIdeal.τ Cert.DiffLatentRefIdeal.sig) → Buf (Elt Ideal) ℓ) (g : Dev Cert.DiffLatentRefIdeal.nD → PrngReg), Pre_DiffLatentRefIdeal_finite_scores m →
    θ_run (Cert.DiffLatentRefIdeal.defs (F := Ideal)) (onTc (τ := Cert.DiffLatentRefIdeal.τ) (Cert.DiffLatentRefIdeal.main (F := Ideal))) ⟨m, fun _ => 0, g⟩ (fun r => (∀ c : Dev Cert.DiffLatentRefIdeal.nD,
      r.2.mem ((c.tc : Thread Cert.DiffLatentRefIdeal.nD Cert.DiffLatentRefIdeal.τ).loc Cert.DiffLatentRefIdeal.main_arg0) = m ((c.tc : Thread Cert.DiffLatentRefIdeal.nD Cert.DiffLatentRefIdeal.τ).loc Cert.DiffLatentRefIdeal.main_arg0)
      ∧ r.2.mem ((c.tc : Thread Cert.DiffLatentRefIdeal.nD Cert.DiffLatentRefIdeal.τ).loc Cert.DiffLatentRefIdeal.main_arg1) = m ((c.tc : Thread Cert.DiffLatentRefIdeal.nD Cert.DiffLatentRefIdeal.τ).loc Cert.DiffLatentRefIdeal.main_arg1)
      ∧ r.2.mem ((c.tc : Thread Cert.DiffLatentRefIdeal.nD Cert.DiffLatentRefIdeal.τ).loc Cert.DiffLatentRefIdeal.main_arg2) = m ((c.tc : Thread Cert.DiffLatentRefIdeal.nD Cert.DiffLatentRefIdeal.τ).loc Cert.DiffLatentRefIdeal.main_arg2)
      ∧ r.2.mem ((c.tc : Thread Cert.DiffLatentRefIdeal.nD Cert.DiffLatentRefIdeal.τ).loc Cert.DiffLatentRefIdeal.main_arg3) = m ((c.tc : Thread Cert.DiffLatentRefIdeal.nD Cert.DiffLatentRefIdeal.τ).loc Cert.DiffLatentRefIdeal.main_arg3)
      ∧ r.2.mem ((c.tc : Thread Cert.DiffLatentRefIdeal.nD Cert.DiffLatentRefIdeal.τ).loc Cert.DiffLatentRefIdeal.main_arg4) = m ((c.tc : Thread Cert.DiffLatentRefIdeal.nD Cert.DiffLatentRefIdeal.τ).loc Cert.DiffLatentRefIdeal.main_arg4)
      ∧ r.2.mem ((c.tc : Thread Cert.DiffLatentRefIdeal.nD Cert.DiffLatentRefIdeal.τ).loc Cert.DiffLatentRefIdeal.main_arg5) = m ((c.tc : Thread Cert.DiffLatentRefIdeal.nD Cert.DiffLatentRefIdeal.τ).loc Cert.DiffLatentRefIdeal.main_arg5))
      ∧ r.2.sem = fun _ => 0)

def quiescent_FfnDense [hFfnDense : Cert.FfnDense.Facts] : Prop :=
  ∀ (m : (ℓ : Loc Cert.FfnDense.nD Cert.FfnDense.τ Cert.FfnDense.sig) → Buf (Elt Bits) ℓ) (g : Dev Cert.FfnDense.nD → PrngReg), Pre_FfnDense m →
    θ_run (Cert.FfnDense.defs (F := Bits)) (onTc (τ := Cert.FfnDense.τ) (Cert.FfnDense.main (F := Bits))) ⟨m, fun _ => 0, g⟩ (fun r => (∀ c : Dev Cert.FfnDense.nD,
      r.2.mem ((c.tc : Thread Cert.FfnDense.nD Cert.FfnDense.τ).loc Cert.FfnDense.main_arg0) = m ((c.tc : Thread Cert.FfnDense.nD Cert.FfnDense.τ).loc Cert.FfnDense.main_arg0)
      ∧ r.2.mem ((c.tc : Thread Cert.FfnDense.nD Cert.FfnDense.τ).loc Cert.FfnDense.main_arg1) = m ((c.tc : Thread Cert.FfnDense.nD Cert.FfnDense.τ).loc Cert.FfnDense.main_arg1)
      ∧ r.2.mem ((c.tc : Thread Cert.FfnDense.nD Cert.FfnDense.τ).loc Cert.FfnDense.main_arg2) = m ((c.tc : Thread Cert.FfnDense.nD Cert.FfnDense.τ).loc Cert.FfnDense.main_arg2)
      ∧ r.2.mem ((c.tc : Thread Cert.FfnDense.nD Cert.FfnDense.τ).loc Cert.FfnDense.main_arg3) = m ((c.tc : Thread Cert.FfnDense.nD Cert.FfnDense.τ).loc Cert.FfnDense.main_arg3)
      ∧ r.2.mem ((c.tc : Thread Cert.FfnDense.nD Cert.FfnDense.τ).loc Cert.FfnDense.main_arg4) = m ((c.tc : Thread Cert.FfnDense.nD Cert.FfnDense.τ).loc Cert.FfnDense.main_arg4)
      ∧ r.2.mem ((c.tc : Thread Cert.FfnDense.nD Cert.FfnDense.τ).loc Cert.FfnDense.main_arg5) = m ((c.tc : Thread Cert.FfnDense.nD Cert.FfnDense.τ).loc Cert.FfnDense.main_arg5))
      ∧ r.2.sem = fun _ => 0)

def quiescent_FfnDenseIdeal [hFfnDenseIdeal : Cert.FfnDenseIdeal.Facts] : Prop :=
  ∀ (m : (ℓ : Loc Cert.FfnDenseIdeal.nD Cert.FfnDenseIdeal.τ Cert.FfnDenseIdeal.sig) → Buf (Elt Ideal) ℓ) (g : Dev Cert.FfnDenseIdeal.nD → PrngReg), Pre_FfnDenseIdeal m →
    θ_run (Cert.FfnDenseIdeal.defs (F := Ideal)) (onTc (τ := Cert.FfnDenseIdeal.τ) (Cert.FfnDenseIdeal.main (F := Ideal))) ⟨m, fun _ => 0, g⟩ (fun r => (∀ c : Dev Cert.FfnDenseIdeal.nD,
      r.2.mem ((c.tc : Thread Cert.FfnDenseIdeal.nD Cert.FfnDenseIdeal.τ).loc Cert.FfnDenseIdeal.main_arg0) = m ((c.tc : Thread Cert.FfnDenseIdeal.nD Cert.FfnDenseIdeal.τ).loc Cert.FfnDenseIdeal.main_arg0)
      ∧ r.2.mem ((c.tc : Thread Cert.FfnDenseIdeal.nD Cert.FfnDenseIdeal.τ).loc Cert.FfnDenseIdeal.main_arg1) = m ((c.tc : Thread Cert.FfnDenseIdeal.nD Cert.FfnDenseIdeal.τ).loc Cert.FfnDenseIdeal.main_arg1)
      ∧ r.2.mem ((c.tc : Thread Cert.FfnDenseIdeal.nD Cert.FfnDenseIdeal.τ).loc Cert.FfnDenseIdeal.main_arg2) = m ((c.tc : Thread Cert.FfnDenseIdeal.nD Cert.FfnDenseIdeal.τ).loc Cert.FfnDenseIdeal.main_arg2)
      ∧ r.2.mem ((c.tc : Thread Cert.FfnDenseIdeal.nD Cert.FfnDenseIdeal.τ).loc Cert.FfnDenseIdeal.main_arg3) = m ((c.tc : Thread Cert.FfnDenseIdeal.nD Cert.FfnDenseIdeal.τ).loc Cert.FfnDenseIdeal.main_arg3)
      ∧ r.2.mem ((c.tc : Thread Cert.FfnDenseIdeal.nD Cert.FfnDenseIdeal.τ).loc Cert.FfnDenseIdeal.main_arg4) = m ((c.tc : Thread Cert.FfnDenseIdeal.nD Cert.FfnDenseIdeal.τ).loc Cert.FfnDenseIdeal.main_arg4)
      ∧ r.2.mem ((c.tc : Thread Cert.FfnDenseIdeal.nD Cert.FfnDenseIdeal.τ).loc Cert.FfnDenseIdeal.main_arg5) = m ((c.tc : Thread Cert.FfnDenseIdeal.nD Cert.FfnDenseIdeal.τ).loc Cert.FfnDenseIdeal.main_arg5))
      ∧ r.2.sem = fun _ => 0)

def quiescent_FfnDenseRefIdeal [hFfnDenseRefIdeal : Cert.FfnDenseRefIdeal.Facts] : Prop :=
  ∀ (m : (ℓ : Loc Cert.FfnDenseRefIdeal.nD Cert.FfnDenseRefIdeal.τ Cert.FfnDenseRefIdeal.sig) → Buf (Elt Ideal) ℓ) (g : Dev Cert.FfnDenseRefIdeal.nD → PrngReg), Pre_FfnDenseRefIdeal m →
    θ_run (Cert.FfnDenseRefIdeal.defs (F := Ideal)) (onTc (τ := Cert.FfnDenseRefIdeal.τ) (Cert.FfnDenseRefIdeal.main (F := Ideal))) ⟨m, fun _ => 0, g⟩ (fun r => (∀ c : Dev Cert.FfnDenseRefIdeal.nD,
      r.2.mem ((c.tc : Thread Cert.FfnDenseRefIdeal.nD Cert.FfnDenseRefIdeal.τ).loc Cert.FfnDenseRefIdeal.main_arg0) = m ((c.tc : Thread Cert.FfnDenseRefIdeal.nD Cert.FfnDenseRefIdeal.τ).loc Cert.FfnDenseRefIdeal.main_arg0)
      ∧ r.2.mem ((c.tc : Thread Cert.FfnDenseRefIdeal.nD Cert.FfnDenseRefIdeal.τ).loc Cert.FfnDenseRefIdeal.main_arg1) = m ((c.tc : Thread Cert.FfnDenseRefIdeal.nD Cert.FfnDenseRefIdeal.τ).loc Cert.FfnDenseRefIdeal.main_arg1)
      ∧ r.2.mem ((c.tc : Thread Cert.FfnDenseRefIdeal.nD Cert.FfnDenseRefIdeal.τ).loc Cert.FfnDenseRefIdeal.main_arg2) = m ((c.tc : Thread Cert.FfnDenseRefIdeal.nD Cert.FfnDenseRefIdeal.τ).loc Cert.FfnDenseRefIdeal.main_arg2)
      ∧ r.2.mem ((c.tc : Thread Cert.FfnDenseRefIdeal.nD Cert.FfnDenseRefIdeal.τ).loc Cert.FfnDenseRefIdeal.main_arg3) = m ((c.tc : Thread Cert.FfnDenseRefIdeal.nD Cert.FfnDenseRefIdeal.τ).loc Cert.FfnDenseRefIdeal.main_arg3)
      ∧ r.2.mem ((c.tc : Thread Cert.FfnDenseRefIdeal.nD Cert.FfnDenseRefIdeal.τ).loc Cert.FfnDenseRefIdeal.main_arg4) = m ((c.tc : Thread Cert.FfnDenseRefIdeal.nD Cert.FfnDenseRefIdeal.τ).loc Cert.FfnDenseRefIdeal.main_arg4)
      ∧ r.2.mem ((c.tc : Thread Cert.FfnDenseRefIdeal.nD Cert.FfnDenseRefIdeal.τ).loc Cert.FfnDenseRefIdeal.main_arg5) = m ((c.tc : Thread Cert.FfnDenseRefIdeal.nD Cert.FfnDenseRefIdeal.τ).loc Cert.FfnDenseRefIdeal.main_arg5))
      ∧ r.2.sem = fun _ => 0)

def quiescent_FfnMoe [hFfnMoe : Cert.FfnMoe.Facts] [hPre_experts_in_range : Cert.Pre_experts_in_range.Facts] : Prop :=
  ∀ (m : (ℓ : Loc Cert.FfnMoe.nD Cert.FfnMoe.τ Cert.FfnMoe.sig) → Buf (Elt Bits) ℓ) (g : Dev Cert.FfnMoe.nD → PrngReg), Pre_FfnMoe m →
    θ_run (Cert.FfnMoe.defs (F := Bits)) (onTc (τ := Cert.FfnMoe.τ) (Cert.FfnMoe.main (F := Bits))) ⟨m, fun _ => 0, g⟩ (fun r => (∀ c : Dev Cert.FfnMoe.nD,
      r.2.mem ((c.tc : Thread Cert.FfnMoe.nD Cert.FfnMoe.τ).loc Cert.FfnMoe.main_arg0) = m ((c.tc : Thread Cert.FfnMoe.nD Cert.FfnMoe.τ).loc Cert.FfnMoe.main_arg0)
      ∧ r.2.mem ((c.tc : Thread Cert.FfnMoe.nD Cert.FfnMoe.τ).loc Cert.FfnMoe.main_arg1) = m ((c.tc : Thread Cert.FfnMoe.nD Cert.FfnMoe.τ).loc Cert.FfnMoe.main_arg1)
      ∧ r.2.mem ((c.tc : Thread Cert.FfnMoe.nD Cert.FfnMoe.τ).loc Cert.FfnMoe.main_arg2) = m ((c.tc : Thread Cert.FfnMoe.nD Cert.FfnMoe.τ).loc Cert.FfnMoe.main_arg2)
      ∧ r.2.mem ((c.tc : Thread Cert.FfnMoe.nD Cert.FfnMoe.τ).loc Cert.FfnMoe.main_arg3) = m ((c.tc : Thread Cert.FfnMoe.nD Cert.FfnMoe.τ).loc Cert.FfnMoe.main_arg3)
      ∧ r.2.mem ((c.tc : Thread Cert.FfnMoe.nD Cert.FfnMoe.τ).loc Cert.FfnMoe.main_arg4) = m ((c.tc : Thread Cert.FfnMoe.nD Cert.FfnMoe.τ).loc Cert.FfnMoe.main_arg4)
      ∧ r.2.mem ((c.tc : Thread Cert.FfnMoe.nD Cert.FfnMoe.τ).loc Cert.FfnMoe.main_arg5) = m ((c.tc : Thread Cert.FfnMoe.nD Cert.FfnMoe.τ).loc Cert.FfnMoe.main_arg5)
      ∧ r.2.mem ((c.tc : Thread Cert.FfnMoe.nD Cert.FfnMoe.τ).loc Cert.FfnMoe.main_arg6) = m ((c.tc : Thread Cert.FfnMoe.nD Cert.FfnMoe.τ).loc Cert.FfnMoe.main_arg6))
      ∧ r.2.sem = fun _ => 0)

def quiescent_FfnMoeIdeal [hFfnMoeIdeal : Cert.FfnMoeIdeal.Facts] [hPre_experts_in_range : Cert.Pre_experts_in_range.Facts] : Prop :=
  ∀ (m : (ℓ : Loc Cert.FfnMoeIdeal.nD Cert.FfnMoeIdeal.τ Cert.FfnMoeIdeal.sig) → Buf (Elt Ideal) ℓ) (g : Dev Cert.FfnMoeIdeal.nD → PrngReg), Pre_FfnMoeIdeal m →
    θ_run (Cert.FfnMoeIdeal.defs (F := Ideal)) (onTc (τ := Cert.FfnMoeIdeal.τ) (Cert.FfnMoeIdeal.main (F := Ideal))) ⟨m, fun _ => 0, g⟩ (fun r => (∀ c : Dev Cert.FfnMoeIdeal.nD,
      r.2.mem ((c.tc : Thread Cert.FfnMoeIdeal.nD Cert.FfnMoeIdeal.τ).loc Cert.FfnMoeIdeal.main_arg0) = m ((c.tc : Thread Cert.FfnMoeIdeal.nD Cert.FfnMoeIdeal.τ).loc Cert.FfnMoeIdeal.main_arg0)
      ∧ r.2.mem ((c.tc : Thread Cert.FfnMoeIdeal.nD Cert.FfnMoeIdeal.τ).loc Cert.FfnMoeIdeal.main_arg1) = m ((c.tc : Thread Cert.FfnMoeIdeal.nD Cert.FfnMoeIdeal.τ).loc Cert.FfnMoeIdeal.main_arg1)
      ∧ r.2.mem ((c.tc : Thread Cert.FfnMoeIdeal.nD Cert.FfnMoeIdeal.τ).loc Cert.FfnMoeIdeal.main_arg2) = m ((c.tc : Thread Cert.FfnMoeIdeal.nD Cert.FfnMoeIdeal.τ).loc Cert.FfnMoeIdeal.main_arg2)
      ∧ r.2.mem ((c.tc : Thread Cert.FfnMoeIdeal.nD Cert.FfnMoeIdeal.τ).loc Cert.FfnMoeIdeal.main_arg3) = m ((c.tc : Thread Cert.FfnMoeIdeal.nD Cert.FfnMoeIdeal.τ).loc Cert.FfnMoeIdeal.main_arg3)
      ∧ r.2.mem ((c.tc : Thread Cert.FfnMoeIdeal.nD Cert.FfnMoeIdeal.τ).loc Cert.FfnMoeIdeal.main_arg4) = m ((c.tc : Thread Cert.FfnMoeIdeal.nD Cert.FfnMoeIdeal.τ).loc Cert.FfnMoeIdeal.main_arg4)
      ∧ r.2.mem ((c.tc : Thread Cert.FfnMoeIdeal.nD Cert.FfnMoeIdeal.τ).loc Cert.FfnMoeIdeal.main_arg5) = m ((c.tc : Thread Cert.FfnMoeIdeal.nD Cert.FfnMoeIdeal.τ).loc Cert.FfnMoeIdeal.main_arg5)
      ∧ r.2.mem ((c.tc : Thread Cert.FfnMoeIdeal.nD Cert.FfnMoeIdeal.τ).loc Cert.FfnMoeIdeal.main_arg6) = m ((c.tc : Thread Cert.FfnMoeIdeal.nD Cert.FfnMoeIdeal.τ).loc Cert.FfnMoeIdeal.main_arg6))
      ∧ r.2.sem = fun _ => 0)

def quiescent_FfnMoeRefIdeal [hFfnMoeRefIdeal : Cert.FfnMoeRefIdeal.Facts] [hPre_experts_in_range : Cert.Pre_experts_in_range.Facts] : Prop :=
  ∀ (m : (ℓ : Loc Cert.FfnMoeRefIdeal.nD Cert.FfnMoeRefIdeal.τ Cert.FfnMoeRefIdeal.sig) → Buf (Elt Ideal) ℓ) (g : Dev Cert.FfnMoeRefIdeal.nD → PrngReg), Pre_FfnMoeRefIdeal m →
    θ_run (Cert.FfnMoeRefIdeal.defs (F := Ideal)) (onTc (τ := Cert.FfnMoeRefIdeal.τ) (Cert.FfnMoeRefIdeal.main (F := Ideal))) ⟨m, fun _ => 0, g⟩ (fun r => (∀ c : Dev Cert.FfnMoeRefIdeal.nD,
      r.2.mem ((c.tc : Thread Cert.FfnMoeRefIdeal.nD Cert.FfnMoeRefIdeal.τ).loc Cert.FfnMoeRefIdeal.main_arg0) = m ((c.tc : Thread Cert.FfnMoeRefIdeal.nD Cert.FfnMoeRefIdeal.τ).loc Cert.FfnMoeRefIdeal.main_arg0)
      ∧ r.2.mem ((c.tc : Thread Cert.FfnMoeRefIdeal.nD Cert.FfnMoeRefIdeal.τ).loc Cert.FfnMoeRefIdeal.main_arg1) = m ((c.tc : Thread Cert.FfnMoeRefIdeal.nD Cert.FfnMoeRefIdeal.τ).loc Cert.FfnMoeRefIdeal.main_arg1)
      ∧ r.2.mem ((c.tc : Thread Cert.FfnMoeRefIdeal.nD Cert.FfnMoeRefIdeal.τ).loc Cert.FfnMoeRefIdeal.main_arg2) = m ((c.tc : Thread Cert.FfnMoeRefIdeal.nD Cert.FfnMoeRefIdeal.τ).loc Cert.FfnMoeRefIdeal.main_arg2)
      ∧ r.2.mem ((c.tc : Thread Cert.FfnMoeRefIdeal.nD Cert.FfnMoeRefIdeal.τ).loc Cert.FfnMoeRefIdeal.main_arg3) = m ((c.tc : Thread Cert.FfnMoeRefIdeal.nD Cert.FfnMoeRefIdeal.τ).loc Cert.FfnMoeRefIdeal.main_arg3)
      ∧ r.2.mem ((c.tc : Thread Cert.FfnMoeRefIdeal.nD Cert.FfnMoeRefIdeal.τ).loc Cert.FfnMoeRefIdeal.main_arg4) = m ((c.tc : Thread Cert.FfnMoeRefIdeal.nD Cert.FfnMoeRefIdeal.τ).loc Cert.FfnMoeRefIdeal.main_arg4)
      ∧ r.2.mem ((c.tc : Thread Cert.FfnMoeRefIdeal.nD Cert.FfnMoeRefIdeal.τ).loc Cert.FfnMoeRefIdeal.main_arg5) = m ((c.tc : Thread Cert.FfnMoeRefIdeal.nD Cert.FfnMoeRefIdeal.τ).loc Cert.FfnMoeRefIdeal.main_arg5)
      ∧ r.2.mem ((c.tc : Thread Cert.FfnMoeRefIdeal.nD Cert.FfnMoeRefIdeal.τ).loc Cert.FfnMoeRefIdeal.main_arg6) = m ((c.tc : Thread Cert.FfnMoeRefIdeal.nD Cert.FfnMoeRefIdeal.τ).loc Cert.FfnMoeRefIdeal.main_arg6))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_NormPrompt [hNormPrompt : Cert.NormPrompt.Facts] : Prop :=
  ∀ (m : (ℓ : Loc Cert.NormPrompt.nD Cert.NormPrompt.τ Cert.NormPrompt.sig) → Buf (Elt Bits) ℓ) (g : Dev Cert.NormPrompt.nD → PrngReg), Pre_NormPrompt m →
    θ_run (Cert.NormPrompt.defs (F := Bits)) (onTc (τ := Cert.NormPrompt.τ) (Cert.NormPrompt.main (F := Bits))) ⟨m, fun _ => 0, g⟩ (fun r => (∀ c : Dev Cert.NormPrompt.nD,
      r.2.mem ((c.tc : Thread Cert.NormPrompt.nD Cert.NormPrompt.τ).loc Cert.NormPrompt.main_arg0) = m ((c.tc : Thread Cert.NormPrompt.nD Cert.NormPrompt.τ).loc Cert.NormPrompt.main_arg0)
      ∧ r.2.mem ((c.tc : Thread Cert.NormPrompt.nD Cert.NormPrompt.τ).loc Cert.NormPrompt.main_arg1) = m ((c.tc : Thread Cert.NormPrompt.nD Cert.NormPrompt.τ).loc Cert.NormPrompt.main_arg1))
      ∧ r.2.sem = fun _ => 0)

def quiescent_NormPromptIdeal [hNormPromptIdeal : Cert.NormPromptIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg), Pre_NormPromptIdeal m →
    θ_run (Cert.NormPromptIdeal.defs (F := Ideal)) (onTc (τ := Cert.NormPromptIdeal.τ) (Cert.NormPromptIdeal.main (F := Ideal))) ⟨m, fun _ => 0, g⟩ (fun r => (∀ c : Dev Cert.NormPromptIdeal.nD,
      r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
      ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ r.2.sem = fun _ => 0)

def quiescent_NormPromptRefIdeal [hNormPromptRefIdeal : Cert.NormPromptRefIdeal.Facts] : Prop :=
  ∀ (m : (ℓ : Loc Cert.NormPromptRefIdeal.nD Cert.NormPromptRefIdeal.τ Cert.NormPromptRefIdeal.sig) → Buf (Elt Ideal) ℓ) (g : Dev Cert.NormPromptRefIdeal.nD → PrngReg), Pre_NormPromptRefIdeal m →
    θ_run (Cert.NormPromptRefIdeal.defs (F := Ideal)) (onTc (τ := Cert.NormPromptRefIdeal.τ) (Cert.NormPromptRefIdeal.main (F := Ideal))) ⟨m, fun _ => 0, g⟩ (fun r => (∀ c : Dev Cert.NormPromptRefIdeal.nD,
      r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
      ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1))
      ∧ r.2.sem = fun _ => 0)

def quiescent_NormSample [hNormSample : Cert.NormSample.Facts] : Prop :=
  ∀ (m : (ℓ : Loc Cert.NormSample.nD Cert.NormSample.τ Cert.NormSample.sig) → Buf (Elt Bits) ℓ) (g : Dev Cert.NormSample.nD → PrngReg), Pre_NormSample m →
    θ_run (Cert.NormSample.defs (F := Bits)) (onTc (τ := Cert.NormSample.τ) (Cert.NormSample.main (F := Bits))) ⟨m, fun _ => 0, g⟩ (fun r => (∀ c : Dev Cert.NormSample.nD,
      r.2.mem ((c.tc : Thread Cert.NormSample.nD Cert.NormSample.τ).loc Cert.NormSample.main_arg0) = m ((c.tc : Thread Cert.NormSample.nD Cert.NormSample.τ).loc Cert.NormSample.main_arg0)
      ∧ r.2.mem ((c.tc : Thread Cert.NormSample.nD Cert.NormSample.τ).loc Cert.NormSample.main_arg1) = m ((c.tc : Thread Cert.NormSample.nD Cert.NormSample.τ).loc Cert.NormSample.main_arg1))
      ∧ r.2.sem = fun _ => 0)

def quiescent_NormSampleIdeal [hNormSampleIdeal : Cert.NormSampleIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg), Pre_NormSampleIdeal m →
    θ_run (Cert.NormSampleIdeal.defs (F := Ideal)) (onTc (τ := Cert.NormSampleIdeal.τ) (Cert.NormSampleIdeal.main (F := Ideal))) ⟨m, fun _ => 0, g⟩ (fun r => (∀ c : Dev Cert.NormSampleIdeal.nD,
      r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
      ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ r.2.sem = fun _ => 0)

def quiescent_NormSampleRefIdeal [hNormSampleRefIdeal : Cert.NormSampleRefIdeal.Facts] : Prop :=
  ∀ (m : (ℓ : Loc Cert.NormSampleRefIdeal.nD Cert.NormSampleRefIdeal.τ Cert.NormSampleRefIdeal.sig) → Buf (Elt Ideal) ℓ) (g : Dev Cert.NormSampleRefIdeal.nD → PrngReg), Pre_NormSampleRefIdeal m →
    θ_run (Cert.NormSampleRefIdeal.defs (F := Ideal)) (onTc (τ := Cert.NormSampleRefIdeal.τ) (Cert.NormSampleRefIdeal.main (F := Ideal))) ⟨m, fun _ => 0, g⟩ (fun r => (∀ c : Dev Cert.NormSampleRefIdeal.nD,
      r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
      ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
      ∧ r.2.sem = fun _ => 0)

def quiescent_MlaA [hMlaA : Cert.MlaA.Facts] : Prop :=
  ∀ (m : (ℓ : Loc Cert.MlaA.nD Cert.MlaA.τ Cert.MlaA.sig) → Buf (Elt Bits) ℓ) (g : Dev Cert.MlaA.nD → PrngReg), Pre_MlaA m →
    θ_run (Cert.MlaA.defs (F := Bits)) (onTc (τ := Cert.MlaA.τ) (Cert.MlaA.main (F := Bits))) ⟨m, fun _ => 0, g⟩ (fun r => (∀ c : Dev Cert.MlaA.nD,
      r.2.mem ((c.tc : Thread Cert.MlaA.nD Cert.MlaA.τ).loc Cert.MlaA.main_arg0) = m ((c.tc : Thread Cert.MlaA.nD Cert.MlaA.τ).loc Cert.MlaA.main_arg0)
      ∧ r.2.mem ((c.tc : Thread Cert.MlaA.nD Cert.MlaA.τ).loc Cert.MlaA.main_arg1) = m ((c.tc : Thread Cert.MlaA.nD Cert.MlaA.τ).loc Cert.MlaA.main_arg1)
      ∧ r.2.mem ((c.tc : Thread Cert.MlaA.nD Cert.MlaA.τ).loc Cert.MlaA.main_arg2) = m ((c.tc : Thread Cert.MlaA.nD Cert.MlaA.τ).loc Cert.MlaA.main_arg2)
      ∧ r.2.mem ((c.tc : Thread Cert.MlaA.nD Cert.MlaA.τ).loc Cert.MlaA.main_arg3) = m ((c.tc : Thread Cert.MlaA.nD Cert.MlaA.τ).loc Cert.MlaA.main_arg3)
      ∧ r.2.mem ((c.tc : Thread Cert.MlaA.nD Cert.MlaA.τ).loc Cert.MlaA.main_arg4) = m ((c.tc : Thread Cert.MlaA.nD Cert.MlaA.τ).loc Cert.MlaA.main_arg4))
      ∧ r.2.sem = fun _ => 0)

def quiescent_MlaAIdeal [hMlaAIdeal : Cert.MlaAIdeal.Facts] : Prop :=
  ∀ (m : (ℓ : Loc Cert.MlaAIdeal.nD Cert.MlaAIdeal.τ Cert.MlaAIdeal.sig) → Buf (Elt Ideal) ℓ) (g : Dev Cert.MlaAIdeal.nD → PrngReg), Pre_MlaAIdeal m →
    θ_run (Cert.MlaAIdeal.defs (F := Ideal)) (onTc (τ := Cert.MlaAIdeal.τ) (Cert.MlaAIdeal.main (F := Ideal))) ⟨m, fun _ => 0, g⟩ (fun r => (∀ c : Dev Cert.MlaAIdeal.nD,
      r.2.mem ((c.tc : Thread Cert.MlaAIdeal.nD Cert.MlaAIdeal.τ).loc Cert.MlaAIdeal.main_arg0) = m ((c.tc : Thread Cert.MlaAIdeal.nD Cert.MlaAIdeal.τ).loc Cert.MlaAIdeal.main_arg0)
      ∧ r.2.mem ((c.tc : Thread Cert.MlaAIdeal.nD Cert.MlaAIdeal.τ).loc Cert.MlaAIdeal.main_arg1) = m ((c.tc : Thread Cert.MlaAIdeal.nD Cert.MlaAIdeal.τ).loc Cert.MlaAIdeal.main_arg1)
      ∧ r.2.mem ((c.tc : Thread Cert.MlaAIdeal.nD Cert.MlaAIdeal.τ).loc Cert.MlaAIdeal.main_arg2) = m ((c.tc : Thread Cert.MlaAIdeal.nD Cert.MlaAIdeal.τ).loc Cert.MlaAIdeal.main_arg2)
      ∧ r.2.mem ((c.tc : Thread Cert.MlaAIdeal.nD Cert.MlaAIdeal.τ).loc Cert.MlaAIdeal.main_arg3) = m ((c.tc : Thread Cert.MlaAIdeal.nD Cert.MlaAIdeal.τ).loc Cert.MlaAIdeal.main_arg3)
      ∧ r.2.mem ((c.tc : Thread Cert.MlaAIdeal.nD Cert.MlaAIdeal.τ).loc Cert.MlaAIdeal.main_arg4) = m ((c.tc : Thread Cert.MlaAIdeal.nD Cert.MlaAIdeal.τ).loc Cert.MlaAIdeal.main_arg4))
      ∧ r.2.sem = fun _ => 0)

def quiescent_MlaARefIdeal [hMlaARefIdeal : Cert.MlaARefIdeal.Facts] : Prop :=
  ∀ (m : (ℓ : Loc Cert.MlaARefIdeal.nD Cert.MlaARefIdeal.τ Cert.MlaARefIdeal.sig) → Buf (Elt Ideal) ℓ) (g : Dev Cert.MlaARefIdeal.nD → PrngReg), Pre_MlaARefIdeal m →
    θ_run (Cert.MlaARefIdeal.defs (F := Ideal)) (onTc (τ := Cert.MlaARefIdeal.τ) (Cert.MlaARefIdeal.main (F := Ideal))) ⟨m, fun _ => 0, g⟩ (fun r => (∀ c : Dev Cert.MlaARefIdeal.nD,
      r.2.mem ((c.tc : Thread Cert.MlaARefIdeal.nD Cert.MlaARefIdeal.τ).loc Cert.MlaARefIdeal.main_arg0) = m ((c.tc : Thread Cert.MlaARefIdeal.nD Cert.MlaARefIdeal.τ).loc Cert.MlaARefIdeal.main_arg0)
      ∧ r.2.mem ((c.tc : Thread Cert.MlaARefIdeal.nD Cert.MlaARefIdeal.τ).loc Cert.MlaARefIdeal.main_arg1) = m ((c.tc : Thread Cert.MlaARefIdeal.nD Cert.MlaARefIdeal.τ).loc Cert.MlaARefIdeal.main_arg1)
      ∧ r.2.mem ((c.tc : Thread Cert.MlaARefIdeal.nD Cert.MlaARefIdeal.τ).loc Cert.MlaARefIdeal.main_arg2) = m ((c.tc : Thread Cert.MlaARefIdeal.nD Cert.MlaARefIdeal.τ).loc Cert.MlaARefIdeal.main_arg2)
      ∧ r.2.mem ((c.tc : Thread Cert.MlaARefIdeal.nD Cert.MlaARefIdeal.τ).loc Cert.MlaARefIdeal.main_arg3) = m ((c.tc : Thread Cert.MlaARefIdeal.nD Cert.MlaARefIdeal.τ).loc Cert.MlaARefIdeal.main_arg3)
      ∧ r.2.mem ((c.tc : Thread Cert.MlaARefIdeal.nD Cert.MlaARefIdeal.τ).loc Cert.MlaARefIdeal.main_arg4) = m ((c.tc : Thread Cert.MlaARefIdeal.nD Cert.MlaARefIdeal.τ).loc Cert.MlaARefIdeal.main_arg4))
      ∧ r.2.sem = fun _ => 0)

def quiescent_MlaCkv [hMlaCkv : Cert.MlaCkv.Facts] : Prop :=
  ∀ (m : (ℓ : Loc Cert.MlaCkv.nD Cert.MlaCkv.τ Cert.MlaCkv.sig) → Buf (Elt Bits) ℓ) (g : Dev Cert.MlaCkv.nD → PrngReg), Pre_MlaCkv m →
    θ_run (Cert.MlaCkv.defs (F := Bits)) (onTc (τ := Cert.MlaCkv.τ) (Cert.MlaCkv.main (F := Bits))) ⟨m, fun _ => 0, g⟩ (fun r => (∀ c : Dev Cert.MlaCkv.nD,
      r.2.mem ((c.tc : Thread Cert.MlaCkv.nD Cert.MlaCkv.τ).loc Cert.MlaCkv.main_arg0) = m ((c.tc : Thread Cert.MlaCkv.nD Cert.MlaCkv.τ).loc Cert.MlaCkv.main_arg0)
      ∧ r.2.mem ((c.tc : Thread Cert.MlaCkv.nD Cert.MlaCkv.τ).loc Cert.MlaCkv.main_arg1) = m ((c.tc : Thread Cert.MlaCkv.nD Cert.MlaCkv.τ).loc Cert.MlaCkv.main_arg1))
      ∧ r.2.sem = fun _ => 0)

def quiescent_MlaCkvIdeal [hMlaCkvIdeal : Cert.MlaCkvIdeal.Facts] : Prop :=
  ∀ (m : (ℓ : Loc Cert.MlaCkvIdeal.nD Cert.MlaCkvIdeal.τ Cert.MlaCkvIdeal.sig) → Buf (Elt Ideal) ℓ) (g : Dev Cert.MlaCkvIdeal.nD → PrngReg), Pre_MlaCkvIdeal m →
    θ_run (Cert.MlaCkvIdeal.defs (F := Ideal)) (onTc (τ := Cert.MlaCkvIdeal.τ) (Cert.MlaCkvIdeal.main (F := Ideal))) ⟨m, fun _ => 0, g⟩ (fun r => (∀ c : Dev Cert.MlaCkvIdeal.nD,
      r.2.mem ((c.tc : Thread Cert.MlaCkvIdeal.nD Cert.MlaCkvIdeal.τ).loc Cert.MlaCkvIdeal.main_arg0) = m ((c.tc : Thread Cert.MlaCkvIdeal.nD Cert.MlaCkvIdeal.τ).loc Cert.MlaCkvIdeal.main_arg0)
      ∧ r.2.mem ((c.tc : Thread Cert.MlaCkvIdeal.nD Cert.MlaCkvIdeal.τ).loc Cert.MlaCkvIdeal.main_arg1) = m ((c.tc : Thread Cert.MlaCkvIdeal.nD Cert.MlaCkvIdeal.τ).loc Cert.MlaCkvIdeal.main_arg1))
      ∧ r.2.sem = fun _ => 0)

def quiescent_MlaCkvRefIdeal [hMlaCkvRefIdeal : Cert.MlaCkvRefIdeal.Facts] : Prop :=
  ∀ (m : (ℓ : Loc Cert.MlaCkvRefIdeal.nD Cert.MlaCkvRefIdeal.τ Cert.MlaCkvRefIdeal.sig) → Buf (Elt Ideal) ℓ) (g : Dev Cert.MlaCkvRefIdeal.nD → PrngReg), Pre_MlaCkvRefIdeal m →
    θ_run (Cert.MlaCkvRefIdeal.defs (F := Ideal)) (onTc (τ := Cert.MlaCkvRefIdeal.τ) (Cert.MlaCkvRefIdeal.main (F := Ideal))) ⟨m, fun _ => 0, g⟩ (fun r => (∀ c : Dev Cert.MlaCkvRefIdeal.nD,
      r.2.mem ((c.tc : Thread Cert.MlaCkvRefIdeal.nD Cert.MlaCkvRefIdeal.τ).loc Cert.MlaCkvRefIdeal.main_arg0) = m ((c.tc : Thread Cert.MlaCkvRefIdeal.nD Cert.MlaCkvRefIdeal.τ).loc Cert.MlaCkvRefIdeal.main_arg0)
      ∧ r.2.mem ((c.tc : Thread Cert.MlaCkvRefIdeal.nD Cert.MlaCkvRefIdeal.τ).loc Cert.MlaCkvRefIdeal.main_arg1) = m ((c.tc : Thread Cert.MlaCkvRefIdeal.nD Cert.MlaCkvRefIdeal.τ).loc Cert.MlaCkvRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2))
      ∧ r.2.sem = fun _ => 0)

def quiescent_MlaQRefIdeal [hMlaQRefIdeal : Cert.MlaQRefIdeal.Facts] : Prop :=
  ∀ (m : (ℓ : Loc Cert.MlaQRefIdeal.nD Cert.MlaQRefIdeal.τ Cert.MlaQRefIdeal.sig) → Buf (Elt Ideal) ℓ) (g : Dev Cert.MlaQRefIdeal.nD → PrngReg), Pre_MlaQRefIdeal m →
    θ_run (Cert.MlaQRefIdeal.defs (F := Ideal)) (onTc (τ := Cert.MlaQRefIdeal.τ) (Cert.MlaQRefIdeal.main (F := Ideal))) ⟨m, fun _ => 0, g⟩ (fun r => (∀ c : Dev Cert.MlaQRefIdeal.nD,
      r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
      ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
      ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2))
      ∧ r.2.sem = fun _ => 0)

def quiescent_MlaKvb [hMlaKvb : Cert.MlaKvb.Facts] : Prop :=
  ∀ (m : (ℓ : Loc Cert.MlaKvb.nD Cert.MlaKvb.τ Cert.MlaKvb.sig) → Buf (Elt Bits) ℓ) (g : Dev Cert.MlaKvb.nD → PrngReg), Pre_MlaKvb m →
    θ_run (Cert.MlaKvb.defs (F := Bits)) (onTc (τ := Cert.MlaKvb.τ) (Cert.MlaKvb.main (F := Bits))) ⟨m, fun _ => 0, g⟩ (fun r => (∀ c : Dev Cert.MlaKvb.nD,
      r.2.mem ((c.tc : Thread Cert.MlaKvb.nD Cert.MlaKvb.τ).loc Cert.MlaKvb.main_arg0) = m ((c.tc : Thread Cert.MlaKvb.nD Cert.MlaKvb.τ).loc Cert.MlaKvb.main_arg0)
      ∧ r.2.mem ((c.tc : Thread Cert.MlaKvb.nD Cert.MlaKvb.τ).loc Cert.MlaKvb.main_arg1) = m ((c.tc : Thread Cert.MlaKvb.nD Cert.MlaKvb.τ).loc Cert.MlaKvb.main_arg1)
      ∧ r.2.mem ((c.tc : Thread Cert.MlaKvb.nD Cert.MlaKvb.τ).loc Cert.MlaKvb.main_arg2) = m ((c.tc : Thread Cert.MlaKvb.nD Cert.MlaKvb.τ).loc Cert.MlaKvb.main_arg2))
      ∧ r.2.sem = fun _ => 0)

def quiescent_MlaKvbIdeal [hMlaKvbIdeal : Cert.MlaKvbIdeal.Facts] : Prop :=
  ∀ (m : (ℓ : Loc Cert.MlaKvbIdeal.nD Cert.MlaKvbIdeal.τ Cert.MlaKvbIdeal.sig) → Buf (Elt Ideal) ℓ) (g : Dev Cert.MlaKvbIdeal.nD → PrngReg), Pre_MlaKvbIdeal m →
    θ_run (Cert.MlaKvbIdeal.defs (F := Ideal)) (onTc (τ := Cert.MlaKvbIdeal.τ) (Cert.MlaKvbIdeal.main (F := Ideal))) ⟨m, fun _ => 0, g⟩ (fun r => (∀ c : Dev Cert.MlaKvbIdeal.nD,
      r.2.mem ((c.tc : Thread Cert.MlaKvbIdeal.nD Cert.MlaKvbIdeal.τ).loc Cert.MlaKvbIdeal.main_arg0) = m ((c.tc : Thread Cert.MlaKvbIdeal.nD Cert.MlaKvbIdeal.τ).loc Cert.MlaKvbIdeal.main_arg0)
      ∧ r.2.mem ((c.tc : Thread Cert.MlaKvbIdeal.nD Cert.MlaKvbIdeal.τ).loc Cert.MlaKvbIdeal.main_arg1) = m ((c.tc : Thread Cert.MlaKvbIdeal.nD Cert.MlaKvbIdeal.τ).loc Cert.MlaKvbIdeal.main_arg1)
      ∧ r.2.mem ((c.tc : Thread Cert.MlaKvbIdeal.nD Cert.MlaKvbIdeal.τ).loc Cert.MlaKvbIdeal.main_arg2) = m ((c.tc : Thread Cert.MlaKvbIdeal.nD Cert.MlaKvbIdeal.τ).loc Cert.MlaKvbIdeal.main_arg2))
      ∧ r.2.sem = fun _ => 0)

def quiescent_MlaKvbRefIdeal [hMlaKvbRefIdeal : Cert.MlaKvbRefIdeal.Facts] : Prop :=
  ∀ (m : (ℓ : Loc Cert.MlaKvbRefIdeal.nD Cert.MlaKvbRefIdeal.τ Cert.MlaKvbRefIdeal.sig) → Buf (Elt Ideal) ℓ) (g : Dev Cert.MlaKvbRefIdeal.nD → PrngReg), Pre_MlaKvbRefIdeal m →
    θ_run (Cert.MlaKvbRefIdeal.defs (F := Ideal)) (onTc (τ := Cert.MlaKvbRefIdeal.τ) (Cert.MlaKvbRefIdeal.main (F := Ideal))) ⟨m, fun _ => 0, g⟩ (fun r => (∀ c : Dev Cert.MlaKvbRefIdeal.nD,
      r.2.mem ((c.tc : Thread Cert.MlaKvbRefIdeal.nD Cert.MlaKvbRefIdeal.τ).loc Cert.MlaKvbRefIdeal.main_arg0) = m ((c.tc : Thread Cert.MlaKvbRefIdeal.nD Cert.MlaKvbRefIdeal.τ).loc Cert.MlaKvbRefIdeal.main_arg0)
      ∧ r.2.mem ((c.tc : Thread Cert.MlaKvbRefIdeal.nD Cert.MlaKvbRefIdeal.τ).loc Cert.MlaKvbRefIdeal.main_arg1) = m ((c.tc : Thread Cert.MlaKvbRefIdeal.nD Cert.MlaKvbRefIdeal.τ).loc Cert.MlaKvbRefIdeal.main_arg1)
      ∧ r.2.mem ((c.tc : Thread Cert.MlaKvbRefIdeal.nD Cert.MlaKvbRefIdeal.τ).loc Cert.MlaKvbRefIdeal.main_arg2) = m ((c.tc : Thread Cert.MlaKvbRefIdeal.nD Cert.MlaKvbRefIdeal.τ).loc Cert.MlaKvbRefIdeal.main_arg2))
      ∧ r.2.sem = fun _ => 0)

def quiescent_MlaLatent [hMlaLatent : Cert.MlaLatent.Facts] : Prop :=
  ∀ (m : (ℓ : Loc Cert.MlaLatent.nD Cert.MlaLatent.τ Cert.MlaLatent.sig) → Buf (Elt Bits) ℓ) (g : Dev Cert.MlaLatent.nD → PrngReg), Pre_MlaLatent m →
    θ_run (Cert.MlaLatent.defs (F := Bits)) (onTc (τ := Cert.MlaLatent.τ) (Cert.MlaLatent.main (F := Bits))) ⟨m, fun _ => 0, g⟩ (fun r => (∀ c : Dev Cert.MlaLatent.nD,
      r.2.mem ((c.tc : Thread Cert.MlaLatent.nD Cert.MlaLatent.τ).loc Cert.MlaLatent.main_arg0) = m ((c.tc : Thread Cert.MlaLatent.nD Cert.MlaLatent.τ).loc Cert.MlaLatent.main_arg0)
      ∧ r.2.mem ((c.tc : Thread Cert.MlaLatent.nD Cert.MlaLatent.τ).loc Cert.MlaLatent.main_arg1) = m ((c.tc : Thread Cert.MlaLatent.nD Cert.MlaLatent.τ).loc Cert.MlaLatent.main_arg1)
      ∧ r.2.mem ((c.tc : Thread Cert.MlaLatent.nD Cert.MlaLatent.τ).loc Cert.MlaLatent.main_arg2) = m ((c.tc : Thread Cert.MlaLatent.nD Cert.MlaLatent.τ).loc Cert.MlaLatent.main_arg2)
      ∧ r.2.mem ((c.tc : Thread Cert.MlaLatent.nD Cert.MlaLatent.τ).loc Cert.MlaLatent.main_arg3) = m ((c.tc : Thread Cert.MlaLatent.nD Cert.MlaLatent.τ).loc Cert.MlaLatent.main_arg3))
      ∧ r.2.sem = fun _ => 0)

def quiescent_MlaLatentIdeal [hMlaLatentIdeal : Cert.MlaLatentIdeal.Facts] : Prop :=
  ∀ (m : (ℓ : Loc Cert.MlaLatentIdeal.nD Cert.MlaLatentIdeal.τ Cert.MlaLatentIdeal.sig) → Buf (Elt Ideal) ℓ) (g : Dev Cert.MlaLatentIdeal.nD → PrngReg), Pre_MlaLatentIdeal m →
    θ_run (Cert.MlaLatentIdeal.defs (F := Ideal)) (onTc (τ := Cert.MlaLatentIdeal.τ) (Cert.MlaLatentIdeal.main (F := Ideal))) ⟨m, fun _ => 0, g⟩ (fun r => (∀ c : Dev Cert.MlaLatentIdeal.nD,
      r.2.mem ((c.tc : Thread Cert.MlaLatentIdeal.nD Cert.MlaLatentIdeal.τ).loc Cert.MlaLatentIdeal.main_arg0) = m ((c.tc : Thread Cert.MlaLatentIdeal.nD Cert.MlaLatentIdeal.τ).loc Cert.MlaLatentIdeal.main_arg0)
      ∧ r.2.mem ((c.tc : Thread Cert.MlaLatentIdeal.nD Cert.MlaLatentIdeal.τ).loc Cert.MlaLatentIdeal.main_arg1) = m ((c.tc : Thread Cert.MlaLatentIdeal.nD Cert.MlaLatentIdeal.τ).loc Cert.MlaLatentIdeal.main_arg1)
      ∧ r.2.mem ((c.tc : Thread Cert.MlaLatentIdeal.nD Cert.MlaLatentIdeal.τ).loc Cert.MlaLatentIdeal.main_arg2) = m ((c.tc : Thread Cert.MlaLatentIdeal.nD Cert.MlaLatentIdeal.τ).loc Cert.MlaLatentIdeal.main_arg2)
      ∧ r.2.mem ((c.tc : Thread Cert.MlaLatentIdeal.nD Cert.MlaLatentIdeal.τ).loc Cert.MlaLatentIdeal.main_arg3) = m ((c.tc : Thread Cert.MlaLatentIdeal.nD Cert.MlaLatentIdeal.τ).loc Cert.MlaLatentIdeal.main_arg3))
      ∧ r.2.sem = fun _ => 0)

def quiescent_MlaLatentIdeal_pre_finite_mla [hMlaLatentIdeal : Cert.MlaLatentIdeal.Facts] [hPre_finite_mla : Cert.Pre_finite_mla.Facts] : Prop :=
  ∀ (m : (ℓ : Loc Cert.MlaLatentIdeal.nD Cert.MlaLatentIdeal.τ Cert.MlaLatentIdeal.sig) → Buf (Elt Ideal) ℓ) (g : Dev Cert.MlaLatentIdeal.nD → PrngReg), Pre_MlaLatentIdeal_finite_mla m →
    θ_run (Cert.MlaLatentIdeal.defs (F := Ideal)) (onTc (τ := Cert.MlaLatentIdeal.τ) (Cert.MlaLatentIdeal.main (F := Ideal))) ⟨m, fun _ => 0, g⟩ (fun r => (∀ c : Dev Cert.MlaLatentIdeal.nD,
      r.2.mem ((c.tc : Thread Cert.MlaLatentIdeal.nD Cert.MlaLatentIdeal.τ).loc Cert.MlaLatentIdeal.main_arg0) = m ((c.tc : Thread Cert.MlaLatentIdeal.nD Cert.MlaLatentIdeal.τ).loc Cert.MlaLatentIdeal.main_arg0)
      ∧ r.2.mem ((c.tc : Thread Cert.MlaLatentIdeal.nD Cert.MlaLatentIdeal.τ).loc Cert.MlaLatentIdeal.main_arg1) = m ((c.tc : Thread Cert.MlaLatentIdeal.nD Cert.MlaLatentIdeal.τ).loc Cert.MlaLatentIdeal.main_arg1)
      ∧ r.2.mem ((c.tc : Thread Cert.MlaLatentIdeal.nD Cert.MlaLatentIdeal.τ).loc Cert.MlaLatentIdeal.main_arg2) = m ((c.tc : Thread Cert.MlaLatentIdeal.nD Cert.MlaLatentIdeal.τ).loc Cert.MlaLatentIdeal.main_arg2)
      ∧ r.2.mem ((c.tc : Thread Cert.MlaLatentIdeal.nD Cert.MlaLatentIdeal.τ).loc Cert.MlaLatentIdeal.main_arg3) = m ((c.tc : Thread Cert.MlaLatentIdeal.nD Cert.MlaLatentIdeal.τ).loc Cert.MlaLatentIdeal.main_arg3))
      ∧ r.2.sem = fun _ => 0)

def quiescent_MlaLatentRefIdeal [hMlaLatentRefIdeal : Cert.MlaLatentRefIdeal.Facts] : Prop :=
  ∀ (m : (ℓ : Loc Cert.MlaLatentRefIdeal.nD Cert.MlaLatentRefIdeal.τ Cert.MlaLatentRefIdeal.sig) → Buf (Elt Ideal) ℓ) (g : Dev Cert.MlaLatentRefIdeal.nD → PrngReg), Pre_MlaLatentRefIdeal m →
    θ_run (Cert.MlaLatentRefIdeal.defs (F := Ideal)) (onTc (τ := Cert.MlaLatentRefIdeal.τ) (Cert.MlaLatentRefIdeal.main (F := Ideal))) ⟨m, fun _ => 0, g⟩ (fun r => (∀ c : Dev Cert.MlaLatentRefIdeal.nD,
      r.2.mem ((c.tc : Thread Cert.MlaLatentRefIdeal.nD Cert.MlaLatentRefIdeal.τ).loc Cert.MlaLatentRefIdeal.main_arg0) = m ((c.tc : Thread Cert.MlaLatentRefIdeal.nD Cert.MlaLatentRefIdeal.τ).loc Cert.MlaLatentRefIdeal.main_arg0)
      ∧ r.2.mem ((c.tc : Thread Cert.MlaLatentRefIdeal.nD Cert.MlaLatentRefIdeal.τ).loc Cert.MlaLatentRefIdeal.main_arg1) = m ((c.tc : Thread Cert.MlaLatentRefIdeal.nD Cert.MlaLatentRefIdeal.τ).loc Cert.MlaLatentRefIdeal.main_arg1)
      ∧ r.2.mem ((c.tc : Thread Cert.MlaLatentRefIdeal.nD Cert.MlaLatentRefIdeal.τ).loc Cert.MlaLatentRefIdeal.main_arg2) = m ((c.tc : Thread Cert.MlaLatentRefIdeal.nD Cert.MlaLatentRefIdeal.τ).loc Cert.MlaLatentRefIdeal.main_arg2)
      ∧ r.2.mem ((c.tc : Thread Cert.MlaLatentRefIdeal.nD Cert.MlaLatentRefIdeal.τ).loc Cert.MlaLatentRefIdeal.main_arg3) = m ((c.tc : Thread Cert.MlaLatentRefIdeal.nD Cert.MlaLatentRefIdeal.τ).loc Cert.MlaLatentRefIdeal.main_arg3))
      ∧ r.2.sem = fun _ => 0)

def quiescent_MlaLatentRefIdeal_pre_finite_mla [hMlaLatentRefIdeal : Cert.MlaLatentRefIdeal.Facts] [hPre_finite_mla : Cert.Pre_finite_mla.Facts] : Prop :=
  ∀ (m : (ℓ : Loc Cert.MlaLatentRefIdeal.nD Cert.MlaLatentRefIdeal.τ Cert.MlaLatentRefIdeal.sig) → Buf (Elt Ideal) ℓ) (g : Dev Cert.MlaLatentRefIdeal.nD → PrngReg), Pre_MlaLatentRefIdeal_finite_mla m →
    θ_run (Cert.MlaLatentRefIdeal.defs (F := Ideal)) (onTc (τ := Cert.MlaLatentRefIdeal.τ) (Cert.MlaLatentRefIdeal.main (F := Ideal))) ⟨m, fun _ => 0, g⟩ (fun r => (∀ c : Dev Cert.MlaLatentRefIdeal.nD,
      r.2.mem ((c.tc : Thread Cert.MlaLatentRefIdeal.nD Cert.MlaLatentRefIdeal.τ).loc Cert.MlaLatentRefIdeal.main_arg0) = m ((c.tc : Thread Cert.MlaLatentRefIdeal.nD Cert.MlaLatentRefIdeal.τ).loc Cert.MlaLatentRefIdeal.main_arg0)
      ∧ r.2.mem ((c.tc : Thread Cert.MlaLatentRefIdeal.nD Cert.MlaLatentRefIdeal.τ).loc Cert.MlaLatentRefIdeal.main_arg1) = m ((c.tc : Thread Cert.MlaLatentRefIdeal.nD Cert.MlaLatentRefIdeal.τ).loc Cert.MlaLatentRefIdeal.main_arg1)
      ∧ r.2.mem ((c.tc : Thread Cert.MlaLatentRefIdeal.nD Cert.MlaLatentRefIdeal.τ).loc Cert.MlaLatentRefIdeal.main_arg2) = m ((c.tc : Thread Cert.MlaLatentRefIdeal.nD Cert.MlaLatentRefIdeal.τ).loc Cert.MlaLatentRefIdeal.main_arg2)
      ∧ r.2.mem ((c.tc : Thread Cert.MlaLatentRefIdeal.nD Cert.MlaLatentRefIdeal.τ).loc Cert.MlaLatentRefIdeal.main_arg3) = m ((c.tc : Thread Cert.MlaLatentRefIdeal.nD Cert.MlaLatentRefIdeal.τ).loc Cert.MlaLatentRefIdeal.main_arg3))
      ∧ r.2.sem = fun _ => 0)

def preserves_DiffLatent_DiffLatentIdeal : Prop :=
  True

def algebraic_DiffLatentIdeal_DiffLatentRefIdeal_pre_finite_scores [hDiffLatentIdeal : Cert.DiffLatentIdeal.Facts] [hDiffLatentRefIdeal : Cert.DiffLatentRefIdeal.Facts] [hPre_finite_scores : Cert.Pre_finite_scores.Facts] : Prop :=
  ∀ (m : (ℓ : Loc Cert.DiffLatentIdeal.nD Cert.DiffLatentIdeal.τ Cert.DiffLatentIdeal.sig) → Buf (Elt Ideal) ℓ) (g : Dev Cert.DiffLatentIdeal.nD → PrngReg)
    (m' : (ℓ : Loc Cert.DiffLatentRefIdeal.nD Cert.DiffLatentRefIdeal.τ Cert.DiffLatentRefIdeal.sig) → Buf (Elt Ideal) ℓ) (g' : Dev Cert.DiffLatentRefIdeal.nD → PrngReg), Pre_DiffLatentIdeal_finite_scores m →
    (∀ c : Dev Cert.DiffLatentIdeal.nD,
      m' ((c.tc : Thread Cert.DiffLatentRefIdeal.nD Cert.DiffLatentRefIdeal.τ).loc Cert.DiffLatentRefIdeal.main_arg0) = m ((c.tc : Thread Cert.DiffLatentIdeal.nD Cert.DiffLatentIdeal.τ).loc Cert.DiffLatentIdeal.main_arg0)
      ∧ m' ((c.tc : Thread Cert.DiffLatentRefIdeal.nD Cert.DiffLatentRefIdeal.τ).loc Cert.DiffLatentRefIdeal.main_arg1) = m ((c.tc : Thread Cert.DiffLatentIdeal.nD Cert.DiffLatentIdeal.τ).loc Cert.DiffLatentIdeal.main_arg1)
      ∧ m' ((c.tc : Thread Cert.DiffLatentRefIdeal.nD Cert.DiffLatentRefIdeal.τ).loc Cert.DiffLatentRefIdeal.main_arg2) = m ((c.tc : Thread Cert.DiffLatentIdeal.nD Cert.DiffLatentIdeal.τ).loc Cert.DiffLatentIdeal.main_arg2)
      ∧ m' ((c.tc : Thread Cert.DiffLatentRefIdeal.nD Cert.DiffLatentRefIdeal.τ).loc Cert.DiffLatentRefIdeal.main_arg3) = m ((c.tc : Thread Cert.DiffLatentIdeal.nD Cert.DiffLatentIdeal.τ).loc Cert.DiffLatentIdeal.main_arg3)
      ∧ m' ((c.tc : Thread Cert.DiffLatentRefIdeal.nD Cert.DiffLatentRefIdeal.τ).loc Cert.DiffLatentRefIdeal.main_arg4) = m ((c.tc : Thread Cert.DiffLatentIdeal.nD Cert.DiffLatentIdeal.τ).loc Cert.DiffLatentIdeal.main_arg4)
      ∧ m' ((c.tc : Thread Cert.DiffLatentRefIdeal.nD Cert.DiffLatentRefIdeal.τ).loc Cert.DiffLatentRefIdeal.main_arg5) = m ((c.tc : Thread Cert.DiffLatentIdeal.nD Cert.DiffLatentIdeal.τ).loc Cert.DiffLatentIdeal.main_arg5)) →
    ∃ (v0 : (c : Dev Cert.DiffLatentIdeal.nD) → Buf (Elt Ideal) ((c.tc : Thread Cert.DiffLatentIdeal.nD Cert.DiffLatentIdeal.τ).loc Cert.DiffLatentIdeal.main_v20)),
      θ_run (Cert.DiffLatentIdeal.defs (F := Ideal)) (onTc (τ := Cert.DiffLatentIdeal.τ) (Cert.DiffLatentIdeal.main (F := Ideal))) ⟨m, fun _ => 0, g⟩ (fun r => ∀ c : Dev Cert.DiffLatentIdeal.nD,
          r.2.mem ((c.tc : Thread Cert.DiffLatentIdeal.nD Cert.DiffLatentIdeal.τ).loc Cert.DiffLatentIdeal.main_v20) = v0 c
          ∧ r.2.mem ((c.tc : Thread Cert.DiffLatentIdeal.nD Cert.DiffLatentIdeal.τ).loc Cert.DiffLatentIdeal.main_arg0) = m ((c.tc : Thread Cert.DiffLatentIdeal.nD Cert.DiffLatentIdeal.τ).loc Cert.DiffLatentIdeal.main_arg0)
          ∧ r.2.mem ((c.tc : Thread Cert.DiffLatentIdeal.nD Cert.DiffLatentIdeal.τ).loc Cert.DiffLatentIdeal.main_arg1) = m ((c.tc : Thread Cert.DiffLatentIdeal.nD Cert.DiffLatentIdeal.τ).loc Cert.DiffLatentIdeal.main_arg1)
          ∧ r.2.mem ((c.tc : Thread Cert.DiffLatentIdeal.nD Cert.DiffLatentIdeal.τ).loc Cert.DiffLatentIdeal.main_arg2) = m ((c.tc : Thread Cert.DiffLatentIdeal.nD Cert.DiffLatentIdeal.τ).loc Cert.DiffLatentIdeal.main_arg2)
          ∧ r.2.mem ((c.tc : Thread Cert.DiffLatentIdeal.nD Cert.DiffLatentIdeal.τ).loc Cert.DiffLatentIdeal.main_arg3) = m ((c.tc : Thread Cert.DiffLatentIdeal.nD Cert.DiffLatentIdeal.τ).loc Cert.DiffLatentIdeal.main_arg3)
          ∧ r.2.mem ((c.tc : Thread Cert.DiffLatentIdeal.nD Cert.DiffLatentIdeal.τ).loc Cert.DiffLatentIdeal.main_arg4) = m ((c.tc : Thread Cert.DiffLatentIdeal.nD Cert.DiffLatentIdeal.τ).loc Cert.DiffLatentIdeal.main_arg4)
          ∧ r.2.mem ((c.tc : Thread Cert.DiffLatentIdeal.nD Cert.DiffLatentIdeal.τ).loc Cert.DiffLatentIdeal.main_arg5) = m ((c.tc : Thread Cert.DiffLatentIdeal.nD Cert.DiffLatentIdeal.τ).loc Cert.DiffLatentIdeal.main_arg5))
      ∧ θ_run (Cert.DiffLatentRefIdeal.defs (F := Ideal)) (onTc (τ := Cert.DiffLatentRefIdeal.τ) (Cert.DiffLatentRefIdeal.main (F := Ideal))) ⟨m', fun _ => 0, g'⟩ (fun r => ∀ c : Dev Cert.DiffLatentRefIdeal.nD,
          r.2.mem ((c.tc : Thread Cert.DiffLatentRefIdeal.nD Cert.DiffLatentRefIdeal.τ).loc Cert.DiffLatentRefIdeal.main_v65) = v0 c
          ∧ r.2.mem ((c.tc : Thread Cert.DiffLatentRefIdeal.nD Cert.DiffLatentRefIdeal.τ).loc Cert.DiffLatentRefIdeal.main_arg0) = m' ((c.tc : Thread Cert.DiffLatentRefIdeal.nD Cert.DiffLatentRefIdeal.τ).loc Cert.DiffLatentRefIdeal.main_arg0)
          ∧ r.2.mem ((c.tc : Thread Cert.DiffLatentRefIdeal.nD Cert.DiffLatentRefIdeal.τ).loc Cert.DiffLatentRefIdeal.main_arg1) = m' ((c.tc : Thread Cert.DiffLatentRefIdeal.nD Cert.DiffLatentRefIdeal.τ).loc Cert.DiffLatentRefIdeal.main_arg1)
          ∧ r.2.mem ((c.tc : Thread Cert.DiffLatentRefIdeal.nD Cert.DiffLatentRefIdeal.τ).loc Cert.DiffLatentRefIdeal.main_arg2) = m' ((c.tc : Thread Cert.DiffLatentRefIdeal.nD Cert.DiffLatentRefIdeal.τ).loc Cert.DiffLatentRefIdeal.main_arg2)
          ∧ r.2.mem ((c.tc : Thread Cert.DiffLatentRefIdeal.nD Cert.DiffLatentRefIdeal.τ).loc Cert.DiffLatentRefIdeal.main_arg3) = m' ((c.tc : Thread Cert.DiffLatentRefIdeal.nD Cert.DiffLatentRefIdeal.τ).loc Cert.DiffLatentRefIdeal.main_arg3)
          ∧ r.2.mem ((c.tc : Thread Cert.DiffLatentRefIdeal.nD Cert.DiffLatentRefIdeal.τ).loc Cert.DiffLatentRefIdeal.main_arg4) = m' ((c.tc : Thread Cert.DiffLatentRefIdeal.nD Cert.DiffLatentRefIdeal.τ).loc Cert.DiffLatentRefIdeal.main_arg4)
          ∧ r.2.mem ((c.tc : Thread Cert.DiffLatentRefIdeal.nD Cert.DiffLatentRefIdeal.τ).loc Cert.DiffLatentRefIdeal.main_arg5) = m' ((c.tc : Thread Cert.DiffLatentRefIdeal.nD Cert.DiffLatentRefIdeal.τ).loc Cert.DiffLatentRefIdeal.main_arg5))

def preserves_FfnDense_FfnDenseIdeal : Prop :=
  True

def algebraic_FfnDenseIdeal_FfnDenseRefIdeal [hFfnDenseIdeal : Cert.FfnDenseIdeal.Facts] [hFfnDenseRefIdeal : Cert.FfnDenseRefIdeal.Facts] : Prop :=
  ∀ (m : (ℓ : Loc Cert.FfnDenseIdeal.nD Cert.FfnDenseIdeal.τ Cert.FfnDenseIdeal.sig) → Buf (Elt Ideal) ℓ) (g : Dev Cert.FfnDenseIdeal.nD → PrngReg)
    (m' : (ℓ : Loc Cert.FfnDenseRefIdeal.nD Cert.FfnDenseRefIdeal.τ Cert.FfnDenseRefIdeal.sig) → Buf (Elt Ideal) ℓ) (g' : Dev Cert.FfnDenseRefIdeal.nD → PrngReg), Pre_FfnDenseIdeal m →
    (∀ c : Dev Cert.FfnDenseIdeal.nD,
      m' ((c.tc : Thread Cert.FfnDenseRefIdeal.nD Cert.FfnDenseRefIdeal.τ).loc Cert.FfnDenseRefIdeal.main_arg0) = m ((c.tc : Thread Cert.FfnDenseIdeal.nD Cert.FfnDenseIdeal.τ).loc Cert.FfnDenseIdeal.main_arg0)
      ∧ m' ((c.tc : Thread Cert.FfnDenseRefIdeal.nD Cert.FfnDenseRefIdeal.τ).loc Cert.FfnDenseRefIdeal.main_arg1) = m ((c.tc : Thread Cert.FfnDenseIdeal.nD Cert.FfnDenseIdeal.τ).loc Cert.FfnDenseIdeal.main_arg1)
      ∧ m' ((c.tc : Thread Cert.FfnDenseRefIdeal.nD Cert.FfnDenseRefIdeal.τ).loc Cert.FfnDenseRefIdeal.main_arg2) = m ((c.tc : Thread Cert.FfnDenseIdeal.nD Cert.FfnDenseIdeal.τ).loc Cert.FfnDenseIdeal.main_arg2)
      ∧ m' ((c.tc : Thread Cert.FfnDenseRefIdeal.nD Cert.FfnDenseRefIdeal.τ).loc Cert.FfnDenseRefIdeal.main_arg3) = m ((c.tc : Thread Cert.FfnDenseIdeal.nD Cert.FfnDenseIdeal.τ).loc Cert.FfnDenseIdeal.main_arg3)
      ∧ m' ((c.tc : Thread Cert.FfnDenseRefIdeal.nD Cert.FfnDenseRefIdeal.τ).loc Cert.FfnDenseRefIdeal.main_arg4) = m ((c.tc : Thread Cert.FfnDenseIdeal.nD Cert.FfnDenseIdeal.τ).loc Cert.FfnDenseIdeal.main_arg4)
      ∧ m' ((c.tc : Thread Cert.FfnDenseRefIdeal.nD Cert.FfnDenseRefIdeal.τ).loc Cert.FfnDenseRefIdeal.main_arg5) = m ((c.tc : Thread Cert.FfnDenseIdeal.nD Cert.FfnDenseIdeal.τ).loc Cert.FfnDenseIdeal.main_arg5)) →
    ∃ (v0 : (c : Dev Cert.FfnDenseIdeal.nD) → Buf (Elt Ideal) ((c.tc : Thread Cert.FfnDenseIdeal.nD Cert.FfnDenseIdeal.τ).loc Cert.FfnDenseIdeal.main_v1)),
      θ_run (Cert.FfnDenseIdeal.defs (F := Ideal)) (onTc (τ := Cert.FfnDenseIdeal.τ) (Cert.FfnDenseIdeal.main (F := Ideal))) ⟨m, fun _ => 0, g⟩ (fun r => ∀ c : Dev Cert.FfnDenseIdeal.nD,
          r.2.mem ((c.tc : Thread Cert.FfnDenseIdeal.nD Cert.FfnDenseIdeal.τ).loc Cert.FfnDenseIdeal.main_v1) = v0 c
          ∧ r.2.mem ((c.tc : Thread Cert.FfnDenseIdeal.nD Cert.FfnDenseIdeal.τ).loc Cert.FfnDenseIdeal.main_arg0) = m ((c.tc : Thread Cert.FfnDenseIdeal.nD Cert.FfnDenseIdeal.τ).loc Cert.FfnDenseIdeal.main_arg0)
          ∧ r.2.mem ((c.tc : Thread Cert.FfnDenseIdeal.nD Cert.FfnDenseIdeal.τ).loc Cert.FfnDenseIdeal.main_arg1) = m ((c.tc : Thread Cert.FfnDenseIdeal.nD Cert.FfnDenseIdeal.τ).loc Cert.FfnDenseIdeal.main_arg1)
          ∧ r.2.mem ((c.tc : Thread Cert.FfnDenseIdeal.nD Cert.FfnDenseIdeal.τ).loc Cert.FfnDenseIdeal.main_arg2) = m ((c.tc : Thread Cert.FfnDenseIdeal.nD Cert.FfnDenseIdeal.τ).loc Cert.FfnDenseIdeal.main_arg2)
          ∧ r.2.mem ((c.tc : Thread Cert.FfnDenseIdeal.nD Cert.FfnDenseIdeal.τ).loc Cert.FfnDenseIdeal.main_arg3) = m ((c.tc : Thread Cert.FfnDenseIdeal.nD Cert.FfnDenseIdeal.τ).loc Cert.FfnDenseIdeal.main_arg3)
          ∧ r.2.mem ((c.tc : Thread Cert.FfnDenseIdeal.nD Cert.FfnDenseIdeal.τ).loc Cert.FfnDenseIdeal.main_arg4) = m ((c.tc : Thread Cert.FfnDenseIdeal.nD Cert.FfnDenseIdeal.τ).loc Cert.FfnDenseIdeal.main_arg4)
          ∧ r.2.mem ((c.tc : Thread Cert.FfnDenseIdeal.nD Cert.FfnDenseIdeal.τ).loc Cert.FfnDenseIdeal.main_arg5) = m ((c.tc : Thread Cert.FfnDenseIdeal.nD Cert.FfnDenseIdeal.τ).loc Cert.FfnDenseIdeal.main_arg5))
      ∧ θ_run (Cert.FfnDenseRefIdeal.defs (F := Ideal)) (onTc (τ := Cert.FfnDenseRefIdeal.τ) (Cert.FfnDenseRefIdeal.main (F := Ideal))) ⟨m', fun _ => 0, g'⟩ (fun r => ∀ c : Dev Cert.FfnDenseRefIdeal.nD,
          r.2.mem ((c.tc : Thread Cert.FfnDenseRefIdeal.nD Cert.FfnDenseRefIdeal.τ).loc Cert.FfnDenseRefIdeal.main_v87) = v0 c
          ∧ r.2.mem ((c.tc : Thread Cert.FfnDenseRefIdeal.nD Cert.FfnDenseRefIdeal.τ).loc Cert.FfnDenseRefIdeal.main_arg0) = m' ((c.tc : Thread Cert.FfnDenseRefIdeal.nD Cert.FfnDenseRefIdeal.τ).loc Cert.FfnDenseRefIdeal.main_arg0)
          ∧ r.2.mem ((c.tc : Thread Cert.FfnDenseRefIdeal.nD Cert.FfnDenseRefIdeal.τ).loc Cert.FfnDenseRefIdeal.main_arg1) = m' ((c.tc : Thread Cert.FfnDenseRefIdeal.nD Cert.FfnDenseRefIdeal.τ).loc Cert.FfnDenseRefIdeal.main_arg1)
          ∧ r.2.mem ((c.tc : Thread Cert.FfnDenseRefIdeal.nD Cert.FfnDenseRefIdeal.τ).loc Cert.FfnDenseRefIdeal.main_arg2) = m' ((c.tc : Thread Cert.FfnDenseRefIdeal.nD Cert.FfnDenseRefIdeal.τ).loc Cert.FfnDenseRefIdeal.main_arg2)
          ∧ r.2.mem ((c.tc : Thread Cert.FfnDenseRefIdeal.nD Cert.FfnDenseRefIdeal.τ).loc Cert.FfnDenseRefIdeal.main_arg3) = m' ((c.tc : Thread Cert.FfnDenseRefIdeal.nD Cert.FfnDenseRefIdeal.τ).loc Cert.FfnDenseRefIdeal.main_arg3)
          ∧ r.2.mem ((c.tc : Thread Cert.FfnDenseRefIdeal.nD Cert.FfnDenseRefIdeal.τ).loc Cert.FfnDenseRefIdeal.main_arg4) = m' ((c.tc : Thread Cert.FfnDenseRefIdeal.nD Cert.FfnDenseRefIdeal.τ).loc Cert.FfnDenseRefIdeal.main_arg4)
          ∧ r.2.mem ((c.tc : Thread Cert.FfnDenseRefIdeal.nD Cert.FfnDenseRefIdeal.τ).loc Cert.FfnDenseRefIdeal.main_arg5) = m' ((c.tc : Thread Cert.FfnDenseRefIdeal.nD Cert.FfnDenseRefIdeal.τ).loc Cert.FfnDenseRefIdeal.main_arg5))

def preserves_FfnMoe_FfnMoeIdeal : Prop :=
  True

def algebraic_FfnMoeIdeal_FfnMoeRefIdeal [hFfnMoeIdeal : Cert.FfnMoeIdeal.Facts] [hFfnMoeRefIdeal : Cert.FfnMoeRefIdeal.Facts] [hPre_experts_in_range : Cert.Pre_experts_in_range.Facts] : Prop :=
  ∀ (m : (ℓ : Loc Cert.FfnMoeIdeal.nD Cert.FfnMoeIdeal.τ Cert.FfnMoeIdeal.sig) → Buf (Elt Ideal) ℓ) (g : Dev Cert.FfnMoeIdeal.nD → PrngReg)
    (m' : (ℓ : Loc Cert.FfnMoeRefIdeal.nD Cert.FfnMoeRefIdeal.τ Cert.FfnMoeRefIdeal.sig) → Buf (Elt Ideal) ℓ) (g' : Dev Cert.FfnMoeRefIdeal.nD → PrngReg), Pre_FfnMoeIdeal m →
    (∀ c : Dev Cert.FfnMoeIdeal.nD,
      m' ((c.tc : Thread Cert.FfnMoeRefIdeal.nD Cert.FfnMoeRefIdeal.τ).loc Cert.FfnMoeRefIdeal.main_arg0) = m ((c.tc : Thread Cert.FfnMoeIdeal.nD Cert.FfnMoeIdeal.τ).loc Cert.FfnMoeIdeal.main_arg0)
      ∧ m' ((c.tc : Thread Cert.FfnMoeRefIdeal.nD Cert.FfnMoeRefIdeal.τ).loc Cert.FfnMoeRefIdeal.main_arg1) = m ((c.tc : Thread Cert.FfnMoeIdeal.nD Cert.FfnMoeIdeal.τ).loc Cert.FfnMoeIdeal.main_arg1)
      ∧ m' ((c.tc : Thread Cert.FfnMoeRefIdeal.nD Cert.FfnMoeRefIdeal.τ).loc Cert.FfnMoeRefIdeal.main_arg2) = m ((c.tc : Thread Cert.FfnMoeIdeal.nD Cert.FfnMoeIdeal.τ).loc Cert.FfnMoeIdeal.main_arg2)
      ∧ m' ((c.tc : Thread Cert.FfnMoeRefIdeal.nD Cert.FfnMoeRefIdeal.τ).loc Cert.FfnMoeRefIdeal.main_arg3) = m ((c.tc : Thread Cert.FfnMoeIdeal.nD Cert.FfnMoeIdeal.τ).loc Cert.FfnMoeIdeal.main_arg3)
      ∧ m' ((c.tc : Thread Cert.FfnMoeRefIdeal.nD Cert.FfnMoeRefIdeal.τ).loc Cert.FfnMoeRefIdeal.main_arg4) = m ((c.tc : Thread Cert.FfnMoeIdeal.nD Cert.FfnMoeIdeal.τ).loc Cert.FfnMoeIdeal.main_arg4)
      ∧ m' ((c.tc : Thread Cert.FfnMoeRefIdeal.nD Cert.FfnMoeRefIdeal.τ).loc Cert.FfnMoeRefIdeal.main_arg5) = m ((c.tc : Thread Cert.FfnMoeIdeal.nD Cert.FfnMoeIdeal.τ).loc Cert.FfnMoeIdeal.main_arg5)
      ∧ m' ((c.tc : Thread Cert.FfnMoeRefIdeal.nD Cert.FfnMoeRefIdeal.τ).loc Cert.FfnMoeRefIdeal.main_arg6) = m ((c.tc : Thread Cert.FfnMoeIdeal.nD Cert.FfnMoeIdeal.τ).loc Cert.FfnMoeIdeal.main_arg6)) →
    ∃ (v0 : (c : Dev Cert.FfnMoeIdeal.nD) → Buf (Elt Ideal) ((c.tc : Thread Cert.FfnMoeIdeal.nD Cert.FfnMoeIdeal.τ).loc Cert.FfnMoeIdeal.main_v0)),
      θ_run (Cert.FfnMoeIdeal.defs (F := Ideal)) (onTc (τ := Cert.FfnMoeIdeal.τ) (Cert.FfnMoeIdeal.main (F := Ideal))) ⟨m, fun _ => 0, g⟩ (fun r => ∀ c : Dev Cert.FfnMoeIdeal.nD,
          r.2.mem ((c.tc : Thread Cert.FfnMoeIdeal.nD Cert.FfnMoeIdeal.τ).loc Cert.FfnMoeIdeal.main_v0) = v0 c
          ∧ r.2.mem ((c.tc : Thread Cert.FfnMoeIdeal.nD Cert.FfnMoeIdeal.τ).loc Cert.FfnMoeIdeal.main_arg0) = m ((c.tc : Thread Cert.FfnMoeIdeal.nD Cert.FfnMoeIdeal.τ).loc Cert.FfnMoeIdeal.main_arg0)
          ∧ r.2.mem ((c.tc : Thread Cert.FfnMoeIdeal.nD Cert.FfnMoeIdeal.τ).loc Cert.FfnMoeIdeal.main_arg1) = m ((c.tc : Thread Cert.FfnMoeIdeal.nD Cert.FfnMoeIdeal.τ).loc Cert.FfnMoeIdeal.main_arg1)
          ∧ r.2.mem ((c.tc : Thread Cert.FfnMoeIdeal.nD Cert.FfnMoeIdeal.τ).loc Cert.FfnMoeIdeal.main_arg2) = m ((c.tc : Thread Cert.FfnMoeIdeal.nD Cert.FfnMoeIdeal.τ).loc Cert.FfnMoeIdeal.main_arg2)
          ∧ r.2.mem ((c.tc : Thread Cert.FfnMoeIdeal.nD Cert.FfnMoeIdeal.τ).loc Cert.FfnMoeIdeal.main_arg3) = m ((c.tc : Thread Cert.FfnMoeIdeal.nD Cert.FfnMoeIdeal.τ).loc Cert.FfnMoeIdeal.main_arg3)
          ∧ r.2.mem ((c.tc : Thread Cert.FfnMoeIdeal.nD Cert.FfnMoeIdeal.τ).loc Cert.FfnMoeIdeal.main_arg4) = m ((c.tc : Thread Cert.FfnMoeIdeal.nD Cert.FfnMoeIdeal.τ).loc Cert.FfnMoeIdeal.main_arg4)
          ∧ r.2.mem ((c.tc : Thread Cert.FfnMoeIdeal.nD Cert.FfnMoeIdeal.τ).loc Cert.FfnMoeIdeal.main_arg5) = m ((c.tc : Thread Cert.FfnMoeIdeal.nD Cert.FfnMoeIdeal.τ).loc Cert.FfnMoeIdeal.main_arg5)
          ∧ r.2.mem ((c.tc : Thread Cert.FfnMoeIdeal.nD Cert.FfnMoeIdeal.τ).loc Cert.FfnMoeIdeal.main_arg6) = m ((c.tc : Thread Cert.FfnMoeIdeal.nD Cert.FfnMoeIdeal.τ).loc Cert.FfnMoeIdeal.main_arg6))
      ∧ θ_run (Cert.FfnMoeRefIdeal.defs (F := Ideal)) (onTc (τ := Cert.FfnMoeRefIdeal.τ) (Cert.FfnMoeRefIdeal.main (F := Ideal))) ⟨m', fun _ => 0, g'⟩ (fun r => ∀ c : Dev Cert.FfnMoeRefIdeal.nD,
          r.2.mem ((c.tc : Thread Cert.FfnMoeRefIdeal.nD Cert.FfnMoeRefIdeal.τ).loc Cert.FfnMoeRefIdeal.main_v135) = v0 c
          ∧ r.2.mem ((c.tc : Thread Cert.FfnMoeRefIdeal.nD Cert.FfnMoeRefIdeal.τ).loc Cert.FfnMoeRefIdeal.main_arg0) = m' ((c.tc : Thread Cert.FfnMoeRefIdeal.nD Cert.FfnMoeRefIdeal.τ).loc Cert.FfnMoeRefIdeal.main_arg0)
          ∧ r.2.mem ((c.tc : Thread Cert.FfnMoeRefIdeal.nD Cert.FfnMoeRefIdeal.τ).loc Cert.FfnMoeRefIdeal.main_arg1) = m' ((c.tc : Thread Cert.FfnMoeRefIdeal.nD Cert.FfnMoeRefIdeal.τ).loc Cert.FfnMoeRefIdeal.main_arg1)
          ∧ r.2.mem ((c.tc : Thread Cert.FfnMoeRefIdeal.nD Cert.FfnMoeRefIdeal.τ).loc Cert.FfnMoeRefIdeal.main_arg2) = m' ((c.tc : Thread Cert.FfnMoeRefIdeal.nD Cert.FfnMoeRefIdeal.τ).loc Cert.FfnMoeRefIdeal.main_arg2)
          ∧ r.2.mem ((c.tc : Thread Cert.FfnMoeRefIdeal.nD Cert.FfnMoeRefIdeal.τ).loc Cert.FfnMoeRefIdeal.main_arg3) = m' ((c.tc : Thread Cert.FfnMoeRefIdeal.nD Cert.FfnMoeRefIdeal.τ).loc Cert.FfnMoeRefIdeal.main_arg3)
          ∧ r.2.mem ((c.tc : Thread Cert.FfnMoeRefIdeal.nD Cert.FfnMoeRefIdeal.τ).loc Cert.FfnMoeRefIdeal.main_arg4) = m' ((c.tc : Thread Cert.FfnMoeRefIdeal.nD Cert.FfnMoeRefIdeal.τ).loc Cert.FfnMoeRefIdeal.main_arg4)
          ∧ r.2.mem ((c.tc : Thread Cert.FfnMoeRefIdeal.nD Cert.FfnMoeRefIdeal.τ).loc Cert.FfnMoeRefIdeal.main_arg5) = m' ((c.tc : Thread Cert.FfnMoeRefIdeal.nD Cert.FfnMoeRefIdeal.τ).loc Cert.FfnMoeRefIdeal.main_arg5)
          ∧ r.2.mem ((c.tc : Thread Cert.FfnMoeRefIdeal.nD Cert.FfnMoeRefIdeal.τ).loc Cert.FfnMoeRefIdeal.main_arg6) = m' ((c.tc : Thread Cert.FfnMoeRefIdeal.nD Cert.FfnMoeRefIdeal.τ).loc Cert.FfnMoeRefIdeal.main_arg6))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v1) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v73) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_NormPrompt_NormPromptIdeal : Prop :=
  True

def algebraic_NormPromptIdeal_NormPromptRefIdeal [hNormPromptIdeal : Cert.NormPromptIdeal.Facts] [hNormPromptRefIdeal : Cert.NormPromptRefIdeal.Facts] : Prop :=
  ∀ (m : (ℓ : Loc Cert.NormPromptIdeal.nD Cert.NormPromptIdeal.τ Cert.NormPromptIdeal.sig) → Buf (Elt Ideal) ℓ) (g : Dev Cert.NormPromptIdeal.nD → PrngReg)
    (m' : (ℓ : Loc Cert.NormPromptRefIdeal.nD Cert.NormPromptRefIdeal.τ Cert.NormPromptRefIdeal.sig) → Buf (Elt Ideal) ℓ) (g' : Dev Cert.NormPromptRefIdeal.nD → PrngReg), Pre_NormPromptIdeal m →
    (∀ c : Dev Cert.NormPromptIdeal.nD,
      m' ((c.tc : Thread Cert.NormPromptRefIdeal.nD Cert.NormPromptRefIdeal.τ).loc Cert.NormPromptRefIdeal.main_arg0) = m ((c.tc : Thread Cert.NormPromptIdeal.nD Cert.NormPromptIdeal.τ).loc Cert.NormPromptIdeal.main_arg0)
      ∧ m' ((c.tc : Thread Cert.NormPromptRefIdeal.nD Cert.NormPromptRefIdeal.τ).loc Cert.NormPromptRefIdeal.main_arg1) = m ((c.tc : Thread Cert.NormPromptIdeal.nD Cert.NormPromptIdeal.τ).loc Cert.NormPromptIdeal.main_arg1)) →
    ∃ (v0 : (c : Dev Cert.NormPromptIdeal.nD) → Buf (Elt Ideal) ((c.tc : Thread Cert.NormPromptIdeal.nD Cert.NormPromptIdeal.τ).loc Cert.NormPromptIdeal.main_v2)),
      θ_run (Cert.NormPromptIdeal.defs (F := Ideal)) (onTc (τ := Cert.NormPromptIdeal.τ) (Cert.NormPromptIdeal.main (F := Ideal))) ⟨m, fun _ => 0, g⟩ (fun r => ∀ c : Dev Cert.NormPromptIdeal.nD,
          r.2.mem ((c.tc : Thread Cert.NormPromptIdeal.nD Cert.NormPromptIdeal.τ).loc Cert.NormPromptIdeal.main_v2) = v0 c
          ∧ r.2.mem ((c.tc : Thread Cert.NormPromptIdeal.nD Cert.NormPromptIdeal.τ).loc Cert.NormPromptIdeal.main_arg0) = m ((c.tc : Thread Cert.NormPromptIdeal.nD Cert.NormPromptIdeal.τ).loc Cert.NormPromptIdeal.main_arg0)
          ∧ r.2.mem ((c.tc : Thread Cert.NormPromptIdeal.nD Cert.NormPromptIdeal.τ).loc Cert.NormPromptIdeal.main_arg1) = m ((c.tc : Thread Cert.NormPromptIdeal.nD Cert.NormPromptIdeal.τ).loc Cert.NormPromptIdeal.main_arg1))
      ∧ θ_run (Cert.NormPromptRefIdeal.defs (F := Ideal)) (onTc (τ := Cert.NormPromptRefIdeal.τ) (Cert.NormPromptRefIdeal.main (F := Ideal))) ⟨m', fun _ => 0, g'⟩ (fun r => ∀ c : Dev Cert.NormPromptRefIdeal.nD,
          r.2.mem ((c.tc : Thread Cert.NormPromptRefIdeal.nD Cert.NormPromptRefIdeal.τ).loc Cert.NormPromptRefIdeal.main_v13) = v0 c
          ∧ r.2.mem ((c.tc : Thread Cert.NormPromptRefIdeal.nD Cert.NormPromptRefIdeal.τ).loc Cert.NormPromptRefIdeal.main_arg0) = m' ((c.tc : Thread Cert.NormPromptRefIdeal.nD Cert.NormPromptRefIdeal.τ).loc Cert.NormPromptRefIdeal.main_arg0)
          ∧ r.2.mem ((c.tc : Thread Cert.NormPromptRefIdeal.nD Cert.NormPromptRefIdeal.τ).loc Cert.NormPromptRefIdeal.main_arg1) = m' ((c.tc : Thread Cert.NormPromptRefIdeal.nD Cert.NormPromptRefIdeal.τ).loc Cert.NormPromptRefIdeal.main_arg1))

def preserves_NormSample_NormSampleIdeal : Prop :=
  True

def algebraic_NormSampleIdeal_NormSampleRefIdeal [hNormSampleIdeal : Cert.NormSampleIdeal.Facts] [hNormSampleRefIdeal : Cert.NormSampleRefIdeal.Facts] : Prop :=
  ∀ (m : (ℓ : Loc Cert.NormSampleIdeal.nD Cert.NormSampleIdeal.τ Cert.NormSampleIdeal.sig) → Buf (Elt Ideal) ℓ) (g : Dev Cert.NormSampleIdeal.nD → PrngReg)
    (m' : (ℓ : Loc Cert.NormSampleRefIdeal.nD Cert.NormSampleRefIdeal.τ Cert.NormSampleRefIdeal.sig) → Buf (Elt Ideal) ℓ) (g' : Dev Cert.NormSampleRefIdeal.nD → PrngReg), Pre_NormSampleIdeal m →
    (∀ c : Dev Cert.NormSampleIdeal.nD,
      m' ((c.tc : Thread Cert.NormSampleRefIdeal.nD Cert.NormSampleRefIdeal.τ).loc Cert.NormSampleRefIdeal.main_arg0) = m ((c.tc : Thread Cert.NormSampleIdeal.nD Cert.NormSampleIdeal.τ).loc Cert.NormSampleIdeal.main_arg0)
      ∧ m' ((c.tc : Thread Cert.NormSampleRefIdeal.nD Cert.NormSampleRefIdeal.τ).loc Cert.NormSampleRefIdeal.main_arg1) = m ((c.tc : Thread Cert.NormSampleIdeal.nD Cert.NormSampleIdeal.τ).loc Cert.NormSampleIdeal.main_arg1)) →
    ∃ (v0 : (c : Dev Cert.NormSampleIdeal.nD) → Buf (Elt Ideal) ((c.tc : Thread Cert.NormSampleIdeal.nD Cert.NormSampleIdeal.τ).loc Cert.NormSampleIdeal.main_v2)),
      θ_run (Cert.NormSampleIdeal.defs (F := Ideal)) (onTc (τ := Cert.NormSampleIdeal.τ) (Cert.NormSampleIdeal.main (F := Ideal))) ⟨m, fun _ => 0, g⟩ (fun r => ∀ c : Dev Cert.NormSampleIdeal.nD,
          r.2.mem ((c.tc : Thread Cert.NormSampleIdeal.nD Cert.NormSampleIdeal.τ).loc Cert.NormSampleIdeal.main_v2) = v0 c
          ∧ r.2.mem ((c.tc : Thread Cert.NormSampleIdeal.nD Cert.NormSampleIdeal.τ).loc Cert.NormSampleIdeal.main_arg0) = m ((c.tc : Thread Cert.NormSampleIdeal.nD Cert.NormSampleIdeal.τ).loc Cert.NormSampleIdeal.main_arg0)
          ∧ r.2.mem ((c.tc : Thread Cert.NormSampleIdeal.nD Cert.NormSampleIdeal.τ).loc Cert.NormSampleIdeal.main_arg1) = m ((c.tc : Thread Cert.NormSampleIdeal.nD Cert.NormSampleIdeal.τ).loc Cert.NormSampleIdeal.main_arg1))
      ∧ θ_run (Cert.NormSampleRefIdeal.defs (F := Ideal)) (onTc (τ := Cert.NormSampleRefIdeal.τ) (Cert.NormSampleRefIdeal.main (F := Ideal))) ⟨m', fun _ => 0, g'⟩ (fun r => ∀ c : Dev Cert.NormSampleRefIdeal.nD,
          r.2.mem ((c.tc : Thread Cert.NormSampleRefIdeal.nD Cert.NormSampleRefIdeal.τ).loc Cert.NormSampleRefIdeal.main_v13) = v0 c
          ∧ r.2.mem ((c.tc : Thread Cert.NormSampleRefIdeal.nD Cert.NormSampleRefIdeal.τ).loc Cert.NormSampleRefIdeal.main_arg0) = m' ((c.tc : Thread Cert.NormSampleRefIdeal.nD Cert.NormSampleRefIdeal.τ).loc Cert.NormSampleRefIdeal.main_arg0)
          ∧ r.2.mem ((c.tc : Thread Cert.NormSampleRefIdeal.nD Cert.NormSampleRefIdeal.τ).loc Cert.NormSampleRefIdeal.main_arg1) = m' ((c.tc : Thread Cert.NormSampleRefIdeal.nD Cert.NormSampleRefIdeal.τ).loc Cert.NormSampleRefIdeal.main_arg1))

def preserves_MlaA_MlaAIdeal : Prop :=
  True

def algebraic_MlaAIdeal_MlaARefIdeal [hMlaAIdeal : Cert.MlaAIdeal.Facts] [hMlaARefIdeal : Cert.MlaARefIdeal.Facts] : Prop :=
  ∀ (m : (ℓ : Loc Cert.MlaAIdeal.nD Cert.MlaAIdeal.τ Cert.MlaAIdeal.sig) → Buf (Elt Ideal) ℓ) (g : Dev Cert.MlaAIdeal.nD → PrngReg)
    (m' : (ℓ : Loc Cert.MlaARefIdeal.nD Cert.MlaARefIdeal.τ Cert.MlaARefIdeal.sig) → Buf (Elt Ideal) ℓ) (g' : Dev Cert.MlaARefIdeal.nD → PrngReg), Pre_MlaAIdeal m →
    (∀ c : Dev Cert.MlaAIdeal.nD,
      m' ((c.tc : Thread Cert.MlaARefIdeal.nD Cert.MlaARefIdeal.τ).loc Cert.MlaARefIdeal.main_arg0) = m ((c.tc : Thread Cert.MlaAIdeal.nD Cert.MlaAIdeal.τ).loc Cert.MlaAIdeal.main_arg0)
      ∧ m' ((c.tc : Thread Cert.MlaARefIdeal.nD Cert.MlaARefIdeal.τ).loc Cert.MlaARefIdeal.main_arg1) = m ((c.tc : Thread Cert.MlaAIdeal.nD Cert.MlaAIdeal.τ).loc Cert.MlaAIdeal.main_arg1)
      ∧ m' ((c.tc : Thread Cert.MlaARefIdeal.nD Cert.MlaARefIdeal.τ).loc Cert.MlaARefIdeal.main_arg2) = m ((c.tc : Thread Cert.MlaAIdeal.nD Cert.MlaAIdeal.τ).loc Cert.MlaAIdeal.main_arg2)
      ∧ m' ((c.tc : Thread Cert.MlaARefIdeal.nD Cert.MlaARefIdeal.τ).loc Cert.MlaARefIdeal.main_arg3) = m ((c.tc : Thread Cert.MlaAIdeal.nD Cert.MlaAIdeal.τ).loc Cert.MlaAIdeal.main_arg3)
      ∧ m' ((c.tc : Thread Cert.MlaARefIdeal.nD Cert.MlaARefIdeal.τ).loc Cert.MlaARefIdeal.main_arg4) = m ((c.tc : Thread Cert.MlaAIdeal.nD Cert.MlaAIdeal.τ).loc Cert.MlaAIdeal.main_arg4)) →
    ∃ (v0 : (c : Dev Cert.MlaAIdeal.nD) → Buf (Elt Ideal) ((c.tc : Thread Cert.MlaAIdeal.nD Cert.MlaAIdeal.τ).loc Cert.MlaAIdeal.main_v3)),
      θ_run (Cert.MlaAIdeal.defs (F := Ideal)) (onTc (τ := Cert.MlaAIdeal.τ) (Cert.MlaAIdeal.main (F := Ideal))) ⟨m, fun _ => 0, g⟩ (fun r => ∀ c : Dev Cert.MlaAIdeal.nD,
          r.2.mem ((c.tc : Thread Cert.MlaAIdeal.nD Cert.MlaAIdeal.τ).loc Cert.MlaAIdeal.main_v3) = v0 c
          ∧ r.2.mem ((c.tc : Thread Cert.MlaAIdeal.nD Cert.MlaAIdeal.τ).loc Cert.MlaAIdeal.main_arg0) = m ((c.tc : Thread Cert.MlaAIdeal.nD Cert.MlaAIdeal.τ).loc Cert.MlaAIdeal.main_arg0)
          ∧ r.2.mem ((c.tc : Thread Cert.MlaAIdeal.nD Cert.MlaAIdeal.τ).loc Cert.MlaAIdeal.main_arg1) = m ((c.tc : Thread Cert.MlaAIdeal.nD Cert.MlaAIdeal.τ).loc Cert.MlaAIdeal.main_arg1)
          ∧ r.2.mem ((c.tc : Thread Cert.MlaAIdeal.nD Cert.MlaAIdeal.τ).loc Cert.MlaAIdeal.main_arg2) = m ((c.tc : Thread Cert.MlaAIdeal.nD Cert.MlaAIdeal.τ).loc Cert.MlaAIdeal.main_arg2)
          ∧ r.2.mem ((c.tc : Thread Cert.MlaAIdeal.nD Cert.MlaAIdeal.τ).loc Cert.MlaAIdeal.main_arg3) = m ((c.tc : Thread Cert.MlaAIdeal.nD Cert.MlaAIdeal.τ).loc Cert.MlaAIdeal.main_arg3)
          ∧ r.2.mem ((c.tc : Thread Cert.MlaAIdeal.nD Cert.MlaAIdeal.τ).loc Cert.MlaAIdeal.main_arg4) = m ((c.tc : Thread Cert.MlaAIdeal.nD Cert.MlaAIdeal.τ).loc Cert.MlaAIdeal.main_arg4))
      ∧ θ_run (Cert.MlaARefIdeal.defs (F := Ideal)) (onTc (τ := Cert.MlaARefIdeal.τ) (Cert.MlaARefIdeal.main (F := Ideal))) ⟨m', fun _ => 0, g'⟩ (fun r => ∀ c : Dev Cert.MlaARefIdeal.nD,
          r.2.mem ((c.tc : Thread Cert.MlaARefIdeal.nD Cert.MlaARefIdeal.τ).loc Cert.MlaARefIdeal.main_v79) = v0 c
          ∧ r.2.mem ((c.tc : Thread Cert.MlaARefIdeal.nD Cert.MlaARefIdeal.τ).loc Cert.MlaARefIdeal.main_arg0) = m' ((c.tc : Thread Cert.MlaARefIdeal.nD Cert.MlaARefIdeal.τ).loc Cert.MlaARefIdeal.main_arg0)
          ∧ r.2.mem ((c.tc : Thread Cert.MlaARefIdeal.nD Cert.MlaARefIdeal.τ).loc Cert.MlaARefIdeal.main_arg1) = m' ((c.tc : Thread Cert.MlaARefIdeal.nD Cert.MlaARefIdeal.τ).loc Cert.MlaARefIdeal.main_arg1)
          ∧ r.2.mem ((c.tc : Thread Cert.MlaARefIdeal.nD Cert.MlaARefIdeal.τ).loc Cert.MlaARefIdeal.main_arg2) = m' ((c.tc : Thread Cert.MlaARefIdeal.nD Cert.MlaARefIdeal.τ).loc Cert.MlaARefIdeal.main_arg2)
          ∧ r.2.mem ((c.tc : Thread Cert.MlaARefIdeal.nD Cert.MlaARefIdeal.τ).loc Cert.MlaARefIdeal.main_arg3) = m' ((c.tc : Thread Cert.MlaARefIdeal.nD Cert.MlaARefIdeal.τ).loc Cert.MlaARefIdeal.main_arg3)
          ∧ r.2.mem ((c.tc : Thread Cert.MlaARefIdeal.nD Cert.MlaARefIdeal.τ).loc Cert.MlaARefIdeal.main_arg4) = m' ((c.tc : Thread Cert.MlaARefIdeal.nD Cert.MlaARefIdeal.τ).loc Cert.MlaARefIdeal.main_arg4))

def preserves_MlaCkv_MlaCkvIdeal : Prop :=
  True

def algebraic_MlaCkvIdeal_MlaCkvRefIdeal [hMlaCkvIdeal : Cert.MlaCkvIdeal.Facts] [hMlaCkvRefIdeal : Cert.MlaCkvRefIdeal.Facts] : Prop :=
  ∀ (m : (ℓ : Loc Cert.MlaCkvIdeal.nD Cert.MlaCkvIdeal.τ Cert.MlaCkvIdeal.sig) → Buf (Elt Ideal) ℓ) (g : Dev Cert.MlaCkvIdeal.nD → PrngReg)
    (m' : (ℓ : Loc Cert.MlaCkvRefIdeal.nD Cert.MlaCkvRefIdeal.τ Cert.MlaCkvRefIdeal.sig) → Buf (Elt Ideal) ℓ) (g' : Dev Cert.MlaCkvRefIdeal.nD → PrngReg), Pre_MlaCkvIdeal m →
    (∀ c : Dev Cert.MlaCkvIdeal.nD,
      m' ((c.tc : Thread Cert.MlaCkvRefIdeal.nD Cert.MlaCkvRefIdeal.τ).loc Cert.MlaCkvRefIdeal.main_arg0) = m ((c.tc : Thread Cert.MlaCkvIdeal.nD Cert.MlaCkvIdeal.τ).loc Cert.MlaCkvIdeal.main_arg0)
      ∧ m' ((c.tc : Thread Cert.MlaCkvRefIdeal.nD Cert.MlaCkvRefIdeal.τ).loc Cert.MlaCkvRefIdeal.main_arg1) = m ((c.tc : Thread Cert.MlaCkvIdeal.nD Cert.MlaCkvIdeal.τ).loc Cert.MlaCkvIdeal.main_arg1)) →
    ∃ (v0 : (c : Dev Cert.MlaCkvIdeal.nD) → Buf (Elt Ideal) ((c.tc : Thread Cert.MlaCkvIdeal.nD Cert.MlaCkvIdeal.τ).loc Cert.MlaCkvIdeal.main_v2)),
      θ_run (Cert.MlaCkvIdeal.defs (F := Ideal)) (onTc (τ := Cert.MlaCkvIdeal.τ) (Cert.MlaCkvIdeal.main (F := Ideal))) ⟨m, fun _ => 0, g⟩ (fun r => ∀ c : Dev Cert.MlaCkvIdeal.nD,
          r.2.mem ((c.tc : Thread Cert.MlaCkvIdeal.nD Cert.MlaCkvIdeal.τ).loc Cert.MlaCkvIdeal.main_v2) = v0 c
          ∧ r.2.mem ((c.tc : Thread Cert.MlaCkvIdeal.nD Cert.MlaCkvIdeal.τ).loc Cert.MlaCkvIdeal.main_arg0) = m ((c.tc : Thread Cert.MlaCkvIdeal.nD Cert.MlaCkvIdeal.τ).loc Cert.MlaCkvIdeal.main_arg0)
          ∧ r.2.mem ((c.tc : Thread Cert.MlaCkvIdeal.nD Cert.MlaCkvIdeal.τ).loc Cert.MlaCkvIdeal.main_arg1) = m ((c.tc : Thread Cert.MlaCkvIdeal.nD Cert.MlaCkvIdeal.τ).loc Cert.MlaCkvIdeal.main_arg1))
      ∧ θ_run (Cert.MlaCkvRefIdeal.defs (F := Ideal)) (onTc (τ := Cert.MlaCkvRefIdeal.τ) (Cert.MlaCkvRefIdeal.main (F := Ideal))) ⟨m', fun _ => 0, g'⟩ (fun r => ∀ c : Dev Cert.MlaCkvRefIdeal.nD,
          r.2.mem ((c.tc : Thread Cert.MlaCkvRefIdeal.nD Cert.MlaCkvRefIdeal.τ).loc Cert.MlaCkvRefIdeal.main_v13) = v0 c
          ∧ r.2.mem ((c.tc : Thread Cert.MlaCkvRefIdeal.nD Cert.MlaCkvRefIdeal.τ).loc Cert.MlaCkvRefIdeal.main_arg0) = m' ((c.tc : Thread Cert.MlaCkvRefIdeal.nD Cert.MlaCkvRefIdeal.τ).loc Cert.MlaCkvRefIdeal.main_arg0)
          ∧ r.2.mem ((c.tc : Thread Cert.MlaCkvRefIdeal.nD Cert.MlaCkvRefIdeal.τ).loc Cert.MlaCkvRefIdeal.main_arg1) = m' ((c.tc : Thread Cert.MlaCkvRefIdeal.nD Cert.MlaCkvRefIdeal.τ).loc Cert.MlaCkvRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v21) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4))

def preserves_MlaQ_MlaQIdeal : Prop :=
  True

def algebraic_MlaQIdeal_MlaQRefIdeal [hMlaQIdeal : Cert.MlaQIdeal.Facts] [hMlaQRefIdeal : Cert.MlaQRefIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQRefIdeal.nD Cert.MlaQRefIdeal.τ Cert.MlaQRefIdeal.sig) → Buf (Elt Ideal) ℓ) (g' : Dev Cert.MlaQRefIdeal.nD → PrngReg), Pre_MlaQIdeal m →
    (∀ c : Dev Cert.MlaQIdeal.nD,
      m' ((c.tc : Thread Cert.MlaQRefIdeal.nD Cert.MlaQRefIdeal.τ).loc Cert.MlaQRefIdeal.main_arg0) = m ((c.tc : Thread Cert.MlaQIdeal.nD Cert.MlaQIdeal.τ).loc Cert.MlaQIdeal.main_arg0)
      ∧ m' ((c.tc : Thread Cert.MlaQRefIdeal.nD Cert.MlaQRefIdeal.τ).loc Cert.MlaQRefIdeal.main_arg1) = m ((c.tc : Thread Cert.MlaQIdeal.nD Cert.MlaQIdeal.τ).loc Cert.MlaQIdeal.main_arg1)
      ∧ m' ((c.tc : Thread Cert.MlaQRefIdeal.nD Cert.MlaQRefIdeal.τ).loc Cert.MlaQRefIdeal.main_arg2) = m ((c.tc : Thread Cert.MlaQIdeal.nD Cert.MlaQIdeal.τ).loc Cert.MlaQIdeal.main_arg2)) →
    ∃ (v0 : (c : Dev Cert.MlaQIdeal.nD) → Buf (Elt Ideal) ((c.tc : Thread Cert.MlaQIdeal.nD Cert.MlaQIdeal.τ).loc Cert.MlaQIdeal.main_v4)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v4) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2))
      ∧ θ_run (Cert.MlaQRefIdeal.defs (F := Ideal)) (onTc (τ := Cert.MlaQRefIdeal.τ) (Cert.MlaQRefIdeal.main (F := Ideal))) ⟨m', fun _ => 0, g'⟩ (fun r => ∀ c : Dev Cert.MlaQRefIdeal.nD,
          r.2.mem ((c.tc : Thread Cert.MlaQRefIdeal.nD Cert.MlaQRefIdeal.τ).loc Cert.MlaQRefIdeal.main_v17) = v0 c
          ∧ r.2.mem ((c.tc : Thread Cert.MlaQRefIdeal.nD Cert.MlaQRefIdeal.τ).loc Cert.MlaQRefIdeal.main_arg0) = m' ((c.tc : Thread Cert.MlaQRefIdeal.nD Cert.MlaQRefIdeal.τ).loc Cert.MlaQRefIdeal.main_arg0)
          ∧ r.2.mem ((c.tc : Thread Cert.MlaQRefIdeal.nD Cert.MlaQRefIdeal.τ).loc Cert.MlaQRefIdeal.main_arg1) = m' ((c.tc : Thread Cert.MlaQRefIdeal.nD Cert.MlaQRefIdeal.τ).loc Cert.MlaQRefIdeal.main_arg1)
          ∧ r.2.mem ((c.tc : Thread Cert.MlaQRefIdeal.nD Cert.MlaQRefIdeal.τ).loc Cert.MlaQRefIdeal.main_arg2) = m' ((c.tc : Thread Cert.MlaQRefIdeal.nD Cert.MlaQRefIdeal.τ).loc Cert.MlaQRefIdeal.main_arg2))

def preserves_MlaKvb_MlaKvbIdeal : Prop :=
  True

def algebraic_MlaKvbIdeal_MlaKvbRefIdeal [hMlaKvbIdeal : Cert.MlaKvbIdeal.Facts] [hMlaKvbRefIdeal : Cert.MlaKvbRefIdeal.Facts] : Prop :=
  ∀ (m : (ℓ : Loc Cert.MlaKvbIdeal.nD Cert.MlaKvbIdeal.τ Cert.MlaKvbIdeal.sig) → Buf (Elt Ideal) ℓ) (g : Dev Cert.MlaKvbIdeal.nD → PrngReg)
    (m' : (ℓ : Loc Cert.MlaKvbRefIdeal.nD Cert.MlaKvbRefIdeal.τ Cert.MlaKvbRefIdeal.sig) → Buf (Elt Ideal) ℓ) (g' : Dev Cert.MlaKvbRefIdeal.nD → PrngReg), Pre_MlaKvbIdeal m →
    (∀ c : Dev Cert.MlaKvbIdeal.nD,
      m' ((c.tc : Thread Cert.MlaKvbRefIdeal.nD Cert.MlaKvbRefIdeal.τ).loc Cert.MlaKvbRefIdeal.main_arg0) = m ((c.tc : Thread Cert.MlaKvbIdeal.nD Cert.MlaKvbIdeal.τ).loc Cert.MlaKvbIdeal.main_arg0)
      ∧ m' ((c.tc : Thread Cert.MlaKvbRefIdeal.nD Cert.MlaKvbRefIdeal.τ).loc Cert.MlaKvbRefIdeal.main_arg1) = m ((c.tc : Thread Cert.MlaKvbIdeal.nD Cert.MlaKvbIdeal.τ).loc Cert.MlaKvbIdeal.main_arg1)
      ∧ m' ((c.tc : Thread Cert.MlaKvbRefIdeal.nD Cert.MlaKvbRefIdeal.τ).loc Cert.MlaKvbRefIdeal.main_arg2) = m ((c.tc : Thread Cert.MlaKvbIdeal.nD Cert.MlaKvbIdeal.τ).loc Cert.MlaKvbIdeal.main_arg2)) →
    ∃ (v0 : (c : Dev Cert.MlaKvbIdeal.nD) → Buf (Elt Ideal) ((c.tc : Thread Cert.MlaKvbIdeal.nD Cert.MlaKvbIdeal.τ).loc Cert.MlaKvbIdeal.main_v2)),
      θ_run (Cert.MlaKvbIdeal.defs (F := Ideal)) (onTc (τ := Cert.MlaKvbIdeal.τ) (Cert.MlaKvbIdeal.main (F := Ideal))) ⟨m, fun _ => 0, g⟩ (fun r => ∀ c : Dev Cert.MlaKvbIdeal.nD,
          r.2.mem ((c.tc : Thread Cert.MlaKvbIdeal.nD Cert.MlaKvbIdeal.τ).loc Cert.MlaKvbIdeal.main_v2) = v0 c
          ∧ r.2.mem ((c.tc : Thread Cert.MlaKvbIdeal.nD Cert.MlaKvbIdeal.τ).loc Cert.MlaKvbIdeal.main_arg0) = m ((c.tc : Thread Cert.MlaKvbIdeal.nD Cert.MlaKvbIdeal.τ).loc Cert.MlaKvbIdeal.main_arg0)
          ∧ r.2.mem ((c.tc : Thread Cert.MlaKvbIdeal.nD Cert.MlaKvbIdeal.τ).loc Cert.MlaKvbIdeal.main_arg1) = m ((c.tc : Thread Cert.MlaKvbIdeal.nD Cert.MlaKvbIdeal.τ).loc Cert.MlaKvbIdeal.main_arg1)
          ∧ r.2.mem ((c.tc : Thread Cert.MlaKvbIdeal.nD Cert.MlaKvbIdeal.τ).loc Cert.MlaKvbIdeal.main_arg2) = m ((c.tc : Thread Cert.MlaKvbIdeal.nD Cert.MlaKvbIdeal.τ).loc Cert.MlaKvbIdeal.main_arg2))
      ∧ θ_run (Cert.MlaKvbRefIdeal.defs (F := Ideal)) (onTc (τ := Cert.MlaKvbRefIdeal.τ) (Cert.MlaKvbRefIdeal.main (F := Ideal))) ⟨m', fun _ => 0, g'⟩ (fun r => ∀ c : Dev Cert.MlaKvbRefIdeal.nD,
          r.2.mem ((c.tc : Thread Cert.MlaKvbRefIdeal.nD Cert.MlaKvbRefIdeal.τ).loc Cert.MlaKvbRefIdeal.main_v3) = v0 c
          ∧ r.2.mem ((c.tc : Thread Cert.MlaKvbRefIdeal.nD Cert.MlaKvbRefIdeal.τ).loc Cert.MlaKvbRefIdeal.main_arg0) = m' ((c.tc : Thread Cert.MlaKvbRefIdeal.nD Cert.MlaKvbRefIdeal.τ).loc Cert.MlaKvbRefIdeal.main_arg0)
          ∧ r.2.mem ((c.tc : Thread Cert.MlaKvbRefIdeal.nD Cert.MlaKvbRefIdeal.τ).loc Cert.MlaKvbRefIdeal.main_arg1) = m' ((c.tc : Thread Cert.MlaKvbRefIdeal.nD Cert.MlaKvbRefIdeal.τ).loc Cert.MlaKvbRefIdeal.main_arg1)
          ∧ r.2.mem ((c.tc : Thread Cert.MlaKvbRefIdeal.nD Cert.MlaKvbRefIdeal.τ).loc Cert.MlaKvbRefIdeal.main_arg2) = m' ((c.tc : Thread Cert.MlaKvbRefIdeal.nD Cert.MlaKvbRefIdeal.τ).loc Cert.MlaKvbRefIdeal.main_arg2))

def preserves_MlaLatent_MlaLatentIdeal : Prop :=
  True

def algebraic_MlaLatentIdeal_MlaLatentRefIdeal_pre_finite_mla [hMlaLatentIdeal : Cert.MlaLatentIdeal.Facts] [hMlaLatentRefIdeal : Cert.MlaLatentRefIdeal.Facts] [hPre_finite_mla : Cert.Pre_finite_mla.Facts] : Prop :=
  ∀ (m : (ℓ : Loc Cert.MlaLatentIdeal.nD Cert.MlaLatentIdeal.τ Cert.MlaLatentIdeal.sig) → Buf (Elt Ideal) ℓ) (g : Dev Cert.MlaLatentIdeal.nD → PrngReg)
    (m' : (ℓ : Loc Cert.MlaLatentRefIdeal.nD Cert.MlaLatentRefIdeal.τ Cert.MlaLatentRefIdeal.sig) → Buf (Elt Ideal) ℓ) (g' : Dev Cert.MlaLatentRefIdeal.nD → PrngReg), Pre_MlaLatentIdeal_finite_mla m →
    (∀ c : Dev Cert.MlaLatentIdeal.nD,
      m' ((c.tc : Thread Cert.MlaLatentRefIdeal.nD Cert.MlaLatentRefIdeal.τ).loc Cert.MlaLatentRefIdeal.main_arg0) = m ((c.tc : Thread Cert.MlaLatentIdeal.nD Cert.MlaLatentIdeal.τ).loc Cert.MlaLatentIdeal.main_arg0)
      ∧ m' ((c.tc : Thread Cert.MlaLatentRefIdeal.nD Cert.MlaLatentRefIdeal.τ).loc Cert.MlaLatentRefIdeal.main_arg1) = m ((c.tc : Thread Cert.MlaLatentIdeal.nD Cert.MlaLatentIdeal.τ).loc Cert.MlaLatentIdeal.main_arg1)
      ∧ m' ((c.tc : Thread Cert.MlaLatentRefIdeal.nD Cert.MlaLatentRefIdeal.τ).loc Cert.MlaLatentRefIdeal.main_arg2) = m ((c.tc : Thread Cert.MlaLatentIdeal.nD Cert.MlaLatentIdeal.τ).loc Cert.MlaLatentIdeal.main_arg2)
      ∧ m' ((c.tc : Thread Cert.MlaLatentRefIdeal.nD Cert.MlaLatentRefIdeal.τ).loc Cert.MlaLatentRefIdeal.main_arg3) = m ((c.tc : Thread Cert.MlaLatentIdeal.nD Cert.MlaLatentIdeal.τ).loc Cert.MlaLatentIdeal.main_arg3)) →
    ∃ (v0 : (c : Dev Cert.MlaLatentIdeal.nD) → Buf (Elt Ideal) ((c.tc : Thread Cert.MlaLatentIdeal.nD Cert.MlaLatentIdeal.τ).loc Cert.MlaLatentIdeal.main_v2)),
      θ_run (Cert.MlaLatentIdeal.defs (F := Ideal)) (onTc (τ := Cert.MlaLatentIdeal.τ) (Cert.MlaLatentIdeal.main (F := Ideal))) ⟨m, fun _ => 0, g⟩ (fun r => ∀ c : Dev Cert.MlaLatentIdeal.nD,
          r.2.mem ((c.tc : Thread Cert.MlaLatentIdeal.nD Cert.MlaLatentIdeal.τ).loc Cert.MlaLatentIdeal.main_v2) = v0 c
          ∧ r.2.mem ((c.tc : Thread Cert.MlaLatentIdeal.nD Cert.MlaLatentIdeal.τ).loc Cert.MlaLatentIdeal.main_arg0) = m ((c.tc : Thread Cert.MlaLatentIdeal.nD Cert.MlaLatentIdeal.τ).loc Cert.MlaLatentIdeal.main_arg0)
          ∧ r.2.mem ((c.tc : Thread Cert.MlaLatentIdeal.nD Cert.MlaLatentIdeal.τ).loc Cert.MlaLatentIdeal.main_arg1) = m ((c.tc : Thread Cert.MlaLatentIdeal.nD Cert.MlaLatentIdeal.τ).loc Cert.MlaLatentIdeal.main_arg1)
          ∧ r.2.mem ((c.tc : Thread Cert.MlaLatentIdeal.nD Cert.MlaLatentIdeal.τ).loc Cert.MlaLatentIdeal.main_arg2) = m ((c.tc : Thread Cert.MlaLatentIdeal.nD Cert.MlaLatentIdeal.τ).loc Cert.MlaLatentIdeal.main_arg2)
          ∧ r.2.mem ((c.tc : Thread Cert.MlaLatentIdeal.nD Cert.MlaLatentIdeal.τ).loc Cert.MlaLatentIdeal.main_arg3) = m ((c.tc : Thread Cert.MlaLatentIdeal.nD Cert.MlaLatentIdeal.τ).loc Cert.MlaLatentIdeal.main_arg3))
      ∧ θ_run (Cert.MlaLatentRefIdeal.defs (F := Ideal)) (onTc (τ := Cert.MlaLatentRefIdeal.τ) (Cert.MlaLatentRefIdeal.main (F := Ideal))) ⟨m', fun _ => 0, g'⟩ (fun r => ∀ c : Dev Cert.MlaLatentRefIdeal.nD,
          r.2.mem ((c.tc : Thread Cert.MlaLatentRefIdeal.nD Cert.MlaLatentRefIdeal.τ).loc Cert.MlaLatentRefIdeal.main_v30) = v0 c
          ∧ r.2.mem ((c.tc : Thread Cert.MlaLatentRefIdeal.nD Cert.MlaLatentRefIdeal.τ).loc Cert.MlaLatentRefIdeal.main_arg0) = m' ((c.tc : Thread Cert.MlaLatentRefIdeal.nD Cert.MlaLatentRefIdeal.τ).loc Cert.MlaLatentRefIdeal.main_arg0)
          ∧ r.2.mem ((c.tc : Thread Cert.MlaLatentRefIdeal.nD Cert.MlaLatentRefIdeal.τ).loc Cert.MlaLatentRefIdeal.main_arg1) = m' ((c.tc : Thread Cert.MlaLatentRefIdeal.nD Cert.MlaLatentRefIdeal.τ).loc Cert.MlaLatentRefIdeal.main_arg1)
          ∧ r.2.mem ((c.tc : Thread Cert.MlaLatentRefIdeal.nD Cert.MlaLatentRefIdeal.τ).loc Cert.MlaLatentRefIdeal.main_arg2) = m' ((c.tc : Thread Cert.MlaLatentRefIdeal.nD Cert.MlaLatentRefIdeal.τ).loc Cert.MlaLatentRefIdeal.main_arg2)
          ∧ r.2.mem ((c.tc : Thread Cert.MlaLatentRefIdeal.nD Cert.MlaLatentRefIdeal.τ).loc Cert.MlaLatentRefIdeal.main_arg3) = m' ((c.tc : Thread Cert.MlaLatentRefIdeal.nD Cert.MlaLatentRefIdeal.τ).loc Cert.MlaLatentRefIdeal.main_arg3))

def Claim : Prop :=
  ∃ (hDiffLatent : Cert.DiffLatent.Facts) (hDiffLatentIdeal : Cert.DiffLatentIdeal.Facts) (hDiffLatentRefIdeal : Cert.DiffLatentRefIdeal.Facts) (hFfnDense : Cert.FfnDense.Facts) (hFfnDenseIdeal : Cert.FfnDenseIdeal.Facts) (hFfnDenseRefIdeal : Cert.FfnDenseRefIdeal.Facts) (hFfnMoe : Cert.FfnMoe.Facts) (hFfnMoeIdeal : Cert.FfnMoeIdeal.Facts) (hFfnMoeRefIdeal : Cert.FfnMoeRefIdeal.Facts) (hQkv : Cert.Qkv.Facts) (hQkvIdeal : Cert.QkvIdeal.Facts) (hQkvRefIdeal : Cert.QkvRefIdeal.Facts) (hNormPrompt : Cert.NormPrompt.Facts) (hNormPromptIdeal : Cert.NormPromptIdeal.Facts) (hNormPromptRefIdeal : Cert.NormPromptRefIdeal.Facts) (hNormSample : Cert.NormSample.Facts) (hNormSampleIdeal : Cert.NormSampleIdeal.Facts) (hNormSampleRefIdeal : Cert.NormSampleRefIdeal.Facts) (hMlaA : Cert.MlaA.Facts) (hMlaAIdeal : Cert.MlaAIdeal.Facts) (hMlaARefIdeal : Cert.MlaARefIdeal.Facts) (hMlaCkv : Cert.MlaCkv.Facts) (hMlaCkvIdeal : Cert.MlaCkvIdeal.Facts) (hMlaCkvRefIdeal : Cert.MlaCkvRefIdeal.Facts) (hOutProj : Cert.OutProj.Facts) (hOutProjIdeal : Cert.OutProjIdeal.Facts) (hOutProjRefIdeal : Cert.OutProjRefIdeal.Facts) (hMlaQ : Cert.MlaQ.Facts) (hMlaQIdeal : Cert.MlaQIdeal.Facts) (hMlaQRefIdeal : Cert.MlaQRefIdeal.Facts) (hMlaKvb : Cert.MlaKvb.Facts) (hMlaKvbIdeal : Cert.MlaKvbIdeal.Facts) (hMlaKvbRefIdeal : Cert.MlaKvbRefIdeal.Facts) (hMlaLatent : Cert.MlaLatent.Facts) (hMlaLatentIdeal : Cert.MlaLatentIdeal.Facts) (hMlaLatentRefIdeal : Cert.MlaLatentRefIdeal.Facts) (hPre_finite_scores : Cert.Pre_finite_scores.Facts) (hPre_experts_in_range : Cert.Pre_experts_in_range.Facts) (hPre_finite_mla : Cert.Pre_finite_mla.Facts),
    quiescent_DiffLatent (hDiffLatent := hDiffLatent)
    ∧ quiescent_DiffLatentIdeal (hDiffLatentIdeal := hDiffLatentIdeal)
    ∧ quiescent_DiffLatentIdeal_pre_finite_scores (hDiffLatentIdeal := hDiffLatentIdeal) (hPre_finite_scores := hPre_finite_scores)
    ∧ quiescent_DiffLatentRefIdeal (hDiffLatentRefIdeal := hDiffLatentRefIdeal)
    ∧ quiescent_DiffLatentRefIdeal_pre_finite_scores (hDiffLatentRefIdeal := hDiffLatentRefIdeal) (hPre_finite_scores := hPre_finite_scores)
    ∧ quiescent_FfnDense (hFfnDense := hFfnDense)
    ∧ quiescent_FfnDenseIdeal (hFfnDenseIdeal := hFfnDenseIdeal)
    ∧ quiescent_FfnDenseRefIdeal (hFfnDenseRefIdeal := hFfnDenseRefIdeal)
    ∧ quiescent_FfnMoe (hFfnMoe := hFfnMoe) (hPre_experts_in_range := hPre_experts_in_range)
    ∧ quiescent_FfnMoeIdeal (hFfnMoeIdeal := hFfnMoeIdeal) (hPre_experts_in_range := hPre_experts_in_range)
    ∧ quiescent_FfnMoeRefIdeal (hFfnMoeRefIdeal := hFfnMoeRefIdeal) (hPre_experts_in_range := hPre_experts_in_range)
    ∧ quiescent_Qkv (hQkv := hQkv)
    ∧ quiescent_QkvIdeal (hQkvIdeal := hQkvIdeal)
    ∧ quiescent_QkvRefIdeal (hQkvRefIdeal := hQkvRefIdeal)
    ∧ quiescent_NormPrompt (hNormPrompt := hNormPrompt)
    ∧ quiescent_NormPromptIdeal (hNormPromptIdeal := hNormPromptIdeal)
    ∧ quiescent_NormPromptRefIdeal (hNormPromptRefIdeal := hNormPromptRefIdeal)
    ∧ quiescent_NormSample (hNormSample := hNormSample)
    ∧ quiescent_NormSampleIdeal (hNormSampleIdeal := hNormSampleIdeal)
    ∧ quiescent_NormSampleRefIdeal (hNormSampleRefIdeal := hNormSampleRefIdeal)
    ∧ quiescent_MlaA (hMlaA := hMlaA)
    ∧ quiescent_MlaAIdeal (hMlaAIdeal := hMlaAIdeal)
    ∧ quiescent_MlaARefIdeal (hMlaARefIdeal := hMlaARefIdeal)
    ∧ quiescent_MlaCkv (hMlaCkv := hMlaCkv)
    ∧ quiescent_MlaCkvIdeal (hMlaCkvIdeal := hMlaCkvIdeal)
    ∧ quiescent_MlaCkvRefIdeal (hMlaCkvRefIdeal := hMlaCkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MlaQ (hMlaQ := hMlaQ)
    ∧ quiescent_MlaQIdeal (hMlaQIdeal := hMlaQIdeal)
    ∧ quiescent_MlaQRefIdeal (hMlaQRefIdeal := hMlaQRefIdeal)
    ∧ quiescent_MlaKvb (hMlaKvb := hMlaKvb)
    ∧ quiescent_MlaKvbIdeal (hMlaKvbIdeal := hMlaKvbIdeal)
    ∧ quiescent_MlaKvbRefIdeal (hMlaKvbRefIdeal := hMlaKvbRefIdeal)
    ∧ quiescent_MlaLatent (hMlaLatent := hMlaLatent)
    ∧ quiescent_MlaLatentIdeal (hMlaLatentIdeal := hMlaLatentIdeal)
    ∧ quiescent_MlaLatentIdeal_pre_finite_mla (hMlaLatentIdeal := hMlaLatentIdeal) (hPre_finite_mla := hPre_finite_mla)
    ∧ quiescent_MlaLatentRefIdeal (hMlaLatentRefIdeal := hMlaLatentRefIdeal)
    ∧ quiescent_MlaLatentRefIdeal_pre_finite_mla (hMlaLatentRefIdeal := hMlaLatentRefIdeal) (hPre_finite_mla := hPre_finite_mla)
    ∧ preserves_DiffLatent_DiffLatentIdeal
    ∧ algebraic_DiffLatentIdeal_DiffLatentRefIdeal_pre_finite_scores (hDiffLatentIdeal := hDiffLatentIdeal) (hDiffLatentRefIdeal := hDiffLatentRefIdeal) (hPre_finite_scores := hPre_finite_scores)
    ∧ preserves_FfnDense_FfnDenseIdeal
    ∧ algebraic_FfnDenseIdeal_FfnDenseRefIdeal (hFfnDenseIdeal := hFfnDenseIdeal) (hFfnDenseRefIdeal := hFfnDenseRefIdeal)
    ∧ preserves_FfnMoe_FfnMoeIdeal
    ∧ algebraic_FfnMoeIdeal_FfnMoeRefIdeal (hFfnMoeIdeal := hFfnMoeIdeal) (hFfnMoeRefIdeal := hFfnMoeRefIdeal) (hPre_experts_in_range := hPre_experts_in_range)
    ∧ preserves_Qkv_QkvIdeal
    ∧ algebraic_QkvIdeal_QkvRefIdeal (hQkvIdeal := hQkvIdeal) (hQkvRefIdeal := hQkvRefIdeal)
    ∧ preserves_NormPrompt_NormPromptIdeal
    ∧ algebraic_NormPromptIdeal_NormPromptRefIdeal (hNormPromptIdeal := hNormPromptIdeal) (hNormPromptRefIdeal := hNormPromptRefIdeal)
    ∧ preserves_NormSample_NormSampleIdeal
    ∧ algebraic_NormSampleIdeal_NormSampleRefIdeal (hNormSampleIdeal := hNormSampleIdeal) (hNormSampleRefIdeal := hNormSampleRefIdeal)
    ∧ preserves_MlaA_MlaAIdeal
    ∧ algebraic_MlaAIdeal_MlaARefIdeal (hMlaAIdeal := hMlaAIdeal) (hMlaARefIdeal := hMlaARefIdeal)
    ∧ preserves_MlaCkv_MlaCkvIdeal
    ∧ algebraic_MlaCkvIdeal_MlaCkvRefIdeal (hMlaCkvIdeal := hMlaCkvIdeal) (hMlaCkvRefIdeal := hMlaCkvRefIdeal)
    ∧ preserves_OutProj_OutProjIdeal
    ∧ algebraic_OutProjIdeal_OutProjRefIdeal (hOutProjIdeal := hOutProjIdeal) (hOutProjRefIdeal := hOutProjRefIdeal)
    ∧ preserves_MlaQ_MlaQIdeal
    ∧ algebraic_MlaQIdeal_MlaQRefIdeal (hMlaQIdeal := hMlaQIdeal) (hMlaQRefIdeal := hMlaQRefIdeal)
    ∧ preserves_MlaKvb_MlaKvbIdeal
    ∧ algebraic_MlaKvbIdeal_MlaKvbRefIdeal (hMlaKvbIdeal := hMlaKvbIdeal) (hMlaKvbRefIdeal := hMlaKvbRefIdeal)
    ∧ preserves_MlaLatent_MlaLatentIdeal
    ∧ algebraic_MlaLatentIdeal_MlaLatentRefIdeal_pre_finite_mla (hMlaLatentIdeal := hMlaLatentIdeal) (hMlaLatentRefIdeal := hMlaLatentRefIdeal) (hPre_finite_mla := hPre_finite_mla)
-- ==== Pre_experts_in_range.lean ====
abbrev S32768x1024 : Shape := ⟨2, ![32768, 1024]⟩
abbrev S8x1024x2816 : Shape := ⟨3, ![8, 1024, 2816]⟩
abbrev S8x2816x1024 : Shape := ⟨3, ![8, 2816, 1024]⟩
abbrev S32768x1 : Shape := ⟨2, ![32768, 1]⟩
abbrev S32 : Shape := ⟨1, ![32]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : FVec F S32768x1024 .f32) (main_arg1 : FVec F S8x1024x2816 .f32) (main_arg2 : FVec F S8x1024x2816 .f32) (main_arg3 : FVec F S8x2816x1024 .f32) (main_arg4 : FVec F S32768x1 .f32) (main_arg5 : IVec S32 32) (main_arg6 : IVec S32 32) : IVec S_ 1 :=
  let main_c : IVec S_ 32 := constantI S_ 32 0#32
  let main_v0 : IVec S32 32 := broadcastInDim S32 ![] bcast_S_S32 main_c
  let main_v1 : IVec S32 1 := cmpi .sge main_arg5 main_v0
  let main_c_0 : IVec S_ 32 := constantI S_ 32 8#32
  let main_v2 : IVec S32 32 := broadcastInDim S32 ![] bcast_S_S32 main_c_0
  let main_v3 : IVec S32 1 := cmpi .slt main_arg5 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  main_v5
-- ==== Pre_finite_mla.lean ====
abbrev S4096x2048 : Shape := ⟨2, ![4096, 2048]⟩
abbrev S13312x2048 : Shape := ⟨2, ![13312, 2048]⟩
abbrev S2x512x64 : Shape := ⟨3, ![2, 512, 64]⟩
abbrev S4096x64 : Shape := ⟨2, ![4096, 64]⟩
abbrev S4096x8x256 : Shape := ⟨3, ![4096, 8, 256]⟩
abbrev S4096x8x192 : Shape := ⟨3, ![4096, 8, 192]⟩
abbrev S5120x2048 : Shape := ⟨2, ![5120, 2048]⟩
abbrev S5120x8x256 : Shape := ⟨3, ![5120, 8, 256]⟩
abbrev S5120x8x128 : Shape := ⟨3, ![5120, 8, 128]⟩
abbrev S_ : Shape := ⟨0, ![]⟩

class Facts : Prop where
  shapeCasts_S4096x2048_S4096x8x256 : S4096x2048.ShapeCasts S4096x8x256
  slices_S4096x8x256_S4096x8x192_0_0_0 : S4096x8x256.Slices ![0, 0, 0] S4096x8x192
  slices_S13312x2048_S5120x2048_8192_0 : S13312x2048.Slices ![8192, 0] S5120x2048
  shapeCasts_S5120x2048_S5120x8x256 : S5120x2048.ShapeCasts S5120x8x256
  slices_S5120x8x256_S5120x8x128_0_0_0 : S5120x8x256.Slices ![0, 0, 0] S5120x8x128
  bcast_S_S4096x8x192 : S_.BroadcastsInDim S4096x8x192 (![] : Fin 0 → Fin S4096x8x192.rank)
  reducesTo_S4096x8x192_S_d0_1_2 : S4096x8x192.ReducesTo [0, 1, 2] S_
  h_S_ : 0 < S_.numel
  bcast_S_S5120x8x128 : S_.BroadcastsInDim S5120x8x128 (![] : Fin 0 → Fin S5120x8x128.rank)
  reducesTo_S5120x8x128_S_d0_1_2 : S5120x8x128.ReducesTo [0, 1, 2] S_
  bcast_S_S2x512x64 : S_.BroadcastsInDim S2x512x64 (![] : Fin 0 → Fin S2x512x64.rank)
  reducesTo_S2x512x64_S_d0_1_2 : S2x512x64.ReducesTo [0, 1, 2] S_
  bcast_S_S4096x64 : S_.BroadcastsInDim S4096x64 (![] : Fin 0 → Fin S4096x64.rank)
  reducesTo_S4096x64_S_d0_1 : S4096x64.ReducesTo [0, 1] S_

variable [Facts]

def fn_part1 {F : FTy → Type} [FloatOps F] (main_arg3 : FVec F S4096x64 .f32) (main_v13 : IVec S_ 1) (main_v17 : IVec S_ 1) : IVec S_ 1 :=
  let main_v18 : IVec S_ 1 := andi main_v13 main_v17
  let main_v19 : FVec F S4096x64 .f32 := Host.absf main_arg3
  let main_cst_4 : FVec F S_ .f32 := constant S_ .f32 0x7F800000#32
  let main_v20 : FVec F S4096x64 .f32 := broadcastInDim S4096x64 ![] bcast_S_S4096x64 main_cst_4
  let main_v21 : IVec S4096x64 1 := cmpf .olt main_v19 main_v20
  let main_c_5 : IVec S_ 1 := constantI S_ 1 1#1
  let main_v22 : IVec S_ 1 := (fun x v => Host.reduce IntOp.andi x v reducesTo_S4096x64_S_d0_1 h_S_) main_v21 main_c_5
  let main_v23 : IVec S_ 1 := andi main_v18 main_v22
  main_v23

def fn {F : FTy → Type} [FloatOps F] (main_arg0 : FVec F S4096x2048 .f32) (main_arg1 : FVec F S13312x2048 .f32) (main_arg2 : FVec F S2x512x64 .f32) (main_arg3 : FVec F S4096x64 .f32) : IVec S_ 1 :=
  let main_v0 : FVec F S4096x8x256 .f32 := shapeCast S4096x8x256 main_arg0 shapeCasts_S4096x2048_S4096x8x256
  let main_v1 : FVec F S4096x8x192 .f32 := (extractStridedSlice S4096x8x192 ![0, 0, 0] · slices_S4096x8x256_S4096x8x192_0_0_0) main_v0
  let main_v2 : FVec F S5120x2048 .f32 := (extractStridedSlice S5120x2048 ![8192, 0] · slices_S13312x2048_S5120x2048_8192_0) main_arg1
  let main_v3 : FVec F S5120x8x256 .f32 := shapeCast S5120x8x256 main_v2 shapeCasts_S5120x2048_S5120x8x256
  let main_v4 : FVec F S5120x8x128 .f32 := (extractStridedSlice S5120x8x128 ![0, 0, 0] · slices_S5120x8x256_S5120x8x128_0_0_0) main_v3
  let main_v5 : FVec F S4096x8x192 .f32 := Host.absf main_v1
  let main_cst : FVec F S_ .f32 := constant S_ .f32 0x7F800000#32
  let main_v6 : FVec F S4096x8x192 .f32 := broadcastInDim S4096x8x192 ![] bcast_S_S4096x8x192 main_cst
  let main_v7 : IVec S4096x8x192 1 := cmpf .olt main_v5 main_v6
  let main_c : IVec S_ 1 := constantI S_ 1 1#1
  let main_v8 : IVec S_ 1 := (fun x v => Host.reduce IntOp.andi x v reducesTo_S4096x8x192_S_d0_1_2 h_S_) main_v7 main_c
  let main_v9 : FVec F S5120x8x128 .f32 := Host.absf main_v4
  let main_cst_0 : FVec F S_ .f32 := constant S_ .f32 0x7F800000#32
  let main_v10 : FVec F S5120x8x128 .f32 := broadcastInDim S5120x8x128 ![] bcast_S_S5120x8x128 main_cst_0
  let main_v11 : IVec S5120x8x128 1 := cmpf .olt main_v9 main_v10
  let main_c_1 : IVec S_ 1 := constantI S_ 1 1#1
  let main_v12 : IVec S_ 1 := (fun x v => Host.reduce IntOp.andi x v reducesTo_S5120x8x128_S_d0_1_2 h_S_) main_v11 main_c_1
  let main_v13 : IVec S_ 1 := andi main_v8 main_v12
  let main_v14 : FVec F S2x512x64 .f32 := Host.absf main_arg2
  let main_cst_2 : FVec F S_ .f32 := constant S_ .f32 0x7F800000#32
  let main_v15 : FVec F S2x512x64 .f32 := broadcastInDim S2x512x64 ![] bcast_S_S2x512x64 main_cst_2
  let main_v16 : IVec S2x512x64 1 := cmpf .olt main_v14 main_v15
  let main_c_3 : IVec S_ 1 := constantI S_ 1 1#1
  let main_v17 : IVec S_ 1 := (fun x v => Host.reduce IntOp.andi x v reducesTo_S2x512x64_S_d0_1_2 h_S_) main_v16 main_c_3
  fn_part1 (F := F) main_arg3 main_v13 main_v17
-- ==== Pre_finite_scores.lean ====
abbrev S2x4096x1024 : Shape := ⟨3, ![2, 4096, 1024]⟩
abbrev S3x12288x1024 : Shape := ⟨3, ![3, 12288, 1024]⟩
abbrev S2x512x8x2x64 : Shape := ⟨5, ![2, 512, 8, 2, 64]⟩
abbrev S2x512x8x128 : Shape := ⟨4, ![2, 512, 8, 128]⟩
abbrev S4x64 : Shape := ⟨2, ![4, 64]⟩
abbrev S128 : Shape := ⟨1, ![128]⟩
abbrev S_ : Shape := ⟨0, ![]⟩

class Facts : Prop where
  bcast_S_S2x4096x1024 : S_.BroadcastsInDim S2x4096x1024 (![] : Fin 0 → Fin S2x4096x1024.rank)
  reducesTo_S2x4096x1024_S_d0_1_2 : S2x4096x1024.ReducesTo [0, 1, 2] S_
  h_S_ : 0 < S_.numel
  bcast_S_S2x512x8x2x64 : S_.BroadcastsInDim S2x512x8x2x64 (![] : Fin 0 → Fin S2x512x8x2x64.rank)
  reducesTo_S2x512x8x2x64_S_d0_1_2_3_4 : S2x512x8x2x64.ReducesTo [0, 1, 2, 3, 4] S_

variable [Facts]

def fn {F : FTy → Type} [FloatOps F] (main_arg0 : FVec F S2x4096x1024 .f32) (main_arg1 : FVec F S3x12288x1024 .f32) (main_arg2 : FVec F S2x512x8x2x64 .f32) (main_arg3 : FVec F S2x512x8x128 .f32) (main_arg4 : FVec F S4x64 .f32) (main_arg5 : FVec F S128 .f32) : IVec S_ 1 :=
  let main_v0 : FVec F S2x4096x1024 .f32 := Host.absf main_arg0
  let main_cst : FVec F S_ .f32 := constant S_ .f32 0x7F800000#32
  let main_v1 : FVec F S2x4096x1024 .f32 := broadcastInDim S2x4096x1024 ![] bcast_S_S2x4096x1024 main_cst
  let main_v2 : IVec S2x4096x1024 1 := cmpf .olt main_v0 main_v1
  let main_c : IVec S_ 1 := constantI S_ 1 1#1
  let main_v3 : IVec S_ 1 := (fun x v => Host.reduce IntOp.andi x v reducesTo_S2x4096x1024_S_d0_1_2 h_S_) main_v2 main_c
  let main_v4 : FVec F S2x512x8x2x64 .f32 := Host.absf main_arg2
  let main_cst_0 : FVec F S_ .f32 := constant S_ .f32 0x7F800000#32
  let main_v5 : FVec F S2x512x8x2x64 .f32 := broadcastInDim S2x512x8x2x64 ![] bcast_S_S2x512x8x2x64 main_cst_0
  let main_v6 : IVec S2x512x8x2x64 1 := cmpf .olt main_v4 main_v5
  let main_c_1 : IVec S_ 1 := constantI S_ 1 1#1
  let main_v7 : IVec S_ 1 := (fun x v => Host.reduce IntOp.andi x v reducesTo_S2x512x8x2x64_S_d0_1_2_3_4 h_S_) main_v6 main_c_1
  let main_v8 : IVec S_ 1 := andi main_v3 main_v7
  main_v8
-- ==== DiffLatent.lean ====
abbrev S2x4096x1024 : Shape := ⟨3, ![2, 4096, 1024]⟩
abbrev S3x12288x1024 : Shape := ⟨3, ![3, 12288, 1024]⟩
abbrev S2x512x8x2x64 : Shape := ⟨5, ![2, 512, 8, 2, 64]⟩
abbrev S2x512x8x128 : Shape := ⟨4, ![2, 512, 8, 128]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S1x128 : Shape := ⟨2, ![1, 128]⟩
abbrev S2x512x1024 : Shape := ⟨3, ![2, 512, 1024]⟩
abbrev S4096x1024 : Shape := ⟨2, ![4096, 1024]⟩
abbrev S1x256x128 : Shape := ⟨3, ![1, 256, 128]⟩
abbrev S1x512x128 : Shape := ⟨3, ![1, 512, 128]⟩
abbrev S1x2048x128 : Shape := ⟨3, ![1, 2048, 128]⟩
abbrev S256x128 : Shape := ⟨2, ![256, 128]⟩
abbrev S512x128 : Shape := ⟨2, ![512, 128]⟩
abbrev S2048x128 : Shape := ⟨2, ![2048, 128]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S1x1 : Shape := ⟨2, ![1, 1]⟩

abbrev nBuf : Space → Nat
  | .hbm => 30
  | .vmem => 14
  | .smem => 0
  | _ => 0

abbrev bufTy : (tb : Table) → Fin (tcTables nBuf tb) → BufTy
  | .hbm, ⟨0, _⟩ => ⟨S2x4096x1024, .f32⟩
  | .hbm, ⟨1, _⟩ => ⟨S3x12288x1024, .f32⟩
  | .hbm, ⟨2, _⟩ => ⟨S2x512x8x2x64, .f32⟩
  | .hbm, ⟨3, _⟩ => ⟨S2x512x8x128, .f32⟩
  | .hbm, ⟨4, _⟩ => ⟨S4x64, .f32⟩
  | .hbm, ⟨5, _⟩ => ⟨S128, .f32⟩
  | .hbm, ⟨6, _⟩ => ⟨S1x64, .f32⟩
  | .hbm, ⟨7, _⟩ => ⟨S64, .f32⟩
  | .hbm, ⟨8, _⟩ => ⟨S1x64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x128, .f32⟩
  | .hbm, ⟨26, _⟩ => ⟨S1x128, .f32⟩
  | .hbm, ⟨27, _⟩ => ⟨S2x512x1024, .f32⟩
  | .hbm, ⟨28, _⟩ => ⟨S2x512x1024, .f32⟩
  | .hbm, ⟨29, _⟩ => ⟨S4096x1024, .f32⟩
  | .local _ .vmem, ⟨0, _⟩ => ⟨S1x256x128, .f32⟩
  | .local _ .vmem, ⟨1, _⟩ => ⟨S1x256x128, .f32⟩
  | .local _ .vmem, ⟨2, _⟩ => ⟨S1x512x128, .f32⟩
  | .local _ .vmem, ⟨3, _⟩ => ⟨S1x512x128, .f32⟩
  | .local _ .vmem, ⟨4, _⟩ => ⟨S1x2048x128, .f32⟩
  | .local _ .vmem, ⟨5, _⟩ => ⟨S1x2048x128, .f32⟩
  | .local _ .vmem, ⟨6, _⟩ => ⟨S1x512x128, .f32⟩
  | .local _ .vmem, ⟨7, _⟩ => ⟨S1x512x128, .f32⟩
  | .local _ .vmem, ⟨8, _⟩ => ⟨S1x2048x128, .f32⟩
  | .local _ .vmem, ⟨9, _⟩ => ⟨S1x2048x128, .f32⟩
  | .local _ .vmem, ⟨10, _⟩ => ⟨S1x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![c0_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c2_i32 : BitVec 32 := 2#32
  let c0_i32 : BitVec 32 := 0#32
  ![c2_i32.toNat, v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== DiffLatentRefIdeal.lean ====
abbrev S2x4096x1024 : Shape := ⟨3, ![2, 4096, 1024]⟩
abbrev S3x12288x1024 : Shape := ⟨3, ![3, 12288, 1024]⟩
abbrev S2x512x8x2x64 : Shape := ⟨5, ![2, 512, 8, 2, 64]⟩
abbrev S2x512x8x128 : Shape := ⟨4, ![2, 512, 8, 128]⟩
abbrev S4x64 : Shape := ⟨2, ![4, 64]⟩
abbrev S128 : Shape := ⟨1, ![128]⟩
abbrev S1x4096x1024 : Shape := ⟨3, ![1, 4096, 1024]⟩
abbrev S4096x1024 : Shape := ⟨2, ![4096, 1024]⟩
abbrev S2x2048x8x2x64 : Shape := ⟨5, ![2, 2048, 8, 2, 64]⟩
abbrev S2x2048x8x128 : Shape := ⟨4, ![2, 2048, 8, 128]⟩
abbrev S2x2560x8x2x64 : Shape := ⟨5, ![2, 2560, 8, 2, 64]⟩
abbrev S2x2560x8x128 : Shape := ⟨4, ![2, 2560, 8, 128]⟩
abbrev S1x64 : Shape := ⟨2, ![1, 64]⟩
abbrev S64 : Shape := ⟨1, ![64]⟩
abbrev S_ : Shape := ⟨0, ![]⟩
abbrev S2x2x8x2048x2560 : Shape := ⟨5, ![2, 2, 8, 2048, 2560]⟩
abbrev S2x2x8x2048 : Shape := ⟨4, ![2, 2, 8, 2048]⟩
abbrev S2x2x8x2048x1 : Shape := ⟨5, ![2, 2, 8, 2048, 1]⟩
abbrev S2x1x8x2048x2560 : Shape := ⟨5, ![2, 1, 8, 2048, 2560]⟩
abbrev S2x8x2048x2560 : Shape := ⟨4, ![2, 8, 2048, 2560]⟩
abbrev S2x8x128x2048 : Shape := ⟨4, ![2, 8, 128, 2048]⟩
abbrev S2x2048x8 : Shape := ⟨3, ![2, 2048, 8]⟩
abbrev S2x2048x8x1 : Shape := ⟨4, ![2, 2048, 8, 1]⟩
abbrev S1x1x1x128 : Shape := ⟨4, ![1, 1, 1, 128]⟩

abbrev nBuf : Space → Nat
  | .hbm => 83
  | .vmem => 0
  | .smem => 0
  | _ => 0

abbrev bufTy : (tb : Table) → Fin (tcTables nBuf tb) → BufTy
  | .hbm, ⟨0, _⟩ => ⟨S2x4096x1024, .f32⟩
  | .hbm, ⟨1, _⟩ => ⟨S3x12288x1024, .f32⟩
  | .hbm, ⟨2, _⟩ => ⟨S2x512x8x2x64, .f32⟩
  | .hbm, ⟨3, _⟩ => ⟨S2x512x8x128, .f32⟩
  | .hbm, ⟨4, _⟩ => ⟨S4x64, .f32⟩
  | .hbm, ⟨5, _⟩ => ⟨S128, .f32⟩
  | .hbm, ⟨6, _⟩ => ⟨S1x4096x1024, .f32⟩
  | .hbm, ⟨7, _⟩ => ⟨S4096x1024, .f32⟩
  | .hbm, ⟨8, _⟩ => ⟨S2x2048x8x2x64, .f32⟩
  | .hbm, ⟨9, _⟩ => ⟨S1x4096x1024, .f32⟩
  | .hbm, ⟨10, _⟩ => ⟨S4096x1024, .f32⟩
  | .hbm, ⟨11, _⟩ => ⟨S2x2048x8x2x64, .f32⟩
  | .hbm, ⟨12, _⟩ => ⟨S1x4096x1024, .f32⟩
  | .hbm, ⟨13, _⟩ => ⟨S4096x1024, .f32⟩
  | .hbm, ⟨14, _⟩ => ⟨S2x2048x8x128, .f32⟩
  | .hbm, ⟨15, _⟩ => ⟨S2x2560x8x2x64, .f32⟩
  | .hbm, ⟨16, _⟩ => ⟨S2x2560x8x128, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1x64, .f32⟩
  | .hbm, ⟨26, _⟩ => ⟨S64, .f32⟩
  | .hbm, ⟨27, _⟩ => ⟨S1x64, .f32⟩
  | .hbm, ⟨28, _⟩ => ⟨S64, .f32⟩
  | .hbm, ⟨29, _⟩ => ⟨S64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S2x2x8x2048x2560, .f32⟩
  | .hbm, ⟨37, _⟩ => ⟨S_, .f32⟩
  | .hbm, ⟨38, _⟩ => ⟨S2x2x8x2048x2560, .f32⟩
  | .hbm, ⟨39, _⟩ => ⟨S2x2x8x2048x2560, .f32⟩
  | .hbm, ⟨40, _⟩ => ⟨S_, .f32⟩
  | .hbm, ⟨41, _⟩ => ⟨S2x2x8x2048, .f32⟩
  | .hbm, ⟨42, _⟩ => ⟨S_, .f32⟩
  | .hbm, ⟨43, _⟩ => ⟨S2x2x8x2048, .f32⟩
  | .hbm, ⟨44, _⟩ => ⟨S2x2x8x2048, .f32⟩
  | .hbm, ⟨45, _⟩ => ⟨S2x2x8x2048x1, .f32⟩
  | .hbm, ⟨46, _⟩ => ⟨S2x2x8x2048x2560, .f32⟩
  | .hbm, ⟨47, _⟩ => ⟨S2x2x8x2048x2560, .f32⟩
  | .hbm, ⟨48, _⟩ => ⟨S2x2x8x2048x2560, .f32⟩
  | .hbm, ⟨49, _⟩ => ⟨S_, .f32⟩
  | .hbm, ⟨50, _⟩ => ⟨S2x2x8x2048, .f32⟩
  | .hbm, ⟨51, _⟩ => ⟨S2x2x8x2048x1, .f32⟩
  | .hbm, ⟨52, _⟩ => ⟨S2x2x8x2048x2560, .f32⟩
  | .hbm, ⟨53, _⟩ => ⟨S2x2x8x2048x2560, .f32⟩
  | .hbm, ⟨54, _⟩ => ⟨S2x1x8x2048x2560, .f32⟩
  | .hbm, ⟨55, _⟩ => ⟨S2x8x2048x2560, .f32⟩
  | .hbm, ⟨56, _⟩ => ⟨S2x1x8x2048x2560, .f32⟩
  | .hbm, ⟨57, _⟩ => ⟨S2x8x2048x2560, .f32⟩
  | .hbm, ⟨58, _⟩ => ⟨S2x8x2048x2560, .f32⟩
  | .hbm, ⟨59, _⟩ => ⟨S2x8x2048x2560, .f32⟩
  | .hbm, ⟨60, _⟩ => ⟨S2x8x2048x2560, .f32⟩
  | .hbm, ⟨61, _⟩ => ⟨S2x8x128x2048, .f32⟩
  | .hbm, ⟨62, _⟩ => ⟨S2x2048x8x128, .f32⟩
  | .hbm, ⟨63, _⟩ => ⟨S2x2048x8x128, .f32⟩
  | .hbm, ⟨64, _⟩ => ⟨S_, .f32⟩
  | .hbm, ⟨65, _⟩ => ⟨S2x2048x8, .f32⟩
  | .hbm, ⟨66, _⟩ => ⟨S2x2048x8x1, .f32⟩
  | .hbm, ⟨67, _⟩ => ⟨S_, .f32⟩
  | .hbm, ⟨68, _⟩ => ⟨S2x2048x8x1, .f32⟩
  | .hbm, ⟨69, _⟩ => ⟨S2x2048x8x1, .f32⟩
  | .hbm, ⟨70, _⟩ => ⟨S_, .f32⟩
  | .hbm, ⟨71, _⟩ => ⟨S2x2048x8x1, .f32⟩
  | .hbm, ⟨72, _⟩ => ⟨S2x2048x8x1, .f32⟩
  | .hbm, ⟨73, _⟩ => ⟨S2x2048x8x1, .f32⟩
  | .hbm, ⟨74, _⟩ => ⟨S2x2048x8x128, .f32⟩
  | .hbm, ⟨75, _⟩ => ⟨S2x2048x8x128, .f32⟩
  | .hbm, ⟨76, _⟩ => ⟨S1x1x1x128, .f32⟩
  | .hbm, ⟨77, _⟩ => ⟨S2x2048x8x128, .f32⟩
  | .hbm, ⟨78, _⟩ => ⟨S2x2048x8x128, .f32⟩
  | .hbm, ⟨79, _⟩ => ⟨S_, .f32⟩
  | .hbm, ⟨80, _⟩ => ⟨S2x2048x8x128, .f32⟩
  | .hbm, ⟨81, _⟩ => ⟨S2x2048x8x128, .f32⟩
  | .hbm, ⟨82, _⟩ => ⟨S4096x1024, .f32⟩
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩

abbrev nD : Nat := 1
abbrev τ : Topo := Topo.v7x

variable {F : FTy → Type} [FloatOps F]
-- ==== FfnDense.lean ====
abbrev S12288x1024 : Shape := ⟨2, ![12288, 1024]⟩
abbrev S1024x2816 : Shape := ⟨2, ![1024, 2816]⟩
abbrev S2816x1024 : Shape := ⟨2, ![2816, 1024]⟩
abbrev S1024 : Shape := ⟨1, ![1024]⟩
abbrev S3x6x1x1024 : Shape := ⟨4, ![3, 6, 1, 1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1x1x1x1024 : Shape := ⟨4, ![1, 1, 1, 1024]⟩
abbrev S1024x1 : Shape := ⟨2, ![1024, 1]⟩
abbrev S256x256 : Shape := ⟨2, ![256, 256]⟩

abbrev nBuf : Space → Nat
  | .hbm => 8
  | .vmem => 19
  | .smem => 0
  | _ => 0

abbrev bufTy : (tb : Table) → Fin (tcTables nBuf tb) → BufTy
  | .hbm, ⟨0, _⟩ => ⟨S12288x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S3x6x1x1024, .f32⟩
  | .hbm, ⟨6, _⟩ => ⟨S1x1024, .f32⟩
  | .hbm, ⟨7, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S1x1x1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![12, 11], ![false, false]⟩

def k0_cond2 (i : grid0.Coords) : BitVec 1 :=
  let arg1 : BitVec 32 := BitVec.ofNat 32 (i 1).val
  let c10_i32 : BitVec 32 := 10#32
  let v61 : BitVec 1 := Scalar.cmpi .eq arg1 c10_i32
  let v62 : BitVec 32 := Scalar.extui v61
  let c0_i32_38 : BitVec 32 := 0#32
  let v63 : BitVec 1 := Scalar.cmpi .ne v62 c0_i32_38
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c3_i32 : BitVec 32 := 3#32
  let c0_i32_7 : BitVec 32 := 0#32
  let c0_i32_8 : BitVec 32 := 0#32
  let c0_i32_9 : BitVec 32 := 0#32
  ![v20.toNat, c3_i32.toNat, c0_i32_7.toNat, c0_i32_8.toNat]

def cc0_transform_6 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c4_i32 : BitVec 32 := 4#32
  let c0_i32_7 : BitVec 32 := 0#32
  let c0_i32_8 : BitVec 32 := 0#32
  let c0_i32_9 : BitVec 32 := 0#32
  ![v20.toNat, c4_i32.toNat, c0_i32_7.toNat, c0_i32_8.toNat]

def cc0_transform_7 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c5_i32 : BitVec 32 := 5#32
  let c0_i32_7 : BitVec 32 := 0#32
  let c0_i32_8 : BitVec 32 := 0#32
  let c0_i32_9 : BitVec 32 := 0#32
  ![v20.toNat, c5_i32.toNat, c0_i32_7.toNat, c0_i32_8.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnDenseRefIdeal.lean ====
abbrev S12288x1024 : Shape := ⟨2, ![12288, 1024]⟩
abbrev S1024x2816 : Shape := ⟨2, ![1024, 2816]⟩
abbrev S2816x1024 : Shape := ⟨2, ![2816, 1024]⟩
abbrev S1024 : Shape := ⟨1, ![1024]⟩
abbrev S3x6x1x1024 : Shape := ⟨4, ![3, 6, 1, 1024]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S1x1x1x1024 : Shape := ⟨4, ![1, 1, 1, 1024]⟩
abbrev S1x1024 : Shape := ⟨2, ![1, 1024]⟩
abbrev S2x1x1x1024 : Shape := ⟨4, ![2, 1, 1, 1024]⟩
abbrev S2x1x1024 : Shape := ⟨3, ![2, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S2x2048 : Shape := ⟨2, ![2, 2048]⟩
abbrev S2x2048x1 : Shape := ⟨3, ![2, 2048, 1]⟩
abbrev S32x256x2816 : Shape := ⟨3, ![32, 256, 2816]⟩
abbrev S2x2048x2816 : Shape := ⟨3, ![2, 2048, 2816]⟩

abbrev nBuf : Space → Nat
  | .hbm => 118
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S3x6x1x1024, .f32⟩
  | .hbm, ⟨6, _⟩ => ⟨S8192x1024, .f32⟩
  | .hbm, ⟨7, _⟩ => ⟨S32x256x1024, .f32⟩
  | .hbm, ⟨8, _⟩ => ⟨S4096x1024, .f32⟩
  | .hbm, ⟨9, _⟩ => ⟨S2x2048x1024, .f32⟩
  | .hbm, ⟨10, _⟩ => ⟨S1x1x1x1024, .f32⟩
  | .hbm, ⟨11, _⟩ => ⟨S1x1024, .f32⟩
  | .hbm, ⟨12, _⟩ => ⟨S1x1x1x1024, .f32⟩
  | .hbm, ⟨13, _⟩ => ⟨S1x1024, .f32⟩
  | .hbm, ⟨14, _⟩ => ⟨S1x1x1x1024, .f32⟩
  | .hbm, ⟨15, _⟩ => ⟨S1x1024, .f32⟩
  | .hbm, ⟨16, _⟩ => ⟨S1x1x1x1024, .f32⟩
  | .hbm, ⟨17, _⟩ => ⟨S1x1024, .f32⟩
  | .hbm, ⟨18, _⟩ => ⟨S1x1x1x1024, .f32⟩
  | .hbm, ⟨19, _⟩ => ⟨S1x1024, .f32⟩
  | .hbm, ⟨20, _⟩ => ⟨S1x1x1x1024, .f32⟩
  | .hbm, ⟨21, _⟩ => ⟨S1x1024, .f32⟩
  | .hbm, ⟨22, _⟩ => ⟨S2x1x1x1024, .f32⟩
  | .hbm, ⟨23, _⟩ => ⟨S2x1x1024, .f32⟩
  | .hbm, ⟨24, _⟩ => ⟨S2x1x1x1024, .f32⟩
  | .hbm, ⟨25, _⟩ => ⟨S2x1x1024, .f32⟩
  | .hbm, ⟨26, _⟩ => ⟨S2x1x1x1024, .f32⟩
  | .hbm, ⟨27, _⟩ => ⟨S2x1x1024, .f32⟩
  | .hbm, ⟨28, _⟩ => ⟨S2x1x1x1024, .f32⟩
  | .hbm, ⟨29, _⟩ => ⟨S2x1x1024, .f32⟩
  | .hbm, ⟨30, _⟩ => ⟨S2x1x1x1024, .f32⟩
  | .hbm, ⟨31, _⟩ => ⟨S2x1x1024, .f32⟩
  | .hbm, ⟨32, _⟩ => ⟨S2x1x1x1024, .f32⟩
  | .hbm, ⟨33, _⟩ => ⟨S2x1x1024, .f32⟩
  | .hbm, ⟨34, _⟩ => ⟨S32x256x1024, .f32⟩
  | .hbm, ⟨35, _⟩ => ⟨S_, .f32⟩
  | .hbm, ⟨36, _⟩ => ⟨S32x256, .f32⟩
  | .hbm, ⟨37, _⟩ => ⟨S32x256x1, .f32⟩
  | .hbm, ⟨38, _⟩ => ⟨S_, .f32⟩
  | .hbm, ⟨39, _⟩ => ⟨S32x256x1, .f32⟩
  | .hbm, ⟨40, _⟩ => ⟨S32x256x1, .f32⟩
  | .hbm, ⟨41, _⟩ => ⟨S_, .f32⟩
  | .hbm, ⟨42, _⟩ => ⟨S32x256x1, .f32⟩
  | .hbm, ⟨43, _⟩ => ⟨S32x256x1, .f32⟩
  | .hbm, ⟨44, _⟩ => ⟨S32x256x1, .f32⟩
  | .hbm, ⟨45, _⟩ => ⟨S32x256x1024, .f32⟩
  | .hbm, ⟨46, _⟩ => ⟨S32x256x1024, .f32⟩
  | .hbm, ⟨47, _⟩ => ⟨S1x1x1024, .f32⟩
  | .hbm, ⟨48, _⟩ => ⟨S32x256x1024, .f32⟩
  | .hbm, ⟨49, _⟩ => ⟨S32x256x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S1x1x1024, .f32⟩
  | .hbm, ⟨54, _⟩ => ⟨S32x256x1024, .f32⟩
  | .hbm, ⟨55, _⟩ => ⟨S32x256x1024, .f32⟩
  | .hbm, ⟨56, _⟩ => ⟨S1x1x1024, .f32⟩
  | .hbm, ⟨57, _⟩ => ⟨S32x256x1024, .f32⟩
  | .hbm, ⟨58, _⟩ => ⟨S32x256x1024, .f32⟩
  | .hbm, ⟨59, _⟩ => ⟨S2x2048x1024, .f32⟩
  | .hbm, ⟨60, _⟩ => ⟨S_, .f32⟩
  | .hbm, ⟨61, _⟩ => ⟨S2x2048, .f32⟩
  | .hbm, ⟨62, _⟩ => ⟨S2x2048x1, .f32⟩
  | .hbm, ⟨63, _⟩ => ⟨S_, .f32⟩
  | .hbm, ⟨64, _⟩ => ⟨S2x2048x1, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S2x2048x1, .f32⟩
  | .hbm, ⟨70, _⟩ => ⟨S2x2048x1024, .f32⟩
  | .hbm, ⟨71, _⟩ => ⟨S2x2048x1024, .f32⟩
  | .hbm, ⟨72, _⟩ => ⟨S1x1x1024, .f32⟩
  | .hbm, ⟨73, _⟩ => ⟨S2x2048x1024, .f32⟩
  | .hbm, ⟨74, _⟩ => ⟨S2x2048x1024, .f32⟩
  | .hbm, ⟨75, _⟩ => ⟨S_, .f32⟩
  | .hbm, ⟨76, _⟩ => ⟨S2x1x1024, .f32⟩
  | .hbm, ⟨77, _⟩ => ⟨S2x1x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1024, .f32⟩
  | .hbm, ⟨82, _⟩ => ⟨S32x256x2816, .f32⟩
  | .hbm, ⟨83, _⟩ => ⟨S32x256x2816, .f32⟩
  | .hbm, ⟨84, _⟩ => ⟨S32x256x2816, .f32⟩
  | .hbm, ⟨85, _⟩ => ⟨S_, .f32⟩
  | .hbm, ⟨86, _⟩ => ⟨S32x256x2816, .f32⟩
  | .hbm, ⟨87, _⟩ => ⟨S32x256x2816, .f32⟩
  | .hbm, ⟨88, _⟩ => ⟨S_, .f32⟩
  | .hbm, ⟨89, _⟩ => ⟨S32x256x2816, .f32⟩
  | .hbm, ⟨90, _⟩ => ⟨S32x256x2816, .f32⟩
  | .hbm, ⟨91, _⟩ => ⟨S32x256x2816, .f32⟩
  | .hbm, ⟨92, _⟩ => ⟨S32x256x2816, .f32⟩
  | .hbm, ⟨93, _⟩ => ⟨S32x256x2816, .f32⟩
  | .hbm, ⟨94, _⟩ => ⟨S32x256x1024, .f32⟩
  | .hbm, ⟨95, _⟩ => ⟨S2x2048x2816, .f32⟩
  | .hbm, ⟨96, _⟩ => ⟨S2x2048x2816, .f32⟩
  | .hbm, ⟨97, _⟩ => ⟨S2x2048x2816, .f32⟩
  | .hbm, ⟨98, _⟩ => ⟨S_, .f32⟩
  | .hbm, ⟨99, _⟩ => ⟨S2x2048x2816, .f32⟩
  | .hbm, ⟨100, _⟩ => ⟨S2x2048x2816, .f32⟩
  | .hbm, ⟨101, _⟩ => ⟨S_, .f32⟩
  | .hbm, ⟨102, _⟩ => ⟨S2x2048x2816, .f32⟩
  | .hbm, ⟨103, _⟩ => ⟨S2x2048x2816, .f32⟩
  | .hbm, ⟨104, _⟩ => ⟨S2x2048x2816, .f32⟩
  | .hbm, ⟨105, _⟩ => ⟨S2x2048x2816, .f32⟩
  | .hbm, ⟨106, _⟩ => ⟨S2x2048x2816, .f32⟩
  | .hbm, ⟨107, _⟩ => ⟨S2x2048x1024, .f32⟩
  | .hbm, ⟨108, _⟩ => ⟨S1x1x1024, .f32⟩
  | .hbm, ⟨109, _⟩ => ⟨S32x256x1024, .f32⟩
  | .hbm, ⟨110, _⟩ => ⟨S32x256x1024, .f32⟩
  | .hbm, ⟨111, _⟩ => ⟨S32x256x1024, .f32⟩
  | .hbm, ⟨112, _⟩ => ⟨S2x2048x1024, .f32⟩
  | .hbm, ⟨113, _⟩ => ⟨S2x2048x1024, .f32⟩
  | .hbm, ⟨114, _⟩ => ⟨S2x2048x1024, .f32⟩
  | .hbm, ⟨115, _⟩ => ⟨S8192x1024, .f32⟩
  | .hbm, ⟨116, _⟩ => ⟨S4096x1024, .f32⟩
  | .hbm, ⟨117, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst : Ref sig .tc := ⟨.hbm, 35, rfl⟩
abbrev main_v29 : Ref sig .tc := ⟨.hbm, 36, rfl⟩
abbrev main_v30 : Ref sig .tc := ⟨.hbm, 37, rfl⟩
abbrev main_cst_0 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_3 : Ref sig .tc := ⟨.hbm, 60, rfl⟩
abbrev main_v50 : Ref sig .tc := ⟨.hbm, 61, rfl⟩
abbrev main_v51 : Ref sig .tc := ⟨.hbm, 62, rfl⟩
abbrev main_cst_4 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_6 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩

abbrev nD : Nat := 1
abbrev τ : Topo := Topo.v7x

variable {F : FTy → Type} [FloatOps F]
-- ==== FfnMoe.lean ====
abbrev S32768x1024 : Shape := ⟨2, ![32768, 1024]⟩
abbrev S8x1024x2816 : Shape := ⟨3, ![8, 1024, 2816]⟩
abbrev S8x2816x1024 : Shape := ⟨3, ![8, 2816, 1024]⟩
abbrev S32768x1 : Shape := ⟨2, ![32768, 1]⟩
abbrev S32 : Shape := ⟨1, ![32]⟩
abbrev S1024x1024 : Shape := ⟨2, ![1024, 1024]⟩
abbrev S1x1024x256 : Shape := ⟨3, ![1, 1024, 256]⟩
abbrev S1 : Shape := ⟨1, ![1]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩
abbrev S256x256 : Shape := ⟨2, ![256, 256]⟩

abbrev nBuf : Space → Nat
  | .hbm => 6
  | .vmem => 14
  | .smem => 2
  | _ => 0

abbrev bufTy : (tb : Table) → Fin (tcTables nBuf tb) → BufTy
  | .hbm, ⟨0, _⟩ => ⟨S32768x1024, .f32⟩
  | .hbm, ⟨1, _⟩ => ⟨S8x1024x2816, .f32⟩
  | .hbm, ⟨2, _⟩ => ⟨S8x1024x2816, .f32⟩
  | .hbm, ⟨3, _⟩ => ⟨S8x2816x1024, .f32⟩
  | .hbm, ⟨4, _⟩ => ⟨S32768x1, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | .local _ .smem, ⟨0, _⟩ => ⟨S32, .i32⟩
  | .local _ .smem, ⟨1, _⟩ => ⟨S32, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_arg5 : Ref sig .tc := ⟨.smem, 0, rfl⟩
abbrev main_arg6 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 11], ![false, false]⟩

abbrev pre0 : Pipeline.Prefetch sig := ⟨2, ![main_arg5.idx, main_arg6.idx], fun | 0 => main_arg5.names | 1 => main_arg6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond6 (i : grid0.Coords) : BitVec 1 :=
  let arg1 : BitVec 32 := BitVec.ofNat 32 (i 1).val
  let c10_i32 : BitVec 32 := 10#32
  let v26 : BitVec 1 := Scalar.cmpi .eq arg1 c10_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, c0_i32_0.toNat, v5.toNat]

def cc0_transform_3 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let v2 : Index := Scalar.indexCast arg0
  let v3 : BitVec 32 := pf.at 1 (Rect.unit (s := S32) ![v2.toNat] S1.size (k0_off1_inb i)) numel1_S1
  let c0_i32 : BitVec 32 := 0#32
  let v4 : BitVec 1 := Scalar.cmpi .sgt v3 c0_i32
  let c10_i32 : BitVec 32 := 10#32
  let v5 : BitVec 32 := Scalar.select v4 arg1 c10_i32
  let c0_i32_0 : BitVec 32 := 0#32
  let c0_i32_1 : BitVec 32 := 0#32
  ![v1.toNat, v5.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnMoeRefIdeal.lean ====
abbrev S32768x1024 : Shape := ⟨2, ![32768, 1024]⟩
abbrev S8x1024x2816 : Shape := ⟨3, ![8, 1024, 2816]⟩
abbrev S8x2816x1024 : Shape := ⟨3, ![8, 2816, 1024]⟩
abbrev S32768x1 : Shape := ⟨2, ![32768, 1]⟩
abbrev S32 : Shape := ⟨1, ![32]⟩
abbrev S32768 : Shape := ⟨1, ![32768]⟩
abbrev S32x1024 : Shape := ⟨2, ![32, 1024]⟩
abbrev S_ : Shape := ⟨0, ![]⟩
abbrev S1x8 : Shape := ⟨2, ![1, 8]⟩
abbrev S32768x8 : Shape := ⟨2, ![32768, 8]⟩
abbrev S1x1024x2816 : Shape := ⟨3, ![1, 1024, 2816]⟩
abbrev S1024x2816 : Shape := ⟨2, ![1024, 2816]⟩
abbrev S32768x2816 : Shape := ⟨2, ![32768, 2816]⟩
abbrev S1x2816x1024 : Shape := ⟨3, ![1, 2816, 1024]⟩
abbrev S2816x1024 : Shape := ⟨2, ![2816, 1024]⟩

abbrev nBuf : Space → Nat
  | .hbm => 255
  | .vmem => 0
  | .smem => 0
  | _ => 0

abbrev hbmTy0_0 (i : Nat) : BufTy := match i % 128 with
  | 0 => ⟨S32768x1024, .f32⟩
  | 1 => ⟨S8x1024x2816, .f32⟩
  | 2 => ⟨S8x1024x2816, .f32⟩
  | 3 => ⟨S8x2816x1024, .f32⟩
  | 4 => ⟨S32768x1, .f32⟩
  | 5 => ⟨S32, .i32⟩
  | 6 => ⟨S32, .i32⟩
  | 7 => ⟨S32768, .i32⟩
  | 8 => ⟨S32x1024, .i32⟩
  | 9 => ⟨S32768, .i32⟩
  | 10 => ⟨S32x1024, .i32⟩
  | 11 => ⟨S32768, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S32768, .i32⟩
  | 19 => ⟨S32768, .i32⟩
  | 20 => ⟨S_, .i32⟩
  | 21 => ⟨S32768, .i32⟩
  | 22 => ⟨S32768, .i1⟩
  | 23 => ⟨S_, .i32⟩
  | 24 => ⟨S32768, .i32⟩
  | 25 => ⟨S32768, .i1⟩
  | 26 => ⟨S_, .i32⟩
  | 27 => ⟨S_, .i1⟩
  | 28 => ⟨S32768, .i1⟩
  | 29 => ⟨S32768, .i1⟩
  | 30 => ⟨S32768, .i1⟩
  | 31 => ⟨S32768, .i32⟩
  | 32 => ⟨S32768, .i32⟩
  | 33 => ⟨S32768, .i32⟩
  | 34 => ⟨S_, .i32⟩
  | 35 => ⟨S_, .i32⟩
  | 36 => ⟨S32768, .i32⟩
  | 37 => ⟨S32768, .i32⟩
  | 38 => ⟨S32768, .i32⟩
  | 39 => ⟨S_, .i32⟩
  | 40 => ⟨S32768, .i32⟩
  | 41 => ⟨S32768, .i1⟩
  | 42 => ⟨S32768, .i32⟩
  | 43 => ⟨S32768, .i32⟩
  | 44 => ⟨S_, .i32⟩
  | 45 => ⟨S32768, .i32⟩
  | 46 => ⟨S32768, .i1⟩
  | 47 => ⟨S32768, .i1⟩
  | 48 => ⟨S_, .i32⟩
  | 49 => ⟨S32768, .i32⟩
  | 50 => ⟨S32768, .i32⟩
  | 51 => ⟨S32768, .i32⟩
  | 52 => ⟨S_, .i32⟩
  | 53 => ⟨S32768, .i32⟩
  | 54 => ⟨S32768, .i32⟩
  | 55 => ⟨S32768, .i1⟩
  | 56 => ⟨S32768x1, .i1⟩
  | 57 => ⟨S_, .f32⟩
  | 58 => ⟨S_, .f32⟩
  | 59 => ⟨S32768x1, .f32⟩
  | 60 => ⟨S32768x1, .f32⟩
  | 61 => ⟨S32768x1, .i32⟩
  | 62 => ⟨S1x8, .i32⟩
  | 63 => ⟨S32768x8, .i32⟩
  | 64 => ⟨S32768x8, .i32⟩
  | 65 => ⟨S32768x8, .i1⟩
  | 66 => ⟨S32768x8, .f32⟩
  | 67 => ⟨S32768x8, .f32⟩
  | 68 => ⟨S32768x8, .f32⟩
  | 69 => ⟨S_, .f32⟩
  | 70 => ⟨S32768x1024, .f32⟩
  | 71 => ⟨S32768x1, .f32⟩
  | 72 => ⟨S1x1024x2816, .f32⟩
  | 73 => ⟨S1024x2816, .f32⟩
  | 74 => ⟨S32768x2816, .f32⟩
  | 75 => ⟨S32768x2816, .f32⟩
  | 76 => ⟨S32768x2816, .f32⟩
  | 77 => ⟨S_, .f32⟩
  | 78 => ⟨S32768x2816, .f32⟩
  | 79 => ⟨S32768x2816, .f32⟩
  | 80 => ⟨S_, .f32⟩
  | 81 => ⟨S32768x2816, .f32⟩
  | 82 => ⟨S32768x2816, .f32⟩
  | 83 => ⟨S32768x2816, .f32⟩
  | 84 => ⟨S1x1024x2816, .f32⟩
  | 85 => ⟨S1024x2816, .f32⟩
  | 86 => ⟨S32768x2816, .f32⟩
  | 87 => ⟨S32768x2816, .f32⟩
  | 88 => ⟨S1x2816x1024, .f32⟩
  | 89 => ⟨S2816x1024, .f32⟩
  | 90 => ⟨S32768x1024, .f32⟩
  | 91 => ⟨S32768x1024, .f32⟩
  | 92 => ⟨S32768x1024, .f32⟩
  | 93 => ⟨S32768x1024, .f32⟩
  | 94 => ⟨S32768x1, .f32⟩
  | 95 => ⟨S1x1024x2816, .f32⟩
  | 96 => ⟨S1024x2816, .f32⟩
  | 97 => ⟨S32768x2816, .f32⟩
  | 98 => ⟨S32768x2816, .f32⟩
  | 99 => ⟨S32768x2816, .f32⟩
  | 100 => ⟨S_, .f32⟩
  | 101 => ⟨S32768x2816, .f32⟩
  | 102 => ⟨S32768x2816, .f32⟩
  | 103 => ⟨S_, .f32⟩
  | 104 => ⟨S32768x2816, .f32⟩
  | 105 => ⟨S32768x2816, .f32⟩
  | 106 => ⟨S32768x2816, .f32⟩
  | 107 => ⟨S1x1024x2816, .f32⟩
  | 108 => ⟨S1024x2816, .f32⟩
  | 109 => ⟨S32768x2816, .f32⟩
  | 110 => ⟨S32768x2816, .f32⟩
  | 111 => ⟨S1x2816x1024, .f32⟩
  | 112 => ⟨S2816x1024, .f32⟩
  | 113 => ⟨S32768x1024, .f32⟩
  | 114 => ⟨S32768x1024, .f32⟩
  | 115 => ⟨S32768x1024, .f32⟩
  | 116 => ⟨S32768x1024, .f32⟩
  | 117 => ⟨S32768x1, .f32⟩
  | 118 => ⟨S1x1024x2816, .f32⟩
  | 119 => ⟨S1024x2816, .f32⟩
  | 120 => ⟨S32768x2816, .f32⟩
  | 121 => ⟨S32768x2816, .f32⟩
  | 122 => ⟨S32768x2816, .f32⟩
  | 123 => ⟨S_, .f32⟩
  | 124 => ⟨S32768x2816, .f32⟩
  | 125 => ⟨S32768x2816, .f32⟩
  | 126 => ⟨S_, .f32⟩
  | 127 => ⟨S32768x2816, .f32⟩
  | _ => ⟨S32768x1024, .f32⟩

abbrev hbmTy0_1 (i : Nat) : BufTy := match i % 128 with
  | 0 => ⟨S32768x2816, .f32⟩
  | 1 => ⟨S32768x2816, .f32⟩
  | 2 => ⟨S1x1024x2816, .f32⟩
  | 3 => ⟨S1024x2816, .f32⟩
  | 4 => ⟨S32768x2816, .f32⟩
  | 5 => ⟨S32768x2816, .f32⟩
  | 6 => ⟨S1x2816x1024, .f32⟩
  | 7 => ⟨S2816x1024, .f32⟩
  | 8 => ⟨S32768x1024, .f32⟩
  | 9 => ⟨S32768x1024, .f32⟩
  | 10 => ⟨S32768x1024, .f32⟩
  | 11 => ⟨S32768x1024, .f32⟩
  | 12 => ⟨S32768x1, .f32⟩
  | 13 => ⟨S1x1024x2816, .f32⟩
  | 14 => ⟨S1024x2816, .f32⟩
  | 15 => ⟨S32768x2816, .f32⟩
  | 16 => ⟨S32768x2816, .f32⟩
  | 17 => ⟨S32768x2816, .f32⟩
  | 18 => ⟨S_, .f32⟩
  | 19 => ⟨S32768x2816, .f32⟩
  | 20 => ⟨S32768x2816, .f32⟩
  | 21 => ⟨S_, .f32⟩
  | 22 => ⟨S32768x2816, .f32⟩
  | 23 => ⟨S32768x2816, .f32⟩
  | 24 => ⟨S32768x2816, .f32⟩
  | 25 => ⟨S1x1024x2816, .f32⟩
  | 26 => ⟨S1024x2816, .f32⟩
  | 27 => ⟨S32768x2816, .f32⟩
  | 28 => ⟨S32768x2816, .f32⟩
  | 29 => ⟨S1x2816x1024, .f32⟩
  | 30 => ⟨S2816x1024, .f32⟩
  | 31 => ⟨S32768x1024, .f32⟩
  | 32 => ⟨S32768x1024, .f32⟩
  | 33 => ⟨S32768x1024, .f32⟩
  | 34 => ⟨S32768x1024, .f32⟩
  | 35 => ⟨S32768x1, .f32⟩
  | 36 => ⟨S1x1024x2816, .f32⟩
  | 37 => ⟨S1024x2816, .f32⟩
  | 38 => ⟨S32768x2816, .f32⟩
  | 39 => ⟨S32768x2816, .f32⟩
  | 40 => ⟨S32768x2816, .f32⟩
  | 41 => ⟨S_, .f32⟩
  | 42 => ⟨S32768x2816, .f32⟩
  | 43 => ⟨S32768x2816, .f32⟩
  | 44 => ⟨S_, .f32⟩
  | 45 => ⟨S32768x2816, .f32⟩
  | 46 => ⟨S32768x2816, .f32⟩
  | 47 => ⟨S32768x2816, .f32⟩
  | 48 => ⟨S1x1024x2816, .f32⟩
  | 49 => ⟨S1024x2816, .f32⟩
  | 50 => ⟨S32768x2816, .f32⟩
  | 51 => ⟨S32768x2816, .f32⟩
  | 52 => ⟨S1x2816x1024, .f32⟩
  | 53 => ⟨S2816x1024, .f32⟩
  | 54 => ⟨S32768x1024, .f32⟩
  | 55 => ⟨S32768x1024, .f32⟩
  | 56 => ⟨S32768x1024, .f32⟩
  | 57 => ⟨S32768x1024, .f32⟩
  | 58 => ⟨S32768x1, .f32⟩
  | 59 => ⟨S1x1024x2816, .f32⟩
  | 60 => ⟨S1024x2816, .f32⟩
  | 61 => ⟨S32768x2816, .f32⟩
  | 62 => ⟨S32768x2816, .f32⟩
  | 63 => ⟨S32768x2816, .f32⟩
  | 64 => ⟨S_, .f32⟩
  | 65 => ⟨S32768x2816, .f32⟩
  | 66 => ⟨S32768x2816, .f32⟩
  | 67 => ⟨S_, .f32⟩
  | 68 => ⟨S32768x2816, .f32⟩
  | 69 => ⟨S32768x2816, .f32⟩
  | 70 => ⟨S32768x2816, .f32⟩
  | 71 => ⟨S1x1024x2816, .f32⟩
  | 72 => ⟨S1024x2816, .f32⟩
  | 73 => ⟨S32768x2816, .f32⟩
  | 74 => ⟨S32768x2816, .f32⟩
  | 75 => ⟨S1x2816x1024, .f32⟩
  | 76 => ⟨S2816x1024, .f32⟩
  | 77 => ⟨S32768x1024, .f32⟩
  | 78 => ⟨S32768x1024, .f32⟩
  | 79 => ⟨S32768x1024, .f32⟩
  | 80 => ⟨S32768x1024, .f32⟩
  | 81 => ⟨S32768x1, .f32⟩
  | 82 => ⟨S1x1024x2816, .f32⟩
  | 83 => ⟨S1024x2816, .f32⟩
  | 84 => ⟨S32768x2816, .f32⟩
  | 85 => ⟨S32768x2816, .f32⟩
  | 86 => ⟨S32768x2816, .f32⟩
  | 87 => ⟨S_, .f32⟩
  | 88 => ⟨S32768x2816, .f32⟩
  | 89 => ⟨S32768x2816, .f32⟩
  | 90 => ⟨S_, .f32⟩
  | 91 => ⟨S32768x2816, .f32⟩
  | 92 => ⟨S32768x2816, .f32⟩
  | 93 => ⟨S32768x2816, .f32⟩
  | 94 => ⟨S1x1024x2816, .f32⟩
  | 95 => ⟨S1024x2816, .f32⟩
  | 96 => ⟨S32768x2816, .f32⟩
  | 97 => ⟨S32768x2816, .f32⟩
  | 98 => ⟨S1x2816x1024, .f32⟩
  | 99 => ⟨S2816x1024, .f32⟩
  | 100 => ⟨S32768x1024, .f32⟩
  | 101 => ⟨S32768x1024, .f32⟩
  | 102 => ⟨S32768x1024, .f32⟩
  | 103 => ⟨S32768x1024, .f32⟩
  | 104 => ⟨S32768x1, .f32⟩
  | 105 => ⟨S1x1024x2816, .f32⟩
  | 106 => ⟨S1024x2816, .f32⟩
  | 107 => ⟨S32768x2816, .f32⟩
  | 108 => ⟨S32768x2816, .f32⟩
  | 109 => ⟨S32768x2816, .f32⟩
  | 110 => ⟨S_, .f32⟩
  | 111 => ⟨S32768x2816, .f32⟩
  | 112 => ⟨S32768x2816, .f32⟩
  | 113 => ⟨S_, .f32⟩
  | 114 => ⟨S32768x2816, .f32⟩
  | 115 => ⟨S32768x2816, .f32⟩
  | 116 => ⟨S32768x2816, .f32⟩
  | 117 => ⟨S1x1024x2816, .f32⟩
  | 118 => ⟨S1024x2816, .f32⟩
  | 119 => ⟨S32768x2816, .f32⟩
  | 120 => ⟨S32768x2816, .f32⟩
  | 121 => ⟨S1x2816x1024, .f32⟩
  | 122 => ⟨S2816x1024, .f32⟩
  | 123 => ⟨S32768x1024, .f32⟩
  | 124 => ⟨S32768x1024, .f32⟩
  | 125 => ⟨S32768x1024, .f32⟩
  | 126 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_1 : Ref sig .tc := ⟨.hbm, 20, rfl⟩
abbrev main_call0_v5 : Ref sig .tc := ⟨.hbm, 21, rfl⟩
abbrev main_call0_v6 : Ref sig .tc := ⟨.hbm, 22, rfl⟩
abbrev main_call0_c_2 : Ref sig .tc := ⟨.hbm, 23, rfl⟩
abbrev main_call0_v7 : Ref sig .tc := ⟨.hbm, 24, rfl⟩
abbrev main_call0_v8 : Ref sig .tc := ⟨.hbm, 25, rfl⟩
abbrev main_call0_c_3 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_v5 : Ref sig .tc := ⟨.hbm, 33, rfl⟩
abbrev main_c_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_c : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_0 : Ref sig .tc := ⟨.hbm, 48, rfl⟩
abbrev main_call1_v12 : Ref sig .tc := ⟨.hbm, 49, rfl⟩
abbrev main_call1_v13 : Ref sig .tc := ⟨.hbm, 50, rfl⟩
abbrev main_v6 : Ref sig .tc := ⟨.hbm, 51, rfl⟩
abbrev main_c_1 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_v11 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_cst_2 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_call4_v0 : Ref sig .tc := ⟨.hbm, 75, rfl⟩
abbrev main_call4_v1 : Ref sig .tc := ⟨.hbm, 76, rfl⟩
abbrev main_call4_cst : Ref sig .tc := ⟨.hbm, 77, rfl⟩
abbrev main_call4_v2 : Ref sig .tc := ⟨.hbm, 78, rfl⟩
abbrev main_call4_v3 : Ref sig .tc := ⟨.hbm, 79, rfl⟩
abbrev main_call4_cst_0 : Ref sig .tc := ⟨.hbm, 80, rfl⟩
abbrev main_call4_v4 : Ref sig .tc := ⟨.hbm, 81, rfl⟩
abbrev main_call4_v5 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_call5_v0 : Ref sig .tc := ⟨.hbm, 98, rfl⟩
abbrev main_call5_v1 : Ref sig .tc := ⟨.hbm, 99, rfl⟩
abbrev main_call5_cst : Ref sig .tc := ⟨.hbm, 100, rfl⟩
abbrev main_call5_v2 : Ref sig .tc := ⟨.hbm, 101, rfl⟩
abbrev main_call5_v3 : Ref sig .tc := ⟨.hbm, 102, rfl⟩
abbrev main_call5_cst_0 : Ref sig .tc := ⟨.hbm, 103, rfl⟩
abbrev main_call5_v4 : Ref sig .tc := ⟨.hbm, 104, rfl⟩
abbrev main_call5_v5 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_call6_v0 : Ref sig .tc := ⟨.hbm, 121, rfl⟩
abbrev main_call6_v1 : Ref sig .tc := ⟨.hbm, 122, rfl⟩
abbrev main_call6_cst : Ref sig .tc := ⟨.hbm, 123, rfl⟩
abbrev main_call6_v2 : Ref sig .tc := ⟨.hbm, 124, rfl⟩
abbrev main_call6_v3 : Ref sig .tc := ⟨.hbm, 125, rfl⟩
abbrev main_call6_cst_0 : Ref sig .tc := ⟨.hbm, 126, rfl⟩
abbrev main_call6_v4 : Ref sig .tc := ⟨.hbm, 127, rfl⟩
abbrev main_call6_v5 : Ref sig .tc := ⟨.hbm, 128, rfl⟩
abbrev main_v50 : Ref sig .tc := ⟨.hbm, 129, rfl⟩
abbrev main_v51 : Ref sig .tc := ⟨.hbm, 130, rfl⟩
abbrev main_v52 : Ref sig .tc := ⟨.hbm, 131, rfl⟩
abbrev main_v53 : Ref sig .tc := ⟨.hbm, 132, rfl⟩
abbrev main_v54 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_v77 : Ref sig .tc := ⟨.hbm, 164, rfl⟩
abbrev main_v78 : Ref sig .tc := ⟨.hbm, 165, rfl⟩
abbrev main_v79 : Ref sig .tc := ⟨.hbm, 166, rfl⟩
abbrev main_call8_v0 : Ref sig .tc := ⟨.hbm, 167, rfl⟩
abbrev main_call8_v1 : Ref sig .tc := ⟨.hbm, 168, rfl⟩
abbrev main_call8_cst : Ref sig .tc := ⟨.hbm, 169, rfl⟩
abbrev main_call8_v2 : Ref sig .tc := ⟨.hbm, 170, rfl⟩
abbrev main_call8_v3 : Ref sig .tc := ⟨.hbm, 171, rfl⟩
abbrev main_call8_cst_0 : Ref sig .tc := ⟨.hbm, 172, rfl⟩
abbrev main_call8_v4 : Ref sig .tc := ⟨.hbm, 173, rfl⟩
abbrev main_call8_v5 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_call10_v0 : Ref sig .tc := ⟨.hbm, 213, rfl⟩
abbrev main_call10_v1 : Ref sig .tc := ⟨.hbm, 214, rfl⟩
abbrev main_call10_cst : Ref sig .tc := ⟨.hbm, 215, rfl⟩
abbrev main_call10_v2 : Ref sig .tc := ⟨.hbm, 216, rfl⟩
abbrev main_call10_v3 : Ref sig .tc := ⟨.hbm, 217, rfl⟩
abbrev main_call10_cst_0 : Ref sig .tc := ⟨.hbm, 218, rfl⟩
abbrev main_call10_v4 : Ref sig .tc := ⟨.hbm, 219, rfl⟩
abbrev main_call10_v5 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_v118 : Ref sig .tc := ⟨.hbm, 229, rfl⟩
abbrev main_v119 : Ref sig .tc := ⟨.hbm, 230, rfl⟩
abbrev main_v120 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_call11_v0 : Ref sig .tc := ⟨.hbm, 236, rfl⟩
abbrev main_call11_v1 : Ref sig .tc := ⟨.hbm, 237, rfl⟩
abbrev main_call11_cst : Ref sig .tc := ⟨.hbm, 238, rfl⟩
abbrev main_call11_v2 : Ref sig .tc := ⟨.hbm, 239, rfl⟩
abbrev main_call11_v3 : Ref sig .tc := ⟨.hbm, 240, rfl⟩
abbrev main_call11_cst_0 : Ref sig .tc := ⟨.hbm, 241, rfl⟩
abbrev main_call11_v4 : Ref sig .tc := ⟨.hbm, 242, rfl⟩
abbrev main_call11_v5 : Ref sig .tc := ⟨.hbm, 243, rfl⟩
abbrev main_v125 : Ref sig .tc := ⟨.hbm, 244, rfl⟩
abbrev main_v126 : Ref sig .tc := ⟨.hbm, 245, rfl⟩
abbrev main_v127 : Ref sig .tc := ⟨.hbm, 246, rfl⟩
abbrev main_v128 : Ref sig .tc := ⟨.hbm, 247, rfl⟩
abbrev main_v129 : Ref sig .tc := ⟨.hbm, 248, rfl⟩
abbrev main_v130 : Ref sig .tc := ⟨.hbm, 249, rfl⟩
abbrev main_v131 : Ref sig .tc := ⟨.hbm, 250, rfl⟩
abbrev main_v132 : Ref sig .tc := ⟨.hbm, 251, rfl⟩
abbrev main_v133 : Ref sig .tc := ⟨.hbm, 252, rfl⟩
abbrev main_v134 : Ref sig .tc := ⟨.hbm, 253, rfl⟩
abbrev main_v135 : Ref sig .tc := ⟨.hbm, 254, rfl⟩

abbrev nD : Nat := 1
abbrev τ : Topo := Topo.v7x

variable {F : FTy → Type} [FloatOps F]
-- ==== Qkv.lean ====
abbrev S12288x1024 : Shape := ⟨2, ![12288, 1024]⟩
abbrev S1024x3072 : Shape := ⟨2, ![1024, 3072]⟩
abbrev S1024 : Shape := ⟨1, ![1024]⟩
abbrev S3x6x1x1024 : Shape := ⟨4, ![3, 6, 1, 1024]⟩
abbrev S1x1024 : Shape := ⟨2, ![1, 1024]⟩
abbrev S3x12288x1024 : Shape := ⟨3, ![3, 12288, 1024]⟩
abbrev S1024x1024 : Shape := ⟨2, ![1024, 1024]⟩
abbrev S1x1x1x1024 : Shape := ⟨4, ![1, 1, 1, 1024]⟩
abbrev S1x1024x1024 : Shape := ⟨3, ![1, 1024, 1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S12288x1024, .f32⟩
  | .hbm, ⟨1, _⟩ => ⟨S1024x3072, .f32⟩
  | .hbm, ⟨2, _⟩ => ⟨S1024, .f32⟩
  | .hbm, ⟨3, _⟩ => ⟨S3x6x1x1024, .f32⟩
  | .hbm, ⟨4, _⟩ => ⟨S1x1024, .f32⟩
  | .hbm, ⟨5, _⟩ => ⟨S3x12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1024x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![v20.toNat, c0_i32_7.toNat, c0_i32_8.toNat, c0_i32_9.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![v20.toNat, c1_i32_7.toNat, c0_i32_8.toNat, c0_i32_9.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvRefIdeal.lean ====
abbrev S12288x1024 : Shape := ⟨2, ![12288, 1024]⟩
abbrev S1024x3072 : Shape := ⟨2, ![1024, 3072]⟩
abbrev S1024 : Shape := ⟨1, ![1024]⟩
abbrev S3x6x1x1024 : Shape := ⟨4, ![3, 6, 1, 1024]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S1x1x1x1024 : Shape := ⟨4, ![1, 1, 1, 1024]⟩
abbrev S1x1024 : Shape := ⟨2, ![1, 1024]⟩
abbrev S2x1x1x1024 : Shape := ⟨4, ![2, 1, 1, 1024]⟩
abbrev S2x1x1024 : Shape := ⟨3, ![2, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S2x2048 : Shape := ⟨2, ![2, 2048]⟩
abbrev S2x2048x1 : Shape := ⟨3, ![2, 2048, 1]⟩
abbrev S32x256x3072 : Shape := ⟨3, ![32, 256, 3072]⟩
abbrev S8192x3x1024 : Shape := ⟨3, ![8192, 3, 1024]⟩
abbrev S2x2048x3072 : Shape := ⟨3, ![2, 2048, 3072]⟩
abbrev S4096x3x1024 : Shape := ⟨3, ![4096, 3, 1024]⟩
abbrev S12288x3x1024 : Shape := ⟨3, ![12288, 3, 1024]⟩
abbrev S3x12288x1024 : Shape := ⟨3, ![3, 12288, 1024]⟩

abbrev nBuf : Space → Nat
  | .hbm => 86
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1024x3072, .f32⟩
  | .hbm, ⟨2, _⟩ => ⟨S1024, .f32⟩
  | .hbm, ⟨3, _⟩ => ⟨S3x6x1x1024, .f32⟩
  | .hbm, ⟨4, _⟩ => ⟨S8192x1024, .f32⟩
  | .hbm, ⟨5, _⟩ => ⟨S32x256x1024, .f32⟩
  | .hbm, ⟨6, _⟩ => ⟨S4096x1024, .f32⟩
  | .hbm, ⟨7, _⟩ => ⟨S2x2048x1024, .f32⟩
  | .hbm, ⟨8, _⟩ => ⟨S1x1x1x1024, .f32⟩
  | .hbm, ⟨9, _⟩ => ⟨S1x1024, .f32⟩
  | .hbm, ⟨10, _⟩ => ⟨S1x1x1x1024, .f32⟩
  | .hbm, ⟨11, _⟩ => ⟨S1x1024, .f32⟩
  | .hbm, ⟨12, _⟩ => ⟨S1x1x1x1024, .f32⟩
  | .hbm, ⟨13, _⟩ => ⟨S1x1024, .f32⟩
  | .hbm, ⟨14, _⟩ => ⟨S1x1x1x1024, .f32⟩
  | .hbm, ⟨15, _⟩ => ⟨S1x1024, .f32⟩
  | .hbm, ⟨16, _⟩ => ⟨S1x1x1x1024, .f32⟩
  | .hbm, ⟨17, _⟩ => ⟨S1x1024, .f32⟩
  | .hbm, ⟨18, _⟩ => ⟨S1x1x1x1024, .f32⟩
  | .hbm, ⟨19, _⟩ => ⟨S1x1024, .f32⟩
  | .hbm, ⟨20, _⟩ => ⟨S2x1x1x1024, .f32⟩
  | .hbm, ⟨21, _⟩ => ⟨S2x1x1024, .f32⟩
  | .hbm, ⟨22, _⟩ => ⟨S2x1x1x1024, .f32⟩
  | .hbm, ⟨23, _⟩ => ⟨S2x1x1024, .f32⟩
  | .hbm, ⟨24, _⟩ => ⟨S2x1x1x1024, .f32⟩
  | .hbm, ⟨25, _⟩ => ⟨S2x1x1024, .f32⟩
  | .hbm, ⟨26, _⟩ => ⟨S2x1x1x1024, .f32⟩
  | .hbm, ⟨27, _⟩ => ⟨S2x1x1024, .f32⟩
  | .hbm, ⟨28, _⟩ => ⟨S2x1x1x1024, .f32⟩
  | .hbm, ⟨29, _⟩ => ⟨S2x1x1024, .f32⟩
  | .hbm, ⟨30, _⟩ => ⟨S2x1x1x1024, .f32⟩
  | .hbm, ⟨31, _⟩ => ⟨S2x1x1024, .f32⟩
  | .hbm, ⟨32, _⟩ => ⟨S32x256x1024, .f32⟩
  | .hbm, ⟨33, _⟩ => ⟨S_, .f32⟩
  | .hbm, ⟨34, _⟩ => ⟨S32x256, .f32⟩
  | .hbm, ⟨35, _⟩ => ⟨S32x256x1, .f32⟩
  | .hbm, ⟨36, _⟩ => ⟨S_, .f32⟩
  | .hbm, ⟨37, _⟩ => ⟨S32x256x1, .f32⟩
  | .hbm, ⟨38, _⟩ => ⟨S32x256x1, .f32⟩
  | .hbm, ⟨39, _⟩ => ⟨S_, .f32⟩
  | .hbm, ⟨40, _⟩ => ⟨S32x256x1, .f32⟩
  | .hbm, ⟨41, _⟩ => ⟨S32x256x1, .f32⟩
  | .hbm, ⟨42, _⟩ => ⟨S32x256x1, .f32⟩
  | .hbm, ⟨43, _⟩ => ⟨S32x256x1024, .f32⟩
  | .hbm, ⟨44, _⟩ => ⟨S32x256x1024, .f32⟩
  | .hbm, ⟨45, _⟩ => ⟨S1x1x1024, .f32⟩
  | .hbm, ⟨46, _⟩ => ⟨S32x256x1024, .f32⟩
  | .hbm, ⟨47, _⟩ => ⟨S32x256x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1x1024, .f32⟩
  | .hbm, ⟨52, _⟩ => ⟨S32x256x1024, .f32⟩
  | .hbm, ⟨53, _⟩ => ⟨S32x256x1024, .f32⟩
  | .hbm, ⟨54, _⟩ => ⟨S1x1x1024, .f32⟩
  | .hbm, ⟨55, _⟩ => ⟨S32x256x1024, .f32⟩
  | .hbm, ⟨56, _⟩ => ⟨S32x256x1024, .f32⟩
  | .hbm, ⟨57, _⟩ => ⟨S2x2048x1024, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S_, .f32⟩
  | .hbm, ⟨62, _⟩ => ⟨S2x2048x1, .f32⟩
  | .hbm, ⟨63, _⟩ => ⟨S2x2048x1, .f32⟩
  | .hbm, ⟨64, _⟩ => ⟨S_, .f32⟩
  | .hbm, ⟨65, _⟩ => ⟨S2x2048x1, .f32⟩
  | .hbm, ⟨66, _⟩ => ⟨S2x2048x1, .f32⟩
  | .hbm, ⟨67, _⟩ => ⟨S2x2048x1, .f32⟩
  | .hbm, ⟨68, _⟩ => ⟨S2x2048x1024, .f32⟩
  | .hbm, ⟨69, _⟩ => ⟨S2x2048x1024, .f32⟩
  | .hbm, ⟨70, _⟩ => ⟨S1x1x1024, .f32⟩
  | .hbm, ⟨71, _⟩ => ⟨S2x2048x1024, .f32⟩
  | .hbm, ⟨72, _⟩ => ⟨S2x2048x1024, .f32⟩
  | .hbm, ⟨73, _⟩ => ⟨S_, .f32⟩
  | .hbm, ⟨74, _⟩ => ⟨S2x1x1024, .f32⟩
  | .hbm, ⟨75, _⟩ => ⟨S2x1x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S32x256x3072, .f32⟩
  | .hbm, ⟨81, _⟩ => ⟨S8192x3x1024, .f32⟩
  | .hbm, ⟨82, _⟩ => ⟨S2x2048x3072, .f32⟩
  | .hbm, ⟨83, _⟩ => ⟨S4096x3x1024, .f32⟩
  | .hbm, ⟨84, _⟩ => ⟨S12288x3x1024, .f32⟩
  | .hbm, ⟨85, _⟩ => ⟨S3x12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_3 : Ref sig .tc := ⟨.hbm, 58, rfl⟩
abbrev main_v50 : Ref sig .tc := ⟨.hbm, 59, rfl⟩
abbrev main_v51 : Ref sig .tc := ⟨.hbm, 60, rfl⟩
abbrev main_cst_4 : Ref sig .tc := ⟨.hbm, 61, rfl⟩
abbrev main_v52 : Ref sig .tc := ⟨.hbm, 62, rfl⟩
abbrev main_v53 : Ref sig .tc := ⟨.hbm, 63, rfl⟩
abbrev main_cst_5 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩

abbrev nD : Nat := 1
abbrev τ : Topo := Topo.v7x

variable {F : FTy → Type} [FloatOps F]
-- ==== NormPrompt.lean ====
abbrev S12288x1024 : Shape := ⟨2, ![12288, 1024]⟩
abbrev S1024 : Shape := ⟨1, ![1024]⟩
abbrev S_ : Shape := ⟨0, ![]⟩
abbrev S1x2x1x1024 : Shape := ⟨4, ![1, 2, 1, 1024]⟩
abbrev S1x1024 : Shape := ⟨2, ![1, 1024]⟩
abbrev S8192x1024 : Shape := ⟨2, ![8192, 1024]⟩
abbrev S1024x1024 : Shape := ⟨2, ![1024, 1024]⟩
abbrev S1x1x1x1024 : Shape := ⟨4, ![1, 1, 1, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S12288x1024, .f32⟩
  | .hbm, ⟨1, _⟩ => ⟨S1024, .f32⟩
  | .hbm, ⟨2, _⟩ => ⟨S_, .f32⟩
  | .hbm, ⟨3, _⟩ => ⟨S1x2x1x1024, .f32⟩
  | .hbm, ⟨4, _⟩ => ⟨S1x1024, .f32⟩
  | .hbm, ⟨5, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1024x1024, .f32⟩
  | .local _ .vmem, ⟨6, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormPromptRefIdeal.lean ====
abbrev S12288x1024 : Shape := ⟨2, ![12288, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormSample.lean ====
abbrev S12288x1024 : Shape := ⟨2, ![12288, 1024]⟩
abbrev S1024 : Shape := ⟨1, ![1024]⟩
abbrev S_ : Shape := ⟨0, ![]⟩
abbrev S1x2x1x1024 : Shape := ⟨4, ![1, 2, 1, 1024]⟩
abbrev S1x1024 : Shape := ⟨2, ![1, 1024]⟩
abbrev S4096x1024 : Shape := ⟨2, ![4096, 1024]⟩
abbrev S1024x1024 : Shape := ⟨2, ![1024, 1024]⟩
abbrev S1x1x1x1024 : Shape := ⟨4, ![1, 1, 1, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S12288x1024, .f32⟩
  | .hbm, ⟨1, _⟩ => ⟨S1024, .f32⟩
  | .hbm, ⟨2, _⟩ => ⟨S_, .f32⟩
  | .hbm, ⟨3, _⟩ => ⟨S1x2x1x1024, .f32⟩
  | .hbm, ⟨4, _⟩ => ⟨S1x1024, .f32⟩
  | .hbm, ⟨5, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1024x1024, .f32⟩
  | .local _ .vmem, ⟨6, _⟩ => ⟨S1024x1024, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormSampleRefIdeal.lean ====
abbrev S12288x1024 : Shape := ⟨2, ![12288, 1024]⟩
abbrev S1024 : Shape := ⟨1, ![1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== MlaA.lean ====
abbrev S12288x1024 : Shape := ⟨2, ![12288, 1024]⟩
abbrev S1024x512 : Shape := ⟨2, ![1024, 512]⟩
abbrev S1024x320 : Shape := ⟨2, ![1024, 320]⟩
abbrev S1024 : Shape := ⟨1, ![1024]⟩
abbrev S3x6x1x1024 : Shape := ⟨4, ![3, 6, 1, 1024]⟩
abbrev S_ : Shape := ⟨0, ![]⟩
abbrev S1024x1024 : Shape := ⟨2, ![1024, 1024]⟩
abbrev S1x1024 : Shape := ⟨2, ![1, 1024]⟩
abbrev S1x1x1x1024 : Shape := ⟨4, ![1, 1, 1, 1024]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S12288x1024, .f32⟩
  | .hbm, ⟨1, _⟩ => ⟨S1024x512, .f32⟩
  | .hbm, ⟨2, _⟩ => ⟨S1024x320, .f32⟩
  | .hbm, ⟨3, _⟩ => ⟨S1024, .f32⟩
  | .hbm, ⟨4, _⟩ => ⟨S3x6x1x1024, .f32⟩
  | .hbm, ⟨5, _⟩ => ⟨S_, .i32⟩
  | .hbm, ⟨6, _⟩ => ⟨S_, .f32⟩
  | .hbm, ⟨7, _⟩ => ⟨S1024x512, .f32⟩
  | .hbm, ⟨8, _⟩ => ⟨S1024x1024, .f32⟩
  | .hbm, ⟨9, _⟩ => ⟨S1x1024, .f32⟩
  | .hbm, ⟨10, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c0_i32_7 : BitVec 32 := 0#32
  let c0_i32_8 : BitVec 32 := 0#32
  let c0_i32_9 : BitVec 32 := 0#32
  let c0_i32_10 : BitVec 32 := 0#32
  ![v20.toNat, c0_i32_7.toNat, c0_i32_8.toNat, c0_i32_9.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c1_i32_7 : BitVec 32 := 1#32
  let c0_i32_8 : BitVec 32 := 0#32
  let c0_i32_9 : BitVec 32 := 0#32
  let c0_i32_10 : BitVec 32 := 0#32
  ![v20.toNat, c1_i32_7.toNat, c0_i32_8.toNat, c0_i32_9.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MlaARefIdeal.lean ====
abbrev S12288x1024 : Shape := ⟨2, ![12288, 1024]⟩
abbrev S1024x512 : Shape := ⟨2, ![1024, 512]⟩
abbrev S1024x320 : Shape := ⟨2, ![1024, 320]⟩
abbrev S1024 : Shape := ⟨1, ![1024]⟩
abbrev S3x6x1x1024 : Shape := ⟨4, ![3, 6, 1, 1024]⟩
abbrev S8192x1024 : Shape := ⟨2, ![8192, 1024]⟩
abbrev S32x256x1024 : Shape := ⟨3, ![32, 256, 1024]⟩
abbrev S4096x1024 : Shape := ⟨2, ![4096, 1024]⟩
abbrev S2x2048x1024 : Shape := ⟨3, ![2, 2048, 1024]⟩
abbrev S1x1x1x1024 : Shape := ⟨4, ![1, 1, 1, 1024]⟩
abbrev S1x1024 : Shape := ⟨2, ![1, 1024]⟩
abbrev S2x1x1x1024 : Shape := ⟨4, ![2, 1, 1, 1024]⟩
abbrev S2x1x1024 : Shape := ⟨3, ![2, 1, 1024]⟩
abbrev S_ : Shape := ⟨0, ![]⟩
abbrev S32x256 : Shape := ⟨2, ![32, 256]⟩
abbrev S32x256x1 : Shape := ⟨3, ![32, 256, 1]⟩
abbrev S1x1x1024 : Shape := ⟨3, ![1, 1, 1024]⟩
abbrev S2x2048 : Shape := ⟨2, ![2, 2048]⟩
abbrev S2x2048x1 : Shape := ⟨3, ![2, 2048, 1]⟩
abbrev S32x256x512 : Shape := ⟨3, ![32, 256, 512]⟩
abbrev S8192x512 : Shape := ⟨2, ![8192, 512]⟩
abbrev S2x2048x512 : Shape := ⟨3, ![2, 2048, 512]⟩
abbrev S4096x512 : Shape := ⟨2, ![4096, 512]⟩
abbrev S12288x512 : Shape := ⟨2, ![12288, 512]⟩
abbrev S32x256x320 : Shape := ⟨3, ![32, 256, 320]⟩
abbrev S8192x320 : Shape := ⟨2, ![8192, 320]⟩
abbrev S2x2048x320 : Shape := ⟨3, ![2, 2048, 320]⟩
abbrev S4096x320 : Shape := ⟨2, ![4096, 320]⟩
abbrev S12288x320 : Shape := ⟨2, ![12288, 320]⟩
abbrev S12288x192 : Shape := ⟨2, ![12288, 192]⟩

abbrev nBuf : Space → Nat
  | .hbm => 94
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S1024x512, .f32⟩
  | .hbm, ⟨2, _⟩ => ⟨S1024x320, .f32⟩
  | .hbm, ⟨3, _⟩ => ⟨S1024, .f32⟩
  | .hbm, ⟨4, _⟩ => ⟨S3x6x1x1024, .f32⟩
  | .hbm, ⟨5, _⟩ => ⟨S8192x1024, .f32⟩
  | .hbm, ⟨6, _⟩ => ⟨S32x256x1024, .f32⟩
  | .hbm, ⟨7, _⟩ => ⟨S4096x1024, .f32⟩
  | .hbm, ⟨8, _⟩ => ⟨S2x2048x1024, .f32⟩
  | .hbm, ⟨9, _⟩ => ⟨S1x1x1x1024, .f32⟩
  | .hbm, ⟨10, _⟩ => ⟨S1x1024, .f32⟩
  | .hbm, ⟨11, _⟩ => ⟨S1x1x1x1024, .f32⟩
  | .hbm, ⟨12, _⟩ => ⟨S1x1024, .f32⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S1x1x1x1024, .f32⟩
  | .hbm, ⟨18, _⟩ => ⟨S1x1024, .f32⟩
  | .hbm, ⟨19, _⟩ => ⟨S1x1x1x1024, .f32⟩
  | .hbm, ⟨20, _⟩ => ⟨S1x1024, .f32⟩
  | .hbm, ⟨21, _⟩ => ⟨S2x1x1x1024, .f32⟩
  | .hbm, ⟨22, _⟩ => ⟨S2x1x1024, .f32⟩
  | .hbm, ⟨23, _⟩ => ⟨S2x1x1x1024, .f32⟩
  | .hbm, ⟨24, _⟩ => ⟨S2x1x1024, .f32⟩
  | .hbm, ⟨25, _⟩ => ⟨S2x1x1x1024, .f32⟩
  | .hbm, ⟨26, _⟩ => ⟨S2x1x1024, .f32⟩
  | .hbm, ⟨27, _⟩ => ⟨S2x1x1x1024, .f32⟩
  | .hbm, ⟨28, _⟩ => ⟨S2x1x1024, .f32⟩
  | .hbm, ⟨29, _⟩ => ⟨S2x1x1x1024, .f32⟩
  | .hbm, ⟨30, _⟩ => ⟨S2x1x1024, .f32⟩
  | .hbm, ⟨31, _⟩ => ⟨S2x1x1x1024, .f32⟩
  | .hbm, ⟨32, _⟩ => ⟨S2x1x1024, .f32⟩
  | .hbm, ⟨33, _⟩ => ⟨S32x256x1024, .f32⟩
  | .hbm, ⟨34, _⟩ => ⟨S_, .f32⟩
  | .hbm, ⟨35, _⟩ => ⟨S32x256, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S_, .f32⟩
  | .hbm, ⟨41, _⟩ => ⟨S32x256x1, .f32⟩
  | .hbm, ⟨42, _⟩ => ⟨S32x256x1, .f32⟩
  | .hbm, ⟨43, _⟩ => ⟨S32x256x1, .f32⟩
  | .hbm, ⟨44, _⟩ => ⟨S32x256x1024, .f32⟩
  | .hbm, ⟨45, _⟩ => ⟨S32x256x1024, .f32⟩
  | .hbm, ⟨46, _⟩ => ⟨S1x1x1024, .f32⟩
  | .hbm, ⟨47, _⟩ => ⟨S32x256x1024, .f32⟩
  | .hbm, ⟨48, _⟩ => ⟨S32x256x1024, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S1x1x1024, .f32⟩
  | .hbm, ⟨53, _⟩ => ⟨S32x256x1024, .f32⟩
  | .hbm, ⟨54, _⟩ => ⟨S32x256x1024, .f32⟩
  | .hbm, ⟨55, _⟩ => ⟨S1x1x1024, .f32⟩
  | .hbm, ⟨56, _⟩ => ⟨S32x256x1024, .f32⟩
  | .hbm, ⟨57, _⟩ => ⟨S32x256x1024, .f32⟩
  | .hbm, ⟨58, _⟩ => ⟨S2x2048x1024, .f32⟩
  | .hbm, ⟨59, _⟩ => ⟨S_, .f32⟩
  | .hbm, ⟨60, _⟩ => ⟨S2x2048, .f32⟩
  | .hbm, ⟨61, _⟩ => ⟨S2x2048x1, .f32⟩
  | .hbm, ⟨62, _⟩ => ⟨S_, .f32⟩
  | .hbm, ⟨63, _⟩ => ⟨S2x2048x1, .f32⟩
  | .hbm, ⟨64, _⟩ => ⟨S2x2048x1, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S2x2048x1, .f32⟩
  | .hbm, ⟨69, _⟩ => ⟨S2x2048x1024, .f32⟩
  | .hbm, ⟨70, _⟩ => ⟨S2x2048x1024, .f32⟩
  | .hbm, ⟨71, _⟩ => ⟨S1x1x1024, .f32⟩
  | .hbm, ⟨72, _⟩ => ⟨S2x2048x1024, .f32⟩
  | .hbm, ⟨73, _⟩ => ⟨S2x2048x1024, .f32⟩
  | .hbm, ⟨74, _⟩ => ⟨S_, .f32⟩
  | .hbm, ⟨75, _⟩ => ⟨S2x1x1024, .f32⟩
  | .hbm, ⟨76, _⟩ => ⟨S2x1x1024, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S32x256x512, .f32⟩
  | .hbm, ⟨82, _⟩ => ⟨S8192x512, .f32⟩
  | .hbm, ⟨83, _⟩ => ⟨S2x2048x512, .f32⟩
  | .hbm, ⟨84, _⟩ => ⟨S4096x512, .f32⟩
  | .hbm, ⟨85, _⟩ => ⟨S12288x512, .f32⟩
  | .hbm, ⟨86, _⟩ => ⟨S32x256x320, .f32⟩
  | .hbm, ⟨87, _⟩ => ⟨S8192x320, .f32⟩
  | .hbm, ⟨88, _⟩ => ⟨S2x2048x320, .f32⟩
  | .hbm, ⟨89, _⟩ => ⟨S4096x320, .f32⟩
  | .hbm, ⟨90, _⟩ => ⟨S12288x320, .f32⟩
  | .hbm, ⟨91, _⟩ => ⟨S_, .f32⟩
  | .hbm, ⟨92, _⟩ => ⟨S12288x192, .f32⟩
  | .hbm, ⟨93, _⟩ => ⟨S12288x1024, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_cst_1 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_2 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_3 : Ref sig .tc := ⟨.hbm, 59, rfl⟩
abbrev main_v50 : Ref sig .tc := ⟨.hbm, 60, rfl⟩
abbrev main_v51 : Ref sig .tc := ⟨.hbm, 61, rfl⟩
abbrev main_cst_4 : Ref sig .tc := ⟨.hbm, 62, rfl⟩
abbrev main_v52 : Ref sig .tc := ⟨.hbm, 63, rfl⟩
abbrev main_v53 : Ref sig .tc := ⟨.hbm, 64, rfl⟩
abbrev main_cst_5 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_cst_6 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_7 : Ref sig .tc := ⟨.hbm, 91, rfl⟩
abbrev main_v78 : Ref sig .tc := ⟨.hbm, 92, rfl⟩
abbrev main_v79 : Ref sig .tc := ⟨.hbm, 93, rfl⟩

abbrev nD : Nat := 1
abbrev τ : Topo := Topo.v7x

variable {F : FTy → Type} [FloatOps F]
-- ==== MlaCkv.lean ====
abbrev S12288x1024 : Shape := ⟨2, ![12288, 1024]⟩
abbrev S256 : Shape := ⟨1, ![256]⟩
abbrev S_ : Shape := ⟨0, ![]⟩
abbrev S1x2x1x256 : Shape := ⟨4, ![1, 2, 1, 256]⟩
abbrev S1x256 : Shape := ⟨2, ![1, 256]⟩
abbrev S12288x256 : Shape := ⟨2, ![12288, 256]⟩
abbrev S1024x256 : Shape := ⟨2, ![1024, 256]⟩
abbrev S1x1x1x256 : Shape := ⟨4, ![1, 1, 1, 256]⟩
abbrev S1024 : Shape := ⟨1, ![1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S12288x1024, .f32⟩
  | .hbm, ⟨1, _⟩ => ⟨S256, .f32⟩
  | .hbm, ⟨2, _⟩ => ⟨S_, .f32⟩
  | .hbm, ⟨3, _⟩ => ⟨S1x2x1x256, .f32⟩
  | .hbm, ⟨4, _⟩ => ⟨S1x256, .f32⟩
  | .hbm, ⟨5, _⟩ => ⟨S12288x256, .f32⟩
  | .local _ .vmem, ⟨0, _⟩ => ⟨S1024x256, .f32⟩
  | .local _ .vmem, ⟨1, _⟩ => ⟨S1024x256, .f32⟩
  | .local _ .vmem, ⟨2, _⟩ => ⟨S1x256, .f32⟩
  | .local _ .vmem, ⟨3, _⟩ => ⟨S1x1x1x256, .f32⟩
  | .local _ .vmem, ⟨4, _⟩ => ⟨S1x1x1x256, .f32⟩
  | .local _ .vmem, ⟨5, _⟩ => ⟨S1024x256, .f32⟩
  | .local _ .vmem, ⟨6, _⟩ => ⟨S1024x256, .f32⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c2_i32 : BitVec 32 := 2#32
  let c0_i32_0 : BitVec 32 := 0#32
  ![v0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlaCkvRefIdeal.lean ====
abbrev S12288x1024 : Shape := ⟨2, ![12288, 1024]⟩
abbrev S256 : Shape := ⟨1, ![256]⟩
abbrev S12288x256 : Shape := ⟨2, ![12288, 256]⟩
abbrev S_ : Shape := ⟨0, ![]⟩
abbrev S12288 : Shape := ⟨1, ![12288]⟩
abbrev S12288x1 : Shape := ⟨2, ![12288, 1]⟩
abbrev S1x256 : Shape := ⟨2, ![1, 256]⟩

abbrev nBuf : Space → Nat
  | .hbm => 19
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S256, .f32⟩
  | .hbm, ⟨2, _⟩ => ⟨S12288x256, .f32⟩
  | .hbm, ⟨3, _⟩ => ⟨S12288x256, .f32⟩
  | .hbm, ⟨4, _⟩ => ⟨S_, .f32⟩
  | .hbm, ⟨5, _⟩ => ⟨S12288, .f32⟩
  | .hbm, ⟨6, _⟩ => ⟨S12288x1, .f32⟩
  | .hbm, ⟨7, _⟩ => ⟨S_, .f32⟩
  | .hbm, ⟨8, _⟩ => ⟨S12288x1, .f32⟩
  | .hbm, ⟨9, _⟩ => ⟨S12288x1, .f32⟩
  | .hbm, ⟨10, _⟩ => ⟨S_, .f32⟩
  | .hbm, ⟨11, _⟩ => ⟨S12288x1, .f32⟩
  | .hbm, ⟨12, _⟩ => ⟨S12288x1, .f32⟩
  | .hbm, ⟨13, _⟩ => ⟨S12288x1, .f32⟩
  | .hbm, ⟨14, _⟩ => ⟨S12288x256, .f32⟩
  | .hbm, ⟨15, _⟩ => ⟨S12288x256, .f32⟩
  | .hbm, ⟨16, _⟩ => ⟨S1x256, .f32⟩
  | .hbm, ⟨17, _⟩ => ⟨S12288x256, .f32⟩
  | .hbm, ⟨18, _⟩ => ⟨S12288x256, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutProj.lean ====
abbrev S8192x1024 : Shape := ⟨2, ![8192, 1024]⟩
abbrev S4096x1024 : Shape := ⟨2, ![4096, 1024]⟩
abbrev S1024x1024 : Shape := ⟨2, ![1024, 1024]⟩
abbrev S12288x1024 : Shape := ⟨2, ![12288, 1024]⟩
abbrev S3x6x1x1024 : Shape := ⟨4, ![3, 6, 1, 1024]⟩
abbrev S1x1x1x1024 : Shape := ⟨4, ![1, 1, 1, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x1024, .f32⟩
  | .hbm, ⟨3, _⟩ => ⟨S12288x1024, .f32⟩
  | .hbm, ⟨4, _⟩ => ⟨S3x6x1x1024, .f32⟩
  | .hbm, ⟨5, _⟩ => ⟨S12288x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![12, 1], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg0 c8_i32
  let c8_i32_0 : BitVec 32 := 8#32
  let v1 : BitVec 32 := Scalar.subi arg0 c8_i32_0
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c2_i32 c0_i32_2
  let v9 : BitVec 32 := Scalar.extui v8
  let c0_i32_3 : BitVec 32 := 0#32
  let v10 : BitVec 1 := Scalar.cmpi .slt c2_i32 c0_i32_3
  let v11 : BitVec 32 := Scalar.extui v10
  let v12 : BitVec 32 := Scalar.subi v9 v11
  let v13 : BitVec 1 := Scalar.cmpi .ne v7 v12
  let v14 : BitVec 32 := Scalar.remsi v1 c2_i32
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c1_i32_5 : BitVec 32 := 1#32
  let v19 : BitVec 32 := Scalar.addi c1_i32_5 v18
  let c0_i32_6 : BitVec 32 := 0#32
  let v20 : BitVec 32 := Scalar.select v0 c0_i32_6 v19
  let c2_i32_7 : BitVec 32 := 2#32
  let c0_i32_8 : BitVec 32 := 0#32
  let c0_i32_9 : BitVec 32 := 0#32
  ![v20.toNat, c2_i32_7.toNat, c0_i32_8.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutProjRefIdeal.lean ====
abbrev S8192x1024 : Shape := ⟨2, ![8192, 1024]⟩
abbrev S4096x1024 : Shape := ⟨2, ![4096, 1024]⟩
abbrev S1024x1024 : Shape := ⟨2, ![1024, 1024]⟩
abbrev S12288x1024 : Shape := ⟨2, ![12288, 1024]⟩
abbrev S3x6x1x1024 : Shape := ⟨4, ![3, 6, 1, 1024]⟩
abbrev S32x256x1024 : Shape := ⟨3, ![32, 256, 1024]⟩
abbrev S2x2048x1024 : Shape := ⟨3, ![2, 2048, 1024]⟩
abbrev S1x1x1x1024 : Shape := ⟨4, ![1, 1, 1, 1024]⟩
abbrev S1x1024 : Shape := ⟨2, ![1, 1024]⟩
abbrev S1x1x1024 : Shape := ⟨3, ![1, 1, 1024]⟩
abbrev S2x1x1x1024 : Shape := ⟨4, ![2, 1, 1, 1024]⟩
abbrev S2x1x1024 : Shape := ⟨3, ![2, 1, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S1024x1024, .f32⟩
  | .hbm, ⟨3, _⟩ => ⟨S12288x1024, .f32⟩
  | .hbm, ⟨4, _⟩ => ⟨S3x6x1x1024, .f32⟩
  | .hbm, ⟨5, _⟩ => ⟨S8192x1024, .f32⟩
  | .hbm, ⟨6, _⟩ => ⟨S32x256x1024, .f32⟩
  | .hbm, ⟨7, _⟩ => ⟨S4096x1024, .f32⟩
  | .hbm, ⟨8, _⟩ => ⟨S2x2048x1024, .f32⟩
  | .hbm, ⟨9, _⟩ => ⟨S1x1x1x1024, .f32⟩
  | .hbm, ⟨10, _⟩ => ⟨S1x1024, .f32⟩
  | .hbm, ⟨11, _⟩ => ⟨S32x256x1024, .f32⟩
  | .hbm, ⟨12, _⟩ => ⟨S32x256x1024, .f32⟩
  | .hbm, ⟨13, _⟩ => ⟨S1x1x1024, .f32⟩
  | .hbm, ⟨14, _⟩ => ⟨S32x256x1024, .f32⟩
  | .hbm, ⟨15, _⟩ => ⟨S32x256x1024, .f32⟩
  | .hbm, ⟨16, _⟩ => ⟨S32x256x1024, .f32⟩
  | .hbm, ⟨17, _⟩ => ⟨S2x1x1x1024, .f32⟩
  | .hbm, ⟨18, _⟩ => ⟨S2x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S8192x1024, .f32⟩
  | .hbm, ⟨25, _⟩ => ⟨S4096x1024, .f32⟩
  | .hbm, ⟨26, _⟩ => ⟨S12288x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]
-- ==== MlaQ.lean ====
abbrev S12288x1024 : Shape := ⟨2, ![12288, 1024]⟩
abbrev S512x1536 : Shape := ⟨2, ![512, 1536]⟩
abbrev S512 : Shape := ⟨1, ![512]⟩
abbrev S512x8x192 : Shape := ⟨3, ![512, 8, 192]⟩
abbrev S_ : Shape := ⟨0, ![]⟩
abbrev S512x8x256 : Shape := ⟨3, ![512, 8, 256]⟩
abbrev S512x2048 : Shape := ⟨2, ![512, 2048]⟩
abbrev S1x512 : Shape := ⟨2, ![1, 512]⟩
abbrev S12288x2048 : Shape := ⟨2, ![12288, 2048]⟩
abbrev S1024x512 : Shape := ⟨2, ![1024, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S12288x1024, .f32⟩
  | .hbm, ⟨1, _⟩ => ⟨S512x1536, .f32⟩
  | .hbm, ⟨2, _⟩ => ⟨S512, .f32⟩
  | .hbm, ⟨3, _⟩ => ⟨S512x8x192, .f32⟩
  | .hbm, ⟨4, _⟩ => ⟨S_, .i32⟩
  | .hbm, ⟨5, _⟩ => ⟨S_, .f32⟩
  | .hbm, ⟨6, _⟩ => ⟨S512x8x256, .f32⟩
  | .hbm, ⟨7, _⟩ => ⟨S512x2048, .f32⟩
  | .hbm, ⟨8, _⟩ => ⟨S1x512, .f32⟩
  | .hbm, ⟨9, _⟩ => ⟨S12288x2048, .f32⟩
  | .local _ .vmem, ⟨0, _⟩ => ⟨S1024x512, .f32⟩
  | .local _ .vmem, ⟨1, _⟩ => ⟨S1024x512, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1024x1024, .f32⟩
  | .local _ .vmem, ⟨6, _⟩ => ⟨S1024x1024, .f32⟩
  | .local _ .vmem, ⟨7, _⟩ => ⟨S1024x512, .bf16⟩
  | _, _ => ⟨S12288x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MlaQRefIdeal.lean ====
abbrev S12288x1024 : Shape := ⟨2, ![12288, 1024]⟩
abbrev S512x1536 : Shape := ⟨2, ![512, 1536]⟩
abbrev S512 : Shape := ⟨1, ![512]⟩
abbrev S12288x512 : Shape := ⟨2, ![12288, 512]⟩
abbrev S_ : Shape := ⟨0, ![]⟩
abbrev S12288 : Shape := ⟨1, ![12288]⟩
abbrev S12288x1 : Shape := ⟨2, ![12288, 1]⟩
abbrev S1x512 : Shape := ⟨2, ![1, 512]⟩
abbrev S12288x1536 : Shape := ⟨2, ![12288, 1536]⟩
abbrev S12288x8x192 : Shape := ⟨3, ![12288, 8, 192]⟩
abbrev S12288x8x256 : Shape := ⟨3, ![12288, 8, 256]⟩
abbrev S12288x2048 : Shape := ⟨2, ![12288, 2048]⟩

abbrev nBuf : Space → Nat
  | .hbm => 26
  | .vmem => 0
  | .smem => 0
  | _ => 0

abbrev bufTy : (tb : Table) → Fin (tcTables nBuf tb) → BufTy
  | .hbm, ⟨0, _⟩ => ⟨S12288x1024, .f32⟩
  | .hbm, ⟨1, _⟩ => ⟨S512x1536, .f32⟩
  | .hbm, ⟨2, _⟩ => ⟨S512, .f32⟩
  | .hbm, ⟨3, _⟩ => ⟨S12288x512, .f32⟩
  | .hbm, ⟨4, _⟩ => ⟨S12288x512, .f32⟩
  | .hbm, ⟨5, _⟩ => ⟨S_, .f32⟩
  | .hbm, ⟨6, _⟩ => ⟨S12288, .f32⟩
  | .hbm, ⟨7, _⟩ => ⟨S12288x1, .f32⟩
  | .hbm, ⟨8, _⟩ => ⟨S_, .f32⟩
  | .hbm, ⟨9, _⟩ => ⟨S12288x1, .f32⟩
  | .hbm, ⟨10, _⟩ => ⟨S12288x1, .f32⟩
  | .hbm, ⟨11, _⟩ => ⟨S_, .f32⟩
  | .hbm, ⟨12, _⟩ => ⟨S12288x1, .f32⟩
  | .hbm, ⟨13, _⟩ => ⟨S12288x1, .f32⟩
  | .hbm, ⟨14, _⟩ => ⟨S12288x1, .f32⟩
  | .hbm, ⟨15, _⟩ => ⟨S12288x512, .f32⟩
  | .hbm, ⟨16, _⟩ => ⟨S12288x512, .f32⟩
  | .hbm, ⟨17, _⟩ => ⟨S1x512, .f32⟩
  | .hbm, ⟨18, _⟩ => ⟨S12288x512, .f32⟩
  | .hbm, ⟨19, _⟩ => ⟨S12288x512, .f32⟩
  | .hbm, ⟨20, _⟩ => ⟨S12288x1536, .f32⟩
  | .hbm, ⟨21, _⟩ => ⟨S12288x8x192, .f32⟩
  | .hbm, ⟨22, _⟩ => ⟨S_, .i32⟩
  | .hbm, ⟨23, _⟩ => ⟨S_, .f32⟩
  | .hbm, ⟨24, _⟩ => ⟨S12288x8x256, .f32⟩
  | .hbm, ⟨25, _⟩ => ⟨S12288x2048, .f32⟩
  | _, _ => ⟨S12288x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== MlaKvb.lean ====
abbrev S12288x256 : Shape := ⟨2, ![12288, 256]⟩
abbrev S2x512x256 : Shape := ⟨3, ![2, 512, 256]⟩
abbrev S256x2048 : Shape := ⟨2, ![256, 2048]⟩
abbrev S1024x256 : Shape := ⟨2, ![1024, 256]⟩
abbrev S13312x256 : Shape := ⟨2, ![13312, 256]⟩
abbrev S13312x2048 : Shape := ⟨2, ![13312, 2048]⟩
abbrev S512x256 : Shape := ⟨2, ![512, 256]⟩
abbrev S256x1024 : Shape := ⟨2, ![256, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S12288x256, .f32⟩
  | .hbm, ⟨1, _⟩ => ⟨S2x512x256, .f32⟩
  | .hbm, ⟨2, _⟩ => ⟨S256x2048, .f32⟩
  | .hbm, ⟨3, _⟩ => ⟨S1024x256, .f32⟩
  | .hbm, ⟨4, _⟩ => ⟨S13312x256, .f32⟩
  | .hbm, ⟨5, _⟩ => ⟨S13312x2048, .f32⟩
  | .local _ .vmem, ⟨0, _⟩ => ⟨S512x256, .f32⟩
  | .local _ .vmem, ⟨1, _⟩ => ⟨S512x256, .f32⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x256, .bf16⟩
  | _, _ => ⟨S12288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaKvbRefIdeal.lean ====
abbrev S12288x256 : Shape := ⟨2, ![12288, 256]⟩
abbrev S2x512x256 : Shape := ⟨3, ![2, 512, 256]⟩
abbrev S256x2048 : Shape := ⟨2, ![256, 2048]⟩
abbrev S12288x2048 : Shape := ⟨2, ![12288, 2048]⟩
abbrev S2x512x2048 : Shape := ⟨3, ![2, 512, 2048]⟩
abbrev S1024x2048 : Shape := ⟨2, ![1024, 2048]⟩
abbrev S13312x2048 : Shape := ⟨2, ![13312, 2048]⟩

abbrev nBuf : Space → Nat
  | .hbm => 7
  | .vmem => 0
  | .smem => 0
  | _ => 0

abbrev bufTy : (tb : Table) → Fin (tcTables nBuf tb) → BufTy
  | .hbm, ⟨0, _⟩ => ⟨S12288x256, .f32⟩
  | .hbm, ⟨1, _⟩ => ⟨S2x512x256, .f32⟩
  | .hbm, ⟨2, _⟩ => ⟨S256x2048, .f32⟩
  | .hbm, ⟨3, _⟩ => ⟨S12288x2048, .f32⟩
  | .hbm, ⟨4, _⟩ => ⟨S2x512x2048, .f32⟩
  | .hbm, ⟨5, _⟩ => ⟨S1024x2048, .f32⟩
  | .hbm, ⟨6, _⟩ => ⟨S13312x2048, .f32⟩
  | _, _ => ⟨S12288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaLatent.lean ====
abbrev S4096x2048 : Shape := ⟨2, ![4096, 2048]⟩
abbrev S13312x2048 : Shape := ⟨2, ![13312, 2048]⟩
abbrev S2x512x64 : Shape := ⟨3, ![2, 512, 64]⟩
abbrev S4096x64 : Shape := ⟨2, ![4096, 64]⟩
abbrev S_ : Shape := ⟨0, ![]⟩
abbrev S4096x128 : Shape := ⟨2, ![4096, 128]⟩
abbrev S2x512x128 : Shape := ⟨3, ![2, 512, 128]⟩
abbrev S4096x1024 : Shape := ⟨2, ![4096, 1024]⟩
abbrev S256x256 : Shape := ⟨2, ![256, 256]⟩
abbrev S512x256 : Shape := ⟨2, ![512, 256]⟩
abbrev S2048x256 : Shape := ⟨2, ![2048, 256]⟩
abbrev S1x512x128 : Shape := ⟨3, ![1, 512, 128]⟩
abbrev S2048x128 : Shape := ⟨2, ![2048, 128]⟩
abbrev S256x128 : Shape := ⟨2, ![256, 128]⟩
abbrev S512x128 : Shape := ⟨2, ![512, 128]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S13312x2048, .f32⟩
  | .hbm, ⟨2, _⟩ => ⟨S2x512x64, .f32⟩
  | .hbm, ⟨3, _⟩ => ⟨S4096x64, .f32⟩
  | .hbm, ⟨4, _⟩ => ⟨S_, .i32⟩
  | .hbm, ⟨5, _⟩ => ⟨S_, .f32⟩
  | .hbm, ⟨6, _⟩ => ⟨S4096x128, .f32⟩
  | .hbm, ⟨7, _⟩ => ⟨S_, .i32⟩
  | .hbm, ⟨8, _⟩ => ⟨S_, .f32⟩
  | .hbm, ⟨9, _⟩ => ⟨S2x512x128, .f32⟩
  | .hbm, ⟨10, _⟩ => ⟨S4096x1024, .f32⟩
  | .local _ .vmem, ⟨0, _⟩ => ⟨S256x256, .f32⟩
  | .local _ .vmem, ⟨1, _⟩ => ⟨S256x256, .f32⟩
  | .local _ .vmem, ⟨2, _⟩ => ⟨S512x256, .f32⟩
  | .local _ .vmem, ⟨3, _⟩ => ⟨S512x256, .f32⟩
  | .local _ .vmem, ⟨4, _⟩ => ⟨S2048x256, .f32⟩
  | .local _ .vmem, ⟨5, _⟩ => ⟨S2048x256, .f32⟩
  | .local _ .vmem, ⟨6, _⟩ => ⟨S1x512x128, .f32⟩
  | .local _ .vmem, ⟨7, _⟩ => ⟨S1x512x128, .f32⟩
  | .local _ .vmem, ⟨8, _⟩ => ⟨S2048x128, .f32⟩
  | .local _ .vmem, ⟨9, _⟩ => ⟨S2048x128, .f32⟩
  | .local _ .vmem, ⟨10, _⟩ => ⟨S256x128, .f32⟩
  | .local _ .vmem, ⟨11, _⟩ => ⟨S256x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaLatentRefIdeal.lean ====
abbrev S4096x2048 : Shape := ⟨2, ![4096, 2048]⟩
abbrev S13312x2048 : Shape := ⟨2, ![13312, 2048]⟩
abbrev S2x512x64 : Shape := ⟨3, ![2, 512, 64]⟩
abbrev S4096x64 : Shape := ⟨2, ![4096, 64]⟩
abbrev S2x2048x8x256 : Shape := ⟨4, ![2, 2048, 8, 256]⟩
abbrev S2x2048x8x192 : Shape := ⟨4, ![2, 2048, 8, 192]⟩
abbrev S1024x2048 : Shape := ⟨2, ![1024, 2048]⟩
abbrev S2x512x8x256 : Shape := ⟨4, ![2, 512, 8, 256]⟩
abbrev S2x2560x8x256 : Shape := ⟨4, ![2, 2560, 8, 256]⟩
abbrev S2x2048x64 : Shape := ⟨3, ![2, 2048, 64]⟩
abbrev S2x2560x64 : Shape := ⟨3, ![2, 2560, 64]⟩
abbrev S2x2560x8x128 : Shape := ⟨4, ![2, 2560, 8, 128]⟩
abbrev S2x2560x1x64 : Shape := ⟨4, ![2, 2560, 1, 64]⟩
abbrev S2x2560x8x64 : Shape := ⟨4, ![2, 2560, 8, 64]⟩
abbrev S2x2560x8x192 : Shape := ⟨4, ![2, 2560, 8, 192]⟩
abbrev S2x8x2048x2560 : Shape := ⟨4, ![2, 8, 2048, 2560]⟩
abbrev S_ : Shape := ⟨0, ![]⟩
abbrev S2x8x2048 : Shape := ⟨3, ![2, 8, 2048]⟩
abbrev S2x8x2048x1 : Shape := ⟨4, ![2, 8, 2048, 1]⟩
abbrev S2x8x128x2048 : Shape := ⟨4, ![2, 8, 128, 2048]⟩
abbrev S2x2048x8x128 : Shape := ⟨4, ![2, 2048, 8, 128]⟩
abbrev S4096x1024 : Shape := ⟨2, ![4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S13312x2048, .f32⟩
  | .hbm, ⟨2, _⟩ => ⟨S2x512x64, .f32⟩
  | .hbm, ⟨3, _⟩ => ⟨S4096x64, .f32⟩
  | .hbm, ⟨4, _⟩ => ⟨S2x2048x8x256, .f32⟩
  | .hbm, ⟨5, _⟩ => ⟨S2x2048x8x192, .f32⟩
  | .hbm, ⟨6, _⟩ => ⟨S1024x2048, .f32⟩
  | .hbm, ⟨7, _⟩ => ⟨S2x512x8x256, .f32⟩
  | .hbm, ⟨8, _⟩ => ⟨S4096x2048, .f32⟩
  | .hbm, ⟨9, _⟩ => ⟨S2x2048x8x256, .f32⟩
  | .hbm, ⟨10, _⟩ => ⟨S2x2560x8x256, .f32⟩
  | .hbm, ⟨11, _⟩ => ⟨S2x2048x64, .f32⟩
  | .hbm, ⟨12, _⟩ => ⟨S2x2560x64, .f32⟩
  | .hbm, ⟨13, _⟩ => ⟨S2x2560x8x128, .f32⟩
  | .hbm, ⟨14, _⟩ => ⟨S2x2560x1x64, .f32⟩
  | .hbm, ⟨15, _⟩ => ⟨S2x2560x8x64, .f32⟩
  | .hbm, ⟨16, _⟩ => ⟨S2x2560x8x192, .f32⟩
  | .hbm, ⟨17, _⟩ => ⟨S2x8x2048x2560, .f32⟩
  | .hbm, ⟨18, _⟩ => ⟨S_, .f32⟩
  | .hbm, ⟨19, _⟩ => ⟨S2x8x2048x2560, .f32⟩
  | .hbm, ⟨20, _⟩ => ⟨S2x8x2048x2560, .f32⟩
  | .hbm, ⟨21, _⟩ => ⟨S_, .f32⟩
  | .hbm, ⟨22, _⟩ => ⟨S2x8x2048, .f32⟩
  | .hbm, ⟨23, _⟩ => ⟨S_, .f32⟩
  | .hbm, ⟨24, _⟩ => ⟨S2x8x2048, .f32⟩
  | .hbm, ⟨25, _⟩ => ⟨S2x8x2048, .f32⟩
  | .hbm, ⟨26, _⟩ => ⟨S2x8x2048x1, .f32⟩
  | .hbm, ⟨27, _⟩ => ⟨S2x8x2048x2560, .f32⟩
  | .hbm, ⟨28, _⟩ => ⟨S2x8x2048x2560, .f32⟩
  | .hbm, ⟨29, _⟩ => ⟨S2x8x2048x2560, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2560, .f32⟩
  | .hbm, ⟨34, _⟩ => ⟨S2x8x2048x2560, .f32⟩
  | .hbm, ⟨35, _⟩ => ⟨S2x2560x8x128, .f32⟩
  | .hbm, ⟨36, _⟩ => ⟨S2x8x128x2048, .f32⟩
  | .hbm, ⟨37, _⟩ => ⟨S2x2048x8x128, .f32⟩
  | .hbm, ⟨38, _⟩ => ⟨S4096x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Proof.DiffSpec.lean ====
module

public import Idealize.ShloMosaic.Lib.Pointwise

/-! The differential attention of one query over extended reals: two softmaxes over the keys (512 cached, 2048 new), their
    weighted difference applied to the values, and the normalisation of the result. The kernel reads the keys in two
    segments and multiplies by a reciprocal; the reference reads them joined and divides. -/

@[expose] public section

set_option maxRecDepth 16384

noncomputable section

namespace Cert.DiffSpec

open Idealize.ShloMosaic

/-- The value the running maximum starts from. -/
abbrev negInf : EReal := Ideal.ofBits .f32 0xFF800000#32

theorem negInf_eq : negInf = ⊥ := by simp [negInf, Ideal.ofBits, Ideal.ieee]

/-- The largest score of a query, over both segments. -/
def mx (s : Fin 512 → EReal) (t : Fin 2048 → EReal) : EReal :=
  max (Finset.univ.fold max negInf s) (Finset.univ.fold max negInf t)

/-- The softmax denominator of a query, over both segments. -/
def dn (s : Fin 512 → EReal) (t : Fin 2048 → EReal) : EReal :=
  (∑ k, Ideal.exp (s k - mx s t)) + ∑ k, Ideal.exp (t k - mx s t)

/-- One key's weight: the first softmax minus `lam` times the second. -/
def wt (lam : EReal) (s0 : Fin 512 → EReal) (t0 : Fin 2048 → EReal) (s1 : Fin 512 → EReal) (t1 : Fin 2048 → EReal)
    (x0 x1 : EReal) : EReal :=
  Ideal.exp (x0 - mx s0 t0) * Ideal.div 1 (dn s0 t0) - lam * (Ideal.exp (x1 - mx s1 t1) * Ideal.div 1 (dn s1 t1))

/-- The weighted values, before normalisation. -/
def ov (lam : EReal) (s0 : Fin 512 → EReal) (t0 : Fin 2048 → EReal) (s1 : Fin 512 → EReal) (t1 : Fin 2048 → EReal)
    (vA : Fin 512 → EReal) (vB : Fin 2048 → EReal) : EReal :=
  (∑ k, wt lam s0 t0 s1 t1 (s0 k) (s1 k) * vA k) + ∑ k, wt lam s0 t0 s1 t1 (t0 k) (t1 k) * vB k

/-- The normalised output of one head. -/
def normed (o : Fin 128 → EReal) (g : EReal) (d : Fin 128) : EReal :=
  o d * Ideal.rsqrt (Ideal.div (∑ x, o x * o x) (Ideal.ofBits .f32 0x43000000#32) + Ideal.ofBits .f32 0x3727C5AC#32) * g
    * Ideal.ofBits .f32 0x3F077F5A#32

/-- The two segments joined. -/
def join (s : Fin 512 → EReal) (t : Fin 2048 → EReal) (c : Fin 2560) : EReal :=
  if h : (c : ℕ) < 512 then s ⟨c, h⟩ else t ⟨c - 512, by omega⟩

theorem join_left (s : Fin 512 → EReal) (t : Fin 2048 → EReal) (k : Fin 512) : join s t ⟨k.val, by omega⟩ = s k := by
  simp [join]

theorem join_right (s : Fin 512 → EReal) (t : Fin 2048 → EReal) (k : Fin 2048) : join s t ⟨512 + k.val, by omega⟩ = t k := by
  simp [join]

theorem sum_split (f : Fin 2560 → EReal) :
    ∑ c, f c = (∑ k : Fin 512, f ⟨k.val, by omega⟩) + ∑ k : Fin 2048, f ⟨512 + k.val, by omega⟩ :=
  @Fin.sum_univ_add EReal _ 512 2048 f

theorem max_join (s : Fin 512 → EReal) (t : Fin 2048 → EReal) :
    max negInf (Finset.univ.fold max negInf (join s t)) = mx s t := by
  refine eq_of_forall_ge_iff fun c => ?_
  unfold mx
  simp only [max_le_iff, Finset.fold_max_le, Finset.mem_univ, forall_true_left]
  constructor
  · rintro ⟨h0, -, h⟩
    exact ⟨⟨h0, fun k => join_left s t k ▸ h _⟩, h0, fun k => join_right s t k ▸ h _⟩
  · rintro ⟨⟨h0, hs⟩, -, ht⟩
    refine ⟨h0, h0, fun k => ?_⟩
    unfold join
    split
    · exact hs _
    · exact ht _

theorem den_join (s : Fin 512 → EReal) (t : Fin 2048 → EReal) :
    ∑ c, Ideal.exp (join s t c - mx s t) = dn s t := by
  rw [sum_split]
  simp only [join_left, join_right]
  rfl

/-- A finite extended real. -/
def Fin' (x : EReal) : Prop := x ≠ ⊥ ∧ x ≠ ⊤

theorem Fin'.coe {x : EReal} (h : Fin' x) : ∃ r : ℝ, x = (r : EReal) :=
  ⟨x.toReal, (EReal.coe_toReal h.2 h.1).symm⟩

theorem fin_coe (r : ℝ) : Fin' (r : EReal) := ⟨EReal.coe_ne_bot r, EReal.coe_ne_top r⟩

theorem Fin'.mul {x y : EReal} (hx : Fin' x) (hy : Fin' y) : Fin' (x * y) := by
  obtain ⟨a, rfl⟩ := hx.coe
  obtain ⟨b, rfl⟩ := hy.coe
  rw [← EReal.coe_mul]
  exact fin_coe _

theorem Fin'.add {x y : EReal} (hx : Fin' x) (hy : Fin' y) : Fin' (x + y) := by
  obtain ⟨a, rfl⟩ := hx.coe
  obtain ⟨b, rfl⟩ := hy.coe
  rw [← EReal.coe_add]
  exact fin_coe _

theorem fin_sum {n : ℕ} (f : Fin n → EReal) (h : ∀ k, Fin' (f k)) : Fin' (∑ k, f k) :=
  Finset.sum_induction f Fin' (fun _ _ => Fin'.add) (fin_coe 0) fun k _ => h k

theorem fin_eighth : Fin' (Ideal.ofBits .f32 0x3E000000#32) := by
  have e : Ideal.ofBits .f32 0x3E000000#32 = ((8388608 : ℝ) : EReal) * (((2 ^ 26 : ℝ)⁻¹ : ℝ) : EReal) := by
    simp [Ideal.ofBits, Ideal.ieee]
  rw [e]
  exact (fin_coe _).mul (fin_coe _)

theorem exp_nonneg (x : EReal) : 0 ≤ Ideal.exp x := by
  induction x with
  | bot => exact le_refl (0 : EReal)
  | top => exact (le_top : (0 : EReal) ≤ ⊤)
  | coe r => exact EReal.coe_nonneg.mpr (Real.exp_pos r).le

theorem exp_sub_self (x : EReal) (h : Fin' x) : Ideal.exp (x - x) = 1 := by
  induction x with
  | bot => exact absurd rfl h.1
  | top => exact absurd rfl h.2
  | coe r => rw [← EReal.coe_sub, sub_self]; exact congrArg (fun x : ℝ => (x : EReal)) Real.exp_zero

/-- With finite scores the denominator holds the term of the largest score, which is 1. -/
theorem dn_ne_zero (s : Fin 512 → EReal) (t : Fin 2048 → EReal) (hs : ∀ k, Fin' (s k)) (ht : ∀ k, Fin' (t k)) :
    dn s t ≠ 0 := by
  rw [← den_join]
  have hj : ∀ c, Fin' (join s t c) := by
    intro c
    unfold join
    split
    · exact hs _
    · exact ht _
  obtain ⟨c, -, hc⟩ := Finset.exists_max_image (Finset.univ : Finset (Fin 2560)) (join s t) ⟨0, Finset.mem_univ _⟩
  have hm : mx s t = join s t c := by
    rw [← max_join]
    refine le_antisymm ?_ ?_
    · refine max_le (negInf_eq ▸ bot_le) ((Finset.fold_max_le _).mpr ⟨negInf_eq ▸ bot_le, hc⟩)
    · exact le_max_of_le_right ((Finset.le_fold_max _).mpr (Or.inr ⟨c, Finset.mem_univ _, le_rfl⟩))
  have h1 : (1 : EReal) ≤ ∑ c, Ideal.exp (join s t c - mx s t) := by
    refine le_trans (le_of_eq ?_) (Finset.single_le_sum (fun k _ => exp_nonneg _) (Finset.mem_univ c))
    rw [hm, exp_sub_self _ (hj c)]
  intro h0
  rw [h0] at h1
  exact absurd h1 (by norm_num)

theorem mul_one_div (x l : EReal) (h : l ≠ 0) : x * Ideal.div 1 l = Ideal.div x l := by
  simp [Ideal.div, h]

/-- The joined form the reference computes is the segmented form the kernel computes. -/
theorem ov_join (lam : EReal) (s0 : Fin 512 → EReal) (t0 : Fin 2048 → EReal) (s1 : Fin 512 → EReal) (t1 : Fin 2048 → EReal)
    (vA : Fin 512 → EReal) (vB : Fin 2048 → EReal) (h0 : dn s0 t0 ≠ 0) (h1 : dn s1 t1 ≠ 0) :
    ∑ c, join vA vB c * (Ideal.div (Ideal.exp (join s0 t0 c - mx s0 t0)) (dn s0 t0)
        - lam * Ideal.div (Ideal.exp (join s1 t1 c - mx s1 t1)) (dn s1 t1))
      = ov lam s0 t0 s1 t1 vA vB := by
  rw [sum_split]
  simp only [join_left, join_right]
  unfold ov wt
  simp only [mul_one_div _ _ h0, mul_one_div _ _ h1, mul_comm (vA _), mul_comm (vB _)]

end Cert.DiffSpec

end
-- ==== Proof.DiffScores.lean ====
module

public import proofs.«01_k».proof.Proof.Gen.DiffLatentIdeal.Skeleton
public import Idealize.ShloMosaic.Lib.Pointwise
public import proofs.«01_k».proof.Proof.DiffSpec

/-! The scores one grid point of the differential attention computes, read at a row and a key. -/

@[expose] public section

set_option maxRecDepth 16384

noncomputable section

namespace Cert.DiffLatentIdeal.Val

open Idealize.ShloMosaic Idealize.ShloMosaic.TcCoe Idealize.SL.Sem
open Cert.DiffLatentIdeal Cert.DiffLatentIdeal.Gen

open Cert.DiffSpec

/-- The first map's scores of row `r` against the cached keys. -/
def s0 (x0 : Vec Ideal S1x256x128 .f32) (x1 : Vec Ideal S1x512x128 .f32) (r : Fin 256) (k : Fin 512) : EReal :=
  (∑ d : Fin 64, x0 (ix3 0 r ⟨d.val, by omega⟩) * x1 (ix3 0 k ⟨d.val, by omega⟩)) * Ideal.ofBits .f32 0x3E000000#32

/-- The first map's scores of row `r` against the new keys. -/
def t0 (x0 : Vec Ideal S1x256x128 .f32) (x2 : Vec Ideal S1x2048x128 .f32) (r : Fin 256) (k : Fin 2048) : EReal :=
  (∑ d : Fin 64, x0 (ix3 0 r ⟨d.val, by omega⟩) * x2 (ix3 0 k ⟨d.val, by omega⟩)) * Ideal.ofBits .f32 0x3E000000#32

/-- The second map's scores of row `r` against the cached keys. -/
def s1 (x0 : Vec Ideal S1x256x128 .f32) (x1 : Vec Ideal S1x512x128 .f32) (r : Fin 256) (k : Fin 512) : EReal :=
  (∑ d : Fin 64, x0 (ix3 0 r ⟨64 + d.val, by omega⟩) * x1 (ix3 0 k ⟨64 + d.val, by omega⟩)) * Ideal.ofBits .f32 0x3E000000#32

/-- The second map's scores of row `r` against the new keys. -/
def t1 (x0 : Vec Ideal S1x256x128 .f32) (x2 : Vec Ideal S1x2048x128 .f32) (r : Fin 256) (k : Fin 2048) : EReal :=
  (∑ d : Fin 64, x0 (ix3 0 r ⟨64 + d.val, by omega⟩) * x2 (ix3 0 k ⟨64 + d.val, by omega⟩)) * Ideal.ofBits .f32 0x3E000000#32

/-- The lane mask of the first half, as a case on the lane. -/
theorem select_low (l : Fin 128) (x y : EReal) :
    Scalar.select (IntOp.cmpi CmpIPredicate.slt (BitVec.ofNat 32 (l : ℕ)) 64#32) x y = if (l : ℕ) < 64 then x else y := by
  have h : ∀ l : Fin 128, IntOp.cmpi CmpIPredicate.slt (BitVec.ofNat 32 (l : ℕ)) 64#32 = if (l : ℕ) < 64 then 1#1 else 0#1 := by
    decide +kernel
  rw [h l]
  split <;> simp [Scalar.select]

/-- The lane mask of the second half, as a case on the lane. -/
theorem select_high (l : Fin 128) (x y : EReal) :
    Scalar.select (IntOp.xori (IntOp.cmpi CmpIPredicate.slt (BitVec.ofNat 32 (l : ℕ)) 64#32) 1#1) x y
      = if (l : ℕ) < 64 then y else x := by
  have h : ∀ l : Fin 128, IntOp.xori (IntOp.cmpi CmpIPredicate.slt (BitVec.ofNat 32 (l : ℕ)) 64#32) 1#1
      = if (l : ℕ) < 64 then 0#1 else 1#1 := by
    decide +kernel
  rw [h l]
  split <;> simp [Scalar.select]

/-- A sum over 128 lanes whose upper half is zero is the sum over the lower 64. -/
theorem sum_low (f : Fin 128 → EReal) :
    (∑ l : Fin 128, (if (l : ℕ) < 64 then f l else 0)) = ∑ d : Fin 64, f ⟨d.val, by omega⟩ := by
  refine (@Fin.sum_univ_add EReal _ 64 64 (fun l : Fin 128 => if (l : ℕ) < 64 then f l else 0)).trans ?_
  rw [Finset.sum_eq_zero (s := Finset.univ) (f := fun i : Fin 64 => (if ((Fin.natAdd 64 i : Fin 128) : ℕ) < 64 then f (Fin.natAdd 64 i) else 0)), add_zero]
  · refine Finset.sum_congr rfl fun i _ => ?_
    rw [if_pos (by simp)]
    rfl
  · intro i _
    rw [if_neg (by simp)]

/-- A sum over 128 lanes whose lower half is zero is the sum over the upper 64. -/
theorem sum_high (f : Fin 128 → EReal) :
    (∑ l : Fin 128, (if (l : ℕ) < 64 then 0 else f l)) = ∑ d : Fin 64, f ⟨64 + d.val, by omega⟩ := by
  refine (@Fin.sum_univ_add EReal _ 64 64 (fun l : Fin 128 => if (l : ℕ) < 64 then 0 else f l)).trans ?_
  rw [Finset.sum_eq_zero (s := Finset.univ) (f := fun i : Fin 64 => (if ((Fin.castAdd 64 i : Fin 128) : ℕ) < 64 then 0 else f (Fin.castAdd 64 i))), zero_add]
  · refine Finset.sum_congr rfl fun i _ => ?_
    rw [if_neg (by simp)]
    rfl
  · intro i _
    rw [if_pos (by simp)]

theorem score0_cache (v3 : Vec Ideal S1x256x128 .f32) (v5 : Vec Ideal S1x512x128 .f32) (r : Fin 256) (k : Fin 512) :
    k0_pay9 (F := Ideal) v3 v5 (ix2 r k)
      = (∑ d : Fin 64, v3 (ix3 0 r ⟨d.val, by omega⟩) * v5 (ix3 0 k ⟨d.val, by omega⟩)) * Ideal.ofBits .f32 0x3E000000#32 := by
  pointwise [k0_pay9, k0_pay8, k0_pay4, k0_pay3, k0_pay2]
  simp only [select_low]
  rw [sum_low]

theorem score0_new (v3 : Vec Ideal S1x256x128 .f32) (v8 : Vec Ideal S1x2048x128 .f32) (r : Fin 256) (k : Fin 2048) :
    k0_pay10 (F := Ideal) v3 v8 (ix2 r k)
      = (∑ d : Fin 64, v3 (ix3 0 r ⟨d.val, by omega⟩) * v8 (ix3 0 k ⟨d.val, by omega⟩)) * Ideal.ofBits .f32 0x3E000000#32 := by
  pointwise [k0_pay10, k0_pay8, k0_pay5, k0_pay3, k0_pay2]
  simp only [select_low]
  rw [sum_low]

theorem score1_cache (v3 : Vec Ideal S1x256x128 .f32) (v5 : Vec Ideal S1x512x128 .f32) (r : Fin 256) (k : Fin 512) :
    k0_pay17 (F := Ideal) k0_pay2 (k0_pay3 v3) (k0_pay4 v5) (ix2 r k)
      = (∑ d : Fin 64, v3 (ix3 0 r ⟨64 + d.val, by omega⟩) * v5 (ix3 0 k ⟨64 + d.val, by omega⟩)) * Ideal.ofBits .f32 0x3E000000#32 := by
  pointwise [k0_pay17, k0_pay16, k0_pay4, k0_pay3, k0_pay2]
  simp only [select_high]
  rw [sum_high]

theorem score1_new (v3 : Vec Ideal S1x256x128 .f32) (v8 : Vec Ideal S1x2048x128 .f32) (r : Fin 256) (k : Fin 2048) :
    k0_pay18 (F := Ideal) k0_pay2 (k0_pay3 v3) (k0_pay5 v8) (ix2 r k)
      = (∑ d : Fin 64, v3 (ix3 0 r ⟨64 + d.val, by omega⟩) * v8 (ix3 0 k ⟨64 + d.val, by omega⟩)) * Ideal.ofBits .f32 0x3E000000#32 := by
  pointwise [k0_pay18, k0_pay16, k0_pay5, k0_pay3, k0_pay2]
  simp only [select_high]
  rw [sum_high]

/-- The block a grid point stores, at row `r` and lane `d`, from its staged blocks. -/
theorem pay_eq (x0 : Vec Ideal S1x256x128 .f32) (x1 : Vec Ideal S1x512x128 .f32) (x2 : Vec Ideal S1x2048x128 .f32)
    (x3 : Vec Ideal S1x512x128 .f32) (x4 : Vec Ideal S1x2048x128 .f32) (x5 : Vec Ideal S1x128 .f32) (x6 : Vec Ideal S1x128 .f32)
    (r : Fin 256) (d : Fin 128) :
    k0_pay1 (F := Ideal) (k0_pay6 x3) (k0_pay7 x4) (k0_pay13 (k0_pay9 x0 x1) (k0_pay12 x0 x1 x2))
        (k0_pay14 (k0_pay10 x0 x2) (k0_pay11 x0 x1 x2))
        (k0_pay15 (k0_pay9 x0 x1) (k0_pay10 x0 x2) (k0_pay11 x0 x1 x2) (k0_pay12 x0 x1 x2))
        (k0_pay20 k0_pay2 (k0_pay3 x0) (k0_pay4 x1) (k0_pay5 x2)) (k0_pay21 k0_pay2 (k0_pay3 x0) (k0_pay4 x1) (k0_pay5 x2))
        (k0_pay22 k0_pay2 (k0_pay3 x0) (k0_pay4 x1) (k0_pay5 x2)) (k0_pay23 x5) x6 (ix2 r d)
      = normed (fun l => ov (x5 (ix2 0 0)) (s0 x0 x1 r) (t0 x0 x2 r) (s1 x0 x1 r) (t1 x0 x2 r)
          (fun k => x3 (ix3 0 k l)) (fun k => x4 (ix3 0 k l))) (x6 (ix2 0 d)) d := by
  pointwise [k0_pay1, k0_pay6, k0_pay7, k0_pay13, k0_pay12, k0_pay14, k0_pay11, k0_pay15, k0_pay20, k0_pay21, k0_pay22, k0_pay23,
    k0_pay19, score0_cache, score0_new, score1_cache, score1_new]
  unfold normed ov wt dn mx s0 t0 s1 t1
  rfl

end Cert.DiffLatentIdeal.Val

end
-- ==== Proof.DiffReference.lean ====
module

public import proofs.«01_k».proof.Proof.Gen.DiffLatentRefIdeal.Read
public import Idealize.ShloMosaic.Lib.Pointwise
public import proofs.«01_k».proof.Proof.DiffSpec

/-! The reference's differential attention read at one element. -/

@[expose] public section

set_option maxRecDepth 16384

noncomputable section

namespace Cert.DiffLatentRefIdeal.Val

open Idealize.ShloMosaic Idealize.ShloMosaic.TcCoe Idealize.SL.Sem
open Cert.DiffLatentRefIdeal Cert.DiffLatentRefIdeal.Gen Cert.DiffLatentRefIdeal.Read Cert.DiffSpec

abbrev A0 := FVec Ideal S2x4096x1024 .f32
abbrev A1 := FVec Ideal S3x12288x1024 .f32
abbrev A2 := FVec Ideal S2x512x8x2x64 .f32
abbrev A3 := FVec Ideal S2x512x8x128 .f32
abbrev A4 := FVec Ideal S4x64 .f32
abbrev A5 := FVec Ideal S128 .f32

/-- A maximum over the last of five axes, at any sizes. -/
theorem reduce_last {n0 n1 n2 n3 n4 : ℕ} (y : FVec Ideal ⟨5, ![n0, n1, n2, n3, n4]⟩ .f32) (z : FVec Ideal S_ .f32)
    (h : (⟨5, ![n0, n1, n2, n3, n4]⟩ : Shape).ReducesTo [4] ⟨4, ![n0, n1, n2, n3]⟩) (hu : 0 < S_.numel)
    (i0 : Fin n0) (i1 : Fin n1) (i2 : Fin n2) (i3 : Fin n3) :
    Host.reduce FloatOps.maximumf y z h hu (ix4 i0 i1 i2 i3)
      = Finset.univ.fold max (z (Shape.Idx.first hu)) fun c : Fin n4 => y (ix5 i0 i1 i2 i3 c) := by
  simp only [pointwise]

/-- The largest score of a query. -/
theorem largest (X0 : A0) (X2 : A2) (b n : Fin 2) (h : Fin 8) (i : Fin 2048) :
    val_main_v32 (F := Ideal) X0 X2 (ix4 b n h i)
      = max negInf (Finset.univ.fold max negInf fun c => val_main_v29 (F := Ideal) X0 X2 (ix5 b n h i c)) := by
  unfold val_main_v32 val_main_v30
  generalize val_main_v29 (F := Ideal) X0 X2 = y
  refine (maximumf_apply _ _ _).trans ?_
  refine congrArg₂ max ?_ (reduce_last y _ reducesTo_S2x2x8x2048x2560_S2x2x8x2048_d4 _ b n h i)
  rw [val_main_v31_apply]
  rfl

theorem expo (X0 : A0) (X2 : A2) (b n : Fin 2) (h : Fin 8) (i : Fin 2048) (c : Fin 2560) :
    val_main_v36 (F := Ideal) X0 X2 (ix5 b n h i c)
      = Ideal.exp (val_main_v29 (F := Ideal) X0 X2 (ix5 b n h i c) - val_main_v32 (F := Ideal) X0 X2 (ix4 b n h i)) := by
  rw [val_main_v36_apply, val_main_v35_apply, val_main_v34_apply, val_main_v33_apply]
  have e : idx_main_v33 (idx_main_v34 (ix5 b n h i c)) = ix4 b n h i := by
    funext a
    match a with | ⟨0, _⟩ => rfl | ⟨1, _⟩ => rfl | ⟨2, _⟩ => rfl | ⟨3, _⟩ => rfl
  rw [e]
  generalize val_main_v29 (F := Ideal) X0 X2 (ix5 b n h i c) = y
  generalize val_main_v32 (F := Ideal) X0 X2 (ix4 b n h i) = z
  rfl

theorem soft (X0 : A0) (X2 : A2) (b n : Fin 2) (h : Fin 8) (i : Fin 2048) (c : Fin 2560) :
    val_main_v40 (F := Ideal) X0 X2 (ix5 b n h i c)
      = Ideal.div (val_main_v36 (F := Ideal) X0 X2 (ix5 b n h i c))
          (∑ x : Fin 2560, val_main_v36 (F := Ideal) X0 X2 (ix5 b n h i x)) := by
  rw [val_main_v40_apply, val_main_v39_apply, val_main_v38_apply, val_main_v37_apply]
  have e : idx_main_v38 (idx_main_v39 (ix5 b n h i c)) = ix4 b n h i := by
    funext a
    match a with | ⟨0, _⟩ => rfl | ⟨1, _⟩ => rfl | ⟨2, _⟩ => rfl | ⟨3, _⟩ => rfl
  have e2 : ∀ x, idx_main_v37 (ix4 b n h i) x = ix5 b n h i x := by
    intro x
    funext a
    match a with | ⟨0, _⟩ => rfl | ⟨1, _⟩ => rfl | ⟨2, _⟩ => rfl | ⟨3, _⟩ => rfl | ⟨4, _⟩ => rfl
  rw [e]
  simp only [e2]
  have e3 : val_main_cst_5 (F := Ideal) (Shape.Idx.first h_S_) = 0 := by
    rw [val_main_cst_5_apply]
    simp [Ideal.ofBits, Ideal.ieee]
  rw [e3, zero_add]
  generalize val_main_v36 (F := Ideal) X0 X2 (ix5 b n h i c) = y
  generalize (∑ x : Fin 2560, val_main_v36 (F := Ideal) X0 X2 (ix5 b n h i x)) = z
  rfl

theorem weight (X0 : A0) (X2 : A2) (X4 : A4) (b : Fin 2) (h : Fin 8) (i : Fin 2048) (c : Fin 2560) :
    val_main_v47 (F := Ideal) X0 X2 X4 (ix4 b h i c)
      = val_main_v40 (F := Ideal) X0 X2 (ix5 b 0 h i c)
        - val_main_v26 (F := Ideal) X4 ix0 * val_main_v40 (F := Ideal) X0 X2 (ix5 b 1 h i c) := by
  rw [val_main_v47_apply, val_main_v46_apply, val_main_v45_apply, val_main_v44_apply, val_main_v43_apply, val_main_v42_apply, val_main_v41_apply]
  have hb := b.isLt
  have hh := h.isLt
  have hi := i.isLt
  have hc := c.isLt
  have e : idx_main_v41 (idx_main_v42 (ix4 b h i c)) = ix5 b 0 h i c := by
    funext a
    refine Fin.ext ?_
    match a with
    | ⟨0, _⟩ => show (((b.val * 8 + h.val) * 2048 + i.val) * 2560 + c.val) / 41943040 = b.val; omega
    | ⟨1, _⟩ => rfl
    | ⟨2, _⟩ => show (((b.val * 8 + h.val) * 2048 + i.val) * 2560 + c.val) / 5242880 % 8 = h.val; omega
    | ⟨3, _⟩ => show (((b.val * 8 + h.val) * 2048 + i.val) * 2560 + c.val) / 2560 % 2048 = i.val; omega
    | ⟨4, _⟩ => show (((b.val * 8 + h.val) * 2048 + i.val) * 2560 + c.val) % 2560 = c.val; omega
  have e2 : idx_main_v43 (idx_main_v44 (ix4 b h i c)) = ix5 b 1 h i c := by
    funext a
    refine Fin.ext ?_
    match a with
    | ⟨0, _⟩ => show (((b.val * 8 + h.val) * 2048 + i.val) * 2560 + c.val) / 41943040 = b.val; omega
    | ⟨1, _⟩ => rfl
    | ⟨2, _⟩ => show (((b.val * 8 + h.val) * 2048 + i.val) * 2560 + c.val) / 5242880 % 8 = h.val; omega
    | ⟨3, _⟩ => show (((b.val * 8 + h.val) * 2048 + i.val) * 2560 + c.val) / 2560 % 2048 = i.val; omega
    | ⟨4, _⟩ => show (((b.val * 8 + h.val) * 2048 + i.val) * 2560 + c.val) % 2560 = c.val; omega
  have e3 : idx_main_v45 (ix4 b h i c) = ix0 := by
    funext a
    exact a.elim0
  rw [e, e2, e3]
  rfl

theorem value (X0 : A0) (X1 : A1) (X2 : A2) (X3 : A3) (X4 : A4) (b : Fin 2) (h : Fin 8) (i : Fin 2048) (d : Fin 128) :
    val_main_v49 (F := Ideal) X0 X1 X2 X3 X4 (ix4 b i h d)
      = ∑ c : Fin 2560, val_main_v10 (F := Ideal) X1 X3 (ix4 b c h d) * val_main_v47 (F := Ideal) X0 X2 X4 (ix4 b h i c) := by
  rw [val_main_v49_apply, val_main_v48_apply]
  refine Finset.sum_congr rfl fun c _ => ?_
  have e : lidx_main_v48 (idx_main_v49 (ix4 b i h d)) c = ix4 b c h d := by
    funext a
    match a with | ⟨0, _⟩ => rfl | ⟨1, _⟩ => rfl | ⟨2, _⟩ => rfl | ⟨3, _⟩ => rfl
  have e2 : ridx_main_v48 (idx_main_v49 (ix4 b i h d)) c = ix4 b h i c := by
    funext a
    match a with | ⟨0, _⟩ => rfl | ⟨1, _⟩ => rfl | ⟨2, _⟩ => rfl | ⟨3, _⟩ => rfl
  rw [e, e2]

/-- Query `i`'s score against cached key `k`, map `n` of head `h`. -/
def cachedScore (X0 : A0) (X2 : A2) (b n : Fin 2) (h : Fin 8) (i : Fin 2048) (k : Fin 512) : EReal :=
  (∑ x : Fin 64, X0 (ix3 0 ⟨b.val * 2048 + i.val, by omega⟩ ⟨h.val * 128 + n.val * 64 + x.val, by omega⟩) * X2 (ix5 b k h n x))
    * Ideal.ofBits .f32 0x3E000000#32

/-- Query `i`'s score against new key `k`, map `n` of head `h`. -/
def newScore (X0 : A0) (b n : Fin 2) (h : Fin 8) (i : Fin 2048) (k : Fin 2048) : EReal :=
  (∑ x : Fin 64, X0 (ix3 0 ⟨b.val * 2048 + i.val, by omega⟩ ⟨h.val * 128 + n.val * 64 + x.val, by omega⟩)
      * X0 (ix3 1 ⟨b.val * 2048 + k.val, by omega⟩ ⟨h.val * 128 + n.val * 64 + x.val, by omega⟩))
    * Ideal.ofBits .f32 0x3E000000#32

theorem cachedScore_finite (X0 : A0) (X2 : A2) (h0 : ∀ i, Fin' (X0 i)) (h2 : ∀ i, Fin' (X2 i)) (b n : Fin 2) (h : Fin 8) (i : Fin 2048)
    (k : Fin 512) : Fin' (cachedScore X0 X2 b n h i k) :=
  (fin_sum _ fun _ => (h0 _).mul (h2 _)).mul fin_eighth

theorem newScore_finite (X0 : A0) (h0 : ∀ i, Fin' (X0 i)) (b n : Fin 2) (h : Fin 8) (i : Fin 2048)
    (k : Fin 2048) : Fin' (newScore X0 b n h i k) :=
  (fin_sum _ fun _ => (h0 _).mul (h0 _)).mul fin_eighth

theorem score (X0 : A0) (X2 : A2) (b n : Fin 2) (h : Fin 8) (i : Fin 2048) (c : Fin 2560) :
    val_main_v29 (F := Ideal) X0 X2 (ix5 b n h i c) = join (cachedScore X0 X2 b n h i) (newScore X0 b n h i) c := by
  pointwise [val_main_v29, val_main_v28, val_main_cst_2, val_main_v27, val_main_v9, val_main_v2, val_main_v1, val_main_v0, val_main_v5, val_main_v4, val_main_v3]
  unfold join cachedScore newScore
  by_cases hc : (c : ℕ) < 512
  · simp only [hc, dite_true]
  · simp only [hc, dite_false]

theorem values (X1 : A1) (X3 : A3) (b : Fin 2) (c : Fin 2560) (h : Fin 8) (d : Fin 128) :
    val_main_v10 (F := Ideal) X1 X3 (ix4 b c h d)
      = join (fun k => X3 (ix4 b k h d))
          (fun k => X1 (ix3 2 ⟨8192 + (b.val * 2048 + k.val), by omega⟩ ⟨h.val * 128 + d.val, by omega⟩)) c := by
  pointwise [val_main_v10, val_main_v8, val_main_v7, val_main_v6]
  unfold join
  rfl

/-- The weights applied to the values, in the segmented form. -/
theorem attended (X0 : A0) (X1 : A1) (X2 : A2) (X3 : A3) (X4 : A4) (b : Fin 2) (h : Fin 8) (i : Fin 2048) (d : Fin 128)
    (h0 : dn (cachedScore X0 X2 b 0 h i) (newScore X0 b 0 h i) ≠ 0)
    (h1 : dn (cachedScore X0 X2 b 1 h i) (newScore X0 b 1 h i) ≠ 0) :
    val_main_v49 (F := Ideal) X0 X1 X2 X3 X4 (ix4 b i h d)
      = ov (val_main_v26 (F := Ideal) X4 ix0) (cachedScore X0 X2 b 0 h i) (newScore X0 b 0 h i)
          (cachedScore X0 X2 b 1 h i) (newScore X0 b 1 h i) (fun k => X3 (ix4 b k h d))
          (fun k => X1 (ix3 2 ⟨8192 + (b.val * 2048 + k.val), by omega⟩ ⟨h.val * 128 + d.val, by omega⟩)) := by
  have hs : ∀ (n : Fin 2), (fun c => val_main_v29 (F := Ideal) X0 X2 (ix5 b n h i c))
      = join (cachedScore X0 X2 b n h i) (newScore X0 b n h i) := fun n => funext fun c => score X0 X2 b n h i c
  have hm : ∀ (n : Fin 2), val_main_v32 (F := Ideal) X0 X2 (ix4 b n h i)
      = mx (cachedScore X0 X2 b n h i) (newScore X0 b n h i) := by
    intro n
    rw [largest, hs n, max_join]
  rw [value, ← ov_join _ _ _ _ _ _ _ h0 h1]
  refine Finset.sum_congr rfl fun c _ => ?_
  rw [values, weight, soft, soft]
  simp only [expo, hm, score, den_join]

theorem out (X0 : A0) (X1 : A1) (X2 : A2) (X3 : A3) (X4 : A4) (X5 : A5) (r : Fin 4096) (l : Fin 1024) :
    val_main_v65 (F := Ideal) X0 X1 X2 X3 X4 X5 (ix2 r l)
      = normed (fun x => val_main_v49 (F := Ideal) X0 X1 X2 X3 X4
            (ix4 ⟨r.val / 2048, by omega⟩ ⟨r.val % 2048, by omega⟩ ⟨l.val / 128, by omega⟩ x))
          (X5 (ix1 ⟨l.val % 128, by omega⟩)) ⟨l.val % 128, by omega⟩ := by
  pointwise [val_main_v65, val_main_v64, val_main_v63, val_main_cst_9, val_main_v62, val_main_v61, val_main_v60, val_main_v59,
    val_main_v58, val_main_v57, val_main_v56, val_main_v55, val_main_cst_8, val_main_v54, val_main_v53, val_main_cst_7,
    val_main_v52, val_main_v51, val_main_cst_6, val_main_v50]
  unfold normed
  rfl

end Cert.DiffLatentRefIdeal.Val

end
-- ==== Proof.DiffValue.lean ====
module

public import proofs.«01_k».proof.Proof.Gen.DiffLatentIdeal.Value
public import proofs.«01_k».proof.Proof.DiffScores
public import proofs.«01_k».proof.Proof.DiffReference
public import proofs.«01_k».proof.Proof.Gen.Pre_finite_scores
public import Idealize.ShloMosaic.Lib.Pipeline.ValueKit
public import Idealize.ShloMosaic.Lib.Pointwise
public import Idealize.ShloMosaic.Lib.Claim
public import Idealize.ShloMosaic.Lib.ReduceAll

/-! The array the differential-attention call returns, block by block: every block is the reference's. -/

@[expose] public section

set_option maxRecDepth 16384

noncomputable section

namespace Cert.DiffLatentIdeal.Val

open Idealize.ShloMosaic Idealize.ShloMosaic.TcCoe Idealize.SL.Sem
open Cert.DiffLatentIdeal Cert.DiffLatentIdeal.Gen Cert.DiffSpec

variable (m : (ℓ : Loc nD τ sig) → Buf (Elt Ideal) ℓ)

/-- Which block each window stages at a grid point. -/
theorem idx : ∀ t : Fin cfg0.N,
    win0_0.index t = ![0, t.val / 64 * 8 + t.val % 8, t.val / 8 % 8] ∧ win0_1.index t = ![t.val / 64, 0, t.val / 8 % 8]
    ∧ win0_2.index t = ![1, t.val / 64, t.val / 8 % 8] ∧ win0_3.index t = ![t.val / 64, 0, t.val / 8 % 8]
    ∧ win0_4.index t = ![2, 4 + t.val / 64, t.val / 8 % 8] ∧ win0_5.index t = ![0, 0] ∧ win0_6.index t = ![0, 0]
    ∧ win0_7.index t = ![t.val / 64 * 8 + t.val % 8, t.val / 8 % 8] :=
  (by decide +kernel : ∀ t : Fin grid0.N, _)

theorem tlt (t : Fin cfg0.N) : t.val < 128 := t.isLt

theorem blk0 (c : Dev nD) (t : Fin cfg0.N) (r : Fin 256) (l : Fin 128) :
    (iblk m c 0 t : Vec Ideal S1x256x128 .f32) (ix3 0 r l)
      = (m ((c.tc : Thread nD τ).loc main_arg0) : FVec Ideal S2x4096x1024 .f32)
          (ix3 0 ⟨(t.val / 64 * 8 + t.val % 8) * 256 + r.val, by have := tlt t; omega⟩ ⟨t.val / 8 % 8 * 128 + l.val, by omega⟩) := by
  blk_ext! [iblk, V, idx t]

theorem rows1 (c : Dev nD) (t : Fin cfg0.N) (k : Fin 512) (l : Fin 128) :
    (iblk m c 1 t : Vec Ideal S1x512x128 .f32) (ix3 0 k l)
      = (V m c main_v18 : FVec Ideal S2x512x1024 .f32)
          (ix3 ⟨t.val / 64, by have := tlt t; omega⟩ k ⟨t.val / 8 % 8 * 128 + l.val, by omega⟩) := by
  blk_ext [iblk, idx t]

theorem cast1 (X : FVec Ideal S2x512x8x2x64 .f32) (b : Fin 2) (k : Fin 512) (h : Fin 8) (n : Fin 2) (x : Fin 64) :
    shapeCast S2x512x1024 X shapeCasts_S2x512x8x2x64_S2x512x1024 (ix3 b k ⟨h.val * 128 + (n.val * 64 + x.val), by omega⟩)
      = X (ix5 b k h n x) := by
  refine shapeCast_apply _ _ _ _ ?_
  rw [Shape.rowMajor_val_five, Shape.rowMajor_val_three]
  show (((b.val * 512 + k.val) * 8 + h.val) * 2 + n.val) * 64 + x.val
    = (b.val * 512 + k.val) * 1024 + (h.val * 128 + (n.val * 64 + x.val))
  omega

theorem blk1 (c : Dev nD) (t : Fin cfg0.N) (k : Fin 512) (n : Fin 2) (x : Fin 64) :
    (iblk m c 1 t : Vec Ideal S1x512x128 .f32) (ix3 0 k ⟨n.val * 64 + x.val, by omega⟩)
      = (m ((c.tc : Thread nD τ).loc main_arg2) : FVec Ideal S2x512x8x2x64 .f32)
          (ix5 ⟨t.val / 64, by have := tlt t; omega⟩ k ⟨t.val / 8 % 8, by omega⟩ n x) := by
  rw [rows1]
  have e : (V m c main_v18 : FVec Ideal S2x512x1024 .f32)
      = shapeCast S2x512x1024 (m ((c.tc : Thread nD τ).loc main_arg2) : FVec Ideal S2x512x8x2x64 .f32) shapeCasts_S2x512x8x2x64_S2x512x1024 := by
    entry_read
    rfl
  rw [e]
  exact cast1 _ ⟨t.val / 64, by have := tlt t; omega⟩ k ⟨t.val / 8 % 8, by omega⟩ n x

theorem blk2 (c : Dev nD) (t : Fin cfg0.N) (k : Fin 2048) (l : Fin 128) :
    (iblk m c 2 t : Vec Ideal S1x2048x128 .f32) (ix3 0 k l)
      = (m ((c.tc : Thread nD τ).loc main_arg0) : FVec Ideal S2x4096x1024 .f32)
          (ix3 1 ⟨t.val / 64 * 2048 + k.val, by have := tlt t; omega⟩ ⟨t.val / 8 % 8 * 128 + l.val, by omega⟩) := by
  blk_ext! [iblk, V, idx t]

theorem blk3 (c : Dev nD) (t : Fin cfg0.N) (k : Fin 512) (l : Fin 128) :
    (iblk m c 3 t : Vec Ideal S1x512x128 .f32) (ix3 0 k l)
      = (m ((c.tc : Thread nD τ).loc main_arg3) : FVec Ideal S2x512x8x128 .f32)
          (ix4 ⟨t.val / 64, by have := tlt t; omega⟩ k ⟨t.val / 8 % 8, by omega⟩ l) := by
  blk_ext! [iblk, V, idx t]

theorem blk4 (c : Dev nD) (t : Fin cfg0.N) (k : Fin 2048) (l : Fin 128) :
    (iblk m c 4 t : Vec Ideal S1x2048x128 .f32) (ix3 0 k l)
      = (m ((c.tc : Thread nD τ).loc main_arg1) : FVec Ideal S3x12288x1024 .f32)
          (ix3 2 ⟨8192 + (t.val / 64 * 2048 + k.val), by have := tlt t; omega⟩ ⟨t.val / 8 % 8 * 128 + l.val, by omega⟩) := by
  blk_ext! [iblk, V, idx t]

theorem blk6 (c : Dev nD) (t : Fin cfg0.N) (l : Fin 128) :
    (iblk m c 6 t : Vec Ideal S1x128 .f32) (ix2 0 l)
      = (m ((c.tc : Thread nD τ).loc main_arg5) : FVec Ideal S128 .f32) (ix1 l) := by
  blk_ext! [iblk, V, idx t]

theorem blk5 (c : Dev nD) (t : Fin cfg0.N) :
    (iblk m c 5 t : Vec Ideal S1x128 .f32) (ix2 0 0)
      = DiffLatentRefIdeal.Read.val_main_v26 (F := Ideal) (m ((c.tc : Thread nD τ).loc main_arg4)) ix0 := by
  have e1 : (iblk m c 5 t : Vec Ideal S1x128 .f32) (ix2 0 0) = (V m c main_v16 : FVec Ideal S1x128 .f32) (ix2 0 0) := by
    blk_ext [iblk, idx t]
  rw [e1]
  entry_read
  refine (broadcastInDim_apply _ _ _ _ ix0 (fun a => a.elim0)).trans ?_
  unfold DiffLatentRefIdeal.Read.val_main_v26 DiffLatentRefIdeal.Read.val_main_v25 DiffLatentRefIdeal.Read.val_main_v24 DiffLatentRefIdeal.Read.val_main_v17 DiffLatentRefIdeal.Read.val_main_v16
  rfl

/-- Where element `(r, d)` of the stored block lies in the returned array. -/
theorem win_emb (t : Fin cfg0.N) (r : Fin 256) (d : Fin 128) :
    (win0_7.blk t).view.emb (ix2 r d : S256x128.Idx)
      = (ix2 ⟨(t.val / 64 * 8 + t.val % 8) * 256 + r.val, by have := tlt t; omega⟩ ⟨t.val / 8 % 8 * 128 + d.val, by omega⟩ : S4096x1024.Idx) := by
  blk_ext [idx t]

/-- An absolute value below +∞ says the number is finite. -/
theorem finite (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  constructor
  · rintro rfl
    simp [Ideal.cmp] at h
  · rintro rfl
    simp [Ideal.cmp] at h

/-- The precondition's two arrays hold finite numbers. -/
theorem pre_finite (c : Dev nD) (hp : Cert.Pre_finite_scores.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) = fun _ => 1#1) :
    (∀ i, Fin' ((m ((c.tc : Thread nD τ).loc main_arg0) : FVec Ideal S2x4096x1024 .f32) i))
      ∧ ∀ i, Fin' ((m ((c.tc : Thread nD τ).loc main_arg2) : FVec Ideal S2x512x8x2x64 .f32) i) := by
  have h := congrFun hp ix0
  unfold Cert.Pre_finite_scores.fn at h
  obtain ⟨h0, h1⟩ := IntOp.andi_eq_one.mp h
  have : Subsingleton Cert.Pre_finite_scores.S_.Idx := ⟨fun a b => funext fun k => k.elim0⟩
  exact ⟨fun i => finite _ (Host.reduce_andi_all _ _ _ _ _ h0 i), fun i => finite _ (Host.reduce_andi_all _ _ _ _ _ h1 i)⟩

abbrev Q (c : Dev nD) : FVec Ideal S2x4096x1024 .f32 := m ((c.tc : Thread nD τ).loc main_arg0)
abbrev K (c : Dev nD) : FVec Ideal S2x512x8x2x64 .f32 := m ((c.tc : Thread nD τ).loc main_arg2)

theorem lane (t : Fin cfg0.N) (n : Fin 2) (x : Fin 64) (l : Fin 128) (hl : l.val = n.val * 64 + x.val) :
    (⟨t.val / 8 % 8 * 128 + l.val, by omega⟩ : Fin 1024) = ⟨(⟨t.val / 8 % 8, by omega⟩ : Fin 8).val * 128 + n.val * 64 + x.val, by omega⟩ :=
  Fin.ext (by show t.val / 8 % 8 * 128 + l.val = t.val / 8 % 8 * 128 + n.val * 64 + x.val; omega)

theorem qrow (c : Dev nD) (t : Fin cfg0.N) (r : Fin 256) (n : Fin 2) (x : Fin 64) (l : Fin 128) (hl : l.val = n.val * 64 + x.val) :
    (iblk m c 0 t : Vec Ideal S1x256x128 .f32) (ix3 0 r l)
      = Q m c (ix3 0 ⟨(⟨t.val / 64, by have := tlt t; omega⟩ : Fin 2).val * 2048 + (⟨t.val % 8 * 256 + r.val, by omega⟩ : Fin 2048).val, by omega⟩
          ⟨(⟨t.val / 8 % 8, by omega⟩ : Fin 8).val * 128 + n.val * 64 + x.val, by omega⟩) := by
  rw [blk0]
  refine congrArg (Q m c) (congrArg₂ (ix3 0) (Fin.ext ?_) (lane t n x l hl))
  show (t.val / 64 * 8 + t.val % 8) * 256 + r.val = t.val / 64 * 2048 + (t.val % 8 * 256 + r.val)
  omega

theorem kcached (c : Dev nD) (t : Fin cfg0.N) (k : Fin 512) (n : Fin 2) (x : Fin 64) (l : Fin 128) (hl : l.val = n.val * 64 + x.val) :
    (iblk m c 1 t : Vec Ideal S1x512x128 .f32) (ix3 0 k l)
      = K m c (ix5 ⟨t.val / 64, by have := tlt t; omega⟩ k ⟨t.val / 8 % 8, by omega⟩ n x) := by
  refine Eq.trans ?_ (blk1 m c t k n x)
  exact congrArg _ (congrArg (ix3 0 k) (Fin.ext hl))

theorem knew (c : Dev nD) (t : Fin cfg0.N) (k : Fin 2048) (n : Fin 2) (x : Fin 64) (l : Fin 128) (hl : l.val = n.val * 64 + x.val) :
    (iblk m c 2 t : Vec Ideal S1x2048x128 .f32) (ix3 0 k l)
      = Q m c (ix3 1 ⟨(⟨t.val / 64, by have := tlt t; omega⟩ : Fin 2).val * 2048 + k.val, by omega⟩
          ⟨(⟨t.val / 8 % 8, by omega⟩ : Fin 8).val * 128 + n.val * 64 + x.val, by omega⟩) := by
  rw [blk2]
  exact congrArg (Q m c) (congrArg (ix3 1 _) (lane t n x l hl))

open Cert.DiffLatentRefIdeal.Val (cachedScore newScore cachedScore_finite newScore_finite attended out)

theorem s0_eq (c : Dev nD) (t : Fin cfg0.N) (r : Fin 256) : s0 (iblk m c 0 t) (iblk m c 1 t) r
    = cachedScore (Q m c) (K m c) ⟨t.val / 64, by have := tlt t; omega⟩ 0 ⟨t.val / 8 % 8, by omega⟩ ⟨t.val % 8 * 256 + r.val, by omega⟩ :=
  funext fun k => congrArg (· * _) (Finset.sum_congr rfl fun x _ =>
    congrArg₂ (· * ·) (qrow m c t r 0 x _ (by simp)) (kcached m c t k 0 x _ (by simp)))

theorem t0_eq (c : Dev nD) (t : Fin cfg0.N) (r : Fin 256) : t0 (iblk m c 0 t) (iblk m c 2 t) r
    = newScore (Q m c) ⟨t.val / 64, by have := tlt t; omega⟩ 0 ⟨t.val / 8 % 8, by omega⟩ ⟨t.val % 8 * 256 + r.val, by omega⟩ :=
  funext fun k => congrArg (· * _) (Finset.sum_congr rfl fun x _ =>
    congrArg₂ (· * ·) (qrow m c t r 0 x _ (by simp)) (knew m c t k 0 x _ (by simp)))

theorem s1_eq (c : Dev nD) (t : Fin cfg0.N) (r : Fin 256) : s1 (iblk m c 0 t) (iblk m c 1 t) r
    = cachedScore (Q m c) (K m c) ⟨t.val / 64, by have := tlt t; omega⟩ 1 ⟨t.val / 8 % 8, by omega⟩ ⟨t.val % 8 * 256 + r.val, by omega⟩ :=
  funext fun k => congrArg (· * _) (Finset.sum_congr rfl fun x _ =>
    congrArg₂ (· * ·) (qrow m c t r 1 x _ (by simp)) (kcached m c t k 1 x _ (by simp)))

theorem t1_eq (c : Dev nD) (t : Fin cfg0.N) (r : Fin 256) : t1 (iblk m c 0 t) (iblk m c 2 t) r
    = newScore (Q m c) ⟨t.val / 64, by have := tlt t; omega⟩ 1 ⟨t.val / 8 % 8, by omega⟩ ⟨t.val % 8 * 256 + r.val, by omega⟩ :=
  funext fun k => congrArg (· * _) (Finset.sum_congr rfl fun x _ =>
    congrArg₂ (· * ·) (qrow m c t r 1 x _ (by simp)) (knew m c t k 1 x _ (by simp)))

/-- A grid point's block, element by element, is the reference's. -/
theorem point (c : Dev nD) (hq : ∀ i, Fin' (Q m c i)) (hk : ∀ i, Fin' (K m c i)) (t : Fin cfg0.N) (r : Fin 256) (d : Fin 128) :
    normed (fun l => ov ((iblk m c 5 t : Vec Ideal S1x128 .f32) (ix2 0 0)) (s0 (iblk m c 0 t) (iblk m c 1 t) r)
          (t0 (iblk m c 0 t) (iblk m c 2 t) r) (s1 (iblk m c 0 t) (iblk m c 1 t) r) (t1 (iblk m c 0 t) (iblk m c 2 t) r)
          (fun k => (iblk m c 3 t : Vec Ideal S1x512x128 .f32) (ix3 0 k l)) (fun k => (iblk m c 4 t : Vec Ideal S1x2048x128 .f32) (ix3 0 k l)))
        ((iblk m c 6 t : Vec Ideal S1x128 .f32) (ix2 0 d)) d
      = DiffLatentRefIdeal.Read.val_main_v65 (F := Ideal) (Q m c) (m ((c.tc : Thread nD τ).loc main_arg1))
        (K m c) (m ((c.tc : Thread nD τ).loc main_arg3)) (m ((c.tc : Thread nD τ).loc main_arg4))
        (m ((c.tc : Thread nD τ).loc main_arg5))
        (ix2 ⟨(t.val / 64 * 8 + t.val % 8) * 256 + r.val, by have := tlt t; omega⟩ ⟨t.val / 8 % 8 * 128 + d.val, by omega⟩) := by
  have ht := tlt t
  rw [out]
  have e1 : (⟨((t.val / 64 * 8 + t.val % 8) * 256 + r.val) / 2048, by omega⟩ : Fin 2) = ⟨t.val / 64, by omega⟩ := Fin.ext (by show ((t.val / 64 * 8 + t.val % 8) * 256 + r.val) / 2048 = t.val / 64; omega)
  have e2 : (⟨((t.val / 64 * 8 + t.val % 8) * 256 + r.val) % 2048, by omega⟩ : Fin 2048) = ⟨t.val % 8 * 256 + r.val, by omega⟩ := Fin.ext (by show ((t.val / 64 * 8 + t.val % 8) * 256 + r.val) % 2048 = t.val % 8 * 256 + r.val; omega)
  have e3 : (⟨(t.val / 8 % 8 * 128 + d.val) / 128, by omega⟩ : Fin 8) = ⟨t.val / 8 % 8, by omega⟩ := Fin.ext (by show (t.val / 8 % 8 * 128 + d.val) / 128 = t.val / 8 % 8; omega)
  have e4 : (⟨(t.val / 8 % 8 * 128 + d.val) % 128, by omega⟩ : Fin 128) = d := Fin.ext (by show (t.val / 8 % 8 * 128 + d.val) % 128 = d.val; omega)
  simp only [e1, e2, e3, e4]
  have hdn : ∀ n, dn (cachedScore (Q m c) (K m c) ⟨t.val / 64, by omega⟩ n ⟨t.val / 8 % 8, by omega⟩ ⟨t.val % 8 * 256 + r.val, by omega⟩)
      (newScore (Q m c) ⟨t.val / 64, by omega⟩ n ⟨t.val / 8 % 8, by omega⟩ ⟨t.val % 8 * 256 + r.val, by omega⟩) ≠ 0 := fun n =>
    dn_ne_zero _ _ (cachedScore_finite _ _ hq hk _ _ _ _) (newScore_finite _ hq _ _ _ _)
  rw [blk6, blk5, s0_eq, t0_eq, s1_eq, t1_eq]
  refine congrArg (fun o => normed o _ d) (funext fun l => ?_)
  rw [attended _ _ _ _ _ _ _ _ _ (hdn 0) (hdn 1)]
  exact congrArg₂ (ov _ _ _ _ _) (funext fun k => blk3 m c t k l) (funext fun k => blk4 m c t k l)

/-- What a grid point stores: the payload of its staged blocks. -/
theorem out_pay (x0 : Vec Ideal S1x256x128 .f32) (x1 : Vec Ideal S1x512x128 .f32) (x2 : Vec Ideal S1x2048x128 .f32)
    (x3 : Vec Ideal S1x512x128 .f32) (x4 : Vec Ideal S1x2048x128 .f32) (x5 : Vec Ideal S1x128 .f32) (x6 : Vec Ideal S1x128 .f32) :
    out0_7 (F := Ideal) x0 x1 x2 x3 x4 x5 x6
      = k0_pay1 (F := Ideal) (k0_pay6 x3) (k0_pay7 x4) (k0_pay13 (k0_pay9 x0 x1) (k0_pay12 x0 x1 x2))
        (k0_pay14 (k0_pay10 x0 x2) (k0_pay11 x0 x1 x2))
        (k0_pay15 (k0_pay9 x0 x1) (k0_pay10 x0 x2) (k0_pay11 x0 x1 x2) (k0_pay12 x0 x1 x2))
        (k0_pay20 k0_pay2 (k0_pay3 x0) (k0_pay4 x1) (k0_pay5 x2)) (k0_pay21 k0_pay2 (k0_pay3 x0) (k0_pay4 x1) (k0_pay5 x2))
        (k0_pay22 k0_pay2 (k0_pay3 x0) (k0_pay4 x1) (k0_pay5 x2)) (k0_pay23 x5) x6 := by
  have z2 : (![0, 0] : Fin 2 → ℕ) = fun _ => 0 := by decide
  have z3 : (![0, 0, 0] : Fin 3 → ℕ) = fun _ => 0 := by decide
  have e0 : View.ld x0 r0_0 = x0 := View.ld_unit_zero z3 _ _
  have e1 : View.ld x1 r0_1 = x1 := View.ld_unit_zero z3 _ _
  have e2 : View.ld x2 r0_2 = x2 := View.ld_unit_zero z3 _ _
  have e3 : View.ld x3 r0_1 = x3 := View.ld_unit_zero z3 _ _
  have e4 : View.ld x4 r0_2 = x4 := View.ld_unit_zero z3 _ _
  have e5 : View.ld x5 r0_3 = x5 := View.ld_unit_zero z2 _ _
  have e6 : View.ld x6 r0_3 = x6 := View.ld_unit_zero z2 _ _
  unfold_out out0_7
  rw [e0, e1, e2, e3, e4, e5, e6]
  exact View.canon_unit_zero z2 _ _

theorem final (c : Dev nD) (hq : ∀ i, Fin' (Q m c i)) (hk : ∀ i, Fin' (K m c i)) : (dats (F := Ideal) m 0 c).arrAt 7 cfg0.N
    = (DiffLatentRefIdeal.Read.val_main_v65 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) : FVec Ideal S4096x1024 .f32) := by
  refine (dats m 0 c).arrAt_eq_of_covers 7 _ (by decide +kernel) fun t _ y => ?_
  blk_simp
  rw [after0_7]
  obtain ⟨r, d, rfl⟩ : ∃ (r : Fin 256) (d : Fin 128), y = (ix2 r d : S256x128.Idx) := ⟨y 0, y 1, by funext a; match a with | ⟨0, _⟩ => rfl | ⟨1, _⟩ => rfl⟩
  rw [win_emb]
  rw [← point m c hq hk]
  refine (congrFun (out_pay _ _ _ _ _ _ _) _).trans ?_
  exact pay_eq _ _ _ _ _ _ _ r d

end Cert.DiffLatentIdeal.Val

end
-- ==== Proof.DiffClaim.lean ====
module

public import proofs.«01_k».proof.Defs
public import proofs.«01_k».proof.Proof.DiffValue
public import proofs.«01_k».proof.Proof.Gen.DiffLatent
public import proofs.«01_k».proof.Proof.Gen.DiffLatentIdeal
public import proofs.«01_k».proof.Proof.Gen.DiffLatentRefIdeal
public import proofs.«01_k».proof.Proof.Gen.DiffLatentRefIdeal.Run
public import proofs.«01_k».proof.Proof.Gen.Pre_finite_scores
public import Idealize.ShloMosaic.Lib.Claim

/-! The value claim of the differential attention, from the kernel's run and the reference's. -/

@[expose] public section

set_option maxRecDepth 16384

noncomputable section

namespace Cert.DiffClaim

open Idealize.ShloMosaic Idealize.ShloMosaic.TcCoe Idealize.SL.Sem

/-- Kernel and reference end with the same array, wherever the queries and keys are finite. -/
theorem algebraic : Cert.algebraic_DiffLatentIdeal_DiffLatentRefIdeal_pre_finite_scores
    (hDiffLatentIdeal := Cert.DiffLatentIdeal.Gen.facts) (hDiffLatentRefIdeal := Cert.DiffLatentRefIdeal.Gen.facts)
    (hPre_finite_scores := Cert.Pre_finite_scores.Gen.facts) := by
  intro m g m' g' hp ha
  refine ⟨fun c => (Cert.DiffLatentRefIdeal.Read.val_main_v65 (F := Ideal)
      (m ((c.tc : Thread Cert.DiffLatentIdeal.nD Cert.DiffLatentIdeal.τ).loc Cert.DiffLatentIdeal.main_arg0))
      (m ((c.tc : Thread Cert.DiffLatentIdeal.nD Cert.DiffLatentIdeal.τ).loc Cert.DiffLatentIdeal.main_arg1))
      (m ((c.tc : Thread Cert.DiffLatentIdeal.nD Cert.DiffLatentIdeal.τ).loc Cert.DiffLatentIdeal.main_arg2))
      (m ((c.tc : Thread Cert.DiffLatentIdeal.nD Cert.DiffLatentIdeal.τ).loc Cert.DiffLatentIdeal.main_arg3))
      (m ((c.tc : Thread Cert.DiffLatentIdeal.nD Cert.DiffLatentIdeal.τ).loc Cert.DiffLatentIdeal.main_arg4))
      (m ((c.tc : Thread Cert.DiffLatentIdeal.nD Cert.DiffLatentIdeal.τ).loc Cert.DiffLatentIdeal.main_arg5)) :
      FVec Ideal Cert.DiffLatentIdeal.S4096x1024 .f32), ?_, ?_⟩
  · refine (θ_run _ _ _).mono (fun r h c => ?_) (Cert.DiffLatentIdeal.Value.run_blocks m g)
    have hf := Cert.DiffLatentIdeal.Val.pre_finite m c (hp c)
    exact ⟨(h c).1.trans (Cert.DiffLatentIdeal.Val.final m c hf.1 hf.2), (h c).2⟩
  · refine (θ_run _ _ _).mono (fun r h c => ?_) (Cert.DiffLatentRefIdeal.Value.run m' g')
    refine ⟨(h c).1.trans ?_, (h c).2⟩
    rw [Cert.DiffLatentRefIdeal.Read.val_main_v65_eq]
    obtain ⟨a0, a1, a2, a3, a4, a5⟩ := ha c
    rw [a0, a1, a2, a3, a4, a5]

/-- The reference terminates, keeps its arguments and has no semaphore. -/
theorem reference_frame (m : (ℓ : Loc Cert.DiffLatentRefIdeal.nD Cert.DiffLatentRefIdeal.τ Cert.DiffLatentRefIdeal.sig) → Buf (Elt Ideal) ℓ)
    (g : Dev Cert.DiffLatentRefIdeal.nD → PrngReg) :
    θ_run (Cert.DiffLatentRefIdeal.defs (F := Ideal)) (onTc (τ := Cert.DiffLatentRefIdeal.τ) (Cert.DiffLatentRefIdeal.main (F := Ideal)))
      ⟨m, fun _ => 0, g⟩ fun r => (∀ c : Dev Cert.DiffLatentRefIdeal.nD,
        r.2.mem ((c.tc : Thread Cert.DiffLatentRefIdeal.nD Cert.DiffLatentRefIdeal.τ).loc Cert.DiffLatentRefIdeal.main_arg0) = m ((c.tc : Thread Cert.DiffLatentRefIdeal.nD Cert.DiffLatentRefIdeal.τ).loc Cert.DiffLatentRefIdeal.main_arg0)
        ∧ r.2.mem ((c.tc : Thread Cert.DiffLatentRefIdeal.nD Cert.DiffLatentRefIdeal.τ).loc Cert.DiffLatentRefIdeal.main_arg1) = m ((c.tc : Thread Cert.DiffLatentRefIdeal.nD Cert.DiffLatentRefIdeal.τ).loc Cert.DiffLatentRefIdeal.main_arg1)
        ∧ r.2.mem ((c.tc : Thread Cert.DiffLatentRefIdeal.nD Cert.DiffLatentRefIdeal.τ).loc Cert.DiffLatentRefIdeal.main_arg2) = m ((c.tc : Thread Cert.DiffLatentRefIdeal.nD Cert.DiffLatentRefIdeal.τ).loc Cert.DiffLatentRefIdeal.main_arg2)
        ∧ r.2.mem ((c.tc : Thread Cert.DiffLatentRefIdeal.nD Cert.DiffLatentRefIdeal.τ).loc Cert.DiffLatentRefIdeal.main_arg3) = m ((c.tc : Thread Cert.DiffLatentRefIdeal.nD Cert.DiffLatentRefIdeal.τ).loc Cert.DiffLatentRefIdeal.main_arg3)
        ∧ r.2.mem ((c.tc : Thread Cert.DiffLatentRefIdeal.nD Cert.DiffLatentRefIdeal.τ).loc Cert.DiffLatentRefIdeal.main_arg4) = m ((c.tc : Thread Cert.DiffLatentRefIdeal.nD Cert.DiffLatentRefIdeal.τ).loc Cert.DiffLatentRefIdeal.main_arg4)
        ∧ r.2.mem ((c.tc : Thread Cert.DiffLatentRefIdeal.nD Cert.DiffLatentRefIdeal.τ).loc Cert.DiffLatentRefIdeal.main_arg5) = m ((c.tc : Thread Cert.DiffLatentRefIdeal.nD Cert.DiffLatentRefIdeal.τ).loc Cert.DiffLatentRefIdeal.main_arg5))
        ∧ r.2.sem = fun _ => 0 :=
  (θ_run _ _ _).mono (fun r h => ⟨fun c => (h c).2, sem_eq_zero_of_no_sems (by decide) r.2⟩)
    (Cert.DiffLatentRefIdeal.Value.run m g)

end Cert.DiffClaim

end
-- ==== Proof.FfnSpec.lean ====
module

public import Idealize.ShloMosaic.Lib.Pipeline.ValueKit
public import Idealize.ShloMosaic.Lib.Pointwise
public import Idealize.ShloMosaic.Lib.Claim

/-! The gated feed-forward layer as sums of extended reals, shared by the dense and the mixture-of-experts calls. -/

@[expose] public section

noncomputable section

namespace Cert.FfnSpec

open Idealize.ShloMosaic

/-- One hidden unit: the gate's product passed through `silu`, times the up product. -/
def hidden (x wg wu : Fin 1024 → EReal) : EReal :=
  (∑ k, x k * wg k) * Ideal.logistic (∑ k, x k * wg k) * ∑ k, x k * wu k

/-- A row normalized by its root mean square, scaled, and modulated. -/
def modulated (x g sc sh : Fin 1024 → EReal) (k : Fin 1024) : EReal :=
  x k * Ideal.rsqrt (Ideal.div (∑ l, x l * x l) (Ideal.ofBits .f32 0x44800000#32) + Ideal.ofBits .f32 0x358637BD#32) * g k * (1 + sc k) + sh k

/-- The whole gated layer on one row: 2816 hidden units, then the down projection. -/
def swiglu (x : Fin 1024 → EReal) (wg wu : Fin 1024 → Fin 2816 → EReal) (wd : Fin 2816 → Fin 1024 → EReal) (d : Fin 1024) : EReal :=
  ∑ h, hidden x (fun k => wg k h) (fun k => wu k h) * wd h d

theorem logistic_eq (x : EReal) :
    Ideal.div (Ideal.ofBits .f32 0x3F800000#32) (Ideal.ofBits .f32 0x3F800000#32 + Ideal.exp (-x)) = Ideal.logistic x := by
  have h : Ideal.ofBits .f32 0x3F800000#32 = 1 := by pointwise
  rw [h]
  rfl

end Cert.FfnSpec

end
-- ==== Proof.FfnPay.lean ====
module

public import proofs.«01_k».proof.Proof.Gen.FfnDenseIdeal.Frame
public import proofs.«01_k».proof.Proof.FfnSpec

/-! What the dense feed-forward body computes, element by element. -/

@[expose] public section

set_option maxRecDepth 16384

noncomputable section

namespace Cert.FfnDenseIdeal.Pay

open Idealize.ShloMosaic Idealize.ShloMosaic.TcCoe Idealize.SL.Sem
open Cert.FfnDenseIdeal Cert.FfnDenseIdeal.Gen Cert.FfnSpec

/-- What one tile of 256 hidden units adds to an output element. -/
def tile (x : Fin 1024 → EReal) (wg wu : FVec Ideal S1024x256 .f32) (wd : FVec Ideal S256x1024 .f32) (d : Fin 1024) : EReal :=
  ∑ h : Fin 256, FfnSpec.hidden x (fun k => wg (ix2 k h)) (fun k => wu (ix2 k h)) * wd (ix2 h d)

theorem pay10 (wg wu : FVec Ideal S1024x256 .f32) (wd : FVec Ideal S256x1024 .f32) (xb : FVec Ideal S256x1024 .bf16) (acc : FVec Ideal S256x1024 .f32)
    (r : Fin 256) (d : Fin 1024) :
    k0_pay10 (F := Ideal) wg wu wd xb acc (ix2 r d) = acc (ix2 r d) + tile (fun k => xb (ix2 r k)) wg wu wd d := by
  unfold tile FfnSpec.hidden
  pointwise [k0_pay10, k0_pay7, k0_pay8, k0_pay9]

theorem pay11 (wg wu : FVec Ideal S1024x256 .f32) (wd : FVec Ideal S256x1024 .f32) (xb : FVec Ideal S256x1024 .bf16) (acc : FVec Ideal S256x1024 .f32)
    (r : Fin 256) (d : Fin 1024) :
    k0_pay1 (F := Ideal) (k0_pay11 (F := Ideal) wg wu wd xb acc) (ix2 r d) = acc (ix2 r d) + tile (fun k => xb (ix2 r k)) wg wu wd d := by
  unfold tile FfnSpec.hidden
  pointwise [k0_pay1, k0_pay11, k0_pay7, k0_pay8, k0_pay9]

theorem pay2 (wg wu : FVec Ideal S1024x256 .f32) (wd : FVec Ideal S256x1024 .f32) (xb : FVec Ideal S256x1024 .bf16) (acc : FVec Ideal S256x1024 .f32)
    (r : Fin 256) (d : Fin 1024) :
    k0_pay2 (F := Ideal) (k0_pay7 (F := Ideal) wg) (k0_pay8 (F := Ideal) wu) (k0_pay9 (F := Ideal) wd) xb acc (ix2 r d)
      = acc (ix2 r d) + tile (fun k => xb (ix2 r k)) wg wu wd d := by
  unfold tile FfnSpec.hidden
  pointwise [k0_pay2, k0_pay7, k0_pay8, k0_pay9]

theorem pay3 (wg wu : FVec Ideal S1024x256 .f32) (wd : FVec Ideal S256x1024 .f32) (xb : FVec Ideal S256x1024 .bf16) (acc : FVec Ideal S256x1024 .f32)
    (r : Fin 256) (d : Fin 1024) :
    k0_pay3 (F := Ideal) (k0_pay7 (F := Ideal) wg) (k0_pay8 (F := Ideal) wu) (k0_pay9 (F := Ideal) wd) xb acc (ix2 r d)
      = acc (ix2 r d) + tile (fun k => xb (ix2 r k)) wg wu wd d := by
  unfold tile FfnSpec.hidden
  pointwise [k0_pay3, k0_pay7, k0_pay8, k0_pay9]

theorem pay4 (x acc : FVec Ideal S1024x1024 .f32) (g : FVec Ideal S1x1x1x1024 .f32) (r d : Fin 1024) :
    k0_pay4 (F := Ideal) x g acc (ix2 r d) = x (ix2 r d) + g (ix4 0 0 0 d) * acc (ix2 r d) := by
  pointwise [k0_pay4]

theorem pay6 (r d : Fin 1024) : k0_pay6 (F := Ideal) (ix2 r d) = 0 := by
  pointwise [k0_pay6]

theorem pay5 (x : FVec Ideal S1024x1024 .f32) (g : FVec Ideal S1x1024 .f32) (sc sh : FVec Ideal S1x1x1x1024 .f32) (r d : Fin 1024) :
    k0_pay5 (F := Ideal) x g sc sh (ix2 r d)
      = modulated (fun k => x (ix2 r k)) (fun k => g (ix2 0 k)) (fun k => sc (ix4 0 0 0 k)) (fun k => sh (ix4 0 0 0 k)) d := by
  unfold modulated
  pointwise [k0_pay5]

end Cert.FfnDenseIdeal.Pay
-- ==== Proof.FfnReference.lean ====
module

public import proofs.«01_k».proof.Proof.Gen.FfnDenseRefIdeal.Run
public import proofs.«01_k».proof.Proof.Gen.FfnDenseRefIdeal.Read
public import proofs.«01_k».proof.Proof.FfnSpec

/-! The dense feed-forward reference read element by element. -/

@[expose] public section

set_option maxRecDepth 16384

noncomputable section

namespace Cert.FfnDenseRefIdeal.Reading

open Idealize.ShloMosaic Idealize.ShloMosaic.TcCoe Idealize.SL.Sem
open Cert.FfnDenseRefIdeal Cert.FfnDenseRefIdeal.Read Cert.FfnSpec

abbrev A0 := FVec Ideal S12288x1024 .f32
abbrev A1 := FVec Ideal S1024x2816 .f32
abbrev A3 := FVec Ideal S2816x1024 .f32
abbrev A4 := FVec Ideal S1024 .f32
abbrev A5 := FVec Ideal S3x6x1x1024 .f32

/-- The layer on row `r` of the input, with the modulation of group `g`. -/
def row (X0 : A0) (X1 X2 : A1) (X3 : A3) (X4 : A4) (X5 : A5) (r : Fin 12288) (g : Fin 3) (d : Fin 1024) : EReal :=
  X0 (ix2 r d) + X5 (ix4 g 5 0 d) * swiglu (modulated (fun k => X0 (ix2 r k)) (fun k => X4 (ix1 k)) (fun k => X5 (ix4 g 4 0 k)) (fun k => X5 (ix4 g 3 0 k)))
    (fun k h => X1 (ix2 k h)) (fun k h => X2 (ix2 k h)) (fun h k => X3 (ix2 h k)) d

theorem x1 (X0 : A0) (b : Fin 32) (s : Fin 256) (k : Fin 1024) :
    val_main_v1 (F := Ideal) X0 (ix3 b s k) = X0 (ix2 ⟨b.val * 256 + s.val, by omega⟩ k) := by
  rw [val_main_v1_apply, val_main_v0_apply]
  refine congrArg X0 (funext fun a => Fin.ext ?_)
  match a with
  | ⟨0, _⟩ => show ((b.val * 256 + s.val) * 1024 + k.val) / 1024 = b.val * 256 + s.val; omega
  | ⟨1, _⟩ => show ((b.val * 256 + s.val) * 1024 + k.val) % 1024 = k.val; omega

theorem x3 (X0 : A0) (b : Fin 2) (s : Fin 2048) (k : Fin 1024) :
    val_main_v3 (F := Ideal) X0 (ix3 b s k) = X0 (ix2 ⟨8192 + (b.val * 2048 + s.val), by omega⟩ k) := by
  rw [val_main_v3_apply, val_main_v2_apply]
  refine congrArg X0 (funext fun a => Fin.ext ?_)
  match a with
  | ⟨0, _⟩ => show 8192 + ((b.val * 2048 + s.val) * 1024 + k.val) / 1024 = 8192 + (b.val * 2048 + s.val); omega
  | ⟨1, _⟩ => show ((b.val * 2048 + s.val) * 1024 + k.val) % 1024 = k.val; omega

theorem one : Ideal.ofBits .f32 0x3F800000#32 = 1 := by pointwise
theorem zero : Ideal.ofBits .f32 0x00000000#32 = 0 := by pointwise

theorem sum1 (X0 : A0) (b : Fin 32) (s : Fin 256) (k : Fin 1024) :
    val_main_v36 (F := Ideal) X0 (ix3 b s k)
      = Ideal.rsqrt (Ideal.div (∑ l, val_main_v1 (F := Ideal) X0 (ix3 b s l) * val_main_v1 (F := Ideal) X0 (ix3 b s l)) (Ideal.ofBits .f32 0x44800000#32)
          + Ideal.ofBits .f32 0x358637BD#32) := by
  rw [val_main_v36_apply, val_main_v35_apply, val_main_v34_apply, val_main_v32_apply, val_main_v30_apply, val_main_v29_apply,
    val_main_v33_apply, val_main_v31_apply, val_main_cst_0_apply, val_main_cst_1_apply, val_main_cst_apply]
  simp only [val_main_v28_apply]
  have e : ∀ l, idx_main_v29 (idx_main_v30 (idx_main_v36 (ix3 b s k))) l = ix3 b s l := by
    intro l
    funext a
    match a with | ⟨0, _⟩ => rfl | ⟨1, _⟩ => rfl | ⟨2, _⟩ => rfl
  simp only [e]
  generalize val_main_v1 (F := Ideal) X0 = y
  show Ideal.rsqrt (Ideal.div (Ideal.ofBits .f32 0x00000000#32 + ∑ l, y (ix3 b s l) * y (ix3 b s l)) _ + _) = _
  rw [zero, zero_add]
  rfl

theorem sum3 (X0 : A0) (b : Fin 2) (s : Fin 2048) (k : Fin 1024) :
    val_main_v57 (F := Ideal) X0 (ix3 b s k)
      = Ideal.rsqrt (Ideal.div (∑ l, val_main_v3 (F := Ideal) X0 (ix3 b s l) * val_main_v3 (F := Ideal) X0 (ix3 b s l)) (Ideal.ofBits .f32 0x44800000#32)
          + Ideal.ofBits .f32 0x358637BD#32) := by
  rw [val_main_v57_apply, val_main_v56_apply, val_main_v55_apply, val_main_v53_apply, val_main_v51_apply, val_main_v50_apply,
    val_main_v54_apply, val_main_v52_apply, val_main_cst_4_apply, val_main_cst_5_apply, val_main_cst_3_apply]
  simp only [val_main_v49_apply]
  have e : ∀ l, idx_main_v50 (idx_main_v51 (idx_main_v57 (ix3 b s k))) l = ix3 b s l := by
    intro l
    funext a
    match a with | ⟨0, _⟩ => rfl | ⟨1, _⟩ => rfl | ⟨2, _⟩ => rfl
  simp only [e]
  generalize val_main_v3 (F := Ideal) X0 = y
  show Ideal.rsqrt (Ideal.div (Ideal.ofBits .f32 0x00000000#32 + ∑ l, y (ix3 b s l) * y (ix3 b s l)) _ + _) = _
  rw [zero, zero_add]
  rfl

theorem mod1 (X0 : A0) (X4 : A4) (X5 : A5) (b : Fin 32) (s : Fin 256) (k : Fin 1024) :
    val_main_v48 (F := Ideal) X0 X4 X5 (ix3 b s k)
      = modulated (fun k => X0 (ix2 ⟨b.val * 256 + s.val, by omega⟩ k)) (fun k => X4 (ix1 k)) (fun k => X5 (ix4 0 4 0 k)) (fun k => X5 (ix4 0 3 0 k)) k := by
  have hk := k.isLt
  rw [val_main_v48_apply, val_main_v45_apply, val_main_v40_apply, val_main_v37_apply, sum1]
  simp only [x1]
  rw [val_main_v39_apply, val_main_v38_apply, val_main_v44_apply, val_main_v43_apply, val_main_v42_apply, val_main_v41_apply, val_main_cst_2_apply,
    val_main_v13_apply, val_main_v12_apply, val_main_v47_apply, val_main_v46_apply, val_main_v11_apply, val_main_v10_apply]
  have e4 : idx_main_v38 (idx_main_v39 (ix3 b s k)) = ix1 k := by
    funext a
    match a with | ⟨0, _⟩ => rfl
  have es : idx_main_v12 (idx_main_v13 (idx_main_v43 (idx_main_v44 (ix3 b s k)))) = ix4 0 4 0 k := by
    funext a
    match a with
    | ⟨0, _⟩ => rfl
    | ⟨1, _⟩ => rfl
    | ⟨2, _⟩ => rfl
    | ⟨3, _⟩ => refine Fin.ext ?_; show _ = k.val; simp; try omega
  have eh : idx_main_v10 (idx_main_v11 (idx_main_v46 (idx_main_v47 (ix3 b s k)))) = ix4 0 3 0 k := by
    funext a
    match a with
    | ⟨0, _⟩ => rfl
    | ⟨1, _⟩ => rfl
    | ⟨2, _⟩ => rfl
    | ⟨3, _⟩ => refine Fin.ext ?_; show _ = k.val; simp; try omega
  rw [e4, es, eh]
  unfold modulated
  rw [← one]
  rfl

theorem mod3 (X0 : A0) (X4 : A4) (X5 : A5) (b : Fin 2) (s : Fin 2048) (k : Fin 1024) :
    val_main_v67 (F := Ideal) X0 X4 X5 (ix3 b s k)
      = modulated (fun k => X0 (ix2 ⟨8192 + (b.val * 2048 + s.val), by omega⟩ k)) (fun k => X4 (ix1 k))
          (fun k => X5 (ix4 ⟨1 + b.val, by omega⟩ 4 0 k)) (fun k => X5 (ix4 ⟨1 + b.val, by omega⟩ 3 0 k)) k := by
  have hk := k.isLt
  have hb := b.isLt
  rw [val_main_v67_apply, val_main_v65_apply, val_main_v61_apply, val_main_v58_apply, sum3]
  simp only [x3]
  rw [val_main_v60_apply, val_main_v59_apply, val_main_v64_apply, val_main_v63_apply, val_main_v62_apply, val_main_cst_6_apply,
    val_main_v25_apply, val_main_v24_apply, val_main_v66_apply, val_main_v23_apply, val_main_v22_apply]
  have e4 : idx_main_v59 (idx_main_v60 (ix3 b s k)) = ix1 k := by
    funext a
    match a with | ⟨0, _⟩ => rfl
  have es : idx_main_v24 (idx_main_v25 (idx_main_v64 (ix3 b s k))) = ix4 ⟨1 + b.val, by omega⟩ 4 0 k := by
    funext a
    match a with
    | ⟨0, _⟩ => refine Fin.ext ?_; show 1 + ((b.val * 1 + 0) * 1024 + k.val) / 1024 = 1 + b.val; omega
    | ⟨1, _⟩ => rfl
    | ⟨2, _⟩ => rfl
    | ⟨3, _⟩ => refine Fin.ext ?_; show ((b.val * 1 + 0) * 1024 + k.val) % 1024 = k.val; omega
  have eh : idx_main_v22 (idx_main_v23 (idx_main_v66 (ix3 b s k))) = ix4 ⟨1 + b.val, by omega⟩ 3 0 k := by
    funext a
    match a with
    | ⟨0, _⟩ => refine Fin.ext ?_; show 1 + ((b.val * 1 + 0) * 1024 + k.val) / 1024 = 1 + b.val; omega
    | ⟨1, _⟩ => rfl
    | ⟨2, _⟩ => rfl
    | ⟨3, _⟩ => refine Fin.ext ?_; show ((b.val * 1 + 0) * 1024 + k.val) % 1024 = k.val; omega
  rw [e4, es, eh]
  unfold modulated
  rw [← one]
  rfl

theorem unit1 (X0 : A0) (X1 X2 : A1) (X4 : A4) (X5 : A5) (b : Fin 32) (s : Fin 256) (h : Fin 2816) :
    val_main_v71 (F := Ideal) X0 X1 X2 X4 X5 (ix3 b s h)
      = FfnSpec.hidden (fun k => val_main_v48 (F := Ideal) X0 X4 X5 (ix3 b s k)) (fun k => X1 (ix2 k h)) (fun k => X2 (ix2 k h)) := by
  rw [val_main_v71_apply, val_main_v69_apply, val_main_call0_v5_apply, val_main_call0_v4_apply, val_main_call0_v3_apply, val_main_call0_v2_apply,
    val_main_call0_v1_apply, val_main_call0_v0_apply, val_main_call0_cst_apply, val_main_call0_cst_0_apply, val_main_v68_apply, val_main_v70_apply]
  have el : ∀ k, lidx_main_v68 (ix3 b s h) k = ix3 b s k := by
    intro k
    funext a
    match a with | ⟨0, _⟩ => rfl | ⟨1, _⟩ => rfl | ⟨2, _⟩ => rfl
  have er : ∀ k, ridx_main_v68 (ix3 b s h) k = ix2 k h := by
    intro k
    funext a
    match a with | ⟨0, _⟩ => rfl | ⟨1, _⟩ => rfl
  have el' : ∀ k, lidx_main_v70 (ix3 b s h) k = ix3 b s k := el
  have er' : ∀ k, ridx_main_v70 (ix3 b s h) k = ix2 k h := er
  simp only [el, er, el', er']
  unfold FfnSpec.hidden
  generalize val_main_v48 (F := Ideal) X0 X4 X5 = y
  generalize (∑ k, y (ix3 b s k) * X1 (ix2 k h)) = p
  generalize (∑ k, y (ix3 b s k) * X2 (ix2 k h)) = q
  exact congrArg (fun l => p * l * q) (logistic_eq p)

theorem unit3 (X0 : A0) (X1 X2 : A1) (X4 : A4) (X5 : A5) (b : Fin 2) (s : Fin 2048) (h : Fin 2816) :
    val_main_v76 (F := Ideal) X0 X1 X2 X4 X5 (ix3 b s h)
      = FfnSpec.hidden (fun k => val_main_v67 (F := Ideal) X0 X4 X5 (ix3 b s k)) (fun k => X1 (ix2 k h)) (fun k => X2 (ix2 k h)) := by
  rw [val_main_v76_apply, val_main_v74_apply, val_main_call1_v5_apply, val_main_call1_v4_apply, val_main_call1_v3_apply, val_main_call1_v2_apply,
    val_main_call1_v1_apply, val_main_call1_v0_apply, val_main_call1_cst_apply, val_main_call1_cst_0_apply, val_main_v73_apply, val_main_v75_apply]
  have el : ∀ k, lidx_main_v73 (ix3 b s h) k = ix3 b s k := by
    intro k
    funext a
    match a with | ⟨0, _⟩ => rfl | ⟨1, _⟩ => rfl | ⟨2, _⟩ => rfl
  have er : ∀ k, ridx_main_v73 (ix3 b s h) k = ix2 k h := by
    intro k
    funext a
    match a with | ⟨0, _⟩ => rfl | ⟨1, _⟩ => rfl
  have el' : ∀ k, lidx_main_v75 (ix3 b s h) k = ix3 b s k := el
  have er' : ∀ k, ridx_main_v75 (ix3 b s h) k = ix2 k h := er
  simp only [el, er, el', er']
  unfold FfnSpec.hidden
  generalize val_main_v67 (F := Ideal) X0 X4 X5 = y
  generalize (∑ k, y (ix3 b s k) * X1 (ix2 k h)) = p
  generalize (∑ k, y (ix3 b s k) * X2 (ix2 k h)) = q
  exact congrArg (fun l => p * l * q) (logistic_eq p)

theorem out1 (X0 : A0) (X1 X2 : A1) (X3 : A3) (X4 : A4) (X5 : A5) (b : Fin 32) (s : Fin 256) (d : Fin 1024) :
    val_main_v81 (F := Ideal) X0 X1 X2 X3 X4 X5 (ix3 b s d) = row X0 X1 X2 X3 X4 X5 ⟨b.val * 256 + s.val, by omega⟩ 0 d := by
  have hd := d.isLt
  rw [val_main_v81_apply, val_main_v80_apply, val_main_v79_apply, val_main_v78_apply, val_main_v15_apply, val_main_v14_apply, val_main_v72_apply, x1]
  have eg : idx_main_v14 (idx_main_v15 (idx_main_v78 (idx_main_v79 (ix3 b s d)))) = ix4 0 5 0 d := by
    funext a
    match a with
    | ⟨0, _⟩ => rfl
    | ⟨1, _⟩ => rfl
    | ⟨2, _⟩ => rfl
    | ⟨3, _⟩ => refine Fin.ext ?_; show (0 * 1024 + d.val) % 1024 = d.val; omega
  have el : ∀ h, lidx_main_v72 (ix3 b s d) h = ix3 b s h := by
    intro k
    funext a
    match a with | ⟨0, _⟩ => rfl | ⟨1, _⟩ => rfl | ⟨2, _⟩ => rfl
  have er : ∀ h, ridx_main_v72 (ix3 b s d) h = ix2 h d := by
    intro k
    funext a
    match a with | ⟨0, _⟩ => rfl | ⟨1, _⟩ => rfl
  simp only [eg, el, er, unit1, mod1]
  rfl

theorem out3 (X0 : A0) (X1 X2 : A1) (X3 : A3) (X4 : A4) (X5 : A5) (b : Fin 2) (s : Fin 2048) (d : Fin 1024) :
    val_main_v84 (F := Ideal) X0 X1 X2 X3 X4 X5 (ix3 b s d)
      = row X0 X1 X2 X3 X4 X5 ⟨8192 + (b.val * 2048 + s.val), by omega⟩ ⟨1 + b.val, by omega⟩ d := by
  have hd := d.isLt
  have hb := b.isLt
  rw [val_main_v84_apply, val_main_v83_apply, val_main_v82_apply, val_main_v27_apply, val_main_v26_apply, val_main_v77_apply, x3]
  have eg : idx_main_v26 (idx_main_v27 (idx_main_v82 (ix3 b s d))) = ix4 ⟨1 + b.val, by omega⟩ 5 0 d := by
    funext a
    match a with
    | ⟨0, _⟩ => refine Fin.ext ?_; show 1 + ((b.val * 1 + 0) * 1024 + d.val) / 1024 = 1 + b.val; omega
    | ⟨1, _⟩ => rfl
    | ⟨2, _⟩ => rfl
    | ⟨3, _⟩ => refine Fin.ext ?_; show ((b.val * 1 + 0) * 1024 + d.val) % 1024 = d.val; omega
  have el : ∀ h, lidx_main_v77 (ix3 b s d) h = ix3 b s h := by
    intro k
    funext a
    match a with | ⟨0, _⟩ => rfl | ⟨1, _⟩ => rfl | ⟨2, _⟩ => rfl
  have er : ∀ h, ridx_main_v77 (ix3 b s d) h = ix2 h d := by
    intro k
    funext a
    match a with | ⟨0, _⟩ => rfl | ⟨1, _⟩ => rfl
  simp only [eg, el, er, unit3, mod3]
  rfl

/-- Two blocks of rows stacked, read at a row of the first. -/
theorem stack_lo (y : FVec Ideal S8192x1024 .f32) (z : FVec Ideal S4096x1024 .f32)
    (hc : _) (r : Fin 12288) (d : Fin 1024) (h : r.val < 8192) :
    concatenate S12288x1024 0 [⟨S8192x1024, y⟩, ⟨S4096x1024, z⟩] hc (ix2 r d) = y (ix2 ⟨r.val, h⟩ d) := by
  pointwise [h]

/-- Two blocks of rows stacked, read at a row of the second. -/
theorem stack_hi (y : FVec Ideal S8192x1024 .f32) (z : FVec Ideal S4096x1024 .f32)
    (hc : _) (r : Fin 12288) (d : Fin 1024) (h : ¬r.val < 8192) :
    concatenate S12288x1024 0 [⟨S8192x1024, y⟩, ⟨S4096x1024, z⟩] hc (ix2 r d)
      = z (ix2 ⟨r.val - 8192, by omega⟩ d) := by
  pointwise [h]

/-- The reference's row `r` is the layer with the modulation of the row's group: the first 8192 rows are group 0, then 2048 rows each. -/
theorem reads (X0 : A0) (X1 X2 : A1) (X3 : A3) (X4 : A4) (X5 : A5) (r : Fin 12288) (d : Fin 1024) :
    val_main_v87 (F := Ideal) X0 X1 X2 X3 X4 X5 (ix2 r d) = row X0 X1 X2 X3 X4 X5 r ⟨(r.val / 1024 - 6) / 2, by omega⟩ d := by
  have hr := r.isLt
  have hd := d.isLt
  unfold val_main_v87
  by_cases h : r.val < 8192
  · rw [stack_lo _ _ _ r d h, val_main_v85_apply]
    have e : idx_main_v85 (ix2 ⟨r.val, h⟩ d) = ix3 ⟨r.val / 256, by omega⟩ ⟨r.val % 256, by omega⟩ d := by
      funext a
      match a with
      | ⟨0, _⟩ => refine Fin.ext ?_; show (r.val * 1024 + d.val) / 262144 = r.val / 256; omega
      | ⟨1, _⟩ => refine Fin.ext ?_; show (r.val * 1024 + d.val) / 1024 % 256 = r.val % 256; omega
      | ⟨2, _⟩ => refine Fin.ext ?_; show (r.val * 1024 + d.val) % 1024 = d.val; omega
    rw [e, out1]
    have er : (⟨(⟨r.val / 256, by omega⟩ : Fin 32).val * 256 + (⟨r.val % 256, by omega⟩ : Fin 256).val, by omega⟩ : Fin 12288) = r :=
      Fin.ext (by show r.val / 256 * 256 + r.val % 256 = r.val; omega)
    have eg : (0 : Fin 3) = ⟨(r.val / 1024 - 6) / 2, by omega⟩ := Fin.ext (by show 0 = (r.val / 1024 - 6) / 2; omega)
    rw [er, eg]
  · rw [stack_hi _ _ _ r d h, val_main_v86_apply]
    have e : idx_main_v86 (ix2 ⟨r.val - 8192, by omega⟩ d) = ix3 ⟨(r.val - 8192) / 2048, by omega⟩ ⟨(r.val - 8192) % 2048, by omega⟩ d := by
      funext a
      match a with
      | ⟨0, _⟩ => refine Fin.ext ?_; show ((r.val - 8192) * 1024 + d.val) / 2097152 = (r.val - 8192) / 2048; omega
      | ⟨1, _⟩ => refine Fin.ext ?_; show ((r.val - 8192) * 1024 + d.val) / 1024 % 2048 = (r.val - 8192) % 2048; omega
      | ⟨2, _⟩ => refine Fin.ext ?_; show ((r.val - 8192) * 1024 + d.val) % 1024 = d.val; omega
    rw [e, out3]
    have er : (⟨8192 + ((⟨(r.val - 8192) / 2048, by omega⟩ : Fin 2).val * 2048 + (⟨(r.val - 8192) % 2048, by omega⟩ : Fin 2048).val), by omega⟩
        : Fin 12288) = r :=
      Fin.ext (by show 8192 + ((r.val - 8192) / 2048 * 2048 + (r.val - 8192) % 2048) = r.val; omega)
    have eg : (⟨1 + (⟨(r.val - 8192) / 2048, by omega⟩ : Fin 2).val, by omega⟩ : Fin 3) = ⟨(r.val / 1024 - 6) / 2, by omega⟩ :=
      Fin.ext (by show 1 + (r.val - 8192) / 2048 = (r.val / 1024 - 6) / 2; omega)
    rw [er, eg]

end Cert.FfnDenseRefIdeal.Reading
-- ==== Proof.FfnValue.lean ====
module

public import proofs.«01_k».proof.Proof.FfnPay
public import proofs.«01_k».proof.Proof.FfnReference
public import Idealize.ShloMosaic.Lib.Pipeline.ReadBack
public import Idealize.ShloMosaic.Lib.Pipeline.ValueKit.Held

/-! The array the dense feed-forward call returns, block by block: every block is the reference's. -/

@[expose] public section

set_option maxRecDepth 16384

noncomputable section

namespace Cert.FfnDenseIdeal.Val

open Idealize.ShloMosaic Idealize.ShloMosaic.TcCoe Idealize.SL.Sem
open Cert.FfnDenseIdeal Cert.FfnDenseIdeal.Gen Cert.FfnDenseIdeal.Pay Cert.FfnSpec

variable (m : (ℓ : Loc nD τ sig) → Buf (Elt Ideal) ℓ)

/-- Which block each window stages at a grid point. -/
theorem idx : ∀ t : Fin cfg0.N,
    win0_0.index t = ![t.val / 11, 0] ∧ win0_1.index t = ![0, t.val % 11] ∧ win0_2.index t = ![0, t.val % 11] ∧ win0_3.index t = ![t.val % 11, 0]
    ∧ win0_4.index t = ![0, 0] ∧ win0_5.index t = ![(t.val / 11 - 6) / 2, 3, 0, 0] ∧ win0_6.index t = ![(t.val / 11 - 6) / 2, 4, 0, 0]
    ∧ win0_7.index t = ![(t.val / 11 - 6) / 2, 5, 0, 0] ∧ win0_8.index t = ![t.val / 11, 0] :=
  (by decide +kernel : ∀ t : Fin grid0.N, _)

theorem tlt (t : Fin cfg0.N) : t.val < 132 := t.isLt

abbrev X (c : Dev nD) : FVec Ideal S12288x1024 .f32 := m ((c.tc : Thread nD τ).loc main_arg0)
abbrev Wg (c : Dev nD) : FVec Ideal S1024x2816 .f32 := m ((c.tc : Thread nD τ).loc main_arg1)
abbrev Wu (c : Dev nD) : FVec Ideal S1024x2816 .f32 := m ((c.tc : Thread nD τ).loc main_arg2)
abbrev Wd (c : Dev nD) : FVec Ideal S2816x1024 .f32 := m ((c.tc : Thread nD τ).loc main_arg3)
abbrev Ng (c : Dev nD) : FVec Ideal S1024 .f32 := m ((c.tc : Thread nD τ).loc main_arg4)
abbrev Mods (c : Dev nD) : FVec Ideal S3x6x1x1024 .f32 := m ((c.tc : Thread nD τ).loc main_arg5)

/-- The modulation group of a grid point. -/
abbrev grp (t : Fin cfg0.N) : Fin 3 := ⟨(t.val / 11 - 6) / 2, by have := tlt t; omega⟩

/-- The row of the whole array that row `r` of a point's block is. -/
abbrev rowOf (t : Fin cfg0.N) (r : Fin 1024) : Fin 12288 := ⟨t.val / 11 * 1024 + r.val, by have := tlt t; omega⟩

/-- The hidden unit of the whole layer that unit `h` of a point's tile is. -/
abbrev unitOf (t : Fin cfg0.N) (h : Fin 256) : Fin 2816 := ⟨t.val % 11 * 256 + h.val, by omega⟩

theorem blk0 (c : Dev nD) (t : Fin cfg0.N) (r k : Fin 1024) : (iblk m c 0 t : Vec Ideal S1024x1024 .f32) (ix2 r k) = X m c (ix2 (rowOf t r) k) := by
  blk_ext! [iblk, V, idx t]

theorem blk1 (c : Dev nD) (t : Fin cfg0.N) (k : Fin 1024) (h : Fin 256) :
    (iblk m c 1 t : Vec Ideal S1024x256 .f32) (ix2 k h) = Wg m c (ix2 k (unitOf t h)) := by
  blk_ext! [iblk, V, idx t]

theorem blk2 (c : Dev nD) (t : Fin cfg0.N) (k : Fin 1024) (h : Fin 256) :
    (iblk m c 2 t : Vec Ideal S1024x256 .f32) (ix2 k h) = Wu m c (ix2 k (unitOf t h)) := by
  blk_ext! [iblk, V, idx t]

theorem blk3 (c : Dev nD) (t : Fin cfg0.N) (h : Fin 256) (k : Fin 1024) :
    (iblk m c 3 t : Vec Ideal S256x1024 .f32) (ix2 h k) = Wd m c (ix2 (unitOf t h) k) := by
  blk_ext! [iblk, V, idx t]

theorem blk4 (c : Dev nD) (t : Fin cfg0.N) (k : Fin 1024) : (iblk m c 4 t : Vec Ideal S1x1024 .f32) (ix2 0 k) = Ng m c (ix1 k) := by
  blk_ext! [iblk, V, idx t]

theorem blk5 (c : Dev nD) (t : Fin cfg0.N) (k : Fin 1024) : (iblk m c 5 t : Vec Ideal S1x1x1x1024 .f32) (ix4 0 0 0 k) = Mods m c (ix4 (grp t) 3 0 k) := by
  blk_ext! [iblk, V, idx t]

theorem blk6 (c : Dev nD) (t : Fin cfg0.N) (k : Fin 1024) : (iblk m c 6 t : Vec Ideal S1x1x1x1024 .f32) (ix4 0 0 0 k) = Mods m c (ix4 (grp t) 4 0 k) := by
  blk_ext! [iblk, V, idx t]

theorem blk7 (c : Dev nD) (t : Fin cfg0.N) (k : Fin 1024) : (iblk m c 7 t : Vec Ideal S1x1x1x1024 .f32) (ix4 0 0 0 k) = Mods m c (ix4 (grp t) 5 0 k) := by
  blk_ext! [iblk, V, idx t]

/-- Where element `(r, d)` of the stored block lies in the returned array. -/
theorem win_emb (t : Fin cfg0.N) (r d : Fin 1024) :
    (win0_8.blk t).view.emb (ix2 r d : S1024x1024.Idx) = (ix2 (rowOf t r) d : S12288x1024.Idx) := by
  blk_ext [idx t]

/-- Every index of a rank-two block is its two coordinates. -/
theorem two (y : S1024x1024.Idx) : ∃ r d : Fin 1024, y = ix2 r d :=
  ⟨y 0, y 1, by funext a; match a with | ⟨0, _⟩ => rfl | ⟨1, _⟩ => rfl⟩

/-- The rows a run works on, written at its first point. -/
theorem held_first (c : Dev nD) (t : Fin cfg0.N) (h0 : t.val % 11 = 0) (r k : Fin 1024) :
    (outsAt0 m c t.val t.isLt).2.1 (ix2 r k)
      = modulated (fun k => X m c (ix2 (rowOf t r) k)) (fun k => Ng m c (ix1 k)) (fun k => Mods m c (ix4 (grp t) 4 0 k)) (fun k => Mods m c (ix4 (grp t) 3 0 k)) k := by
  rw [outsAt0_A m c t h0 (by omega)]
  frame_out
  rw [pay5]
  simp only [blk0, blk4, blk5, blk6]

/-- Later points of a run leave those rows. -/
theorem held_next (c : Dev nD) (t : Fin cfg0.N) (h0 : ¬t.val % 11 = 0) :
    (outsAt0 m c t.val t.isLt).2.1 = (outsAt0 m c (t.val - 1) (Nat.lt_of_le_of_lt (Nat.sub_le _ _) t.isLt)).2.1 := by
  by_cases h1 : t.val % 11 = 10
  · rw [outsAt0_C m c t h0 h1]
    rfl
  · rw [outsAt0_B m c t h0 h1]
    rfl

/-- Where element `(r, d)` of a block of 256 rows from row `o` lies. -/
theorem emb_row (o : ℕ) (inb : ∀ a, (![o, 0] : Fin 2 → ℕ) a + S256x1024.size a ≤ S1024x1024.size a) (r : Fin 256) (d : Fin 1024) (h : o + r.val < 1024) :
    (Rect.unit (s := S1024x1024) ![o, 0] S256x1024.size inb).emb (ix2 r d : S256x1024.Idx) = (ix2 ⟨o + r.val, h⟩ d : S1024x1024.Idx) := by
  funext a
  refine Fin.ext ?_
  match a with
  | ⟨0, _⟩ => show o + 1 * r.val = o + r.val; omega
  | ⟨1, _⟩ => show 0 + 1 * d.val = d.val; omega

/-- A block's rows, added to, are the added rows. -/
theorem piece_next (o : ℕ) (inb : ∀ a, (![o, 0] : Fin 2 → ℕ) a + S256x1024.size a ≤ S1024x1024.size a) (A B : S1024x1024.Idx → EReal)
    (wg wu : FVec Ideal S1024x256 .f32) (wd : FVec Ideal S256x1024 .f32) (q : Fin 256) (e : Fin 1024) (h : o + q.val < 1024) :
    A ((Rect.unit (s := S1024x1024) ![o, 0] S256x1024.size inb).emb (ix2 q e : S256x1024.Idx))
        + tile (fun k => B ((Rect.unit (s := S1024x1024) ![o, 0] S256x1024.size inb).emb (ix2 q k : S256x1024.Idx))) wg wu wd e
      = A ((Rect.unit (s := S1024x1024) ![o, 0] S256x1024.size inb).emb (ix2 q e : S256x1024.Idx))
        + tile (fun k => B (ix2 ((Rect.unit (s := S1024x1024) ![o, 0] S256x1024.size inb).emb (ix2 q e : S256x1024.Idx) 0) k)) wg wu wd
            ((Rect.unit (s := S1024x1024) ![o, 0] S256x1024.size inb).emb (ix2 q e : S256x1024.Idx) 1) := by
  have e1 := emb_row o inb q e h
  have e2 := fun k => emb_row o inb q k h
  rw [e1]
  simp only [e2]
  rfl

/-- Every index of a block of 256 rows is its two coordinates. -/
theorem two' (y : S256x1024.Idx) : ∃ (r : Fin 256) (d : Fin 1024), y = ix2 r d :=
  ⟨y 0, y 1, by funext a; match a with | ⟨0, _⟩ => rfl | ⟨1, _⟩ => rfl⟩

/-- The rows a block of a tile reads are the whole tile's. -/
theorem tile_first (o : ℕ) (inb : ∀ a, (![o, 0] : Fin 2 → ℕ) a + S256x1024.size a ≤ S1024x1024.size a) (xb B : S1024x1024.Idx → EReal) (hB : B = xb)
    (wg wu : FVec Ideal S1024x256 .f32) (wd : FVec Ideal S256x1024 .f32) (q : Fin 256) (e : Fin 1024) (h : o + q.val < 1024) :
    tile (fun k => B ((Rect.unit (s := S1024x1024) ![o, 0] S256x1024.size inb).emb (ix2 q k : S256x1024.Idx))) wg wu wd e
      = tile (fun k => xb (ix2 ((Rect.unit (s := S1024x1024) ![o, 0] S256x1024.size inb).emb (ix2 q e : S256x1024.Idx) 0) k)) wg wu wd
            ((Rect.unit (s := S1024x1024) ![o, 0] S256x1024.size inb).emb (ix2 q e : S256x1024.Idx) 1) := by
  have e1 := emb_row o inb q e h
  have e2 := fun k => emb_row o inb q k h
  rw [e1, hB]
  simp only [e2]
  rfl

/-- A store of 256 rows that leave row `r` alone does not change what is read there. -/
theorem skip (o : ℕ) (inb : ∀ a, (![o, 0] : Fin 2 → ℕ) a + S256x1024.size a ≤ S1024x1024.size a) (w : S256x1024.Idx → Elt Ideal .f32)
    (L : List (View.Piece (Elt Ideal) S1024x1024 .f32)) (r d : Fin 1024) (h : r.val < o ∨ o + 256 ≤ r.val) :
    View.canon ((⟨Rect.unit (s := S1024x1024) ![o, 0] S256x1024.size inb, w⟩ : View.Piece (Elt Ideal) S1024x1024 .f32) :: L) (ix2 r d) = View.canon L (ix2 r d) := by
  refine View.canon_cons_of_not_mem _ _ fun hm => ?_
  have h0 := (Rect.mem_set_unit (s := S1024x1024) (inb := inb)).mp hm (0 : Fin 2)
  have h1 : o ≤ r.val ∧ r.val < o + 256 := h0
  omega

/-- A run's first point leaves its own tile. -/
theorem acc_first (c : Dev nD) (t : Fin cfg0.N) (h0 : t.val % 11 = 0) (r d : Fin 1024) :
    (outsAt0 m c t.val t.isLt).2.2 (ix2 r d)
      = 0 + tile (fun k => (outsAt0 m c t.val t.isLt).2.1 (ix2 r k)) (iblk m c 1 t) (iblk m c 2 t) (iblk m c 3 t) d := by
  rw [outsAt0_A m c t h0 (by omega)]
  frame_out
  generalize k0_pay5 (iblk m c 0 t) (iblk m c 4 t) (iblk m c 6 t) (iblk m c 5 t) = xb
  refine View.canon_append_of_piecesOf ((fun y => 0 + tile (fun k => xb (ix2 (y 0) k)) (iblk m c 1 t) (iblk m c 2 t) (iblk m c 3 t) (y 1)) : S1024x1024.Idx → Elt Ideal .f32)
      [_] [_, _, _, _] ⟨?_, ?_, ?_, ?_, trivial⟩ (ix2 r d) ?_
  any_goals (
    intro x
    obtain ⟨q, e, rfl⟩ := two' x
    have hq := q.isLt
    first | refine (pay3 _ _ _ _ _ q e).trans ?_ | refine (pay2 _ _ _ _ _ q e).trans ?_ | refine (pay11 _ _ _ _ _ q e).trans ?_ | refine (pay10 _ _ _ _ _ q e).trans ?_
    simp only [View.readCov_eq_canon']
    refine congrArg₂ (· + ·) ?_ ?_)
  rotate_left 8
  · exact View.cover_of_tiledL _ ![256, 1024] (by sl_kernel_rfl) _
  · refine (congrArg (View.canon _) (emb_row 768 inb_S1024x1024_S256x1024_768_0 q e (by omega))).trans ?_
    refine (skip 512 _ _ _ _ _ (Or.inr (by show 512 + 256 ≤ 768 + q.val; omega))).trans ?_
    refine (skip 256 _ _ _ _ _ (Or.inr (by show 256 + 256 ≤ 768 + q.val; omega))).trans ?_
    refine (skip 0 _ _ _ _ _ (Or.inr (by show 0 + 256 ≤ 768 + q.val; omega))).trans ?_
    exact (congrFun (View.canon_cons_unit_lit _ _ _ (by decide)) _).trans (pay6 _ _)
  · exact tile_first 768 inb_S1024x1024_S256x1024_768_0 xb _ (View.canon_cons_unit_lit _ _ _ (by decide)) _ _ _ q e (by omega)
  · refine (congrArg (View.canon _) (emb_row 512 inb_S1024x1024_S256x1024_512_0 q e (by omega))).trans ?_
    refine (skip 256 _ _ _ _ _ (Or.inr (by show 256 + 256 ≤ 512 + q.val; omega))).trans ?_
    refine (skip 0 _ _ _ _ _ (Or.inr (by show 0 + 256 ≤ 512 + q.val; omega))).trans ?_
    exact (congrFun (View.canon_cons_unit_lit _ _ _ (by decide)) _).trans (pay6 _ _)
  · exact tile_first 512 inb_S1024x1024_S256x1024_512_0 xb _ (View.canon_cons_unit_lit _ _ _ (by decide)) _ _ _ q e (by omega)
  · refine (congrArg (View.canon _) (emb_row 256 inb_S1024x1024_S256x1024_256_0 q e (by omega))).trans ?_
    refine (skip 0 _ _ _ _ _ (Or.inr (by show 0 + 256 ≤ 256 + q.val; omega))).trans ?_
    exact (congrFun (View.canon_cons_unit_lit _ _ _ (by decide)) _).trans (pay6 _ _)
  · exact tile_first 256 inb_S1024x1024_S256x1024_256_0 xb _ (View.canon_cons_unit_lit _ _ _ (by decide)) _ _ _ q e (by omega)
  · refine (congrArg (View.canon _) (emb_row 0 inb_S1024x1024_S256x1024_0_0 q e (by omega))).trans ?_
    exact (congrFun (View.canon_cons_unit_lit _ _ _ (by decide)) _).trans (pay6 _ _)
  · exact tile_first 0 inb_S1024x1024_S256x1024_0_0 xb _ (View.canon_cons_unit_lit _ _ _ (by decide)) _ _ _ q e (by omega)

/-- Every later point adds its tile. -/
theorem acc_next (c : Dev nD) (t : Fin cfg0.N) (h0 : ¬t.val % 11 = 0) (r d : Fin 1024) :
    (outsAt0 m c t.val t.isLt).2.2 (ix2 r d)
      = (outsAt0 m c (t.val - 1) (Nat.lt_of_le_of_lt (Nat.sub_le _ _) t.isLt)).2.2 (ix2 r d)
        + tile (fun k => (outsAt0 m c (t.val - 1) (Nat.lt_of_le_of_lt (Nat.sub_le _ _) t.isLt)).2.1 (ix2 r k)) (iblk m c 1 t) (iblk m c 2 t) (iblk m c 3 t) d := by
  by_cases h1 : t.val % 11 = 10
  · rw [outsAt0_C m c t h0 h1]
    frame_out
    generalize outsAt0 m c (t.val - 1) (Nat.lt_of_le_of_lt (Nat.sub_le _ _) t.isLt) = p
    refine View.canon_append_of_piecesOf (fun y => p.2.2 y + tile (fun k => p.2.1 (ix2 (y 0) k)) (iblk m c 1 t) (iblk m c 2 t) (iblk m c 3 t) (y 1))
      [] [_, _, _, _] ⟨?_, ?_, ?_, ?_, trivial⟩ (ix2 r d) ?_
    any_goals (
      intro x
      obtain ⟨q, e, rfl⟩ := two' x
      have hq := q.isLt
      first | refine (pay3 _ _ _ _ _ q e).trans ?_ | refine (pay2 _ _ _ _ _ q e).trans ?_ | refine (pay11 _ _ _ _ _ q e).trans ?_ | refine (pay10 _ _ _ _ _ q e).trans ?_
      simp only [read_unread_whole])
    rotate_left 4
    · exact View.cover_of_tiledL _ ![256, 1024] (by sl_kernel_rfl) _
    · exact piece_next 768 inb_S1024x1024_S256x1024_768_0 p.2.2 p.2.1 _ _ _ q e (by omega)
    · exact piece_next 512 inb_S1024x1024_S256x1024_512_0 p.2.2 p.2.1 _ _ _ q e (by omega)
    · exact piece_next 256 inb_S1024x1024_S256x1024_256_0 p.2.2 p.2.1 _ _ _ q e (by omega)
    · exact piece_next 0 inb_S1024x1024_S256x1024_0_0 p.2.2 p.2.1 _ _ _ q e (by omega)
  · rw [outsAt0_B m c t h0 h1]
    frame_out
    generalize outsAt0 m c (t.val - 1) (Nat.lt_of_le_of_lt (Nat.sub_le _ _) t.isLt) = p
    refine View.canon_append_of_piecesOf (fun y => p.2.2 y + tile (fun k => p.2.1 (ix2 (y 0) k)) (iblk m c 1 t) (iblk m c 2 t) (iblk m c 3 t) (y 1))
      [] [_, _, _, _] ⟨?_, ?_, ?_, ?_, trivial⟩ (ix2 r d) ?_
    any_goals (
      intro x
      obtain ⟨q, e, rfl⟩ := two' x
      have hq := q.isLt
      first | refine (pay3 _ _ _ _ _ q e).trans ?_ | refine (pay2 _ _ _ _ _ q e).trans ?_ | refine (pay11 _ _ _ _ _ q e).trans ?_ | refine (pay10 _ _ _ _ _ q e).trans ?_
      simp only [read_unread_whole])
    rotate_left 4
    · exact View.cover_of_tiledL _ ![256, 1024] (by sl_kernel_rfl) _
    · exact piece_next 768 inb_S1024x1024_S256x1024_768_0 p.2.2 p.2.1 _ _ _ q e (by omega)
    · exact piece_next 512 inb_S1024x1024_S256x1024_512_0 p.2.2 p.2.1 _ _ _ q e (by omega)
    · exact piece_next 256 inb_S1024x1024_S256x1024_256_0 p.2.2 p.2.1 _ _ _ q e (by omega)
    · exact piece_next 0 inb_S1024x1024_S256x1024_0_0 p.2.2 p.2.1 _ _ _ q e (by omega)

/-- The normalized, modulated rows of a point's run. -/
abbrev rowsAt (c : Dev nD) (t : Fin cfg0.N) (r : Fin 1024) : Fin 1024 → EReal :=
  modulated (fun k => X m c (ix2 (rowOf t r) k)) (fun k => Ng m c (ix1 k)) (fun k => Mods m c (ix4 (grp t) 4 0 k)) (fun k => Mods m c (ix4 (grp t) 3 0 k))

/-- At every point the held rows are those of its run. -/
theorem held (c : Dev nD) (t : Fin cfg0.N) (r k : Fin 1024) : (outsAt0 m c t.val t.isLt).2.1 (ix2 r k) = rowsAt m c t r k := by
  have h := Pipeline.eq_of_write_hold (N := cfg0.N) (fun n hn => fun (p : Fin 1024 × Fin 1024) => (outsAt0 m c n hn).2.1 (ix2 p.1 p.2)) 11
    (fun t p => rowsAt m c t p.1 p.2) (fun t h0 => funext fun p => held_first m c t h0 p.1 p.2)
    (fun t h0 => funext fun p => congrFun (held_next m c t h0) _) t
  refine (congrFun h (r, k)).trans ?_
  have e1 : rowOf ⟨11 * (t.val / 11), Pipeline.run_start_lt t⟩ r = rowOf t r := Fin.ext (by show 11 * (t.val / 11) / 11 * 1024 + r.val = t.val / 11 * 1024 + r.val; omega)
  have e2 : grp ⟨11 * (t.val / 11), Pipeline.run_start_lt t⟩ = grp t := Fin.ext (by show (11 * (t.val / 11) / 11 - 6) / 2 = (t.val / 11 - 6) / 2; omega)
  show modulated _ _ _ _ k = modulated _ _ _ _ k
  rw [e1, e2]

/-- A run's last point leaves the whole layer. -/
theorem acc_last (c : Dev nD) (t : Fin cfg0.N) (h1 : t.val % 11 = 10) (r d : Fin 1024) :
    (outsAt0 m c t.val t.isLt).2.2 (ix2 r d)
      = swiglu (rowsAt m c t r) (fun k h => Wg m c (ix2 k h)) (fun k h => Wu m c (ix2 k h)) (fun h k => Wd m c (ix2 h k)) d := by
  have h := Pipeline.eq_sum_fin_of_reset_step_of_flush (N := cfg0.N) (fun n hn => (outsAt0 m c n hn).2.2 (ix2 r d)) 11 (0 : EReal)
    (fun t => tile (fun k => (outsAt0 m c t.val t.isLt).2.1 (ix2 r k)) (iblk m c 1 t) (iblk m c 2 t) (iblk m c 3 t) d)
    (fun t h0 => acc_first m c t h0 r d)
    (fun t h0 => (acc_next m c t h0 r d).trans (by rw [held_next m c t h0])) t h1
  refine h.trans ((zero_add _).trans ?_)
  unfold swiglu
  refine Fin.sum_mul_add_congr (fun s k hl => ?_)
  have ht := tlt t
  have e1 : rowOf ⟨11 * (t.val / 11) + s.val, Pipeline.run_point_lt_of_flush t h1 s⟩ r = rowOf t r :=
    Fin.ext (by show (11 * (t.val / 11) + s.val) / 11 * 1024 + r.val = t.val / 11 * 1024 + r.val; omega)
  have e2 : grp ⟨11 * (t.val / 11) + s.val, Pipeline.run_point_lt_of_flush t h1 s⟩ = grp t :=
    Fin.ext (by show ((11 * (t.val / 11) + s.val) / 11 - 6) / 2 = (t.val / 11 - 6) / 2; omega)
  have e3 : unitOf ⟨11 * (t.val / 11) + s.val, Pipeline.run_point_lt_of_flush t h1 s⟩ k = ⟨s.val * 256 + k.val, hl⟩ :=
    Fin.ext (by show (11 * (t.val / 11) + s.val) % 11 * 256 + k.val = s.val * 256 + k.val; omega)
  simp only [blk1, blk2, blk3, e3]
  refine congrArg (fun f => FfnSpec.hidden f _ _ * _)
    ((funext fun k => held m c ⟨11 * (t.val / 11) + s.val, Pipeline.run_point_lt_of_flush t h1 s⟩ r k).trans ?_)
  simp only [rowsAt, e1, e2]

/-- The whole block's rectangle moves nothing. -/
theorem whole_emb (inb : ∀ a, (![0, 0] : Fin 2 → ℕ) a + S1024x1024.size a ≤ S1024x1024.size a) (r d : Fin 1024) :
    (Rect.unit (s := S1024x1024) ![0, 0] S1024x1024.size inb).emb (ix2 r d : S1024x1024.Idx) = (ix2 r d : S1024x1024.Idx) := by
  funext a
  refine Fin.ext ?_
  match a with
  | ⟨0, _⟩ => show 0 + 1 * r.val = r.val; omega
  | ⟨1, _⟩ => show 0 + 1 * d.val = d.val; omega

/-- What a run's last point stores: the reference's row. -/
theorem out_last (c : Dev nD) (t : Fin cfg0.N) (h1 : t.val % 11 = 10) (r d : Fin 1024) :
    (outsAt0 m c t.val t.isLt).1 (ix2 r d)
      = FfnDenseRefIdeal.Reading.row (X m c) (Wg m c) (Wu m c) (Wd m c) (Ng m c) (Mods m c) (rowOf t r) (grp t) d := by
  have ha := acc_last m c t h1 r d
  have e : (outsAt0 m c t.val t.isLt).1 (ix2 r d) = X m c (ix2 (rowOf t r) d) + Mods m c (ix4 (grp t) 5 0 d) * (outsAt0 m c t.val t.isLt).2.2 (ix2 r d) := by
    rw [outsAt0_C m c t (by omega) h1]
    frame_out
    rw [pay4, blk0, blk7]
    refine congrArg (fun z => X m c (ix2 (rowOf t r) d) + Mods m c (ix4 (grp t) 5 0 d) * z) ?_
    rw [View.readCov_eq_canon']
    exact congrArg (View.canon _) (whole_emb _ r d)
  rw [e, ha]
  rfl

/-- The array the kernel returns is the reference's. -/
theorem final (c : Dev nD) : (dats (F := Ideal) m 0 c).arrAt 8 cfg0.N
    = (FfnDenseRefIdeal.Read.val_main_v87 (F := Ideal) (X m c) (Wg m c) (Wu m c) (Wd m c) (Ng m c) (Mods m c) : FVec Ideal S12288x1024 .f32) := by
  refine (dats m 0 c).arrAt_eq_of_covers 8 _ (by decide +kernel) fun t hf y => ?_
  blk_simp
  rw [after0_8]
  obtain ⟨r, d, rfl⟩ := two y
  rw [win_emb]
  refine (out_last m c t ((flush0_8 t).mp hf) r d).trans ?_
  refine Eq.trans ?_ (FfnDenseRefIdeal.Reading.reads _ _ _ _ _ _ (rowOf t r) d).symm
  have hr := r.isLt
  refine congrArg (fun g => FfnDenseRefIdeal.Reading.row (X m c) (Wg m c) (Wu m c) (Wd m c) (Ng m c) (Mods m c) (rowOf t r) g d) (Fin.ext ?_)
  show (t.val / 11 - 6) / 2 = ((t.val / 11 * 1024 + r.val) / 1024 - 6) / 2
  omega

end Cert.FfnDenseIdeal.Val
-- ==== Proof.FfnClaim.lean ====
module

public import proofs.«01_k».proof.Defs
public import proofs.«01_k».proof.Proof.FfnValue
public import proofs.«01_k».proof.Proof.Gen.FfnDense
public import proofs.«01_k».proof.Proof.Gen.FfnDenseIdeal
public import proofs.«01_k».proof.Proof.Gen.FfnDenseRefIdeal
public import proofs.«01_k».proof.Proof.Gen.FfnDenseRefIdeal.Run
public import Idealize.ShloMosaic.Lib.Claim

/-! The value claim of the dense feed-forward call, from the kernel's run and the reference's. -/

@[expose] public section

set_option maxRecDepth 16384

noncomputable section

namespace Cert.FfnClaim

open Idealize.ShloMosaic Idealize.ShloMosaic.TcCoe Idealize.SL.Sem
open Cert.FfnDenseIdeal.Gen (dats V A_eq V_main_arg0 V_main_arg1 V_main_arg2 V_main_arg3 V_main_arg4 V_main_arg5)

/-- Kernel and reference end with the same array. -/
theorem algebraic : Cert.algebraic_FfnDenseIdeal_FfnDenseRefIdeal
    (hFfnDenseIdeal := Cert.FfnDenseIdeal.Gen.facts) (hFfnDenseRefIdeal := Cert.FfnDenseRefIdeal.Gen.facts) := by
  intro m g m' g' _ ha
  refine ⟨fun c => (Cert.FfnDenseRefIdeal.Read.val_main_v87 (F := Ideal)
      (m ((c.tc : Thread Cert.FfnDenseIdeal.nD Cert.FfnDenseIdeal.τ).loc Cert.FfnDenseIdeal.main_arg0))
      (m ((c.tc : Thread Cert.FfnDenseIdeal.nD Cert.FfnDenseIdeal.τ).loc Cert.FfnDenseIdeal.main_arg1))
      (m ((c.tc : Thread Cert.FfnDenseIdeal.nD Cert.FfnDenseIdeal.τ).loc Cert.FfnDenseIdeal.main_arg2))
      (m ((c.tc : Thread Cert.FfnDenseIdeal.nD Cert.FfnDenseIdeal.τ).loc Cert.FfnDenseIdeal.main_arg3))
      (m ((c.tc : Thread Cert.FfnDenseIdeal.nD Cert.FfnDenseIdeal.τ).loc Cert.FfnDenseIdeal.main_arg4))
      (m ((c.tc : Thread Cert.FfnDenseIdeal.nD Cert.FfnDenseIdeal.τ).loc Cert.FfnDenseIdeal.main_arg5)) :
      FVec Ideal Cert.FfnDenseIdeal.S12288x1024 .f32), ?_, ?_⟩
  · refine (θ_run _ _ _).mono (fun r h c => ?_) (Cert.FfnDenseIdeal.Gen.run_main (F := Ideal) m g)
    refine ⟨((h c).1 8).trans (Cert.FfnDenseIdeal.Val.final m c), ?_, ?_, ?_, ?_, ?_, ?_⟩
    · exact ((h c).1 0).trans (((dats m 0 c).arrAt_in 0 rfl _).trans ((A_eq m c 0).trans (V_main_arg0 m c)))
    · exact ((h c).1 1).trans (((dats m 0 c).arrAt_in 1 rfl _).trans ((A_eq m c 1).trans (V_main_arg1 m c)))
    · exact ((h c).1 2).trans (((dats m 0 c).arrAt_in 2 rfl _).trans ((A_eq m c 2).trans (V_main_arg2 m c)))
    · exact ((h c).1 3).trans (((dats m 0 c).arrAt_in 3 rfl _).trans ((A_eq m c 3).trans (V_main_arg3 m c)))
    · exact ((h c).2 Cert.FfnDenseIdeal.main_arg4 (Pipeline.mem_restRefs_of Cert.FfnDenseIdeal.main_arg4 (by decide) (by decide))).trans (V_main_arg4 m c)
    · exact ((h c).1 7).trans (((dats m 0 c).arrAt_in 7 rfl _).trans ((A_eq m c 7).trans (V_main_arg5 m c)))
  · refine (θ_run _ _ _).mono (fun r h c => ?_) (Cert.FfnDenseRefIdeal.Value.run m' g')
    refine ⟨(h c).1.trans ?_, (h c).2⟩
    rw [Cert.FfnDenseRefIdeal.Read.val_main_v87_eq]
    obtain ⟨a0, a1, a2, a3, a4, a5⟩ := ha c
    rw [a0, a1, a2, a3, a4, a5]

/-- The reference terminates, keeps its arguments and has no semaphore. -/
theorem reference_frame (m : (ℓ : Loc Cert.FfnDenseRefIdeal.nD Cert.FfnDenseRefIdeal.τ Cert.FfnDenseRefIdeal.sig) → Buf (Elt Ideal) ℓ)
    (g : Dev Cert.FfnDenseRefIdeal.nD → PrngReg) :
    θ_run (Cert.FfnDenseRefIdeal.defs (F := Ideal)) (onTc (τ := Cert.FfnDenseRefIdeal.τ) (Cert.FfnDenseRefIdeal.main (F := Ideal)))
      ⟨m, fun _ => 0, g⟩ fun r => (∀ c : Dev Cert.FfnDenseRefIdeal.nD,
        r.2.mem ((c.tc : Thread Cert.FfnDenseRefIdeal.nD Cert.FfnDenseRefIdeal.τ).loc Cert.FfnDenseRefIdeal.main_arg0) = m ((c.tc : Thread Cert.FfnDenseRefIdeal.nD Cert.FfnDenseRefIdeal.τ).loc Cert.FfnDenseRefIdeal.main_arg0)
        ∧ r.2.mem ((c.tc : Thread Cert.FfnDenseRefIdeal.nD Cert.FfnDenseRefIdeal.τ).loc Cert.FfnDenseRefIdeal.main_arg1) = m ((c.tc : Thread Cert.FfnDenseRefIdeal.nD Cert.FfnDenseRefIdeal.τ).loc Cert.FfnDenseRefIdeal.main_arg1)
        ∧ r.2.mem ((c.tc : Thread Cert.FfnDenseRefIdeal.nD Cert.FfnDenseRefIdeal.τ).loc Cert.FfnDenseRefIdeal.main_arg2) = m ((c.tc : Thread Cert.FfnDenseRefIdeal.nD Cert.FfnDenseRefIdeal.τ).loc Cert.FfnDenseRefIdeal.main_arg2)
        ∧ r.2.mem ((c.tc : Thread Cert.FfnDenseRefIdeal.nD Cert.FfnDenseRefIdeal.τ).loc Cert.FfnDenseRefIdeal.main_arg3) = m ((c.tc : Thread Cert.FfnDenseRefIdeal.nD Cert.FfnDenseRefIdeal.τ).loc Cert.FfnDenseRefIdeal.main_arg3)
        ∧ r.2.mem ((c.tc : Thread Cert.FfnDenseRefIdeal.nD Cert.FfnDenseRefIdeal.τ).loc Cert.FfnDenseRefIdeal.main_arg4) = m ((c.tc : Thread Cert.FfnDenseRefIdeal.nD Cert.FfnDenseRefIdeal.τ).loc Cert.FfnDenseRefIdeal.main_arg4)
        ∧ r.2.mem ((c.tc : Thread Cert.FfnDenseRefIdeal.nD Cert.FfnDenseRefIdeal.τ).loc Cert.FfnDenseRefIdeal.main_arg5) = m ((c.tc : Thread Cert.FfnDenseRefIdeal.nD Cert.FfnDenseRefIdeal.τ).loc Cert.FfnDenseRefIdeal.main_arg5))
        ∧ r.2.sem = fun _ => 0 :=
  (θ_run _ _ _).mono (fun r h => ⟨fun c => (h c).2, sem_eq_zero_of_no_sems (by decide) r.2⟩)
    (Cert.FfnDenseRefIdeal.Value.run m g)

end Cert.FfnClaim

end
-- ==== Proof.MoeBodyIdeal.lean ====
/- One run of the expert kernel's body, by values: the part that starts a row tile, the four row groups, the part that
   stores the result, each as a program with the rest of the body after it. -/
module

public import proofs.«01_k».proof.Proof.Gen.FfnMoeIdeal.Skeleton
public import proofs.«01_k».proof.Proof.Gen.FfnMoeIdeal.Launch
public import Idealize.ShloMosaic.Lib.Pipeline.Kit
public import Idealize.ShloMosaic.Lib.Pipeline.FrameBody
public import Idealize.ShloMosaic.Lib.Writes
public import Idealize.ShloMosaic.Lib.Exec
public import Idealize.ShloMosaic.Lib.VecWindow
public import Idealize.ShloMosaic.Lib.Tactic

@[expose] public section

set_option maxRecDepth 16384
set_option Elab.async false

noncomputable section

namespace Cert.MoeIdeal

open Cert.FfnMoeIdeal Cert.FfnMoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program of the body. -/
abbrev BodyProg (F : FTy → Type) [FloatOps F] : Type 1 := Prog (TpuEff nD τ sig (Elt F) Λ₀ .tc) PUnit

/-- At the first hidden tile of a row tile. -/
abbrev isFirst (i : grid0.Coords) : BitVec 1 :=
  Scalar.cmpi .ne (Scalar.extui (Scalar.cmpi .eq (BitVec.ofNat 32 (i 1).val) 0#32)) 0#32

/-- Whether a row group that starts at row `lo` of the tile has live rows, `nv` of which the tile has. -/
abbrev isLive (nv lo : BitVec 32) : BitVec 1 := Scalar.cmpi .ne (Scalar.extui (Scalar.cmpi .sgt nv lo)) 0#32

/-- The start of a row tile: keep its rows, clear the accumulator; then `k`. -/
def initP (i : grid0.Coords) (arg4 : Memref sig .tc .vmem S1024x1024 .f32) (arg10 : Memref sig .tc .vmem S1024x1024 .bf16) (harg10 : arg10.IsWhole)
    (arg11 : Memref sig .tc .vmem S1024x1024 .f32) (k : BodyProg F) : BodyProg F :=
  if isFirst i = 1#1 then do
    let v29 : Vec F S1024x1024 .f32 ← Prog.lift (.load arg4 (Rect.unit (s := S1024x1024) ![0, 0] S1024x1024.size inb_S1024x1024_S1024x1024_0_0).toLoadRect (View.loadsAt_vmem h_S1024x1024))
    let _ : Vec F S1024x1024 .bf16 ← Prog.lift (.load arg10 (Rect.unit (s := S1024x1024) ![0, 0] S1024x1024.size inb_S1024x1024_S1024x1024_0_0).toLoadRect (View.loadsAt_vmem h_S1024x1024))
    Prog.lift (.store arg10 (Rect.unit (s := S1024x1024) ![0, 0] S1024x1024.size inb_S1024x1024_S1024x1024_0_0) (k0_pay1 v29) Finset.univ (View.stores_vmem h_S1024x1024 (harg10.storeExact_slice rfl _ packedbf16_S1024x1024_S1024x1024_0_0) (fun _ => rfl)) (.inl rfl))
    let _ : Vec F S1024x1024 .f32 ← Prog.lift (.load arg11 (Rect.unit (s := S1024x1024) ![0, 0] S1024x1024.size inb_S1024x1024_S1024x1024_0_0).toLoadRect (View.loadsAt_vmem h_S1024x1024))
    Prog.lift (.store arg11 (Rect.unit (s := S1024x1024) ![0, 0] S1024x1024.size inb_S1024x1024_S1024x1024_0_0) (k0_pay2 (F := F)) Finset.univ (View.stores_vmem_bits_univ h_S1024x1024 rfl) (.inl rfl))
    k
  else k

/-- One row group of 256 rows from row `off`: add its share of this hidden tile if it has live rows; then `k`. -/
def subP (b : BitVec 1) (off : Fin 2 → ℕ) (inb : ∀ a, off a + S256x1024.size a ≤ S1024x1024.size a)
    (pay : Vec F S256x1024 .bf16 → Vec F S256x1024 .f32 → FVec F S256x1024 .f32)
    (arg10 : Memref sig .tc .vmem S1024x1024 .bf16) (arg11 : Memref sig .tc .vmem S1024x1024 .f32) (k : BodyProg F) : BodyProg F :=
  if b = 1#1 then do
    let v29 : Vec F S256x1024 .bf16 ← Prog.lift (.load arg10 (Rect.unit (s := S1024x1024) off S256x1024.size inb).toLoadRect (View.loadsAt_vmem h_S256x1024))
    let v36 : Vec F S256x1024 .f32 ← Prog.lift (.load arg11 (Rect.unit (s := S1024x1024) off S256x1024.size inb).toLoadRect (View.loadsAt_vmem h_S256x1024))
    let _ : Vec F S256x1024 .f32 ← Prog.lift (.load arg11 (Rect.unit (s := S1024x1024) off S256x1024.size inb).toLoadRect (View.loadsAt_vmem h_S256x1024))
    Prog.lift (.store arg11 (Rect.unit (s := S1024x1024) off S256x1024.size inb) (pay v29 v36) Finset.univ (View.stores_vmem_bits_univ h_S256x1024 rfl) (.inl rfl))
    k
  else k

/-- The end of a row tile: store the accumulator times the gate; then `k`. -/
def finP (i : grid0.Coords) (arg8 : Memref sig .tc .vmem S1024x1 .f32) (arg9 : Memref sig .tc .vmem S1024x1024 .f32)
    (arg11 : Memref sig .tc .vmem S1024x1024 .f32) (k : BodyProg F) : BodyProg F :=
  if k0_cond6 i = 1#1 then do
    let v29 : Vec F S1024x1024 .f32 ← Prog.lift (.load arg11 (Rect.unit (s := S1024x1024) ![0, 0] S1024x1024.size inb_S1024x1024_S1024x1024_0_0).toLoadRect (View.loadsAt_vmem h_S1024x1024))
    let v30 : Vec F S1024x1 .f32 ← Prog.lift (.load arg8 (Rect.unit (s := S1024x1) ![0, 0] S1024x1.size inb_S1024x1_S1024x1_0_0).toLoadRect (View.loadsAt_vmem h_S1024x1))
    let _ : Vec F S1024x1024 .f32 ← Prog.lift (.load arg9 (Rect.unit (s := S1024x1024) ![0, 0] S1024x1024.size inb_S1024x1024_S1024x1024_0_0).toLoadRect (View.loadsAt_vmem h_S1024x1024))
    Prog.lift (.store arg9 (Rect.unit (s := S1024x1024) ![0, 0] S1024x1024.size inb_S1024x1024_S1024x1024_0_0) (k0_pay10 v29 v30) Finset.univ (View.stores_vmem_bits_univ h_S1024x1024 rfl) (.inl rfl))
    k
  else k

/-- The body, from its parts. -/
def bodyP (i : grid0.Coords) (arg3 : Memref sig .tc .smem S32 .i32) (arg4 : Memref sig .tc .vmem S1024x1024 .f32)
    (arg5 arg6 : Memref sig .tc .vmem S1x1024x256 .f32) (arg7 : Memref sig .tc .vmem S1x256x1024 .f32) (arg8 : Memref sig .tc .vmem S1024x1 .f32)
    (arg9 : Memref sig .tc .vmem S1024x1024 .f32) (arg10 : Memref sig .tc .vmem S1024x1024 .bf16) (harg10 : arg10.IsWhole)
    (arg11 : Memref sig .tc .vmem S1024x1024 .f32) : BodyProg F := do
  let v1 : Elt F .i32 ← smemLoad arg3 (Rect.unit (s := S32) (k0_off1 i) S1.size (k0_off1_inb i)) numel1_S1 rfl
  initP i arg4 arg10 harg10 arg11 do
    let v5 : Vec F S1x1024x256 .f32 ← Prog.lift (.load arg5 (Rect.unit (s := S1x1024x256) ![0, 0, 0] S1x1024x256.size inb_S1x1024x256_S1x1024x256_0_0_0).toLoadRect (View.loadsAt_vmem h_S1x1024x256))
    let v8 : Vec F S1x1024x256 .f32 ← Prog.lift (.load arg6 (Rect.unit (s := S1x1024x256) ![0, 0, 0] S1x1024x256.size inb_S1x1024x256_S1x1024x256_0_0_0).toLoadRect (View.loadsAt_vmem h_S1x1024x256))
    let v11 : Vec F S1x256x1024 .f32 ← Prog.lift (.load arg7 (Rect.unit (s := S1x256x1024) ![0, 0, 0] S1x256x1024.size inb_S1x256x1024_S1x256x1024_0_0_0).toLoadRect (View.loadsAt_vmem h_S1x256x1024))
    subP (isLive v1 0#32) ![0, 0] inb_S1024x1024_S256x1024_0_0 (k0_pay6 v5 v8 v11) arg10 arg11
      (subP (isLive v1 256#32) ![256, 0] inb_S1024x1024_S256x1024_256_0 (k0_pay6 v5 v8 v11) arg10 arg11
        (subP (isLive v1 512#32) ![512, 0] inb_S1024x1024_S256x1024_512_0 (k0_pay6 v5 v8 v11) arg10 arg11
          (subP (isLive v1 768#32) ![768, 0] inb_S1024x1024_S256x1024_768_0 (k0_pay6 v5 v8 v11) arg10 arg11
            (finP i arg8 arg9 arg11 (pure ⟨⟩)))))

/-- The body's skeleton is the chain of its parts. -/
theorem body_eq (i : grid0.Coords) (arg2 arg3 : Memref sig .tc .smem S32 .i32) (h2 h3) (arg4 : Memref sig .tc .vmem S1024x1024 .f32) (h4)
    (arg5 arg6 : Memref sig .tc .vmem S1x1024x256 .f32) (h5 h6) (arg7 : Memref sig .tc .vmem S1x256x1024 .f32) (h7) (arg8 : Memref sig .tc .vmem S1024x1 .f32) (h8)
    (arg9 : Memref sig .tc .vmem S1024x1024 .f32) (h9) (arg10 : Memref sig .tc .vmem S1024x1024 .bf16) (h10) (arg11 : Memref sig .tc .vmem S1024x1024 .f32) (h11) :
    cc0_ffn_moe (F := F) i arg2 h2 arg3 h3 arg4 h4 arg5 h5 arg6 h6 arg7 h7 arg8 h8 arg9 h9 arg10 h10 arg11 h11
      = bodyP i arg3 arg4 arg5 arg6 arg7 arg8 arg9 arg10 h10 arg11 := by
  rw [cc0_ffn_moe_eq_skeleton]; rfl

/-! ## What the parts leave, by values -/

/-- The accumulator after one row group. -/
def subVal (b : BitVec 1) (off : Fin 2 → ℕ) (inb : ∀ a, off a + S256x1024.size a ≤ S1024x1024.size a)
    (pay : Vec F S256x1024 .bf16 → Vec F S256x1024 .f32 → FVec F S256x1024 .f32)
    (xb : S1024x1024.Idx → Elt F .bf16) (acc : S1024x1024.Idx → Elt F .f32) : S1024x1024.Idx → Elt F .f32 :=
  if b = 1#1 then VecWindow.put acc off S256x1024.size (pay (VecWindow.window xb off S256x1024.size inb) (VecWindow.window acc off S256x1024.size inb)) else acc

/-- The rows the body works on: the tile's rows at its start, then those kept. -/
def initRows (i : grid0.Coords) (x0 : S1024x1024.Idx → Elt F .f32) (xb : S1024x1024.Idx → Elt F .bf16) : S1024x1024.Idx → Elt F .bf16 :=
  if isFirst i = 1#1 then k0_pay1 x0 else xb

/-- The accumulator the body works on: zero at a tile's start, then the one kept. -/
def initAcc (i : grid0.Coords) (acc : S1024x1024.Idx → Elt F .f32) : S1024x1024.Idx → Elt F .f32 :=
  if isFirst i = 1#1 then k0_pay2 else acc

/-- The output after the body: stored at a tile's end only. -/
def finOut (i : grid0.Coords) (acc : S1024x1024.Idx → Elt F .f32) (x4 : S1024x1.Idx → Elt F .f32) (y : S1024x1024.Idx → Elt F .f32) :
    S1024x1024.Idx → Elt F .f32 :=
  if k0_cond6 i = 1#1 then k0_pay10 acc x4 else y

/-- The accumulator after the four row groups, from rows `xb` and accumulator `acc`. -/
def groups (nv : BitVec 32) (x1 x2 : S1x1024x256.Idx → Elt F .f32) (x3 : S1x256x1024.Idx → Elt F .f32)
    (xb : S1024x1024.Idx → Elt F .bf16) (acc : S1024x1024.Idx → Elt F .f32) : S1024x1024.Idx → Elt F .f32 :=
  subVal (isLive nv 768#32) ![768, 0] inb_S1024x1024_S256x1024_768_0 (k0_pay6 x1 x2 x3) xb
    (subVal (isLive nv 512#32) ![512, 0] inb_S1024x1024_S256x1024_512_0 (k0_pay6 x1 x2 x3) xb
      (subVal (isLive nv 256#32) ![256, 0] inb_S1024x1024_S256x1024_256_0 (k0_pay6 x1 x2 x3) xb
        (subVal (isLive nv 0#32) ![0, 0] inb_S1024x1024_S256x1024_0_0 (k0_pay6 x1 x2 x3) xb acc)))

/-- The accumulator after the body. -/
def stepAcc (i : grid0.Coords) (nv : BitVec 32) (x0 : S1024x1024.Idx → Elt F .f32) (x1 x2 : S1x1024x256.Idx → Elt F .f32)
    (x3 : S1x256x1024.Idx → Elt F .f32) (xb : S1024x1024.Idx → Elt F .bf16) (acc : S1024x1024.Idx → Elt F .f32) : S1024x1024.Idx → Elt F .f32 :=
  groups nv x1 x2 x3 (initRows i x0 xb) (initAcc i acc)

/-- The two tables and the two scratch buffers, whole. -/
abbrev tbM0 : Memref sig .tc .smem S32 .i32 := Memref.whole main_arg5
abbrev tbM1 : Memref sig .tc .smem S32 .i32 := Memref.whole main_arg6
abbrev scM0 : Memref sig .tc .vmem S1024x1024 .bf16 := Memref.whole cc0_scratch0
abbrev scM1 : Memref sig .tc .vmem S1024x1024 .f32 := Memref.whole cc0_scratch1

/-- The number of live rows of the row tile, read off the table `T`. -/
def liveWord (i : grid0.Coords) (T : S32.Idx → Elt F .i32) : BitVec 32 :=
  View.readAt (Elt F) tbM1.view (Rect.unit (s := S32) (k0_off1 i) S1.size (k0_off1_inb i)).toLoadRect T (Shape.Idx.first (numel1_S1.symm ▸ Nat.one_pos))

section Runs

/-- The run of one row group. -/
theorem sub_run (c : Dev nD) (K : PUnit.{1} → sProp 𝕄) (k : BodyProg F) (b : BitVec 1) (off : Fin 2 → ℕ) (inb : ∀ a, off a + S256x1024.size a ≤ S1024x1024.size a)
    (pay : Vec F S256x1024 .bf16 → Vec F S256x1024 .f32 → FVec F S256x1024 .f32)
    (arg10 : Memref sig .tc .vmem S1024x1024 .bf16) (harg10 : arg10.IsWhole) (arg11 : Memref sig .tc .vmem S1024x1024 .f32) (harg11 : arg11.IsWhole)
    (xb : S1024x1024.Idx → Elt F .bf16) (acc : S1024x1024.Idx → Elt F .f32) :
    iprop((arg10.view.loc (c : Thread nD τ) ↦[arg10.view.set]{fullShare} arg10.view.rep xb)
        ∗ (arg11.view.loc (c : Thread nD τ) ↦[arg11.view.set]{fullShare} arg11.view.rep acc)
        ∗ (iprop((arg10.view.loc (c : Thread nD τ) ↦[arg10.view.set]{fullShare} arg10.view.rep xb)
            ∗ (arg11.view.loc (c : Thread nD τ) ↦[arg11.view.set]{fullShare} arg11.view.rep (subVal b off inb pay xb acc)))
          -∗ wp frame (wpE (defs₀ (F := F)) Variants.none c none) Set.univ k K))
      ⊢ wp frame (wpE (defs₀ (F := F)) Variants.none c none) Set.univ (subP b off inb pay arg10 arg11 k) K := by
  unfold subP subVal
  by_cases hb : b = 1#1
  · rw [if_pos hb, if_pos hb]
    iintro ⟨H0, H1, Hk⟩
    sl_exec!
    iapply Hk
    isplitl [H0]; · iexact H0
    iapply pointsTo_rep_of_read
    rotate_left
    · iexact H1
    · rw [View.read_writes_rep_unit _ _ inb _ rfl, View.readAt_rep_unit _ _ inb rfl inb, View.readAt_rep_unit _ _ inb rfl inb]
  · rw [if_neg hb, if_neg hb]
    iintro ⟨H0, H1, Hk⟩
    iapply Hk
    isplitl [H0]; · iexact H0
    iexact H1

/-- The run of a row tile's start. -/
theorem init_run (c : Dev nD) (K : PUnit.{1} → sProp 𝕄) (k : BodyProg F) (i : grid0.Coords)
    (arg4 : Memref sig .tc .vmem S1024x1024 .f32)
    (arg10 : Memref sig .tc .vmem S1024x1024 .bf16) (harg10 : arg10.IsWhole) (arg11 : Memref sig .tc .vmem S1024x1024 .f32) (harg11 : arg11.IsWhole)
    (x0 : S1024x1024.Idx → Elt F .f32) (xb : S1024x1024.Idx → Elt F .bf16) (acc : S1024x1024.Idx → Elt F .f32) :
    iprop((arg4.view.loc (c : Thread nD τ) ↦[arg4.view.set]{fullShare} arg4.view.rep x0)
        ∗ (arg10.view.loc (c : Thread nD τ) ↦[arg10.view.set]{fullShare} arg10.view.rep xb)
        ∗ (arg11.view.loc (c : Thread nD τ) ↦[arg11.view.set]{fullShare} arg11.view.rep acc)
        ∗ (iprop((arg4.view.loc (c : Thread nD τ) ↦[arg4.view.set]{fullShare} arg4.view.rep x0)
            ∗ (arg10.view.loc (c : Thread nD τ) ↦[arg10.view.set]{fullShare} arg10.view.rep (initRows i x0 xb))
            ∗ (arg11.view.loc (c : Thread nD τ) ↦[arg11.view.set]{fullShare} arg11.view.rep (initAcc i acc)))
          -∗ wp frame (wpE (defs₀ (F := F)) Variants.none c none) Set.univ k K))
      ⊢ wp frame (wpE (defs₀ (F := F)) Variants.none c none) Set.univ (initP i arg4 arg10 harg10 arg11 k) K := by
  unfold initP initRows initAcc
  by_cases hb : isFirst i = 1#1
  · rw [if_pos hb, if_pos hb, if_pos hb]
    iintro ⟨H4, H0, H1, Hk⟩
    sl_exec!
    iapply Hk
    isplitl [H4]; · iexact H4
    isplitl [H0]
    · iapply pointsTo_rep_of_read
      rotate_left
      · iexact H0
      · exact (View.read_writes_full arg10.view _ inb_S1024x1024_S1024x1024_0_0 _ []).trans
          (congrArg k0_pay1 (View.readAt_rep_full arg4.view x0 inb_S1024x1024_S1024x1024_0_0))
    iapply pointsTo_rep_of_read
    rotate_left
    · iexact H1
    · exact View.read_writes_full arg11.view _ inb_S1024x1024_S1024x1024_0_0 _ []
  · rw [if_neg hb, if_neg hb, if_neg hb]
    iintro ⟨H4, H0, H1, Hk⟩
    iapply Hk
    isplitl [H4]; · iexact H4
    isplitl [H0]; · iexact H0
    iexact H1

/-- The run of a row tile's end. -/
theorem fin_run (c : Dev nD) (K : PUnit.{1} → sProp 𝕄) (k : BodyProg F) (i : grid0.Coords)
    (arg8 : Memref sig .tc .vmem S1024x1 .f32) (arg9 : Memref sig .tc .vmem S1024x1024 .f32) (arg11 : Memref sig .tc .vmem S1024x1024 .f32)
    (x4 : S1024x1.Idx → Elt F .f32) (y : S1024x1024.Idx → Elt F .f32) (acc : S1024x1024.Idx → Elt F .f32) :
    iprop((arg8.view.loc (c : Thread nD τ) ↦[arg8.view.set]{fullShare} arg8.view.rep x4)
        ∗ (arg9.view.loc (c : Thread nD τ) ↦[arg9.view.set]{fullShare} arg9.view.rep y)
        ∗ (arg11.view.loc (c : Thread nD τ) ↦[arg11.view.set]{fullShare} arg11.view.rep acc)
        ∗ (iprop((arg8.view.loc (c : Thread nD τ) ↦[arg8.view.set]{fullShare} arg8.view.rep x4)
            ∗ (arg9.view.loc (c : Thread nD τ) ↦[arg9.view.set]{fullShare} arg9.view.rep (finOut i acc x4 y))
            ∗ (arg11.view.loc (c : Thread nD τ) ↦[arg11.view.set]{fullShare} arg11.view.rep acc))
          -∗ wp frame (wpE (defs₀ (F := F)) Variants.none c none) Set.univ k K))
      ⊢ wp frame (wpE (defs₀ (F := F)) Variants.none c none) Set.univ (finP i arg8 arg9 arg11 k) K := by
  unfold finP finOut
  by_cases hb : k0_cond6 i = 1#1
  · rw [if_pos hb, if_pos hb]
    iintro ⟨H4, H0, H1, Hk⟩
    sl_exec!
    iapply Hk
    isplitl [H4]; · iexact H4
    isplitl [H0]
    · iapply pointsTo_rep_of_read
      rotate_left
      · iexact H0
      · rw [View.read_writes_full, View.readAt_rep_full, View.readAt_rep_full]
    iexact H1
  · rw [if_neg hb, if_neg hb]
    iintro ⟨H4, H0, H1, Hk⟩
    iapply Hk
    isplitl [H4]; · iexact H4
    isplitl [H0]; · iexact H0
    iexact H1

/-- The load of the number of live rows. -/
theorem word_run (c : Dev nD) (K : PUnit.{1} → sProp 𝕄) (k : BitVec 32 → BodyProg F) (i : grid0.Coords) (T : S32.Idx → Elt F .i32) :
    iprop((tbM1.view.loc (c : Thread nD τ) ↦{fullShare.right} T)
        ∗ (iprop(tbM1.view.loc (c : Thread nD τ) ↦{fullShare.right} T)
          -∗ wp frame (wpE (defs₀ (F := F)) Variants.none c none) Set.univ (k (liveWord i T)) K))
      ⊢ wp frame (wpE (defs₀ (F := F)) Variants.none c none) Set.univ
          (do
            let v1 : Elt F .i32 ← smemLoad tbM1 (Rect.unit (s := S32) (k0_off1 i) S1.size (k0_off1_inb i)) numel1_S1 rfl
            k v1) K := by
  have hT1 : tbM1.IsWhole := Memref.isWhole_whole _
  iintro ⟨HT, Hk⟩
  sl_exec!
  iapply Hk
  iexact HT

/-- The loads of the three weight blocks. -/
theorem load_run (c : Dev nD) (K : PUnit.{1} → sProp 𝕄)
    (k : Vec F S1x1024x256 .f32 → Vec F S1x1024x256 .f32 → Vec F S1x256x1024 .f32 → BodyProg F)
    (arg5 arg6 : Memref sig .tc .vmem S1x1024x256 .f32) (arg7 : Memref sig .tc .vmem S1x256x1024 .f32)
    (x1 x2 : S1x1024x256.Idx → Elt F .f32) (x3 : S1x256x1024.Idx → Elt F .f32) :
    iprop((arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (iprop((arg5.view.loc (c : Thread nD τ) ↦[arg5.view.set]{fullShare} arg5.view.rep x1)
            ∗ (arg6.view.loc (c : Thread nD τ) ↦[arg6.view.set]{fullShare} arg6.view.rep x2)
            ∗ (arg7.view.loc (c : Thread nD τ) ↦[arg7.view.set]{fullShare} arg7.view.rep x3))
          -∗ wp frame (wpE (defs₀ (F := F)) Variants.none c none) Set.univ (k x1 x2 x3) K))
      ⊢ wp frame (wpE (defs₀ (F := F)) Variants.none c none) Set.univ (do
          let v5 : Vec F S1x1024x256 .f32 ← Prog.lift (.load arg5 (Rect.unit (s := S1x1024x256) ![0, 0, 0] S1x1024x256.size inb_S1x1024x256_S1x1024x256_0_0_0).toLoadRect (View.loadsAt_vmem h_S1x1024x256))
          let v8 : Vec F S1x1024x256 .f32 ← Prog.lift (.load arg6 (Rect.unit (s := S1x1024x256) ![0, 0, 0] S1x1024x256.size inb_S1x1024x256_S1x1024x256_0_0_0).toLoadRect (View.loadsAt_vmem h_S1x1024x256))
          let v11 : Vec F S1x256x1024 .f32 ← Prog.lift (.load arg7 (Rect.unit (s := S1x256x1024) ![0, 0, 0] S1x256x1024.size inb_S1x256x1024_S1x256x1024_0_0_0).toLoadRect (View.loadsAt_vmem h_S1x256x1024))
          k v5 v8 v11) K := by
  conv_lhs =>
    rw [show k x1 x2 x3 = k
        (arg5.view.readAt (Elt F) (Rect.unit (s := S1x1024x256) ![0, 0, 0] S1x1024x256.size inb_S1x1024x256_S1x1024x256_0_0_0).toLoadRect (arg5.view.rep x1))
        (arg6.view.readAt (Elt F) (Rect.unit (s := S1x1024x256) ![0, 0, 0] S1x1024x256.size inb_S1x1024x256_S1x1024x256_0_0_0).toLoadRect (arg6.view.rep x2))
        (arg7.view.readAt (Elt F) (Rect.unit (s := S1x256x1024) ![0, 0, 0] S1x256x1024.size inb_S1x256x1024_S1x256x1024_0_0_0).toLoadRect (arg7.view.rep x3))
      from by rw [View.readAt_rep_full, View.readAt_rep_full, View.readAt_rep_full]]
  iintro ⟨H1, H2, H3, Hk⟩
  sl_exec!
  iapply Hk
  isplitl [H1]; · iexact H1
  isplitl [H2]; · iexact H2
  iexact H3

/-- The run of the whole body, from and to values. -/
theorem body_run (c : Dev nD) (K : PUnit.{1} → sProp 𝕄) (i : grid0.Coords)
    (arg4 : Memref sig .tc .vmem S1024x1024 .f32) (arg5 arg6 : Memref sig .tc .vmem S1x1024x256 .f32) (arg7 : Memref sig .tc .vmem S1x256x1024 .f32)
    (arg8 : Memref sig .tc .vmem S1024x1 .f32) (arg9 : Memref sig .tc .vmem S1024x1024 .f32)
    (arg10 : Memref sig .tc .vmem S1024x1024 .bf16) (harg10 : arg10.IsWhole) (arg11 : Memref sig .tc .vmem S1024x1024 .f32) (harg11 : arg11.IsWhole)
    (T : S32.Idx → Elt F .i32)
    (x0 : S1024x1024.Idx → Elt F .f32) (x1 x2 : S1x1024x256.Idx → Elt F .f32) (x3 : S1x256x1024.Idx → Elt F .f32)
    (x4 : S1024x1.Idx → Elt F .f32) (y : S1024x1024.Idx → Elt F .f32) (xb : S1024x1024.Idx → Elt F .bf16) (acc : S1024x1024.Idx → Elt F .f32) :
    iprop((arg4.view.loc (c : Thread nD τ) ↦[arg4.view.set]{fullShare} arg4.view.rep x0)
        ∗ (arg5.view.loc (c : Thread nD τ) ↦[arg5.view.set]{fullShare} arg5.view.rep x1)
        ∗ (arg6.view.loc (c : Thread nD τ) ↦[arg6.view.set]{fullShare} arg6.view.rep x2)
        ∗ (arg7.view.loc (c : Thread nD τ) ↦[arg7.view.set]{fullShare} arg7.view.rep x3)
        ∗ (arg8.view.loc (c : Thread nD τ) ↦[arg8.view.set]{fullShare} arg8.view.rep x4)
        ∗ (arg9.view.loc (c : Thread nD τ) ↦[arg9.view.set]{fullShare} arg9.view.rep y)
        ∗ (tbM1.view.loc (c : Thread nD τ) ↦{fullShare.right} T)
        ∗ (arg10.view.loc (c : Thread nD τ) ↦[arg10.view.set]{fullShare} arg10.view.rep xb)
        ∗ (arg11.view.loc (c : Thread nD τ) ↦[arg11.view.set]{fullShare} arg11.view.rep acc)
        ∗ (iprop((arg4.view.loc (c : Thread nD τ) ↦[arg4.view.set]{fullShare} arg4.view.rep x0)
            ∗ (arg5.view.loc (c : Thread nD τ) ↦[arg5.view.set]{fullShare} arg5.view.rep x1)
            ∗ (arg6.view.loc (c : Thread nD τ) ↦[arg6.view.set]{fullShare} arg6.view.rep x2)
            ∗ (arg7.view.loc (c : Thread nD τ) ↦[arg7.view.set]{fullShare} arg7.view.rep x3)
            ∗ (arg8.view.loc (c : Thread nD τ) ↦[arg8.view.set]{fullShare} arg8.view.rep x4)
            ∗ (arg9.view.loc (c : Thread nD τ) ↦[arg9.view.set]{fullShare} arg9.view.rep (finOut i (stepAcc i (liveWord i T) x0 x1 x2 x3 xb acc) x4 y))
            ∗ (tbM1.view.loc (c : Thread nD τ) ↦{fullShare.right} T)
            ∗ (arg10.view.loc (c : Thread nD τ) ↦[arg10.view.set]{fullShare} arg10.view.rep (initRows i x0 xb))
            ∗ (arg11.view.loc (c : Thread nD τ) ↦[arg11.view.set]{fullShare} arg11.view.rep (stepAcc i (liveWord i T) x0 x1 x2 x3 xb acc)))
          -∗ K ⟨⟩))
      ⊢ wp frame (wpE (defs₀ (F := F)) Variants.none c none) Set.univ (bodyP i tbM1 arg4 arg5 arg6 arg7 arg8 arg9 arg10 harg10 arg11) K := by
  have hT1 : tbM1.IsWhole := Memref.isWhole_whole _
  unfold bodyP
  iintro ⟨H0, H1, H2, H3, H4, H5, HT, HX, HA, Hk⟩
  iapply word_run (T := T)
  isplitl [HT]; · iexact HT
  iintro HT
  iapply init_run (x0 := x0) (xb := xb) (acc := acc) (harg11 := harg11)
  isplitl [H0]; · iexact H0
  isplitl [HX]; · iexact HX
  isplitl [HA]; · iexact HA
  iintro ⟨H0, HX, HA⟩
  iapply load_run (x1 := x1) (x2 := x2) (x3 := x3)
  isplitl [H1]; · iexact H1
  isplitl [H2]; · iexact H2
  isplitl [H3]; · iexact H3
  iintro ⟨H1, H2, H3⟩
  iapply sub_run (xb := initRows i x0 xb) (harg10 := harg10) (harg11 := harg11)
  isplitl [HX]; · iexact HX
  isplitl [HA]; · iexact HA
  iintro ⟨HX, HA⟩
  iapply sub_run (xb := initRows i x0 xb) (harg10 := harg10) (harg11 := harg11)
  isplitl [HX]; · iexact HX
  isplitl [HA]; · iexact HA
  iintro ⟨HX, HA⟩
  iapply sub_run (xb := initRows i x0 xb) (harg10 := harg10) (harg11 := harg11)
  isplitl [HX]; · iexact HX
  isplitl [HA]; · iexact HA
  iintro ⟨HX, HA⟩
  iapply sub_run (xb := initRows i x0 xb) (harg10 := harg10) (harg11 := harg11)
  isplitl [HX]; · iexact HX
  isplitl [HA]; · iexact HA
  iintro ⟨HX, HA⟩
  iapply fin_run (x4 := x4) (y := y)
  isplitl [H4]; · iexact H4
  isplitl [H5]; · iexact H5
  isplitl [HA]; · iexact HA
  iintro ⟨H4, H5, HA⟩
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT]; · iexact HT
  isplitl [HX]; · iexact HX
  iexact HA

end Runs

end Cert.MoeIdeal

end
-- ==== Proof.MoeTablesIdeal.lean ====
/- The expert kernel's two tables: what its index maps and its body read of them, and that tables whose experts are in range
   give blocks inside the weights. -/
module

public import proofs.«01_k».proof.Proof.MoeBodyIdeal
public import proofs.«01_k».proof.Proof.Gen.Pre_experts_in_range
public import Idealize.ShloMosaic.Lib.ReduceAll
public import Idealize.ShloMosaic.Lib.ValueIdxCore

@[expose] public section

set_option maxRecDepth 16384
set_option Elab.async false

noncomputable section

namespace Cert.MoeIdeal

open Cert.FfnMoeIdeal Cert.FfnMoeIdeal.Gen
open Idealize.ShloMosaic

variable {F : FTy → Type} [FloatOps F]

/-- The experts' table and the live rows' table, of the tables' contents. -/
abbrev teOf (pf : pre0.Contents (Elt F)) : S32.Idx → BitVec 32 := pf 0
abbrev tvOf (pf : pre0.Contents (Elt F)) : S32.Idx → BitVec 32 := pf 1

/-- The index of the table entry of the row tile of grid point `i`. -/
abbrev tileIx (i : grid0.Coords) : S32.Idx := ValueIdx.ix1 (n := 32) (i 0)

/-- A one-element block of a table at a row tile is that tile's entry. -/
theorem point_tile (i : grid0.Coords) (off : Fin 1 → ℕ) (ho : off = ![(i 0).val]) (h : ∀ a, off a + S1.size a ≤ S32.size a)
    (y : (Rect.unit (s := S32) off S1.size h).shape.Idx) : (Rect.unit (s := S32) off S1.size h).emb y = tileIx i := by
  subst ho
  funext a
  match a with
  | ⟨0, _⟩ =>
    refine Fin.ext ?_
    have hy : (y 0).val < 1 := (y 0).isLt
    show (i 0).val + 1 * (y 0).val = (i 0).val
    omega

theorem at_tile0 (pf : pre0.Contents (Elt F)) (i : grid0.Coords) :
    pf.at 0 (Rect.unit (s := S32) (k0_off1 i) S1.size (k0_off1_inb i)) numel1_S1 = teOf pf (tileIx i) :=
  congrArg (teOf pf) (point_tile i _ (k0_off1_eq i) (k0_off1_inb i) _)

theorem at_tile1 (pf : pre0.Contents (Elt F)) (i : grid0.Coords) :
    pf.at 1 (Rect.unit (s := S32) (k0_off1 i) S1.size (k0_off1_inb i)) numel1_S1 = tvOf pf (tileIx i) :=
  congrArg (tvOf pf) (point_tile i _ (k0_off1_eq i) (k0_off1_inb i) _)

theorem liveWord_eq (i : grid0.Coords) (T : S32.Idx → Elt F .i32) : liveWord i T = T (tileIx i) :=
  congrArg T (point_tile i _ (k0_off1_eq i) (k0_off1_inb i) _)

/-- The hidden tile a weight block is fetched of: the point's own where the row tile has live rows, else the last. -/
def tileJ (nv : BitVec 32) (i : grid0.Coords) : ℕ :=
  (Scalar.select (Scalar.cmpi .sgt nv 0#32) (BitVec.ofNat 32 (i 1).val) 10#32).toNat

theorem hidden_toNat (i : grid0.Coords) : (BitVec.ofNat 32 (i 1).val).toNat = (i 1).val := by
  have : (i 1).val < 11 := (i 1).isLt
  rw [BitVec.toNat_ofNat]
  exact Nat.mod_eq_of_lt (by omega)

theorem tileJ_le (nv : BitVec 32) (i : grid0.Coords) : tileJ nv i ≤ 10 := by
  have h : (i 1).val < 11 := (i 1).isLt
  unfold tileJ Scalar.select
  split
  · rw [hidden_toNat]; omega
  · decide

theorem tileJ_live (nv : BitVec 32) (i : grid0.Coords) (h : Scalar.cmpi .sgt nv 0#32 = 1#1) : tileJ nv i = (i 1).val := by
  unfold tileJ
  rw [h]
  exact hidden_toNat i

/-- The block of the weights at a grid point: the expert's, at its hidden tile. -/
def wblk (te tv : S32.Idx → BitVec 32) (i : grid0.Coords) : Fin 3 → ℕ := ![(te (tileIx i)).toNat, 0, tileJ (tv (tileIx i)) i]
def wblkT (te tv : S32.Idx → BitVec 32) (i : grid0.Coords) : Fin 3 → ℕ := ![(te (tileIx i)).toNat, tileJ (tv (tileIx i)) i, 0]

theorem transform1_eq (pf : pre0.Contents (Elt F)) (i : grid0.Coords) : cc0_transform_1 k0_off1_inb numel1_S1 pf i = wblk (teOf pf) (tvOf pf) i := by
  unfold wblk; rw [← at_tile0, ← at_tile1]; rfl

theorem transform2_eq (pf : pre0.Contents (Elt F)) (i : grid0.Coords) : cc0_transform_2 k0_off1_inb numel1_S1 pf i = wblk (teOf pf) (tvOf pf) i := by
  unfold wblk; rw [← at_tile0, ← at_tile1]; rfl

theorem transform3_eq (pf : pre0.Contents (Elt F)) (i : grid0.Coords) : cc0_transform_3 k0_off1_inb numel1_S1 pf i = wblkT (teOf pf) (tvOf pf) i := by
  unfold wblkT; rw [← at_tile0, ← at_tile1]; rfl

theorem wblk_inb (te tv : S32.Idx → BitVec 32) (h : ∀ x, (te x).toNat < 8) (i : grid0.Coords) (a : Fin 3) :
    (wblk te tv i a + 1) * S1x1024x256.size a ≤ S8x1024x2816.size a := by
  have h0 := h (tileIx i)
  have hj := tileJ_le (tv (tileIx i)) i
  match a with
  | ⟨0, _⟩ => show ((te (tileIx i)).toNat + 1) * 1 ≤ 8; omega
  | ⟨1, _⟩ => show (0 + 1) * 1024 ≤ 1024; omega
  | ⟨2, _⟩ => show (tileJ (tv (tileIx i)) i + 1) * 256 ≤ 2816; omega

theorem wblkT_inb (te tv : S32.Idx → BitVec 32) (h : ∀ x, (te x).toNat < 8) (i : grid0.Coords) (a : Fin 3) :
    (wblkT te tv i a + 1) * S1x256x1024.size a ≤ S8x2816x1024.size a := by
  have h0 := h (tileIx i)
  have hj := tileJ_le (tv (tileIx i)) i
  match a with
  | ⟨0, _⟩ => show ((te (tileIx i)).toNat + 1) * 1 ≤ 8; omega
  | ⟨1, _⟩ => show (tileJ (tv (tileIx i)) i + 1) * 256 ≤ 2816; omega
  | ⟨2, _⟩ => show (0 + 1) * 1024 ≤ 1024; omega

/-- Tables whose experts are in range are admissible. -/
theorem ok_of_range (pf : pre0.Contents (Elt F)) (h : ∀ x, (teOf pf x).toNat < 8) : ok0 pf :=
  ⟨fun i => ⟨fun a => by rw [transform1_eq]; exact wblk_inb _ _ h i a, .inl rfl⟩,
    fun i => ⟨fun a => by rw [transform2_eq]; exact wblk_inb _ _ h i a, .inl rfl⟩,
    fun i => ⟨fun a => by rw [transform3_eq]; exact wblkT_inb _ _ h i a, .inl rfl⟩⟩

/-- A word between 0 and 7, read signed, is below 8. -/
theorem lt_of_word (w : BitVec 32) (h : IntOp.andi (Scalar.cmpi .sge w 0#32) (Scalar.cmpi .slt w 8#32) = 1#1) : w.toNat < 8 := by
  have key : ∀ b c : Bool, BitVec.ofBool b &&& BitVec.ofBool c = 1#1 → b = true ∧ c = true := by decide
  obtain ⟨h0, h8⟩ := key _ _ h
  have h0' : (0#32).toInt ≤ w.toInt := BitVec.sle_iff_toInt_le.mp h0
  have h8' : w.toInt < (8#32).toInt := BitVec.slt_iff_toInt_lt.mp h8
  have e0 : (0#32).toInt = 0 := by decide
  have e8 : (8#32).toInt = 8 := by decide
  rw [e0] at h0'
  rw [e8] at h8'
  have hlt := w.isLt
  rw [BitVec.toInt_eq_toNat_cond] at h0' h8'
  split at h0' <;> omega

/-- The precondition's function all ones: every expert is one of the eight. -/
theorem range_of_pre (a0 : FVec F S32768x1024 .f32) (a1 a2 : FVec F S8x1024x2816 .f32) (a3 : FVec F S8x2816x1024 .f32) (a4 : FVec F S32768x1 .f32)
    (te tv : IVec S32 32) (h : Cert.Pre_experts_in_range.fn (F := F) a0 a1 a2 a3 a4 te tv = fun _ => 1#1) (x : S32.Idx) : (te x).toNat < 8 := by
  have h0 := congrFun h (fun a => a.elim0)
  haveI : Subsingleton Cert.Pre_experts_in_range.S_.Idx := ⟨fun a b => funext fun i => i.elim0⟩
  exact lt_of_word _ (Host.reduce_andi_all _ _ Cert.Pre_experts_in_range.Facts.reducesTo_S32_S_d0 Cert.Pre_experts_in_range.Facts.h_S_ _ h0 x)

end Cert.MoeIdeal
-- ==== Proof.MoeFrameIdeal.lean ====
/- The expert kernel runs, its argument arrays end unchanged, and its result is what the runs of the body leave: the launch
   at the two tables the memory holds, over the run of the body by values. -/
module

public import proofs.«01_k».proof.Proof.MoeTablesIdeal
public import Idealize.ShloMosaic.Lib.Pipeline.TableIdle
public import Idealize.ShloMosaic.Lib.Affine
public import Idealize.ShloMosaic.Adequacy
public import Idealize.ShloMosaic.Init

@[expose] public section

set_option maxRecDepth 16384
set_option Elab.async false

noncomputable section

namespace Cert.MoeIdeal

open Cert.FfnMoeIdeal Cert.FfnMoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The schedule of the grid -/

/-- The grid point's coordinates: row tile and hidden tile. -/
theorem coord_tile : ∀ t : Fin grid0.N, (grid0.coords t 0).val = t.val / 11 := by decide +kernel

theorem coord_hidden : ∀ t : Fin grid0.N, (grid0.coords t 1).val = t.val % 11 := by decide +kernel

theorem first_iff : ∀ t : Fin grid0.N, isFirst (grid0.coords t) = 1#1 ↔ t.val % 11 = 0 := by decide +kernel

theorem last_iff : ∀ t : Fin grid0.N, k0_cond6 (grid0.coords t) = 1#1 ↔ t.val % 11 = 10 := by decide +kernel

/-- The result's block is written back at the last hidden tile of a row tile, whatever the tables hold. -/
theorem flush_iff (a : (pcfg0 (F := F)).Adm) (t : Fin grid0.N) : ((cfg0 a).win 5).flush t = true ↔ t.val % 11 = 10 :=
  (Pipeline.Window.flushOf_reads cc0_transform_5 reads0_5 hreads0_5 0 (by decide) (by decide) (Pipeline.Window.sep_of_coord cc0_transform_5 0 0 (fun _ => rfl) (by decide)) (P := 11) (m := 10) (by decide) rfl t :
    Pipeline.Window.flushOf grid0 true cc0_transform_5 t = true ↔ t.val % 11 = 10)

/-! ## The tables -/

section Launch

variable (m : (ℓ : Loc nD τ sig) → Buf (Elt F) ℓ) (ρ : Dev nD → PrngReg)

/-- The two tables, as the memory holds them. -/
def tabs : pre0.Contents (Elt F) := fun j => m (((0 : Dev nD) : Thread nD τ).loc (pre0.ref j))

theorem tabs_eq (c : Dev nD) (j : Fin 2) : m ((c : Thread nD τ).loc (pre0.ref j)) = tabs m j := by
  obtain rfl : c = 0 := Subsingleton.elim _ _
  rfl

variable (hok : ok0 (tabs m))

/-- The tables, admissible. -/
abbrev adm : (pcfg0 (F := F)).Adm := ⟨tabs m, hok⟩
abbrev cfgA : Cfg sig Λ₀ := cfg0 (adm m hok)
abbrev pcs := Pipeline.pin (pcfgs (F := F)) fun _ => adm m hok
abbrev crd (t : Fin (cfgA m hok).N) : grid0.Coords := (cfgA m hok).grid.coords t

abbrev ms0_0 (t : Fin (cfgA m hok).N) := spec0_0.stage ((cfgA m hok).slots t (0 : Fin 6))
abbrev ms0_1 (t : Fin (cfgA m hok).N) := spec0_1.stage ((cfgA m hok).slots t (1 : Fin 6))
abbrev ms0_2 (t : Fin (cfgA m hok).N) := spec0_2.stage ((cfgA m hok).slots t (2 : Fin 6))
abbrev ms0_3 (t : Fin (cfgA m hok).N) := spec0_3.stage ((cfgA m hok).slots t (3 : Fin 6))
abbrev ms0_4 (t : Fin (cfgA m hok).N) := spec0_4.stage ((cfgA m hok).slots t (4 : Fin 6))
abbrev ms0_5 (t : Fin (cfgA m hok).N) := spec0_5.stage ((cfgA m hok).slots t (5 : Fin 6))

abbrev EP : Emb (UR sig nD τ) 𝕄 := emb₁

/-- The block of window `w` at point `t`, of the memory at the launch. -/
def iblk (c : Dev nD) (w : Fin 6) (t : Fin (cfgA m hok).N) :=
  (((cfgA m hok).win w).blk t).view.read (Elt F) (m (((cfgA m hok).win w).arr.view.loc (c : Thread nD τ)))

abbrev xs (c : Dev nD) (t : Fin (cfgA m hok).N) : S1024x1024.Idx → Elt F .f32 := iblk m hok c 0 t
abbrev wgs (c : Dev nD) (t : Fin (cfgA m hok).N) : S1x1024x256.Idx → Elt F .f32 := iblk m hok c 1 t
abbrev wus (c : Dev nD) (t : Fin (cfgA m hok).N) : S1x1024x256.Idx → Elt F .f32 := iblk m hok c 2 t
abbrev wds (c : Dev nD) (t : Fin (cfgA m hok).N) : S1x256x1024.Idx → Elt F .f32 := iblk m hok c 3 t
abbrev gates (c : Dev nD) (t : Fin (cfgA m hok).N) : S1024x1.Idx → Elt F .f32 := iblk m hok c 4 t

/-- The number of live rows of the row tile at point `t`. -/
abbrev nlive (t : Fin (cfgA m hok).N) : BitVec 32 := liveWord (crd m hok t) (tabs m 1)

/-- The kept rows and the accumulator before point `n`. -/
def st (c : Dev nD) : ℕ → (S1024x1024.Idx → Elt F .bf16) × (S1024x1024.Idx → Elt F .f32)
  | 0 => (k0_pay1 k0_pay2, k0_pay2)
  | n + 1 => if h : n < (cfgA m hok).N then
      (initRows (crd m hok ⟨n, h⟩) (xs m hok c ⟨n, h⟩) (st c n).1,
        stepAcc (crd m hok ⟨n, h⟩) (nlive m hok ⟨n, h⟩) (xs m hok c ⟨n, h⟩) (wgs m hok c ⟨n, h⟩) (wus m hok c ⟨n, h⟩) (wds m hok c ⟨n, h⟩)
          (st c n).1 (st c n).2)
    else st c n

theorem st_succ (c : Dev nD) (t : Fin (cfgA m hok).N) : st m hok c (t.val + 1)
    = (initRows (crd m hok t) (xs m hok c t) (st m hok c t.val).1,
        stepAcc (crd m hok t) (nlive m hok t) (xs m hok c t) (wgs m hok c t) (wus m hok c t) (wds m hok c t)
          (st m hok c t.val).1 (st m hok c t.val).2) := by
  rw [st, dif_pos t.isLt]

/-- The block stored at the end of a row tile. -/
def outBlk (c : Dev nD) (t : Fin (cfgA m hok).N) : S1024x1024.Idx → Elt F .f32 :=
  k0_pay10 (st m hok c (t.val + 1)).2 (gates m hok c t)

/-- What the body leaves in the scratch buffers, from contents that agree with the state wherever it reads them. -/
theorem step_any (c : Dev nD) (t : Fin (cfgA m hok).N) (xb : S1024x1024.Idx → Elt F .bf16) (acc : S1024x1024.Idx → Elt F .f32)
    (h : t.val ≠ 0 → (xb, acc) = st m hok c t.val) :
    initRows (crd m hok t) (xs m hok c t) xb = (st m hok c (t.val + 1)).1
      ∧ stepAcc (crd m hok t) (nlive m hok t) (xs m hok c t) (wgs m hok c t) (wus m hok c t) (wds m hok c t) xb acc
        = (st m hok c (t.val + 1)).2 := by
  rw [st_succ]
  by_cases h0 : t.val = 0
  · have hf : isFirst (crd m hok t) = 1#1 := (first_iff t).mpr (by rw [h0])
    simp only [stepAcc, initRows, initAcc, if_pos hf, and_self]
  · rw [← h h0]
    exact ⟨rfl, rfl⟩

/-! ## The pipeline's data -/

/-- What holds beside the windows before point `n`: the scratch buffers at the state, half of each table. -/
def Phi (c : Dev nD) (n : ℕ) : sProp 𝕄 :=
  iprop((∃ xb : S1024x1024.Idx → Elt F .bf16, ∃ acc : S1024x1024.Idx → Elt F .f32, ⌜n ≠ 0 → (xb, acc) = st m hok c n⌝
      ∗ (scM0.view.loc (c : Thread nD τ) ↦[scM0.view.set]{fullShare} scM0.view.rep xb)
      ∗ (scM1.view.loc (c : Thread nD τ) ↦[scM1.view.set]{fullShare} scM1.view.rep acc))
    ∗ (tbM0.view.loc (c : Thread nD τ) ↦{fullShare.right} tabs m 0)
    ∗ (tbM1.view.loc (c : Thread nD τ) ↦{fullShare.right} tabs m 1))

def dats (_ : Fin 1) (c : Dev nD) : Dat τ (Elt F) Unit ℕ (UR sig nD τ) ℕ (cfgA m hok) c where
  A w := m (((cfgA m hok).win w).arr.view.loc (c : Thread nD τ))
  after w t := match w with
    | ⟨0, _⟩ => iblk m hok c 0 t
    | ⟨1, _⟩ => iblk m hok c 1 t
    | ⟨2, _⟩ => iblk m hok c 2 t
    | ⟨3, _⟩ => iblk m hok c 3 t
    | ⟨4, _⟩ => iblk m hok c 4 t
    | ⟨5, _⟩ => outBlk m hok c t
  Φ t := Phi m hok c t.val
  q _ := fullShare
  owed _ := 0

theorem after0_0 (c : Dev nD) (t : Fin (cfgA m hok).N) : (dats m hok 0 c).after (0 : Fin 6) t = iblk m hok c 0 t := rfl
theorem after0_1 (c : Dev nD) (t : Fin (cfgA m hok).N) : (dats m hok 0 c).after (1 : Fin 6) t = iblk m hok c 1 t := rfl
theorem after0_2 (c : Dev nD) (t : Fin (cfgA m hok).N) : (dats m hok 0 c).after (2 : Fin 6) t = iblk m hok c 2 t := rfl
theorem after0_3 (c : Dev nD) (t : Fin (cfgA m hok).N) : (dats m hok 0 c).after (3 : Fin 6) t = iblk m hok c 3 t := rfl
theorem after0_4 (c : Dev nD) (t : Fin (cfgA m hok).N) : (dats m hok 0 c).after (4 : Fin 6) t = iblk m hok c 4 t := rfl
theorem after0_5 (c : Dev nD) (t : Fin (cfgA m hok).N) : (dats m hok 0 c).after (5 : Fin 6) t = outBlk m hok c t := rfl

theorem before0_0 (c : Dev nD) (t : Fin (cfgA m hok).N) (d) : (dats m hok 0 c).before (0 : Fin 6) t d = iblk m hok c 0 t :=
  ((dats m hok 0 c).before_in_eq_fetched (0 : Fin 6) rfl (fun _ => rfl) (fun _ _ _ => rfl) (fun t => by rw [after0_0]; unfold Dat.blockOf iblk; rfl) t d).trans (by unfold Dat.fetched Dat.blockOf iblk; rfl)
theorem before0_1 (c : Dev nD) (t : Fin (cfgA m hok).N) (d) : (dats m hok 0 c).before (1 : Fin 6) t d = iblk m hok c 1 t :=
  ((dats m hok 0 c).before_in_eq_fetched (1 : Fin 6) rfl (fun _ => rfl) (fun _ _ _ => rfl) (fun t => by rw [after0_1]; unfold Dat.blockOf iblk; rfl) t d).trans (by unfold Dat.fetched Dat.blockOf iblk; rfl)
theorem before0_2 (c : Dev nD) (t : Fin (cfgA m hok).N) (d) : (dats m hok 0 c).before (2 : Fin 6) t d = iblk m hok c 2 t :=
  ((dats m hok 0 c).before_in_eq_fetched (2 : Fin 6) rfl (fun _ => rfl) (fun _ _ _ => rfl) (fun t => by rw [after0_2]; unfold Dat.blockOf iblk; rfl) t d).trans (by unfold Dat.fetched Dat.blockOf iblk; rfl)
theorem before0_3 (c : Dev nD) (t : Fin (cfgA m hok).N) (d) : (dats m hok 0 c).before (3 : Fin 6) t d = iblk m hok c 3 t :=
  ((dats m hok 0 c).before_in_eq_fetched (3 : Fin 6) rfl (fun _ => rfl) (fun _ _ _ => rfl) (fun t => by rw [after0_3]; unfold Dat.blockOf iblk; rfl) t d).trans (by unfold Dat.fetched Dat.blockOf iblk; rfl)
theorem before0_4 (c : Dev nD) (t : Fin (cfgA m hok).N) (d) : (dats m hok 0 c).before (4 : Fin 6) t d = iblk m hok c 4 t :=
  ((dats m hok 0 c).before_in_eq_fetched (4 : Fin 6) rfl (fun _ => rfl) (fun _ _ _ => rfl) (fun t => by rw [after0_4]; unfold Dat.blockOf iblk; rfl) t d).trans (by unfold Dat.fetched Dat.blockOf iblk; rfl)

/-! ## The body at a point -/

theorem sound_body (c : Dev nD) (t : Fin (cfgA m hok).N) :
    iprop((dats m hok 0 c).Φ t.castSucc ∗ (dats m hok 0 c).owesAt () t.castSucc
        ∗ (∃ d, owns c (ms0_0 m hok t) fullShare ((dats m hok 0 c).before (0 : Fin 6) t d))
        ∗ (∃ d, owns c (ms0_1 m hok t) fullShare ((dats m hok 0 c).before (1 : Fin 6) t d))
        ∗ (∃ d, owns c (ms0_2 m hok t) fullShare ((dats m hok 0 c).before (2 : Fin 6) t d))
        ∗ (∃ d, owns c (ms0_3 m hok t) fullShare ((dats m hok 0 c).before (3 : Fin 6) t d))
        ∗ (∃ d, owns c (ms0_4 m hok t) fullShare ((dats m hok 0 c).before (4 : Fin 6) t d))
        ∗ (∃ d, owns c (ms0_5 m hok t) fullShare ((dats m hok 0 c).before (5 : Fin 6) t d)))
      ⊢ wp frame (wpE (defs₀ (F := F)) Variants.none c none) Set.univ
          (cc0_ffn_moe (F := F) (crd m hok t) (Memref.whole main_arg5) (Memref.isWhole_whole _) (Memref.whole main_arg6) (Memref.isWhole_whole _)
            (ms0_0 m hok t) (hstage0_0 (((cfgA m hok).slots t (0 : Fin 6)).cast nbuf0_0))
            (ms0_1 m hok t) (hstage0_1 (((cfgA m hok).slots t (1 : Fin 6)).cast nbuf0_1))
            (ms0_2 m hok t) (hstage0_2 (((cfgA m hok).slots t (2 : Fin 6)).cast nbuf0_2))
            (ms0_3 m hok t) (hstage0_3 (((cfgA m hok).slots t (3 : Fin 6)).cast nbuf0_3))
            (ms0_4 m hok t) (hstage0_4 (((cfgA m hok).slots t (4 : Fin 6)).cast nbuf0_4))
            (ms0_5 m hok t) (hstage0_5 (((cfgA m hok).slots t (5 : Fin 6)).cast nbuf0_5))
            (Memref.whole cc0_scratch0) (Memref.isWhole_whole _) (Memref.whole cc0_scratch1) (Memref.isWhole_whole _))
          fun _ => iprop((dats m hok 0 c).Φ t.succ ∗ (dats m hok 0 c).owesAt () t.succ ∗ bigSep Finset.univ fun w : Fin 6 =>
            match (cfgA m hok).idle w ((cfgA m hok).grid.coords t) with
            | true => (match ((cfgA m hok).win w).flush t with
              | false => iprop(∃ d, owns c (((cfgA m hok).win w).stage ((cfgA m hok).slots t w)) fullShare ((dats m hok 0 c).before w t d))
              | true => owns c (((cfgA m hok).win w).stage ((cfgA m hok).slots t w)) fullShare ((dats m hok 0 c).after w t))
            | false => owns c (((cfgA m hok).win w).stage ((cfgA m hok).slots t w)) fullShare ((dats m hok 0 c).after w t)) := by
  rw [bigSep_W0, body_eq]
  rewrite [show (dats m hok 0 c).Φ t.castSucc = Phi m hok c t.val from rfl, show (dats m hok 0 c).Φ t.succ = Phi m hok c (t.val + 1) from rfl,
    show (dats m hok 0 c).owesAt () t.succ = (dats m hok 0 c).owesAt () t.castSucc from rfl]
  unfold Phi
  simp only [before0_0, before0_1, before0_2, before0_3, before0_4, after0_0, after0_1, after0_2, after0_3, after0_4, after0_5]
  iintro ⟨⟨⟨%xb, %acc, %hst, HX, HA⟩, HT0, HT1⟩, Ho, ⟨%d0, H0⟩, ⟨%d1, H1⟩, ⟨%d2, H2⟩, ⟨%d3, H3⟩, ⟨%d4, H4⟩, ⟨%d5, H5⟩⟩
  obtain ⟨hrows, hacc⟩ := step_any m hok c t xb acc hst
  iapply body_run (harg11 := Memref.isWhole_whole _) (T := tabs m 1) (x0 := xs m hok c t) (x1 := wgs m hok c t) (x2 := wus m hok c t)
    (x3 := wds m hok c t) (x4 := gates m hok c t) (y := (dats m hok 0 c).before (5 : Fin 6) t d5) (xb := xb) (acc := acc)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [HT1]; · iexact HT1
  isplitl [HX]; · iexact HX
  isplitl [HA]; · iexact HA
  rw [hrows, hacc]
  iintro ⟨H0, H1, H2, H3, H4, H5, HT1, HX, HA⟩
  isplitl [HX HA HT0 HT1]
  · isplitl [HX HA]
    · iexists (st m hok c (t.val + 1)).1
      iexists (st m hok c (t.val + 1)).2
      isplitr
      · ipureintro; intro _; rfl
      isplitl [HX]; · iexact HX
      iexact HA
    isplitl [HT0]; · iexact HT0
    iexact HT1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  by_cases hl : k0_cond6 (crd m hok t) = 1#1
  · rewrite [show idle0 (5 : Fin 6) (((pcfg0 (F := F)).gridAt (tabs m)).coords t) = false from by
      show (!(k0_cond6 (crd m hok t) == 1#1)) = false
      rw [hl]; rfl]
    rw [finOut, if_pos hl]
    iapply owns_of_rep; iexact H5
  · rewrite [show idle0 (5 : Fin 6) (((pcfg0 (F := F)).gridAt (tabs m)).coords t) = true from by
      show (!(k0_cond6 (crd m hok t) == 1#1)) = true
      rw [beq_false_of_ne hl]; rfl,
      show ((pcfg0 (F := F)).win (adm m hok) (5 : Fin 6)).flush t = false from
        Bool.eq_false_iff.mpr fun h => hl ((last_iff t).mpr ((flush_iff (adm m hok) t).mp h))]
    rw [finOut, if_neg hl]
    iexists d5
    iapply owns_of_rep; iexact H5

theorem body_obligation (c : Dev nD) : BodyObligation (dats m hok 0 c) (defs₀ (F := F)) Variants.none () Set.univ := fun t => by
  rw [bigSep_W0]
  exact sound_body m hok c t

/-! ## The launch -/

def u₀ : UR sig nD τ := initOf (Pipeline.cells (pcs m hok) (launch0.cellOf_inj fun _ => adm m hok)) (Pipeline.launchToks (pcs m hok) (launch0.cellOf_inj fun _ => adm m hok))

theorem share_eq (c : Dev nD) (w : Fin 6) : (dats m hok 0 c).share w = fullShare := by
  unfold Dat.share
  split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg5) ↦{q 0} v 0) ∗ (((c : Thread nD τ).loc main_arg6) ↦{q 1} v 1)) := by
  unfold Pipeline.prefHeld
  rw [show (Finset.univ : Finset (Fin 2)) = insert (0 : Fin 2) {(1 : Fin 2)} from by decide, bigSep_insert (by decide), bigSep_singleton]
  rfl

theorem phi_enter (c : Dev nD) :
    iprop(BI.emp ∗ Pipeline.prefHeld pre0 c (fun _ => fullShare.right) (adm m hok).1 ∗ Pipeline.scopedRest spec0 c) ⊢ (dats m hok 0 c).Φ 0 := by
  rw [prefHeld_eq, scopedRest0_eq, show (dats m hok 0 c).Φ 0 = Phi m hok c 0 from rfl]
  unfold Phi
  iintro ⟨-, ⟨HT0, HT1⟩, ⟨%a0, HX⟩, ⟨%a1, HA⟩⟩
  isplitl [HX HA]
  · iexists (scM0.view.read (Elt F) a0)
    iexists (scM1.view.read (Elt F) a1)
    isplitr
    · ipureintro; intro h; exact absurd rfl h
    isplitl [HX]
    · iapply pointsTo_rep_entails
      rw [show scM0.view.set = Finset.univ from (Memref.isWhole_whole _).set_eq_univ]
      iexact HX
    iapply pointsTo_rep_entails
    rw [show scM1.view.set = Finset.univ from (Memref.isWhole_whole _).set_eq_univ]
    iexact HA
  isplitl [HT0]; · iexact HT0
  iexact HT1

theorem phi_exit (c : Dev nD) : (dats m hok 0 c).Φ (Fin.last _) ⊢ iprop(BI.emp ∗ Pipeline.scopedRest spec0 c) := by
  rw [scopedRest0_eq, show (dats m hok 0 c).Φ (Fin.last _) = Phi m hok c (cfgA m hok).N from rfl]
  unfold Phi
  iintro ⟨⟨%xb, %acc, -, HX, HA⟩, HT0, HT1⟩
  isplitr
  · iempintro
  rw [show scM0.view.set = Finset.univ from (Memref.isWhole_whole _).set_eq_univ, show scM1.view.set = Finset.univ from (Memref.isWhole_whole _).set_eq_univ]
  isplitl [HX]
  · iexists _; iexact HX
  iexists _; iexact HA

/-- What the launch leaves: every window's array as the runs of the body leave it, the tables unchanged. -/
def Left (r : PUnit.{1} × MemSt nD τ sig (Elt F)) : Prop := ∀ c : Dev nD,
  (∀ w : Fin 6, r.2.mem (((cfgA m hok).win w).arr.view.loc (c : Thread nD τ)) = (dats m hok 0 c).arrAt w (cfgA m hok).N)
    ∧ ∀ j : Fin 2, r.2.mem ((c : Thread nD τ).loc (pre0.ref j)) = (adm m hok).1 j

set_option backward.isDefEq.respectTransparency.types false in
theorem run_main : θ_run (defs (F := F)) (onTc (τ := τ) (main (F := F))) ⟨m, fun _ => 0, ρ⟩ (fun r => Left m hok r ∧ r.2.sem = fun _ => 0) :=
  Pipeline.θ_run_region_noSem_pf_quiescent (pcfgs (F := F)) (fun _ => adm m hok) (dats m hok) () ((launch0 (F := F)).cellOf_inj fun _ => adm m hok) (0 : Fin 1)
    (launch0 (F := F)).win.to₀ (launch0 (F := F)).pre EP (defs₀ (F := F)) Variants.none m ρ (main (F := F))
    (hbody := fun c => (body_obligation m hok c).loose) (hne := (launch0 (F := F)).block_pos) (harr := (launch0 (F := F)).arr_whole) (hstage := (launch0 (F := F)).stage_whole)
    (howed := fun _ _ => rfl) (u₀ := u₀ m hok) (hu₀ := .rfl) (V := fun c b => m ((c : Thread nD τ).loc b))
    (hmain := fun c Q => by
      delta main
      simp only [Prog.bind_lift, Prog.pure_eq_ret]
      iintro ⟨Hk, Hb⟩
      iapply Hk
      iexact Hb)
    (hsplit := fun c => Pipeline.arrays_split (pcs m hok) (dats m hok) 0 (launch0 (F := F)).win.arr_inj c (launch0 (F := F)).arr_whole (share_eq m hok c) _ _ fun _ => rfl)
    (hpf := tabs_eq m) (X := fun _ => iprop(emp)) (Y := fun _ => iprop(emp)) (Z := fun _ => iprop(emp))
    (hX := fun c => by
      rw [unscopedRestP0_eq]
      iintro -
      isplitr <;> iempintro)
    (hin := phi_enter m hok) (hout := phi_exit m hok) (QY := fun _ _ => True)
    (hY := fun c s' => by
      iintro ⟨-, -, HSI⟩
      imodintro
      isplitr
      · ipureintro; trivial
      iexact HSI)
    (hQ := fun _ h hz => ⟨fun c => ⟨(h c).1, (h c).2.1⟩, hz⟩)

include hok in
/-- The kernel runs, its argument arrays end unchanged, and every semaphore ends at zero. -/
theorem frame_of_ok : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := F)) _ _).mono (fun _ h => ⟨fun c => ⟨((h.1 c).1 (0 : Fin 6)).trans ((dats m hok 0 c).arrAt_in (0 : Fin 6) rfl _),
    ((h.1 c).1 (1 : Fin 6)).trans ((dats m hok 0 c).arrAt_in (1 : Fin 6) rfl _), ((h.1 c).1 (2 : Fin 6)).trans ((dats m hok 0 c).arrAt_in (2 : Fin 6) rfl _),
    ((h.1 c).1 (3 : Fin 6)).trans ((dats m hok 0 c).arrAt_in (3 : Fin 6) rfl _), ((h.1 c).1 (4 : Fin 6)).trans ((dats m hok 0 c).arrAt_in (4 : Fin 6) rfl _),
    ((h.1 c).2 0).trans (tabs_eq m c 0).symm, ((h.1 c).2 1).trans (tabs_eq m c 1).symm⟩, h.2⟩) (run_main m ρ hok)

end Launch

end Cert.MoeIdeal
-- ==== Proof.MoePayIdeal.lean ====
module

public import proofs.«01_k».proof.Proof.MoeBodyIdeal
public import proofs.«01_k».proof.Proof.FfnSpec
public import Idealize.ShloMosaic.PureOps.Ideal

/-! What the mixture-of-experts body computes, element by element. -/

@[expose] public section

set_option maxRecDepth 16384

noncomputable section

namespace Cert.MoeIdeal

open Idealize.ShloMosaic Idealize.ShloMosaic.TcCoe Idealize.SL.Sem
open Cert.FfnMoeIdeal Cert.FfnMoeIdeal.Gen Cert.FfnSpec

/-- What one tile of 256 hidden units adds to an output element. -/
def tile (x : Fin 1024 → EReal) (wg wu : FVec Ideal S1x1024x256 .f32) (wd : FVec Ideal S1x256x1024 .f32) (d : Fin 1024) : EReal :=
  ∑ h : Fin 256, FfnSpec.hidden x (fun k => wg (ix3 0 k h)) (fun k => wu (ix3 0 k h)) * wd (ix3 0 h d)

theorem pay6_apply (wg wu : FVec Ideal S1x1024x256 .f32) (wd : FVec Ideal S1x256x1024 .f32) (xb : FVec Ideal S256x1024 .bf16) (acc : FVec Ideal S256x1024 .f32)
    (r : Fin 256) (d : Fin 1024) :
    k0_pay6 (F := Ideal) wg wu wd xb acc (ix2 r d) = acc (ix2 r d) + tile (fun k => xb (ix2 r k)) wg wu wd d := by
  unfold tile FfnSpec.hidden
  pointwise [k0_pay6, k0_pay3, k0_pay4, k0_pay5]

theorem pay1_apply (x : FVec Ideal S1024x1024 .f32) (r d : Fin 1024) : k0_pay1 (F := Ideal) x (ix2 r d) = x (ix2 r d) := by
  pointwise [k0_pay1]

theorem pay2_apply (r d : Fin 1024) : k0_pay2 (F := Ideal) (ix2 r d) = 0 := by
  pointwise [k0_pay2]

theorem pay10_apply (acc : FVec Ideal S1024x1024 .f32) (g : FVec Ideal S1024x1 .f32) (r d : Fin 1024) :
    k0_pay10 (F := Ideal) acc g (ix2 r d) = acc (ix2 r d) * g (ix2 r 0) := by
  pointwise [k0_pay10]

/-- Where element `(q, d)` of a block of 256 rows from row `o` lies. -/
theorem row_emb (o : ℕ) (inb : ∀ a, (![o, 0] : Fin 2 → ℕ) a + S256x1024.size a ≤ S1024x1024.size a) (q : Fin 256) (d r : Fin 1024) (h : r.val = o + q.val) :
    (Rect.unit (s := S1024x1024) ![o, 0] S256x1024.size inb).emb (ix2 q d : S256x1024.Idx) = (ix2 r d : S1024x1024.Idx) := by
  funext a
  refine Fin.ext ?_
  match a with
  | ⟨0, _⟩ => show o + 1 * q.val = r.val; omega
  | ⟨1, _⟩ => show 0 + 1 * d.val = d.val; omega

/-- A block of 256 rows written into the accumulator, read at one of its rows. -/
theorem put_in (o : ℕ) (inb : ∀ a, (![o, 0] : Fin 2 → ℕ) a + S256x1024.size a ≤ S1024x1024.size a) (x : S1024x1024.Idx → EReal) (w : S256x1024.Idx → EReal)
    (q : Fin 256) (r d : Fin 1024) (h : r.val = o + q.val) :
    VecWindow.put x ![o, 0] S256x1024.size w (ix2 r d) = w (ix2 q d) := by
  have hw := congrFun (VecWindow.window_put_same x ![o, 0] S256x1024.size inb w) (ix2 q d)
  rw [VecWindow.window, row_emb o inb q d r h] at hw
  exact hw

/-- … and read at another row. -/
theorem put_out (o : ℕ) (x : S1024x1024.Idx → EReal) (w : S256x1024.Idx → EReal) (r d : Fin 1024) (h : r.val < o ∨ o + 256 ≤ r.val) :
    VecWindow.put x ![o, 0] S256x1024.size w (ix2 r d) = x (ix2 r d) := by
  unfold VecWindow.put
  refine dif_neg fun hy => ?_
  have h0 : o ≤ r.val ∧ r.val < o + 256 := hy (0 : Fin 2)
  omega

/-- One row group's update, read at row `r`. -/
theorem subVal_apply (b : BitVec 1) (o : ℕ) (inb : ∀ a, (![o, 0] : Fin 2 → ℕ) a + S256x1024.size a ≤ S1024x1024.size a)
    (wg wu : FVec Ideal S1x1024x256 .f32) (wd : FVec Ideal S1x256x1024 .f32) (xb acc : S1024x1024.Idx → EReal) (r d : Fin 1024) :
    subVal (F := Ideal) b ![o, 0] inb (k0_pay6 (F := Ideal) wg wu wd) xb acc (ix2 r d)
      = acc (ix2 r d) + if b = 1#1 ∧ o ≤ r.val ∧ r.val < o + 256 then tile (fun k => xb (ix2 r k)) wg wu wd d else 0 := by
  unfold subVal
  by_cases hb : b = 1#1
  · rw [if_pos hb]
    by_cases hr : o ≤ r.val ∧ r.val < o + 256
    · rw [if_pos ⟨hb, hr⟩]
      have hq : r.val = o + (⟨r.val - o, by omega⟩ : Fin 256).val := by show r.val = o + (r.val - o); omega
      rw [put_in o inb acc _ ⟨r.val - o, by omega⟩ r d hq, pay6_apply]
      simp only [VecWindow.window, fun k => row_emb o inb ⟨r.val - o, by omega⟩ k r hq]
    · rw [if_neg fun h => hr h.2, add_zero]
      exact put_out o acc _ r d (by omega)
  · rw [if_neg hb, if_neg fun h => hb h.1, add_zero]

/-- Row `r` of a row tile with `nv` live rows lies in a live row group. -/
abbrev Live (nv : BitVec 32) (r : ℕ) : Prop := Scalar.cmpi .sgt nv (BitVec.ofNat 32 (r % 1024 / 256 * 256)) = 1#1

/-- The body's test of a row group. -/
theorem isLive_iff (nv lo : BitVec 32) : isLive nv lo = 1#1 ↔ Scalar.cmpi .sgt nv lo = 1#1 := by
  unfold isLive
  generalize Scalar.cmpi .sgt nv lo = b
  revert b
  decide

/-- A body's accumulator: a row of a live group gets the tile's share. -/
theorem groups_apply (nv : BitVec 32) (wg wu : FVec Ideal S1x1024x256 .f32) (wd : FVec Ideal S1x256x1024 .f32) (xb acc : S1024x1024.Idx → EReal) (r d : Fin 1024) :
    groups (F := Ideal) nv wg wu wd xb acc (ix2 r d)
      = acc (ix2 r d) + if Live nv r.val then tile (fun k => xb (ix2 r k)) wg wu wd d else 0 := by
  have hr := r.isLt
  unfold groups
  rw [subVal_apply _ 768, subVal_apply _ 512, subVal_apply _ 256, subVal_apply _ 0]
  simp only [isLive_iff]
  generalize tile (fun k => xb (ix2 r k)) wg wu wd d = T
  have hc : ∀ n, r.val % 1024 / 256 = n → (Live nv r.val ↔ Scalar.cmpi .sgt nv (BitVec.ofNat 32 (n * 256)) = 1#1) := fun n h => by
    unfold Live
    rw [h]
  rcases (by omega : r.val % 1024 / 256 = 0 ∨ r.val % 1024 / 256 = 1 ∨ r.val % 1024 / 256 = 2 ∨ r.val % 1024 / 256 = 3) with h | h | h | h
  · have hL : Live nv r.val ↔ Scalar.cmpi .sgt nv 0#32 = 1#1 := hc 0 h
    simp only [hL, (by omega : 0 ≤ r.val ∧ r.val < 0 + 256), (eq_false (by omega) : (256 ≤ r.val ∧ r.val < 256 + 256) = False), (eq_false (by omega) : (512 ≤ r.val ∧ r.val < 512 + 256) = False), (eq_false (by omega) : (768 ≤ r.val ∧ r.val < 768 + 256) = False), and_false, and_true, ↓reduceIte, add_zero]
  · have hL : Live nv r.val ↔ Scalar.cmpi .sgt nv 256#32 = 1#1 := hc 1 h
    simp only [hL, (eq_false (by omega) : (0 ≤ r.val ∧ r.val < 0 + 256) = False), (by omega : 256 ≤ r.val ∧ r.val < 256 + 256), (eq_false (by omega) : (512 ≤ r.val ∧ r.val < 512 + 256) = False), (eq_false (by omega) : (768 ≤ r.val ∧ r.val < 768 + 256) = False), and_false, and_true, ↓reduceIte, add_zero]
  · have hL : Live nv r.val ↔ Scalar.cmpi .sgt nv 512#32 = 1#1 := hc 2 h
    simp only [hL, (eq_false (by omega) : (0 ≤ r.val ∧ r.val < 0 + 256) = False), (eq_false (by omega) : (256 ≤ r.val ∧ r.val < 256 + 256) = False), (by omega : 512 ≤ r.val ∧ r.val < 512 + 256), (eq_false (by omega) : (768 ≤ r.val ∧ r.val < 768 + 256) = False), and_false, and_true, ↓reduceIte, add_zero]
  · have hL : Live nv r.val ↔ Scalar.cmpi .sgt nv 768#32 = 1#1 := hc 3 h
    simp only [hL, (eq_false (by omega) : (0 ≤ r.val ∧ r.val < 0 + 256) = False), (eq_false (by omega) : (256 ≤ r.val ∧ r.val < 256 + 256) = False), (eq_false (by omega) : (512 ≤ r.val ∧ r.val < 512 + 256) = False), (by omega : 768 ≤ r.val ∧ r.val < 768 + 256), and_false, and_true, ↓reduceIte, add_zero]

end Cert.MoeIdeal
-- ==== Proof.MoeExperts.lean ====
module

public import proofs.«01_k».proof.Proof.Gen.FfnMoeRefIdeal.Run
public import proofs.«01_k».proof.Proof.Gen.FfnMoeRefIdeal.Read
public import proofs.«01_k».proof.Proof.FfnSpec

/-! The eight experts of the mixture-of-experts reference, read element by element. -/

@[expose] public section

set_option maxRecDepth 16384

noncomputable section

namespace Cert.FfnMoeRefIdeal.Reading

open Idealize.ShloMosaic Idealize.ShloMosaic.TcCoe Idealize.SL.Sem
open Cert.FfnMoeRefIdeal Cert.FfnMoeRefIdeal.Gen Cert.FfnMoeRefIdeal.Read Cert.FfnSpec

abbrev Rows := FVec Ideal S32768x1024 .f32
abbrev Ups := FVec Ideal S8x1024x2816 .f32
abbrev Downs := FVec Ideal S8x2816x1024 .f32
abbrev Gates := FVec Ideal S32768x1 .f32
abbrev Words := S32.Idx → BitVec 32

/-! ## One expert -/

/-- The product of the rows with an up-projection. -/
theorem up_apply (x : Rows) (w : FVec Ideal S1024x2816 .f32) (r : Fin 32768) (h : Fin 2816) :
    (Host.dotGeneral dot_S32768x1024_S1024x2816_S32768x2816_1_0_0_1_n_n none x w : FVec Ideal S32768x2816 .f32) (ix2 r h)
      = ∑ k : Fin 1024, x (ix2 r k) * w (ix2 k h) := by
  pointwise

/-- The product of the hidden units with a down-projection. -/
theorem down_apply (y : FVec Ideal S32768x2816 .f32) (w : FVec Ideal S2816x1024 .f32) (r : Fin 32768) (d : Fin 1024) :
    (Host.dotGeneral dot_S32768x2816_S2816x1024_S32768x1024_1_0_0_1_n_n none y w : FVec Ideal S32768x1024 .f32) (ix2 r d)
      = ∑ h : Fin 2816, y (ix2 r h) * w (ix2 h d) := by
  pointwise

/-- One expert's layer, written with the reference's operations. -/
def expert (x : Rows) (wg wu : FVec Ideal S1024x2816 .f32) (wd : FVec Ideal S2816x1024 .f32) : FVec Ideal S32768x1024 .f32 :=
  Host.dotGeneral dot_S32768x2816_S2816x1024_S32768x1024_1_0_0_1_n_n none
    (mulf (mulf (Host.dotGeneral dot_S32768x1024_S1024x2816_S32768x2816_1_0_0_1_n_n none x wg)
        (Host.divf (broadcastInDim S32768x2816 ![] bcast_S_S32768x2816 (constant S_ .f32 0x3F800000#32))
          (addf (broadcastInDim S32768x2816 ![] bcast_S_S32768x2816 (constant S_ .f32 0x3F800000#32))
            (Host.exp (Host.negf (Host.dotGeneral dot_S32768x1024_S1024x2816_S32768x2816_1_0_0_1_n_n none x wg))))))
      (Host.dotGeneral dot_S32768x1024_S1024x2816_S32768x2816_1_0_0_1_n_n none x wu))
    wd

/-- Every element of the broadcast one. -/
theorem ones_apply (i : S32768x2816.Idx) :
    broadcastInDim S32768x2816 ![] bcast_S_S32768x2816 (constant (F := Ideal) S_ .f32 0x3F800000#32) i = Ideal.ofBits .f32 0x3F800000#32 := rfl

theorem expert_apply (x : Rows) (wg wu : FVec Ideal S1024x2816 .f32) (wd : FVec Ideal S2816x1024 .f32) (r : Fin 32768) (d : Fin 1024) :
    expert x wg wu wd (ix2 r d) = swiglu (fun k => x (ix2 r k)) (fun k h => wg (ix2 k h)) (fun k h => wu (ix2 k h)) (fun h k => wd (ix2 h k)) d := by
  unfold expert swiglu
  rw [down_apply]
  refine Finset.sum_congr rfl fun h _ => congrArg (· * wd (ix2 h d)) ?_
  unfold FfnSpec.hidden
  rw [← up_apply x wg r h, ← up_apply x wu r h]
  generalize Host.dotGeneral dot_S32768x1024_S1024x2816_S32768x2816_1_0_0_1_n_n none x wg = p
  generalize Host.dotGeneral dot_S32768x1024_S1024x2816_S32768x2816_1_0_0_1_n_n none x wu = q
  exact congrArg (fun l => p (ix2 r h) * l * q (ix2 r h)) (logistic_eq (p (ix2 r h)))

/-- An expert's up-projection, sliced from the stack. -/
theorem slice_up (e : Fin 8) (w : Ups) (off : Fin 3 → ℕ) (ho : off = ![e.val, 0, 0]) (hs : S8x1024x2816.Slices off S1x1024x2816)
    (k : Fin 1024) (h : Fin 2816) :
    shapeCast S1024x2816 (extractStridedSlice S1x1024x2816 off w hs) shapeCasts_S1x1024x2816_S1024x2816 (ix2 k h) = w (ix3 e k h) := by
  subst ho
  pointwise

/-- An expert's down-projection, sliced from the stack. -/
theorem slice_down (e : Fin 8) (w : Downs) (off : Fin 3 → ℕ) (ho : off = ![e.val, 0, 0]) (hs : S8x2816x1024.Slices off S1x2816x1024)
    (h : Fin 2816) (d : Fin 1024) :
    shapeCast S2816x1024 (extractStridedSlice S1x2816x1024 off w hs) shapeCasts_S1x2816x1024_S2816x1024 (ix2 h d) = w (ix3 e h d) := by
  subst ho
  pointwise

/-- Expert `e` on row `r`. -/
abbrev part (X0 : Rows) (X1 X2 : Ups) (X3 : Downs) (r : Fin 32768) (d : Fin 1024) (e : Fin 8) : EReal :=
  swiglu (fun k => X0 (ix2 r k)) (fun k h => X1 (ix3 e k h)) (fun k h => X2 (ix3 e k h)) (fun h k => X3 (ix3 e h k)) d

theorem part0 (X0 : Rows) (X1 X2 : Ups) (X3 : Downs) (r : Fin 32768) (d : Fin 1024) :
    val_main_v27 (F := Ideal) X0 X1 X2 X3 (ix2 r d) = part X0 X1 X2 X3 r d 0 := by
  refine (expert_apply X0 (val_main_v18 (F := Ideal) X1) (val_main_v22 (F := Ideal) X2) (val_main_v26 (F := Ideal) X3) r d).trans ?_
  have hg : ∀ k h, val_main_v18 (F := Ideal) X1 (ix2 k h) = X1 (ix3 0 k h) := slice_up 0 X1 _ rfl _
  have hu : ∀ k h, val_main_v22 (F := Ideal) X2 (ix2 k h) = X2 (ix3 0 k h) := slice_up 0 X2 _ rfl _
  have hd : ∀ h k, val_main_v26 (F := Ideal) X3 (ix2 h k) = X3 (ix3 0 h k) := slice_down 0 X3 _ rfl _
  simp only [hg, hu, hd]

theorem part1 (X0 : Rows) (X1 X2 : Ups) (X3 : Downs) (r : Fin 32768) (d : Fin 1024) :
    val_main_v42 (F := Ideal) X0 X1 X2 X3 (ix2 r d) = part X0 X1 X2 X3 r d 1 := by
  refine (expert_apply X0 (val_main_v33 (F := Ideal) X1) (val_main_v37 (F := Ideal) X2) (val_main_v41 (F := Ideal) X3) r d).trans ?_
  have hg : ∀ k h, val_main_v33 (F := Ideal) X1 (ix2 k h) = X1 (ix3 1 k h) := slice_up 1 X1 _ rfl _
  have hu : ∀ k h, val_main_v37 (F := Ideal) X2 (ix2 k h) = X2 (ix3 1 k h) := slice_up 1 X2 _ rfl _
  have hd : ∀ h k, val_main_v41 (F := Ideal) X3 (ix2 h k) = X3 (ix3 1 h k) := slice_down 1 X3 _ rfl _
  simp only [hg, hu, hd]

theorem part2 (X0 : Rows) (X1 X2 : Ups) (X3 : Downs) (r : Fin 32768) (d : Fin 1024) :
    val_main_v57 (F := Ideal) X0 X1 X2 X3 (ix2 r d) = part X0 X1 X2 X3 r d 2 := by
  refine (expert_apply X0 (val_main_v48 (F := Ideal) X1) (val_main_v52 (F := Ideal) X2) (val_main_v56 (F := Ideal) X3) r d).trans ?_
  have hg : ∀ k h, val_main_v48 (F := Ideal) X1 (ix2 k h) = X1 (ix3 2 k h) := slice_up 2 X1 _ rfl _
  have hu : ∀ k h, val_main_v52 (F := Ideal) X2 (ix2 k h) = X2 (ix3 2 k h) := slice_up 2 X2 _ rfl _
  have hd : ∀ h k, val_main_v56 (F := Ideal) X3 (ix2 h k) = X3 (ix3 2 h k) := slice_down 2 X3 _ rfl _
  simp only [hg, hu, hd]

theorem part3 (X0 : Rows) (X1 X2 : Ups) (X3 : Downs) (r : Fin 32768) (d : Fin 1024) :
    val_main_v72 (F := Ideal) X0 X1 X2 X3 (ix2 r d) = part X0 X1 X2 X3 r d 3 := by
  refine (expert_apply X0 (val_main_v63 (F := Ideal) X1) (val_main_v67 (F := Ideal) X2) (val_main_v71 (F := Ideal) X3) r d).trans ?_
  have hg : ∀ k h, val_main_v63 (F := Ideal) X1 (ix2 k h) = X1 (ix3 3 k h) := slice_up 3 X1 _ rfl _
  have hu : ∀ k h, val_main_v67 (F := Ideal) X2 (ix2 k h) = X2 (ix3 3 k h) := slice_up 3 X2 _ rfl _
  have hd : ∀ h k, val_main_v71 (F := Ideal) X3 (ix2 h k) = X3 (ix3 3 h k) := slice_down 3 X3 _ rfl _
  simp only [hg, hu, hd]

theorem part4 (X0 : Rows) (X1 X2 : Ups) (X3 : Downs) (r : Fin 32768) (d : Fin 1024) :
    val_main_v87 (F := Ideal) X0 X1 X2 X3 (ix2 r d) = part X0 X1 X2 X3 r d 4 := by
  refine (expert_apply X0 (val_main_v78 (F := Ideal) X1) (val_main_v82 (F := Ideal) X2) (val_main_v86 (F := Ideal) X3) r d).trans ?_
  have hg : ∀ k h, val_main_v78 (F := Ideal) X1 (ix2 k h) = X1 (ix3 4 k h) := slice_up 4 X1 _ rfl _
  have hu : ∀ k h, val_main_v82 (F := Ideal) X2 (ix2 k h) = X2 (ix3 4 k h) := slice_up 4 X2 _ rfl _
  have hd : ∀ h k, val_main_v86 (F := Ideal) X3 (ix2 h k) = X3 (ix3 4 h k) := slice_down 4 X3 _ rfl _
  simp only [hg, hu, hd]

theorem part5 (X0 : Rows) (X1 X2 : Ups) (X3 : Downs) (r : Fin 32768) (d : Fin 1024) :
    val_main_v102 (F := Ideal) X0 X1 X2 X3 (ix2 r d) = part X0 X1 X2 X3 r d 5 := by
  refine (expert_apply X0 (val_main_v93 (F := Ideal) X1) (val_main_v97 (F := Ideal) X2) (val_main_v101 (F := Ideal) X3) r d).trans ?_
  have hg : ∀ k h, val_main_v93 (F := Ideal) X1 (ix2 k h) = X1 (ix3 5 k h) := slice_up 5 X1 _ rfl _
  have hu : ∀ k h, val_main_v97 (F := Ideal) X2 (ix2 k h) = X2 (ix3 5 k h) := slice_up 5 X2 _ rfl _
  have hd : ∀ h k, val_main_v101 (F := Ideal) X3 (ix2 h k) = X3 (ix3 5 h k) := slice_down 5 X3 _ rfl _
  simp only [hg, hu, hd]

theorem part6 (X0 : Rows) (X1 X2 : Ups) (X3 : Downs) (r : Fin 32768) (d : Fin 1024) :
    val_main_v117 (F := Ideal) X0 X1 X2 X3 (ix2 r d) = part X0 X1 X2 X3 r d 6 := by
  refine (expert_apply X0 (val_main_v108 (F := Ideal) X1) (val_main_v112 (F := Ideal) X2) (val_main_v116 (F := Ideal) X3) r d).trans ?_
  have hg : ∀ k h, val_main_v108 (F := Ideal) X1 (ix2 k h) = X1 (ix3 6 k h) := slice_up 6 X1 _ rfl _
  have hu : ∀ k h, val_main_v112 (F := Ideal) X2 (ix2 k h) = X2 (ix3 6 k h) := slice_up 6 X2 _ rfl _
  have hd : ∀ h k, val_main_v116 (F := Ideal) X3 (ix2 h k) = X3 (ix3 6 h k) := slice_down 6 X3 _ rfl _
  simp only [hg, hu, hd]

theorem part7 (X0 : Rows) (X1 X2 : Ups) (X3 : Downs) (r : Fin 32768) (d : Fin 1024) :
    val_main_v132 (F := Ideal) X0 X1 X2 X3 (ix2 r d) = part X0 X1 X2 X3 r d 7 := by
  refine (expert_apply X0 (val_main_v123 (F := Ideal) X1) (val_main_v127 (F := Ideal) X2) (val_main_v131 (F := Ideal) X3) r d).trans ?_
  have hg : ∀ k h, val_main_v123 (F := Ideal) X1 (ix2 k h) = X1 (ix3 7 k h) := slice_up 7 X1 _ rfl _
  have hu : ∀ k h, val_main_v127 (F := Ideal) X2 (ix2 k h) = X2 (ix3 7 k h) := slice_up 7 X2 _ rfl _
  have hd : ∀ h k, val_main_v131 (F := Ideal) X3 (ix2 h k) = X3 (ix3 7 h k) := slice_down 7 X3 _ rfl _
  simp only [hg, hu, hd]

end Cert.FfnMoeRefIdeal.Reading
-- ==== Proof.MoeReference.lean ====
module

public import proofs.«01_k».proof.Proof.MoeExperts

/-! The mixture-of-experts reference read element by element: the sum over the eight experts has one term that counts. -/

@[expose] public section

set_option maxRecDepth 16384

noncomputable section

namespace Cert.FfnMoeRefIdeal.Reading

open Idealize.ShloMosaic Idealize.ShloMosaic.TcCoe Idealize.SL.Sem
open Cert.FfnMoeRefIdeal Cert.FfnMoeRefIdeal.Gen Cert.FfnMoeRefIdeal.Read Cert.FfnSpec

/-! ## The live rows -/

/-- The sign of a word, as the reference takes it. -/
abbrev sgn (x : BitVec 32) : BitVec 32 := if x = 0 then 0 else if x.msb then -1 else 1

/-- The start of a row's group within its tile, from the remainder `m` of the row's number by 1024, as the reference computes it. -/
def start (m : BitVec 32) : BitVec 32 :=
  let m' := Scalar.select (IntOp.andi (IntOp.cmpi .ne (IntOp.cmpi .slt m 0#32) (IntOp.cmpi .slt 1024#32 0#32)) (IntOp.cmpi .ne m 0#32)) (IntOp.addi m 1024#32) m
  let q := IntOp.divsi .host m' 256#32
  let q' := Scalar.select (IntOp.andi (IntOp.cmpi .ne (sgn m') (sgn 256#32)) (IntOp.cmpi .ne (IntOp.remsi .host m' 256#32) 0#32)) (IntOp.subi q 1#32) q
  IntOp.muli q' 256#32

theorem start_eq : ∀ m : Fin 1024, start (BitVec.ofNat 32 m.val) = BitVec.ofNat 32 (m.val / 256 * 256) := by
  decide +kernel

/-- The signed remainder of a row's number by 1024 is the remainder. -/
theorem rem_eq (n : ℕ) (hn : n < 32768) : IntOp.remsi .host (BitVec.ofNat 32 n) 1024#32 = BitVec.ofNat 32 (n % 1024) := by
  unfold IntOp.remsi
  have hc : ¬ IntOp.SDivCorner (BitVec.ofNat 32 n) 1024#32 := by
    unfold IntOp.SDivCorner
    rintro (h | ⟨_, h⟩)
    · exact absurd h (by decide)
    · exact absurd h (by decide)
  rw [if_neg hc, BitVec.srem_eq]
  have hm : (BitVec.ofNat 32 n).msb = false := by
    rw [BitVec.msb_eq_false_iff_two_mul_lt, BitVec.toNat_ofNat]
    omega
  have hk : (1024#32 : BitVec 32).msb = false := by decide
  rw [hm, hk]
  refine BitVec.eq_of_toNat_eq ?_
  simp only [BitVec.umod_eq, BitVec.toNat_umod, BitVec.toNat_ofNat]
  show n % 4294967296 % 1024 = n % 1024 % 4294967296
  omega

theorem start_read (r : Fin 32768) : val_main_v8 (F := Ideal) (ix1 r) = start (IntOp.remsi .host (BitVec.ofNat 32 r.val) 1024#32) := by
  have h3 : val_main_call1_v3 (F := Ideal) (ix1 r) = sgn (val_main_v5 (F := Ideal) (ix1 r)) := rfl
  have h4 : ∀ i, val_main_call1_v4 (F := Ideal) i = sgn (val_main_call1_v0 (F := Ideal) i) := fun _ => rfl
  have hs : Scalar.select (IntOp.cmpi .eq 1024#32 0#32) 1#32 1024#32 = 1024#32 := by decide
  simp only [val_main_v8_apply, val_main_v7_apply, val_main_c_1_apply, val_main_v6_apply, val_main_call1_v11_apply, val_main_call1_v6_apply, h3, h4,
    val_main_call1_v5_apply, val_main_call1_v10_apply, val_main_call1_v8_apply, val_main_call1_v7_apply, val_main_call1_v9_apply, val_main_call1_c_apply,
    val_main_call1_v13_apply, val_main_call1_v12_apply, val_main_call1_c_0_apply, val_main_call1_v2_apply, val_main_call1_v1_apply, val_main_call1_v0_apply,
    val_main_c_0_apply, val_main_v5_apply, val_main_call0_v12_apply, val_main_call0_v11_apply, val_main_call0_v8_apply, val_main_call0_v10_apply,
    val_main_call0_v9_apply, val_main_call0_v6_apply, val_main_call0_v5_apply, val_main_call0_v7_apply, val_main_call0_c_1_apply, val_main_call0_c_2_apply,
    val_main_call0_c_3_apply, val_main_call0_v14_apply, val_main_call0_v13_apply, val_main_call0_v4_apply, val_main_call0_v3_apply, val_main_call0_v2_apply,
    val_main_call0_v1_apply, val_main_call0_v0_apply, val_main_c_apply, val_main_call0_c_apply, val_main_call0_c_0_apply, hs, val_main_v0_apply]
  rfl

theorem start_at (r : Fin 32768) : val_main_v8 (F := Ideal) (ix1 r) = BitVec.ofNat 32 (r.val % 1024 / 256 * 256) := by
  rw [start_read, rem_eq _ r.isLt]
  exact start_eq ⟨r.val % 1024, by omega⟩

/-- The tile of a row. -/
abbrev tileOf (r : Fin 32768) : Fin 32 := ⟨r.val / 1024, by omega⟩

theorem expert_word (X5 : Words) (r : Fin 32768) : val_main_v2 (F := Ideal) X5 (ix1 r) = X5 (ix1 (tileOf r)) := by
  rw [val_main_v2_apply, val_main_v1_apply]
  refine congrArg X5 (funext fun a => ?_)
  match a with | ⟨0, _⟩ => rfl

theorem live_word (X6 : Words) (r : Fin 32768) : val_main_v4 (F := Ideal) X6 (ix1 r) = X6 (ix1 (tileOf r)) := by
  rw [val_main_v4_apply, val_main_v3_apply]
  refine congrArg X6 (funext fun a => ?_)
  match a with | ⟨0, _⟩ => rfl

/-- Row `r` lies in a live row group of a tile with `nv` live rows. -/
abbrev Live (nv : BitVec 32) (r : ℕ) : Prop := Scalar.cmpi .sgt nv (BitVec.ofNat 32 (r % 1024 / 256 * 256)) = 1#1

/-- The gate that counts: zero on the rows of a group that is not live. -/
theorem gate_read (X4 : Gates) (X6 : Words) (r : Fin 32768) (e : Fin 8) :
    val_main_v13 (F := Ideal) X4 X6 (ix2 r e) = if Live (X6 (ix1 (tileOf r))) r.val then X4 (ix2 r 0) else 0 := by
  rw [val_main_v13_apply, val_main_v11_apply, val_main_v10_apply, val_main_v9_apply]
  have e13 : idx_main_v13 (ix2 r e) = ix2 r 0 := by
    funext a
    match a with | ⟨0, _⟩ => rfl | ⟨1, _⟩ => rfl
  have e10 : idx_main_v10 (ix2 r 0) = ix1 r := by
    funext a
    match a with | ⟨0, _⟩ => rfl
  have ez : val_main_call2_v1 (F := Ideal) (ix2 r 0) = 0 := by
    rw [val_main_call2_v1_apply, val_main_call2_v0_apply, val_main_cst_apply]
    pointwise
  rw [e13, e10, ez, start_at, live_word]
  rfl

/-! ## The one-hot weights -/

/-- The weight of expert `e` on row `r`, before the gate. -/
abbrev hot (w : BitVec 32) (e : ℕ) : EReal := FloatOps.uitofp (F := Ideal) .f32 (IntOp.cmpi .eq w (BitVec.ofNat 32 e))

theorem hot_read (X5 : Words) (r : Fin 32768) (e : Fin 8) : val_main_v12 (F := Ideal) X5 (ix2 r e) = hot (X5 (ix1 (tileOf r))) e.val := by
  rw [val_main_v12_apply, val_main_call3_v4_apply, val_main_call3_v2_apply, val_main_call3_v0_apply, val_main_call3_v3_apply, val_main_call3_v1_apply]
  have e0 : idx_main_call3_v0 (idx_main_call3_v2 (ix2 r e)) = ix1 r := by
    funext a
    match a with | ⟨0, _⟩ => rfl
  rw [e0, expert_word]
  rfl

theorem hot_same (n : ℕ) : hot (BitVec.ofNat 32 n) n = 1 := by
  have h : IntOp.cmpi .eq (BitVec.ofNat 32 n) (BitVec.ofNat 32 n) = 1#1 := by
    unfold IntOp.cmpi
    simp
  unfold hot
  rw [h]
  exact (show (((1#1 : BitVec 1).toNat : ℝ) : EReal) = 1 by simp)

theorem hot_other (w : BitVec 32) (n : ℕ) (h : IntOp.cmpi .eq w (BitVec.ofNat 32 n) = 0#1) : hot w n = 0 := by
  unfold hot
  rw [h]
  exact (show (((0#1 : BitVec 1).toNat : ℝ) : EReal) = 0 by simp)

/-- The weighted sum over the eight experts is the chosen expert's term. -/
theorem collapse (w : BitVec 32) (hw : w.toNat < 8) (g : EReal) (s : Fin 8 → EReal) :
    0 + hot w 0 * g * s 0 + hot w 1 * g * s 1 + hot w 2 * g * s 2 + hot w 3 * g * s 3 + hot w 4 * g * s 4 + hot w 5 * g * s 5 + hot w 6 * g * s 6
      + hot w 7 * g * s 7 = g * s ⟨w.toNat, hw⟩ := by
  have hn : w = BitVec.ofNat 32 w.toNat := by simp
  have key : ∀ e : Fin 8, w = BitVec.ofNat 32 e.val → ∀ n : Fin 8, hot w n.val = if n = e then 1 else 0 := by
    intro e he n
    subst he
    by_cases hne : n = e
    · rw [if_pos hne, hne]
      exact hot_same _
    · rw [if_neg hne]
      refine hot_other _ _ ?_
      revert e n
      decide
  have k := key ⟨w.toNat, hw⟩ hn
  generalize (⟨w.toNat, hw⟩ : Fin 8) = e at k
  have k0 := k 0
  have k1 := k 1
  have k2 := k 2
  have k3 := k 3
  have k4 := k 4
  have k5 := k 5
  have k6 := k 6
  have k7 := k 7
  simp only [Fin.isValue, Fin.val_zero, Fin.val_one, Fin.val_ofNat] at k0 k1 k2 k3 k4 k5 k6 k7
  rw [show hot w 0 = _ from k0, show hot w 1 = _ from k1, show hot w 2 = _ from k2, show hot w 3 = _ from k3, show hot w 4 = _ from k4,
    show hot w 5 = _ from k5, show hot w 6 = _ from k6, show hot w 7 = _ from k7]
  clear k k0 k1 k2 k3 k4 k5 k6 k7 key
  revert e
  rw [Fin.forall_iff]
  intro e he
  interval_cases e <;> simp

theorem weight0 (X4 : Gates) (X5 X6 : Words) (r : Fin 32768) (d : Fin 1024) :
    val_main_v28 (F := Ideal) X4 X5 X6 (ix2 r d) = hot (X5 (ix1 (tileOf r))) 0 * if Live (X6 (ix1 (tileOf r))) r.val then X4 (ix2 r 0) else 0 := by
  rw [val_main_v28_apply, val_main_v16_apply, val_main_v14_apply]
  have h : idx_main_v16 (idx_main_v28 (ix2 r d)) = ix2 r 0 := by
    funext a
    match a with | ⟨0, _⟩ => rfl | ⟨1, _⟩ => rfl
  rw [h, hot_read, gate_read]
  rfl

theorem weight1 (X4 : Gates) (X5 X6 : Words) (r : Fin 32768) (d : Fin 1024) :
    val_main_v43 (F := Ideal) X4 X5 X6 (ix2 r d) = hot (X5 (ix1 (tileOf r))) 1 * if Live (X6 (ix1 (tileOf r))) r.val then X4 (ix2 r 0) else 0 := by
  rw [val_main_v43_apply, val_main_v31_apply, val_main_v14_apply]
  have h : idx_main_v31 (idx_main_v43 (ix2 r d)) = ix2 r 1 := by
    funext a
    match a with | ⟨0, _⟩ => rfl | ⟨1, _⟩ => rfl
  rw [h, hot_read, gate_read]
  rfl

theorem weight2 (X4 : Gates) (X5 X6 : Words) (r : Fin 32768) (d : Fin 1024) :
    val_main_v58 (F := Ideal) X4 X5 X6 (ix2 r d) = hot (X5 (ix1 (tileOf r))) 2 * if Live (X6 (ix1 (tileOf r))) r.val then X4 (ix2 r 0) else 0 := by
  rw [val_main_v58_apply, val_main_v46_apply, val_main_v14_apply]
  have h : idx_main_v46 (idx_main_v58 (ix2 r d)) = ix2 r 2 := by
    funext a
    match a with | ⟨0, _⟩ => rfl | ⟨1, _⟩ => rfl
  rw [h, hot_read, gate_read]
  rfl

theorem weight3 (X4 : Gates) (X5 X6 : Words) (r : Fin 32768) (d : Fin 1024) :
    val_main_v73 (F := Ideal) X4 X5 X6 (ix2 r d) = hot (X5 (ix1 (tileOf r))) 3 * if Live (X6 (ix1 (tileOf r))) r.val then X4 (ix2 r 0) else 0 := by
  rw [val_main_v73_apply, val_main_v61_apply, val_main_v14_apply]
  have h : idx_main_v61 (idx_main_v73 (ix2 r d)) = ix2 r 3 := by
    funext a
    match a with | ⟨0, _⟩ => rfl | ⟨1, _⟩ => rfl
  rw [h, hot_read, gate_read]
  rfl

theorem weight4 (X4 : Gates) (X5 X6 : Words) (r : Fin 32768) (d : Fin 1024) :
    val_main_v88 (F := Ideal) X4 X5 X6 (ix2 r d) = hot (X5 (ix1 (tileOf r))) 4 * if Live (X6 (ix1 (tileOf r))) r.val then X4 (ix2 r 0) else 0 := by
  rw [val_main_v88_apply, val_main_v76_apply, val_main_v14_apply]
  have h : idx_main_v76 (idx_main_v88 (ix2 r d)) = ix2 r 4 := by
    funext a
    match a with | ⟨0, _⟩ => rfl | ⟨1, _⟩ => rfl
  rw [h, hot_read, gate_read]
  rfl

theorem weight5 (X4 : Gates) (X5 X6 : Words) (r : Fin 32768) (d : Fin 1024) :
    val_main_v103 (F := Ideal) X4 X5 X6 (ix2 r d) = hot (X5 (ix1 (tileOf r))) 5 * if Live (X6 (ix1 (tileOf r))) r.val then X4 (ix2 r 0) else 0 := by
  rw [val_main_v103_apply, val_main_v91_apply, val_main_v14_apply]
  have h : idx_main_v91 (idx_main_v103 (ix2 r d)) = ix2 r 5 := by
    funext a
    match a with | ⟨0, _⟩ => rfl | ⟨1, _⟩ => rfl
  rw [h, hot_read, gate_read]
  rfl

theorem weight6 (X4 : Gates) (X5 X6 : Words) (r : Fin 32768) (d : Fin 1024) :
    val_main_v118 (F := Ideal) X4 X5 X6 (ix2 r d) = hot (X5 (ix1 (tileOf r))) 6 * if Live (X6 (ix1 (tileOf r))) r.val then X4 (ix2 r 0) else 0 := by
  rw [val_main_v118_apply, val_main_v106_apply, val_main_v14_apply]
  have h : idx_main_v106 (idx_main_v118 (ix2 r d)) = ix2 r 6 := by
    funext a
    match a with | ⟨0, _⟩ => rfl | ⟨1, _⟩ => rfl
  rw [h, hot_read, gate_read]
  rfl

theorem weight7 (X4 : Gates) (X5 X6 : Words) (r : Fin 32768) (d : Fin 1024) :
    val_main_v133 (F := Ideal) X4 X5 X6 (ix2 r d) = hot (X5 (ix1 (tileOf r))) 7 * if Live (X6 (ix1 (tileOf r))) r.val then X4 (ix2 r 0) else 0 := by
  rw [val_main_v133_apply, val_main_v121_apply, val_main_v14_apply]
  have h : idx_main_v121 (idx_main_v133 (ix2 r d)) = ix2 r 7 := by
    funext a
    match a with | ⟨0, _⟩ => rfl | ⟨1, _⟩ => rfl
  rw [h, hot_read, gate_read]
  rfl

/-- The reference's row: the tile's expert on the row, times the row's gate, on the rows of live groups. -/
def row (X0 : Rows) (X1 X2 : Ups) (X3 : Downs) (X4 : Gates) (e : Fin 8) (nv : BitVec 32) (r : Fin 32768) (d : Fin 1024) : EReal :=
  if Live nv r.val then X4 (ix2 r 0) * part X0 X1 X2 X3 r d e else 0

theorem reads (X0 : Rows) (X1 X2 : Ups) (X3 : Downs) (X4 : Gates) (X5 X6 : Words) (hw : ∀ x, (X5 x).toNat < 8) (r : Fin 32768) (d : Fin 1024) :
    val_main_v135 (F := Ideal) X0 X1 X2 X3 X4 X5 X6 (ix2 r d)
      = row X0 X1 X2 X3 X4 ⟨(X5 (ix1 (tileOf r))).toNat, hw _⟩ (X6 (ix1 (tileOf r))) r d := by
  rw [val_main_v135_apply, val_main_v134_apply, val_main_v120_apply, val_main_v119_apply, val_main_v105_apply, val_main_v104_apply, val_main_v90_apply, val_main_v89_apply, val_main_v75_apply, val_main_v74_apply, val_main_v60_apply, val_main_v59_apply, val_main_v45_apply, val_main_v44_apply, val_main_v30_apply, val_main_v29_apply]
  rw [weight0, part0, weight1, part1, weight2, part2, weight3, part3, weight4, part4, weight5, part5, weight6, part6, weight7, part7]
  have ez : val_main_v15 (F := Ideal) (ix2 r d) = 0 := by
    rw [val_main_v15_apply, val_main_cst_2_apply]
    pointwise
  rw [ez]
  refine (collapse _ (hw _) _ (part X0 X1 X2 X3 r d)).trans ?_
  unfold row
  by_cases h : Live (X6 (ix1 (tileOf r))) r.val
  · rw [if_pos h, if_pos h]
  · rw [if_neg h, if_neg h, zero_mul]

end Cert.FfnMoeRefIdeal.Reading
-- ==== Proof.MoeValueIdeal.lean ====
/- What the expert kernel returns is the reference's array: the blocks it reads are the rows, the expert's weight tiles and
   the gates, its accumulator sums an expert's hidden tiles over a run of eleven points, and the stored block is that sum
   by the gate. -/
module

public import proofs.«01_k».proof.Proof.MoeFrameIdeal
public import proofs.«01_k».proof.Proof.MoePayIdeal
public import proofs.«01_k».proof.Proof.MoeReference
public import Idealize.ShloMosaic.Lib.Pipeline.ReadBack
public import Idealize.ShloMosaic.Lib.Pipeline.ValueKit.Held

@[expose] public section

set_option maxRecDepth 16384

noncomputable section

namespace Cert.MoeIdeal

open Cert.FfnMoeIdeal Cert.FfnMoeIdeal.Gen
open Idealize.ShloMosaic Idealize.ShloMosaic.TcCoe Idealize.ShloMosaic.Tactic

variable (m : (ℓ : Loc nD τ sig) → Buf (Elt Ideal) ℓ) (hok : ok0 (tabs m))

abbrev X (c : Dev nD) : FVec Ideal S32768x1024 .f32 := m ((c : Thread nD τ).loc main_arg0)
abbrev Wg (c : Dev nD) : FVec Ideal S8x1024x2816 .f32 := m ((c : Thread nD τ).loc main_arg1)
abbrev Wu (c : Dev nD) : FVec Ideal S8x1024x2816 .f32 := m ((c : Thread nD τ).loc main_arg2)
abbrev Wd (c : Dev nD) : FVec Ideal S8x2816x1024 .f32 := m ((c : Thread nD τ).loc main_arg3)
abbrev Gt (c : Dev nD) : FVec Ideal S32768x1 .f32 := m ((c : Thread nD τ).loc main_arg4)

/-! ## Where a block's elements lie -/

theorem tlt (t : Fin (cfgA m hok).N) : t.val < 352 := t.isLt

/-- The row tile of a point. -/
abbrev tileAt (t : Fin (cfgA m hok).N) : Fin 32 := ⟨t.val / 11, by have := tlt m hok t; omega⟩
/-- Row `r` of the point's row tile, in the array. -/
abbrev rowOf (t : Fin (cfgA m hok).N) (r : Fin 1024) : Fin 32768 := ⟨t.val / 11 * 1024 + r.val, by have := tlt m hok t; omega⟩
/-- Hidden unit `h` of the point's hidden tile. -/
abbrev unitOf (t : Fin (cfgA m hok).N) (h : Fin 256) : Fin 2816 := ⟨t.val % 11 * 256 + h.val, by omega⟩

theorem tileIx_crd (t : Fin (cfgA m hok).N) : tileIx (crd m hok t) = ix1 (tileAt m hok t) := by
  funext a
  match a with
  | ⟨0, _⟩ => exact Fin.ext (coord_tile t)

/-- The block indices of the rows, of the gates and of the result: the row tile. -/
theorem rows_idx : ∀ t : Fin grid0.N, cc0_transform_0 (grid0.coords t) = ![t.val / 11, 0] := by decide +kernel

theorem blk0 (c : Dev nD) (t : Fin (cfgA m hok).N) (r k : Fin 1024) : xs m hok c t (ix2 r k) = X m c (ix2 (rowOf m hok t r) k) := by
  refine congrArg (X m c) (funext fun a => Fin.ext ?_)
  refine (Pipeline.Window.rect_emb_val ((cfgA m hok).win 0) t (ix2 r k) a rfl).trans ?_
  have e : ((cfgA m hok).win 0).index t = ![t.val / 11, 0] := rows_idx t
  rw [e]
  match a with
  | ⟨0, _⟩ => rfl
  | ⟨1, _⟩ => show 0 * 1024 + k.val = k.val; omega

theorem blk4 (c : Dev nD) (t : Fin (cfgA m hok).N) (r : Fin 1024) : gates m hok c t (ix2 r 0) = Gt m c (ix2 (rowOf m hok t r) 0) := by
  refine congrArg (Gt m c) (funext fun a => Fin.ext ?_)
  refine (Pipeline.Window.rect_emb_val ((cfgA m hok).win 4) t (ix2 r (0 : Fin 1)) a rfl).trans ?_
  have e : ((cfgA m hok).win 4).index t = ![t.val / 11, 0] := rows_idx t
  rw [e]
  match a with
  | ⟨0, _⟩ => rfl
  | ⟨1, _⟩ => rfl

variable (hw : ∀ x, (teOf (tabs m) x).toNat < 8)

/-- The expert of a point's row tile. -/
abbrev expert (t : Fin (cfgA m hok).N) : Fin 8 := ⟨(teOf (tabs m) (ix1 (tileAt m hok t))).toNat, hw _⟩

theorem blk1 (c : Dev nD) (t : Fin (cfgA m hok).N) (hn : Scalar.cmpi .sgt (tvOf (tabs m) (ix1 (tileAt m hok t))) 0#32 = 1#1) (k : Fin 1024) (h : Fin 256) :
    wgs m hok c t (ix3 0 k h) = Wg m c (ix3 (expert m hok hw t) k (unitOf m hok t h)) := by
  refine congrArg (Wg m c) (funext fun a => Fin.ext ?_)
  refine (Pipeline.Window.rect_emb_val ((cfgA m hok).win 1) t (ix3 (0 : Fin 1) k h) a rfl).trans ?_
  have h1 := coord_hidden t
  have e : ((cfgA m hok).win 1).index t = wblk (teOf (tabs m)) (tvOf (tabs m)) (crd m hok t) := transform1_eq (tabs m) (crd m hok t)
  rw [e]
  unfold wblk
  rw [tileIx_crd, tileJ_live _ _ hn]
  match a with
  | ⟨0, _⟩ => show (teOf (tabs m) (ix1 (tileAt m hok t))).toNat * 1 + 0 = (teOf (tabs m) (ix1 (tileAt m hok t))).toNat; omega
  | ⟨1, _⟩ => show 0 * 1024 + k.val = k.val; omega
  | ⟨2, _⟩ => show (grid0.coords t 1).val * 256 + h.val = t.val % 11 * 256 + h.val; omega

theorem blk2 (c : Dev nD) (t : Fin (cfgA m hok).N) (hn : Scalar.cmpi .sgt (tvOf (tabs m) (ix1 (tileAt m hok t))) 0#32 = 1#1) (k : Fin 1024) (h : Fin 256) :
    wus m hok c t (ix3 0 k h) = Wu m c (ix3 (expert m hok hw t) k (unitOf m hok t h)) := by
  refine congrArg (Wu m c) (funext fun a => Fin.ext ?_)
  refine (Pipeline.Window.rect_emb_val ((cfgA m hok).win 2) t (ix3 (0 : Fin 1) k h) a rfl).trans ?_
  have h1 := coord_hidden t
  have e : ((cfgA m hok).win 2).index t = wblk (teOf (tabs m)) (tvOf (tabs m)) (crd m hok t) := transform2_eq (tabs m) (crd m hok t)
  rw [e]
  unfold wblk
  rw [tileIx_crd, tileJ_live _ _ hn]
  match a with
  | ⟨0, _⟩ => show (teOf (tabs m) (ix1 (tileAt m hok t))).toNat * 1 + 0 = (teOf (tabs m) (ix1 (tileAt m hok t))).toNat; omega
  | ⟨1, _⟩ => show 0 * 1024 + k.val = k.val; omega
  | ⟨2, _⟩ => show (grid0.coords t 1).val * 256 + h.val = t.val % 11 * 256 + h.val; omega

theorem blk3 (c : Dev nD) (t : Fin (cfgA m hok).N) (hn : Scalar.cmpi .sgt (tvOf (tabs m) (ix1 (tileAt m hok t))) 0#32 = 1#1) (h : Fin 256) (k : Fin 1024) :
    wds m hok c t (ix3 0 h k) = Wd m c (ix3 (expert m hok hw t) (unitOf m hok t h) k) := by
  refine congrArg (Wd m c) (funext fun a => Fin.ext ?_)
  refine (Pipeline.Window.rect_emb_val ((cfgA m hok).win 3) t (ix3 (0 : Fin 1) h k) a rfl).trans ?_
  have h1 := coord_hidden t
  have e : ((cfgA m hok).win 3).index t = wblkT (teOf (tabs m)) (tvOf (tabs m)) (crd m hok t) := transform3_eq (tabs m) (crd m hok t)
  rw [e]
  unfold wblkT
  rw [tileIx_crd, tileJ_live _ _ hn]
  match a with
  | ⟨0, _⟩ => show (teOf (tabs m) (ix1 (tileAt m hok t))).toNat * 1 + 0 = (teOf (tabs m) (ix1 (tileAt m hok t))).toNat; omega
  | ⟨1, _⟩ => show (grid0.coords t 1).val * 256 + h.val = t.val % 11 * 256 + h.val; omega
  | ⟨2, _⟩ => show 0 * 1024 + k.val = k.val; omega

/-- Where element `(r, d)` of the stored block lies in the returned array. -/
theorem win_emb (t : Fin (cfgA m hok).N) (r d : Fin 1024) :
    (((cfgA m hok).win 5).blk t).view.emb (ix2 r d : S1024x1024.Idx) = (ix2 (rowOf m hok t r) d : S32768x1024.Idx) := by
  refine funext fun a => Fin.ext ?_
  refine (Pipeline.Window.rect_emb_val ((cfgA m hok).win 5) t (ix2 r d) a rfl).trans ?_
  have e : ((cfgA m hok).win 5).index t = ![t.val / 11, 0] := rows_idx t
  rw [e]
  match a with
  | ⟨0, _⟩ => rfl
  | ⟨1, _⟩ => show 0 * 1024 + d.val = d.val; omega

/-- Every index of a rank-two block is its two coordinates. -/
theorem two (y : S1024x1024.Idx) : ∃ r d : Fin 1024, y = ix2 r d :=
  ⟨y 0, y 1, by funext a; match a with | ⟨0, _⟩ => rfl | ⟨1, _⟩ => rfl⟩

/-- The written-back blocks cover the returned array. -/
theorem covered (i : S32768x1024.Idx) :
    ∃ t : Fin (cfgA m hok).N, ((cfgA m hok).win 5).flush t = true ∧ i ∈ (((cfgA m hok).win 5).blk t).view.set := by
  have hi : (i 0).val < 32768 := (i 0).isLt
  obtain ⟨t, ht⟩ : ∃ t : Fin grid0.N, t.val = (i 0).val / 1024 * 11 + 10 := ⟨⟨(i 0).val / 1024 * 11 + 10, by show _ < 352; omega⟩, rfl⟩
  refine ⟨t, (flush_iff _ _).mpr (by omega), ?_⟩
  have e : (((cfgA m hok).win 5).blk t).view.emb (ix2 (⟨(i 0).val % 1024, Nat.mod_lt _ (by decide)⟩ : Fin 1024) (i 1 : Fin 1024) : S1024x1024.Idx) = i := by
    refine (win_emb m hok t _ _).trans ?_
    funext a
    match a with
    | ⟨0, _⟩ => exact Fin.ext (by show t.val / 11 * 1024 + (i 0).val % 1024 = (i 0).val; omega)
    | ⟨1, _⟩ => rfl
  have h := View.emb_mem_set (((cfgA m hok).win 5).blk t).view (ix2 (⟨(i 0).val % 1024, Nat.mod_lt _ (by decide)⟩ : Fin 1024) (i 1 : Fin 1024) : S1024x1024.Idx)
  rw [e] at h
  exact h

/-! ## The rows a run works on -/

/-- A tile with a live row has a live row count. -/
theorem live_pos (nv : BitVec 32) (r : ℕ) (h : Live nv r) : Scalar.cmpi .sgt nv 0#32 = 1#1 := by
  have hq : ∀ q : Fin 4, Scalar.cmpi .sgt nv (BitVec.ofNat 32 (q.val * 256)) = 1#1 → Scalar.cmpi .sgt nv 0#32 = 1#1 := by
    intro q h
    have h1 : BitVec.slt (BitVec.ofNat 32 (q.val * 256)) nv = true := by
      have h2 : BitVec.ofBool (BitVec.slt (BitVec.ofNat 32 (q.val * 256)) nv) = 1#1 := h
      cases h3 : BitVec.slt (BitVec.ofNat 32 (q.val * 256)) nv
      · rw [h3] at h2; exact absurd h2 (by decide)
      · rfl
    have h4 : BitVec.slt 0#32 nv = true := by
      rw [BitVec.slt_iff_toInt_lt] at h1 ⊢
      have h5 : (0 : ℤ) ≤ (BitVec.ofNat 32 (q.val * 256)).toInt := by clear h h1; revert q; decide
      have h6 : (0#32 : BitVec 32).toInt = 0 := rfl
      omega
    show BitVec.ofBool (BitVec.slt 0#32 nv) = 1#1
    rw [h4]
    rfl
  exact hq ⟨r % 1024 / 256, by omega⟩ h

/-- The rows kept after a point are its row tile's. -/
theorem held (c : Dev nD) (t : Fin (cfgA m hok).N) (r k : Fin 1024) : (st m hok c (t.val + 1)).1 (ix2 r k) = X m c (ix2 (rowOf m hok t r) k) := by
  have h := Pipeline.eq_of_write_hold (N := grid0.N) (fun n _ => fun (p : Fin 1024 × Fin 1024) => (st m hok c (n + 1)).1 (ix2 p.1 p.2)) 11
    (fun t p => X m c (ix2 (rowOf m hok t p.1) p.2))
    (fun t h0 => funext fun p => by
      show (st m hok c (t.val + 1)).1 (ix2 p.1 p.2) = _
      rw [st_succ]
      show initRows (crd m hok t) (xs m hok c t) _ (ix2 p.1 p.2) = _
      unfold initRows
      rw [if_pos ((first_iff t).mpr h0), pay1_apply, blk0])
    (fun t h0 => funext fun p => by
      show (st m hok c (t.val + 1)).1 (ix2 p.1 p.2) = (st m hok c (t.val - 1 + 1)).1 (ix2 p.1 p.2)
      rw [st_succ]
      show initRows (crd m hok t) (xs m hok c t) _ (ix2 p.1 p.2) = _
      unfold initRows
      rw [if_neg (fun h => h0 ((first_iff t).mp h)), show t.val - 1 + 1 = t.val by omega]) t
  refine (congrFun h (r, k)).trans ?_
  refine congrArg (fun q => X m c (ix2 q k)) (Fin.ext ?_)
  show 11 * (t.val / 11) / 11 * 1024 + r.val = t.val / 11 * 1024 + r.val
  omega

/-- What a point adds to row `r`. -/
abbrev added (c : Dev nD) (t : Fin (cfgA m hok).N) (r d : Fin 1024) : EReal :=
  if Live (nlive m hok t) r.val then tile (fun k => X m c (ix2 (rowOf m hok t r) k)) (wgs m hok c t) (wus m hok c t) (wds m hok c t) d else 0

/-- A point's accumulator: what it started from, and what it adds. -/
theorem acc_step (c : Dev nD) (t : Fin (cfgA m hok).N) (r d : Fin 1024) :
    (st m hok c (t.val + 1)).2 (ix2 r d) = initAcc (crd m hok t) (st m hok c t.val).2 (ix2 r d) + added m hok c t r d := by
  have hh := held m hok c t r
  rw [st_succ] at hh ⊢
  show groups _ _ _ _ _ _ _ = _
  rw [groups_apply]
  simp only [added]
  refine congrArg (fun z => _ + (if Live (nlive m hok t) r.val then z else 0)) ?_
  exact congrArg (fun f => tile f _ _ _ d) (funext hh)

/-- The last point of a run leaves what its eleven points add. -/
theorem acc_sum (c : Dev nD) (t : Fin (cfgA m hok).N) (h1 : t.val % 11 = 10) (r d : Fin 1024) :
    (st m hok c (t.val + 1)).2 (ix2 r d) = ∑ s : Fin 11, added m hok c ⟨11 * (t.val / 11) + s.val, Pipeline.run_point_lt_of_flush (N := grid0.N) t h1 s⟩ r d := by
  have h := Pipeline.eq_sum_fin_of_reset_step_of_flush (N := grid0.N) (fun n _ => (st m hok c (n + 1)).2 (ix2 r d)) 11 (0 : EReal)
    (fun t => added m hok c t r d)
    (fun t h0 => by
      show (st m hok c (t.val + 1)).2 (ix2 r d) = _
      rw [acc_step]
      unfold initAcc
      rw [if_pos ((first_iff t).mpr h0), pay2_apply])
    (fun t h0 => by
      show (st m hok c (t.val + 1)).2 (ix2 r d) = (st m hok c (t.val - 1 + 1)).2 (ix2 r d) + _
      rw [acc_step]
      unfold initAcc
      rw [if_neg (fun h => h0 ((first_iff t).mp h)), show t.val - 1 + 1 = t.val by omega]) t h1
  exact h.trans (zero_add _)

/-! ## The result -/

theorem nlive_eq (t : Fin (cfgA m hok).N) : nlive m hok t = tvOf (tabs m) (ix1 (tileAt m hok t)) :=
  (liveWord_eq (crd m hok t) (tabs m 1)).trans (congrArg (tvOf (tabs m)) (tileIx_crd m hok t))

include hw in
/-- The last point of a run leaves the expert's layer of the live rows. -/
theorem acc_last (c : Dev nD) (t : Fin (cfgA m hok).N) (h1 : t.val % 11 = 10) (r d : Fin 1024) :
    (st m hok c (t.val + 1)).2 (ix2 r d)
      = if Live (tvOf (tabs m) (ix1 (tileAt m hok t))) r.val then
          FfnMoeRefIdeal.Reading.part (X m c) (Wg m c) (Wu m c) (Wd m c) (rowOf m hok t r) d (expert m hok hw t) else 0 := by
  rw [acc_sum m hok c t h1]
  have ht := tlt m hok t
  have es : ∀ s : Fin 11, tileAt m hok ⟨11 * (t.val / 11) + s.val, Pipeline.run_point_lt_of_flush (N := grid0.N) t h1 s⟩ = tileAt m hok t :=
    fun s => Fin.ext (by show (11 * (t.val / 11) + s.val) / 11 = t.val / 11; omega)
  have el : ∀ s : Fin 11, nlive m hok ⟨11 * (t.val / 11) + s.val, Pipeline.run_point_lt_of_flush (N := grid0.N) t h1 s⟩ = tvOf (tabs m) (ix1 (tileAt m hok t)) :=
    fun s => (nlive_eq m hok _).trans (by rw [es s])
  by_cases hl : Live (tvOf (tabs m) (ix1 (tileAt m hok t))) r.val
  · rw [if_pos hl]
    have hn := live_pos _ _ hl
    refine (Finset.sum_congr rfl fun s _ => if_pos (by rw [el s]; exact hl)).trans ?_
    unfold FfnMoeRefIdeal.Reading.part FfnSpec.swiglu
    refine Fin.sum_mul_add_congr (fun s k hk => ?_)
    have hs : Scalar.cmpi .sgt (tvOf (tabs m) (ix1 (tileAt m hok ⟨11 * (t.val / 11) + s.val, Pipeline.run_point_lt_of_flush (N := grid0.N) t h1 s⟩))) 0#32 = 1#1 := by
      rw [es s]; exact hn
    have e1 : rowOf m hok ⟨11 * (t.val / 11) + s.val, Pipeline.run_point_lt_of_flush (N := grid0.N) t h1 s⟩ r = rowOf m hok t r :=
      Fin.ext (by show (11 * (t.val / 11) + s.val) / 11 * 1024 + r.val = t.val / 11 * 1024 + r.val; omega)
    have e2 : expert m hok hw ⟨11 * (t.val / 11) + s.val, Pipeline.run_point_lt_of_flush (N := grid0.N) t h1 s⟩ = expert m hok hw t :=
      Fin.ext (congrArg (fun q => (teOf (tabs m) (ix1 q)).toNat) (es s))
    have e3 : unitOf m hok ⟨11 * (t.val / 11) + s.val, Pipeline.run_point_lt_of_flush (N := grid0.N) t h1 s⟩ k = ⟨s.val * 256 + k.val, hk⟩ :=
      Fin.ext (by show (11 * (t.val / 11) + s.val) % 11 * 256 + k.val = s.val * 256 + k.val; omega)
    have b1 := fun k' : Fin 1024 => blk1 m hok hw c _ hs k' k
    have b2 := fun k' : Fin 1024 => blk2 m hok hw c _ hs k' k
    have b3 := blk3 m hok hw c _ hs k d
    rw [e2, e3] at b3
    simp only [e2, e3] at b1 b2
    rw [e1, b3]
    refine congrArg₂ (fun f g => FfnSpec.hidden _ f g * _) (funext b1) (funext b2)
  · rw [if_neg hl]
    exact Finset.sum_eq_zero fun s _ => if_neg (by rw [el s]; exact hl)

theorem te_eq (c : Dev nD) : m ((c : Thread nD τ).loc main_arg5) = teOf (tabs m) := tabs_eq m c 0
theorem tv_eq (c : Dev nD) : m ((c : Thread nD τ).loc main_arg6) = tvOf (tabs m) := tabs_eq m c 1

include hw in
/-- What the last point of a run stores: the reference's rows. -/
theorem out_last (c : Dev nD) (t : Fin (cfgA m hok).N) (h1 : t.val % 11 = 10) (r d : Fin 1024) :
    outBlk m hok c t (ix2 r d)
      = FfnMoeRefIdeal.Reading.row (X m c) (Wg m c) (Wu m c) (Wd m c) (Gt m c) (expert m hok hw t) (tvOf (tabs m) (ix1 (tileAt m hok t)))
          (rowOf m hok t r) d := by
  refine (pay10_apply _ _ r d).trans ?_
  rw [acc_last m hok hw c t h1, blk4]
  have hr := r.isLt
  have hL : FfnMoeRefIdeal.Reading.Live (tvOf (tabs m) (ix1 (tileAt m hok t))) (rowOf m hok t r).val ↔ Live (tvOf (tabs m) (ix1 (tileAt m hok t))) r.val := by
    have e : (t.val / 11 * 1024 + r.val) % 1024 = r.val % 1024 := by omega
    show Scalar.cmpi .sgt _ (BitVec.ofNat 32 ((t.val / 11 * 1024 + r.val) % 1024 / 256 * 256)) = 1#1 ↔ _
    rw [e]
  unfold FfnMoeRefIdeal.Reading.row
  by_cases hl : Live (tvOf (tabs m) (ix1 (tileAt m hok t))) r.val
  · rw [if_pos hl, if_pos (hL.mpr hl), mul_comm]
  · rw [if_neg hl, if_neg (fun h => hl (hL.mp h)), zero_mul]

include hw in
/-- The array the kernel returns is the reference's. -/
theorem final (c : Dev nD) : (dats m hok 0 c).arrAt 5 (cfgA m hok).N
    = (FfnMoeRefIdeal.Read.val_main_v135 (F := Ideal) (X m c) (Wg m c) (Wu m c) (Wd m c) (Gt m c) (teOf (tabs m)) (tvOf (tabs m)) : FVec Ideal S32768x1024 .f32) := by
  refine (dats m hok 0 c).arrAt_eq_of_emb 5 _ (fun t hf y => ?_) (covered m hok)
  obtain ⟨r, d, rfl⟩ := two y
  refine Eq.trans ?_ (congrArg (FfnMoeRefIdeal.Read.val_main_v135 (F := Ideal) (X m c) (Wg m c) (Wu m c) (Wd m c) (Gt m c) (teOf (tabs m)) (tvOf (tabs m))) (win_emb m hok t r d)).symm
  refine Eq.trans ?_ (FfnMoeRefIdeal.Reading.reads _ _ _ _ _ _ _ hw (rowOf m hok t r) d).symm
  have e : FfnMoeRefIdeal.Reading.tileOf (rowOf m hok t r) = tileAt m hok t := by
    have hr := r.isLt
    exact Fin.ext (by show (t.val / 11 * 1024 + r.val) / 1024 = t.val / 11; omega)
  refine Eq.trans (out_last m hok hw c t ((flush_iff _ _).mp hf) r d) ?_
  show FfnMoeRefIdeal.Reading.row _ _ _ _ _ _ (tvOf (tabs m) (ix1 (tileAt m hok t))) _ _ = _
  have ee : (⟨(teOf (tabs m) (ix1 (FfnMoeRefIdeal.Reading.tileOf (rowOf m hok t r)))).toNat, hw _⟩ : Fin 8) = expert m hok hw t :=
    Fin.ext (congrArg (fun q => (teOf (tabs m) (ix1 q)).toNat) e)
  rw [ee, e]

end Cert.MoeIdeal
-- ==== Proof.MoeClaim.lean ====
module

public import proofs.«01_k».proof.Defs
public import proofs.«01_k».proof.Proof.MoeFrame
public import proofs.«01_k».proof.Proof.MoeValueIdeal
public import proofs.«01_k».proof.Proof.Gen.FfnMoe
public import proofs.«01_k».proof.Proof.Gen.FfnMoeIdeal
public import proofs.«01_k».proof.Proof.Gen.FfnMoeRefIdeal
public import proofs.«01_k».proof.Proof.Gen.FfnMoeRefIdeal.Run
public import proofs.«01_k».proof.Proof.Gen.FfnMoeRefIdeal.Read
public import proofs.«01_k».proof.Proof.Gen.Pre_experts_in_range
public import Idealize.ShloMosaic.PureOps.BitExact
public import Idealize.ShloMosaic.Lib.Claim

/-! The claims of the expert call, from the kernel's runs and the reference's: where every entry of the expert table names
    one of the eight experts, the kernel runs and keeps its arguments, and it returns the reference's array. -/

@[expose] public section

set_option maxRecDepth 16384

noncomputable section

namespace Cert.MoeClaim

open Idealize.ShloMosaic Idealize.ShloMosaic.TcCoe Idealize.SL.Sem
open Cert.MoeIdeal (dats tabs tabs_eq ok_of_range range_of_pre)

/-- The kernel at machine arithmetic runs and keeps its arguments. -/
theorem frame : Cert.quiescent_FfnMoe (hFfnMoe := Cert.FfnMoe.Gen.facts) (hPre_experts_in_range := Cert.Pre_experts_in_range.Gen.facts) :=
  fun m g hp => Cert.Moe.frame_of_ok (F := Bits) m g (Cert.Moe.ok_of_range (Cert.Moe.tabs m) (Cert.Moe.range_of_pre _ _ _ _ _ _ _ (hp 0)))

/-- The kernel at exact arithmetic runs and keeps its arguments. -/
theorem frame_ideal : Cert.quiescent_FfnMoeIdeal (hFfnMoeIdeal := Cert.FfnMoeIdeal.Gen.facts) (hPre_experts_in_range := Cert.Pre_experts_in_range.Gen.facts) :=
  fun m g hp => Cert.MoeIdeal.frame_of_ok (F := Ideal) m g (Cert.MoeIdeal.ok_of_range (Cert.MoeIdeal.tabs m) (Cert.MoeIdeal.range_of_pre _ _ _ _ _ _ _ (hp 0)))

/-- The reference terminates, keeps its arguments and has no semaphore. -/
theorem reference_frame (m : (ℓ : Loc Cert.FfnMoeRefIdeal.nD Cert.FfnMoeRefIdeal.τ Cert.FfnMoeRefIdeal.sig) → Buf (Elt Ideal) ℓ)
    (g : Dev Cert.FfnMoeRefIdeal.nD → PrngReg) :
    θ_run (Cert.FfnMoeRefIdeal.defs (F := Ideal)) (onTc (τ := Cert.FfnMoeRefIdeal.τ) (Cert.FfnMoeRefIdeal.main (F := Ideal)))
      ⟨m, fun _ => 0, g⟩ fun r => (∀ c : Dev Cert.FfnMoeRefIdeal.nD,
        r.2.mem ((c.tc : Thread Cert.FfnMoeRefIdeal.nD Cert.FfnMoeRefIdeal.τ).loc Cert.FfnMoeRefIdeal.main_arg0) = m ((c.tc : Thread Cert.FfnMoeRefIdeal.nD Cert.FfnMoeRefIdeal.τ).loc Cert.FfnMoeRefIdeal.main_arg0)
        ∧ r.2.mem ((c.tc : Thread Cert.FfnMoeRefIdeal.nD Cert.FfnMoeRefIdeal.τ).loc Cert.FfnMoeRefIdeal.main_arg1) = m ((c.tc : Thread Cert.FfnMoeRefIdeal.nD Cert.FfnMoeRefIdeal.τ).loc Cert.FfnMoeRefIdeal.main_arg1)
        ∧ r.2.mem ((c.tc : Thread Cert.FfnMoeRefIdeal.nD Cert.FfnMoeRefIdeal.τ).loc Cert.FfnMoeRefIdeal.main_arg2) = m ((c.tc : Thread Cert.FfnMoeRefIdeal.nD Cert.FfnMoeRefIdeal.τ).loc Cert.FfnMoeRefIdeal.main_arg2)
        ∧ r.2.mem ((c.tc : Thread Cert.FfnMoeRefIdeal.nD Cert.FfnMoeRefIdeal.τ).loc Cert.FfnMoeRefIdeal.main_arg3) = m ((c.tc : Thread Cert.FfnMoeRefIdeal.nD Cert.FfnMoeRefIdeal.τ).loc Cert.FfnMoeRefIdeal.main_arg3)
        ∧ r.2.mem ((c.tc : Thread Cert.FfnMoeRefIdeal.nD Cert.FfnMoeRefIdeal.τ).loc Cert.FfnMoeRefIdeal.main_arg4) = m ((c.tc : Thread Cert.FfnMoeRefIdeal.nD Cert.FfnMoeRefIdeal.τ).loc Cert.FfnMoeRefIdeal.main_arg4)
        ∧ r.2.mem ((c.tc : Thread Cert.FfnMoeRefIdeal.nD Cert.FfnMoeRefIdeal.τ).loc Cert.FfnMoeRefIdeal.main_arg5) = m ((c.tc : Thread Cert.FfnMoeRefIdeal.nD Cert.FfnMoeRefIdeal.τ).loc Cert.FfnMoeRefIdeal.main_arg5)
        ∧ r.2.mem ((c.tc : Thread Cert.FfnMoeRefIdeal.nD Cert.FfnMoeRefIdeal.τ).loc Cert.FfnMoeRefIdeal.main_arg6) = m ((c.tc : Thread Cert.FfnMoeRefIdeal.nD Cert.FfnMoeRefIdeal.τ).loc Cert.FfnMoeRefIdeal.main_arg6))
        ∧ r.2.sem = fun _ => 0 :=
  (θ_run _ _ _).mono (fun r h => ⟨fun c => (h c).2, sem_eq_zero_of_no_sems (by decide) r.2⟩)
    (Cert.FfnMoeRefIdeal.Value.run m g)

/-- Kernel and reference end with the same array. -/
theorem algebraic : Cert.algebraic_FfnMoeIdeal_FfnMoeRefIdeal
    (hFfnMoeIdeal := Cert.FfnMoeIdeal.Gen.facts) (hFfnMoeRefIdeal := Cert.FfnMoeRefIdeal.Gen.facts) (hPre_experts_in_range := Cert.Pre_experts_in_range.Gen.facts) := by
  intro m g m' g' hp ha
  have hw := range_of_pre _ _ _ _ _ _ _ (hp 0)
  have hok := ok_of_range (tabs m) hw
  refine ⟨fun c => (Cert.FfnMoeRefIdeal.Read.val_main_v135 (F := Ideal)
      (m ((c.tc : Thread Cert.FfnMoeIdeal.nD Cert.FfnMoeIdeal.τ).loc Cert.FfnMoeIdeal.main_arg0))
      (m ((c.tc : Thread Cert.FfnMoeIdeal.nD Cert.FfnMoeIdeal.τ).loc Cert.FfnMoeIdeal.main_arg1))
      (m ((c.tc : Thread Cert.FfnMoeIdeal.nD Cert.FfnMoeIdeal.τ).loc Cert.FfnMoeIdeal.main_arg2))
      (m ((c.tc : Thread Cert.FfnMoeIdeal.nD Cert.FfnMoeIdeal.τ).loc Cert.FfnMoeIdeal.main_arg3))
      (m ((c.tc : Thread Cert.FfnMoeIdeal.nD Cert.FfnMoeIdeal.τ).loc Cert.FfnMoeIdeal.main_arg4))
      (m ((c.tc : Thread Cert.FfnMoeIdeal.nD Cert.FfnMoeIdeal.τ).loc Cert.FfnMoeIdeal.main_arg5))
      (m ((c.tc : Thread Cert.FfnMoeIdeal.nD Cert.FfnMoeIdeal.τ).loc Cert.FfnMoeIdeal.main_arg6)) :
      FVec Ideal Cert.FfnMoeIdeal.S32768x1024 .f32), ?_, ?_⟩
  · refine (θ_run _ _ _).mono (fun r h c => ?_) (Cert.MoeIdeal.run_main (F := Ideal) m g hok)
    refine ⟨((h.1 c).1 (5 : Fin 6)).trans ((Cert.MoeIdeal.final m hok hw c).trans ?_), ?_, ?_, ?_, ?_, ?_, ?_, ?_⟩
    · exact congrArg₂ (Cert.FfnMoeRefIdeal.Read.val_main_v135 (F := Ideal)
        (m ((c.tc : Thread Cert.FfnMoeIdeal.nD Cert.FfnMoeIdeal.τ).loc Cert.FfnMoeIdeal.main_arg0))
        (m ((c.tc : Thread Cert.FfnMoeIdeal.nD Cert.FfnMoeIdeal.τ).loc Cert.FfnMoeIdeal.main_arg1))
        (m ((c.tc : Thread Cert.FfnMoeIdeal.nD Cert.FfnMoeIdeal.τ).loc Cert.FfnMoeIdeal.main_arg2))
        (m ((c.tc : Thread Cert.FfnMoeIdeal.nD Cert.FfnMoeIdeal.τ).loc Cert.FfnMoeIdeal.main_arg3))
        (m ((c.tc : Thread Cert.FfnMoeIdeal.nD Cert.FfnMoeIdeal.τ).loc Cert.FfnMoeIdeal.main_arg4)))
        (Cert.MoeIdeal.te_eq m c).symm (Cert.MoeIdeal.tv_eq m c).symm
    · exact ((h.1 c).1 (0 : Fin 6)).trans ((dats m hok 0 c).arrAt_in (0 : Fin 6) rfl _)
    · exact ((h.1 c).1 (1 : Fin 6)).trans ((dats m hok 0 c).arrAt_in (1 : Fin 6) rfl _)
    · exact ((h.1 c).1 (2 : Fin 6)).trans ((dats m hok 0 c).arrAt_in (2 : Fin 6) rfl _)
    · exact ((h.1 c).1 (3 : Fin 6)).trans ((dats m hok 0 c).arrAt_in (3 : Fin 6) rfl _)
    · exact ((h.1 c).1 (4 : Fin 6)).trans ((dats m hok 0 c).arrAt_in (4 : Fin 6) rfl _)
    · exact ((h.1 c).2 0).trans (tabs_eq m c 0).symm
    · exact ((h.1 c).2 1).trans (tabs_eq m c 1).symm
  · refine (θ_run _ _ _).mono (fun r h c => ?_) (Cert.FfnMoeRefIdeal.Value.run m' g')
    refine ⟨(h c).1.trans ?_, (h c).2⟩
    rw [Cert.FfnMoeRefIdeal.Read.val_main_v135_eq]
    obtain ⟨a0, a1, a2, a3, a4, a5, a6⟩ := ha c
    show Cert.FfnMoeRefIdeal.Read.val_main_v135 (F := Ideal)
      (m' ((c.tc : Thread Cert.FfnMoeRefIdeal.nD Cert.FfnMoeRefIdeal.τ).loc Cert.FfnMoeRefIdeal.main_arg0))
      (m' ((c.tc : Thread Cert.FfnMoeRefIdeal.nD Cert.FfnMoeRefIdeal.τ).loc Cert.FfnMoeRefIdeal.main_arg1))
      (m' ((c.tc : Thread Cert.FfnMoeRefIdeal.nD Cert.FfnMoeRefIdeal.τ).loc Cert.FfnMoeRefIdeal.main_arg2))
      (m' ((c.tc : Thread Cert.FfnMoeRefIdeal.nD Cert.FfnMoeRefIdeal.τ).loc Cert.FfnMoeRefIdeal.main_arg3))
      (m' ((c.tc : Thread Cert.FfnMoeRefIdeal.nD Cert.FfnMoeRefIdeal.τ).loc Cert.FfnMoeRefIdeal.main_arg4))
      (m' ((c.tc : Thread Cert.FfnMoeRefIdeal.nD Cert.FfnMoeRefIdeal.τ).loc Cert.FfnMoeRefIdeal.main_arg5))
      (m' ((c.tc : Thread Cert.FfnMoeRefIdeal.nD Cert.FfnMoeRefIdeal.τ).loc Cert.FfnMoeRefIdeal.main_arg6)) = _
    rw [a0, a1, a2, a3, a4, a5, a6]

end Cert.MoeClaim

end
-- ==== Proof.QkvReference.lean ====
module

public import proofs.«01_k».proof.Proof.Gen.QkvRefIdeal.Run
public import proofs.«01_k».proof.Proof.Gen.QkvRefIdeal.Read
public import proofs.«01_k».proof.Proof.FfnSpec

/-! The query, key and value projection reference read element by element. -/

@[expose] public section

set_option maxRecDepth 16384

noncomputable section

namespace Cert.QkvRefIdeal.Reading

open Idealize.ShloMosaic Idealize.ShloMosaic.TcCoe Idealize.SL.Sem
open Cert.QkvRefIdeal Cert.QkvRefIdeal.Read Cert.FfnSpec

abbrev A0 := FVec Ideal S12288x1024 .f32
abbrev A1 := FVec Ideal S1024x3072 .f32
abbrev A2 := FVec Ideal S1024 .f32
abbrev A3 := FVec Ideal S3x6x1x1024 .f32

/-- Column `e` of the projection of row `r` of the input, with the modulation of group `g`. -/
def row (X0 : A0) (X1 : A1) (X2 : A2) (X3 : A3) (r : Fin 12288) (g : Fin 3) (e : Fin 3072) : EReal :=
  ∑ k, modulated (fun k => X0 (ix2 r k)) (fun k => X2 (ix1 k)) (fun k => X3 (ix4 g 1 0 k)) (fun k => X3 (ix4 g 0 0 k)) k * X1 (ix2 k e)

theorem x1 (X0 : A0) (b : Fin 32) (s : Fin 256) (k : Fin 1024) :
    val_main_v1 (F := Ideal) X0 (ix3 b s k) = X0 (ix2 ⟨b.val * 256 + s.val, by omega⟩ k) := by
  rw [val_main_v1_apply, val_main_v0_apply]
  refine congrArg X0 (funext fun a => Fin.ext ?_)
  match a with
  | ⟨0, _⟩ => show ((b.val * 256 + s.val) * 1024 + k.val) / 1024 = b.val * 256 + s.val; omega
  | ⟨1, _⟩ => show ((b.val * 256 + s.val) * 1024 + k.val) % 1024 = k.val; omega

theorem x3 (X0 : A0) (b : Fin 2) (s : Fin 2048) (k : Fin 1024) :
    val_main_v3 (F := Ideal) X0 (ix3 b s k) = X0 (ix2 ⟨8192 + (b.val * 2048 + s.val), by omega⟩ k) := by
  rw [val_main_v3_apply, val_main_v2_apply]
  refine congrArg X0 (funext fun a => Fin.ext ?_)
  match a with
  | ⟨0, _⟩ => show 8192 + ((b.val * 2048 + s.val) * 1024 + k.val) / 1024 = 8192 + (b.val * 2048 + s.val); omega
  | ⟨1, _⟩ => show ((b.val * 2048 + s.val) * 1024 + k.val) % 1024 = k.val; omega

theorem one : Ideal.ofBits .f32 0x3F800000#32 = 1 := by pointwise
theorem zero : Ideal.ofBits .f32 0x00000000#32 = 0 := by pointwise

theorem sum1 (X0 : A0) (b : Fin 32) (s : Fin 256) (k : Fin 1024) :
    val_main_v36 (F := Ideal) X0 (ix3 b s k)
      = Ideal.rsqrt (Ideal.div (∑ l, val_main_v1 (F := Ideal) X0 (ix3 b s l) * val_main_v1 (F := Ideal) X0 (ix3 b s l)) (Ideal.ofBits .f32 0x44800000#32)
          + Ideal.ofBits .f32 0x358637BD#32) := by
  rw [val_main_v36_apply, val_main_v35_apply, val_main_v34_apply, val_main_v32_apply, val_main_v30_apply, val_main_v29_apply,
    val_main_v33_apply, val_main_v31_apply, val_main_cst_0_apply, val_main_cst_1_apply, val_main_cst_apply]
  simp only [val_main_v28_apply]
  have e : ∀ l, idx_main_v29 (idx_main_v30 (idx_main_v36 (ix3 b s k))) l = ix3 b s l := by
    intro l
    funext a
    match a with | ⟨0, _⟩ => rfl | ⟨1, _⟩ => rfl | ⟨2, _⟩ => rfl
  simp only [e]
  generalize val_main_v1 (F := Ideal) X0 = y
  show Ideal.rsqrt (Ideal.div (Ideal.ofBits .f32 0x00000000#32 + ∑ l, y (ix3 b s l) * y (ix3 b s l)) _ + _) = _
  rw [zero, zero_add]
  rfl

theorem sum3 (X0 : A0) (b : Fin 2) (s : Fin 2048) (k : Fin 1024) :
    val_main_v57 (F := Ideal) X0 (ix3 b s k)
      = Ideal.rsqrt (Ideal.div (∑ l, val_main_v3 (F := Ideal) X0 (ix3 b s l) * val_main_v3 (F := Ideal) X0 (ix3 b s l)) (Ideal.ofBits .f32 0x44800000#32)
          + Ideal.ofBits .f32 0x358637BD#32) := by
  rw [val_main_v57_apply, val_main_v56_apply, val_main_v55_apply, val_main_v53_apply, val_main_v51_apply, val_main_v50_apply,
    val_main_v54_apply, val_main_v52_apply, val_main_cst_4_apply, val_main_cst_5_apply, val_main_cst_3_apply]
  simp only [val_main_v49_apply]
  have e : ∀ l, idx_main_v50 (idx_main_v51 (idx_main_v57 (ix3 b s k))) l = ix3 b s l := by
    intro l
    funext a
    match a with | ⟨0, _⟩ => rfl | ⟨1, _⟩ => rfl | ⟨2, _⟩ => rfl
  simp only [e]
  generalize val_main_v3 (F := Ideal) X0 = y
  show Ideal.rsqrt (Ideal.div (Ideal.ofBits .f32 0x00000000#32 + ∑ l, y (ix3 b s l) * y (ix3 b s l)) _ + _) = _
  rw [zero, zero_add]
  rfl

theorem mod1 (X0 : A0) (X2 : A2) (X3 : A3) (b : Fin 32) (s : Fin 256) (k : Fin 1024) :
    val_main_v48 (F := Ideal) X0 X2 X3 (ix3 b s k)
      = modulated (fun k => X0 (ix2 ⟨b.val * 256 + s.val, by omega⟩ k)) (fun k => X2 (ix1 k)) (fun k => X3 (ix4 0 1 0 k)) (fun k => X3 (ix4 0 0 0 k)) k := by
  have hk := k.isLt
  rw [val_main_v48_apply, val_main_v45_apply, val_main_v40_apply, val_main_v37_apply, sum1]
  simp only [x1]
  rw [val_main_v39_apply, val_main_v38_apply, val_main_v44_apply, val_main_v43_apply, val_main_v42_apply, val_main_v41_apply, val_main_cst_2_apply,
    val_main_v7_apply, val_main_v6_apply, val_main_v47_apply, val_main_v46_apply, val_main_v5_apply, val_main_v4_apply]
  have e4 : idx_main_v38 (idx_main_v39 (ix3 b s k)) = ix1 k := by
    funext a
    match a with | ⟨0, _⟩ => rfl
  have es : idx_main_v6 (idx_main_v7 (idx_main_v43 (idx_main_v44 (ix3 b s k)))) = ix4 0 1 0 k := by
    funext a
    match a with
    | ⟨0, _⟩ => rfl
    | ⟨1, _⟩ => rfl
    | ⟨2, _⟩ => rfl
    | ⟨3, _⟩ => refine Fin.ext ?_; show _ = k.val; simp; try omega
  have eh : idx_main_v4 (idx_main_v5 (idx_main_v46 (idx_main_v47 (ix3 b s k)))) = ix4 0 0 0 k := by
    funext a
    match a with
    | ⟨0, _⟩ => rfl
    | ⟨1, _⟩ => rfl
    | ⟨2, _⟩ => rfl
    | ⟨3, _⟩ => refine Fin.ext ?_; show _ = k.val; simp; try omega
  rw [e4, es, eh]
  unfold modulated
  rw [← one]
  rfl

theorem mod3 (X0 : A0) (X2 : A2) (X3 : A3) (b : Fin 2) (s : Fin 2048) (k : Fin 1024) :
    val_main_v67 (F := Ideal) X0 X2 X3 (ix3 b s k)
      = modulated (fun k => X0 (ix2 ⟨8192 + (b.val * 2048 + s.val), by omega⟩ k)) (fun k => X2 (ix1 k))
          (fun k => X3 (ix4 ⟨1 + b.val, by omega⟩ 1 0 k)) (fun k => X3 (ix4 ⟨1 + b.val, by omega⟩ 0 0 k)) k := by
  have hk := k.isLt
  have hb := b.isLt
  rw [val_main_v67_apply, val_main_v65_apply, val_main_v61_apply, val_main_v58_apply, sum3]
  simp only [x3]
  rw [val_main_v60_apply, val_main_v59_apply, val_main_v64_apply, val_main_v63_apply, val_main_v62_apply, val_main_cst_6_apply,
    val_main_v19_apply, val_main_v18_apply, val_main_v66_apply, val_main_v17_apply, val_main_v16_apply]
  have e4 : idx_main_v59 (idx_main_v60 (ix3 b s k)) = ix1 k := by
    funext a
    match a with | ⟨0, _⟩ => rfl
  have es : idx_main_v18 (idx_main_v19 (idx_main_v64 (ix3 b s k))) = ix4 ⟨1 + b.val, by omega⟩ 1 0 k := by
    funext a
    match a with
    | ⟨0, _⟩ => refine Fin.ext ?_; show 1 + ((b.val * 1 + 0) * 1024 + k.val) / 1024 = 1 + b.val; omega
    | ⟨1, _⟩ => rfl
    | ⟨2, _⟩ => rfl
    | ⟨3, _⟩ => refine Fin.ext ?_; show ((b.val * 1 + 0) * 1024 + k.val) % 1024 = k.val; omega
  have eh : idx_main_v16 (idx_main_v17 (idx_main_v66 (ix3 b s k))) = ix4 ⟨1 + b.val, by omega⟩ 0 0 k := by
    funext a
    match a with
    | ⟨0, _⟩ => refine Fin.ext ?_; show 1 + ((b.val * 1 + 0) * 1024 + k.val) / 1024 = 1 + b.val; omega
    | ⟨1, _⟩ => rfl
    | ⟨2, _⟩ => rfl
    | ⟨3, _⟩ => refine Fin.ext ?_; show ((b.val * 1 + 0) * 1024 + k.val) % 1024 = k.val; omega
  rw [e4, es, eh]
  unfold modulated
  rw [← one]
  rfl

/-- The projected prompt rows. -/
theorem dot1 (X0 : A0) (X1 : A1) (X2 : A2) (X3 : A3) (b : Fin 32) (s : Fin 256) (e : Fin 3072) :
    val_main_v68 (F := Ideal) X0 X1 X2 X3 (ix3 b s e) = row X0 X1 X2 X3 ⟨b.val * 256 + s.val, by omega⟩ 0 e := by
  rw [val_main_v68_apply]
  have el : ∀ k, lidx_main_v68 (ix3 b s e) k = ix3 b s k := by
    intro k
    funext a
    match a with | ⟨0, _⟩ => rfl | ⟨1, _⟩ => rfl | ⟨2, _⟩ => rfl
  have er : ∀ k, ridx_main_v68 (ix3 b s e) k = ix2 k e := by
    intro k
    funext a
    match a with | ⟨0, _⟩ => rfl | ⟨1, _⟩ => rfl
  simp only [el, er, mod1]
  rfl

/-- The projected sample rows. -/
theorem dot3 (X0 : A0) (X1 : A1) (X2 : A2) (X3 : A3) (b : Fin 2) (s : Fin 2048) (e : Fin 3072) :
    val_main_v70 (F := Ideal) X0 X1 X2 X3 (ix3 b s e)
      = row X0 X1 X2 X3 ⟨8192 + (b.val * 2048 + s.val), by omega⟩ ⟨1 + b.val, by omega⟩ e := by
  rw [val_main_v70_apply]
  have el : ∀ k, lidx_main_v70 (ix3 b s e) k = ix3 b s k := by
    intro k
    funext a
    match a with | ⟨0, _⟩ => rfl | ⟨1, _⟩ => rfl | ⟨2, _⟩ => rfl
  have er : ∀ k, ridx_main_v70 (ix3 b s e) k = ix2 k e := by
    intro k
    funext a
    match a with | ⟨0, _⟩ => rfl | ⟨1, _⟩ => rfl
  simp only [el, er, mod3]
  rfl

/-- Two blocks of projected rows stacked, read at a row of the first. -/
theorem stack_lo (y : FVec Ideal S8192x3x1024 .f32) (z : FVec Ideal S4096x3x1024 .f32)
    (hc : _) (r : Fin 12288) (p : Fin 3) (d : Fin 1024) (h : r.val < 8192) :
    concatenate S12288x3x1024 0 [⟨S8192x3x1024, y⟩, ⟨S4096x3x1024, z⟩] hc (ix3 r p d) = y (ix3 ⟨r.val, h⟩ p d) := by
  pointwise [h]

/-- Two blocks of projected rows stacked, read at a row of the second. -/
theorem stack_hi (y : FVec Ideal S8192x3x1024 .f32) (z : FVec Ideal S4096x3x1024 .f32)
    (hc : _) (r : Fin 12288) (p : Fin 3) (d : Fin 1024) (h : ¬r.val < 8192) :
    concatenate S12288x3x1024 0 [⟨S8192x3x1024, y⟩, ⟨S4096x3x1024, z⟩] hc (ix3 r p d)
      = z (ix3 ⟨r.val - 8192, by omega⟩ p d) := by
  pointwise [h]

/-- The reference's plane `p` at row `r` holds columns `1024 p` to `1024 p + 1023` of the projection, with the modulation of the row's group. -/
theorem reads (X0 : A0) (X1 : A1) (X2 : A2) (X3 : A3) (p : Fin 3) (r : Fin 12288) (d : Fin 1024) :
    val_main_v73 (F := Ideal) X0 X1 X2 X3 (ix3 p r d)
      = row X0 X1 X2 X3 r ⟨(r.val / 1024 - 6) / 2, by omega⟩ ⟨p.val * 1024 + d.val, by omega⟩ := by
  have hr := r.isLt
  have hp := p.isLt
  have hd := d.isLt
  rw [val_main_v73_apply]
  have et : idx_main_v73 (ix3 p r d) = ix3 r p d := by
    funext a
    match a with | ⟨0, _⟩ => rfl | ⟨1, _⟩ => rfl | ⟨2, _⟩ => rfl
  rw [et]
  unfold val_main_v72
  by_cases h : r.val < 8192
  · rw [stack_lo _ _ _ r p d h, val_main_v69_apply]
    have e : idx_main_v69 (ix3 ⟨r.val, h⟩ p d) = ix3 ⟨r.val / 256, by omega⟩ ⟨r.val % 256, by omega⟩ ⟨p.val * 1024 + d.val, by omega⟩ := by
      funext a
      match a with
      | ⟨0, _⟩ => refine Fin.ext ?_; show ((r.val * 3 + p.val) * 1024 + d.val) / 786432 = r.val / 256; omega
      | ⟨1, _⟩ => refine Fin.ext ?_; show ((r.val * 3 + p.val) * 1024 + d.val) / 3072 % 256 = r.val % 256; omega
      | ⟨2, _⟩ => refine Fin.ext ?_; show ((r.val * 3 + p.val) * 1024 + d.val) % 3072 = p.val * 1024 + d.val; omega
    rw [e, dot1]
    have er : (⟨(⟨r.val / 256, by omega⟩ : Fin 32).val * 256 + (⟨r.val % 256, by omega⟩ : Fin 256).val, by omega⟩ : Fin 12288) = r :=
      Fin.ext (by show r.val / 256 * 256 + r.val % 256 = r.val; omega)
    have eg : (0 : Fin 3) = ⟨(r.val / 1024 - 6) / 2, by omega⟩ := Fin.ext (by show 0 = (r.val / 1024 - 6) / 2; omega)
    rw [er, eg]
  · rw [stack_hi _ _ _ r p d h, val_main_v71_apply]
    have e : idx_main_v71 (ix3 ⟨r.val - 8192, by omega⟩ p d)
        = ix3 ⟨(r.val - 8192) / 2048, by omega⟩ ⟨(r.val - 8192) % 2048, by omega⟩ ⟨p.val * 1024 + d.val, by omega⟩ := by
      funext a
      match a with
      | ⟨0, _⟩ => refine Fin.ext ?_; show (((r.val - 8192) * 3 + p.val) * 1024 + d.val) / 6291456 = (r.val - 8192) / 2048; omega
      | ⟨1, _⟩ => refine Fin.ext ?_; show (((r.val - 8192) * 3 + p.val) * 1024 + d.val) / 3072 % 2048 = (r.val - 8192) % 2048; omega
      | ⟨2, _⟩ => refine Fin.ext ?_; show (((r.val - 8192) * 3 + p.val) * 1024 + d.val) % 3072 = p.val * 1024 + d.val; omega
    rw [e, dot3]
    have er : (⟨8192 + ((⟨(r.val - 8192) / 2048, by omega⟩ : Fin 2).val * 2048 + (⟨(r.val - 8192) % 2048, by omega⟩ : Fin 2048).val), by omega⟩
        : Fin 12288) = r :=
      Fin.ext (by show 8192 + ((r.val - 8192) / 2048 * 2048 + (r.val - 8192) % 2048) = r.val; omega)
    have eg : (⟨1 + (⟨(r.val - 8192) / 2048, by omega⟩ : Fin 2).val, by omega⟩ : Fin 3) = ⟨(r.val / 1024 - 6) / 2, by omega⟩ :=
      Fin.ext (by show 1 + (r.val - 8192) / 2048 = (r.val / 1024 - 6) / 2; omega)
    rw [er, eg]

end Cert.QkvRefIdeal.Reading
-- ==== Proof.QkvValue.lean ====
module

public import proofs.«01_k».proof.Proof.Gen.QkvIdeal.Frame
public import proofs.«01_k».proof.Proof.Gen.QkvIdeal.Value
public import proofs.«01_k».proof.Proof.QkvReference
public import Idealize.ShloMosaic.Lib.Pipeline.ReadBack
public import Idealize.ShloMosaic.Lib.Pipeline.ValueKit.Held

/-! The array the query, key and value projection returns, block by block: every block is the reference's. -/

@[expose] public section

set_option maxRecDepth 16384

noncomputable section

namespace Cert.QkvIdeal.Val

open Idealize.ShloMosaic Idealize.ShloMosaic.TcCoe Idealize.SL.Sem
open Cert.QkvIdeal Cert.QkvIdeal.Gen Cert.FfnSpec

variable (m : (ℓ : Loc nD τ sig) → Buf (Elt Ideal) ℓ)

/-- The rows a run works on: normalized and modulated. -/
theorem pay1 (x : FVec Ideal S1024x1024 .f32) (g : FVec Ideal S1x1024 .f32) (sc sh : FVec Ideal S1x1x1x1024 .f32) (r d : Fin 1024) :
    k0_pay1 (F := Ideal) x g sc sh (ix2 r d)
      = modulated (fun k => x (ix2 r k)) (fun k => g (ix2 0 k)) (fun k => sc (ix4 0 0 0 k)) (fun k => sh (ix4 0 0 0 k)) d := by
  unfold modulated
  pointwise [k0_pay1]

/-- The stored block: held rows times a tile of the weight. -/
theorem pay2 (xb : FVec Ideal S1024x1024 .bf16) (w : FVec Ideal S1024x1024 .f32) (r d : Fin 1024) :
    k0_pay2 (F := Ideal) xb w (ix3 0 r d) = ∑ k : Fin 1024, xb (ix2 r k) * w (ix2 k d) := by
  pointwise [k0_pay2]

/-- Which block each window stages at a grid point. -/
theorem idx : ∀ t : Fin cfg0.N,
    win0_0.index t = ![t.val / 3, 0] ∧ win0_1.index t = ![0, t.val % 3] ∧ win0_2.index t = ![0, 0]
    ∧ win0_3.index t = ![(t.val / 3 - 6) / 2, 0, 0, 0] ∧ win0_4.index t = ![(t.val / 3 - 6) / 2, 1, 0, 0]
    ∧ win0_5.index t = ![t.val % 3, t.val / 3, 0] :=
  (by decide +kernel : ∀ t : Fin grid0.N, _)

theorem tlt (t : Fin cfg0.N) : t.val < 36 := t.isLt

abbrev X (c : Dev nD) : FVec Ideal S12288x1024 .f32 := m ((c.tc : Thread nD τ).loc main_arg0)
abbrev W (c : Dev nD) : FVec Ideal S1024x3072 .f32 := m ((c.tc : Thread nD τ).loc main_arg1)
abbrev Ng (c : Dev nD) : FVec Ideal S1024 .f32 := m ((c.tc : Thread nD τ).loc main_arg2)
abbrev Mods (c : Dev nD) : FVec Ideal S3x6x1x1024 .f32 := m ((c.tc : Thread nD τ).loc main_arg3)

/-- The modulation group of a grid point. -/
abbrev grp (t : Fin cfg0.N) : Fin 3 := ⟨(t.val / 3 - 6) / 2, by have := tlt t; omega⟩

/-- The row of the whole array that row `r` of a point's block is. -/
abbrev rowOf (t : Fin cfg0.N) (r : Fin 1024) : Fin 12288 := ⟨t.val / 3 * 1024 + r.val, by have := tlt t; omega⟩

/-- The plane a point writes. -/
abbrev plane (t : Fin cfg0.N) : Fin 3 := ⟨t.val % 3, by omega⟩

/-- The weight column that column `d` of a point's tile is. -/
abbrev colOf (t : Fin cfg0.N) (d : Fin 1024) : Fin 3072 := ⟨t.val % 3 * 1024 + d.val, by omega⟩

theorem blk0 (c : Dev nD) (t : Fin cfg0.N) (r k : Fin 1024) : (iblk m c 0 t : Vec Ideal S1024x1024 .f32) (ix2 r k) = X m c (ix2 (rowOf t r) k) := by
  blk_ext! [iblk, V, idx t]

theorem blk1 (c : Dev nD) (t : Fin cfg0.N) (k d : Fin 1024) : (iblk m c 1 t : Vec Ideal S1024x1024 .f32) (ix2 k d) = W m c (ix2 k (colOf t d)) := by
  blk_ext! [iblk, V, idx t]

theorem blk2 (c : Dev nD) (t : Fin cfg0.N) (k : Fin 1024) : (iblk m c 2 t : Vec Ideal S1x1024 .f32) (ix2 0 k) = Ng m c (ix1 k) := by
  blk_ext! [iblk, V, idx t]

theorem blk3 (c : Dev nD) (t : Fin cfg0.N) (k : Fin 1024) : (iblk m c 3 t : Vec Ideal S1x1x1x1024 .f32) (ix4 0 0 0 k) = Mods m c (ix4 (grp t) 0 0 k) := by
  blk_ext! [iblk, V, idx t]

theorem blk4 (c : Dev nD) (t : Fin cfg0.N) (k : Fin 1024) : (iblk m c 4 t : Vec Ideal S1x1x1x1024 .f32) (ix4 0 0 0 k) = Mods m c (ix4 (grp t) 1 0 k) := by
  blk_ext! [iblk, V, idx t]

/-- Where element `(0, r, d)` of the stored block lies in the returned array. -/
theorem win_emb (t : Fin cfg0.N) (r d : Fin 1024) :
    (win0_5.blk t).view.emb (ix3 0 r d : S1x1024x1024.Idx) = (ix3 (plane t) (rowOf t r) d : S3x12288x1024.Idx) := by
  blk_ext [idx t]

/-- Every index of a stored block is its two last coordinates. -/
theorem two (y : S1x1024x1024.Idx) : ∃ r d : Fin 1024, y = ix3 0 r d :=
  ⟨y 1, y 2, by
    funext a
    match a with
    | ⟨0, _⟩ => exact Fin.ext (by have h : (y 0).val < 1 := (y 0).isLt; show (y 0).val = 0; omega)
    | ⟨1, _⟩ => rfl
    | ⟨2, _⟩ => rfl⟩

/-- The normalized, modulated rows of a point's run. -/
abbrev rowsAt (c : Dev nD) (t : Fin cfg0.N) (r : Fin 1024) : Fin 1024 → EReal :=
  modulated (fun k => X m c (ix2 (rowOf t r) k)) (fun k => Ng m c (ix1 k)) (fun k => Mods m c (ix4 (grp t) 1 0 k)) (fun k => Mods m c (ix4 (grp t) 0 0 k))

/-- A run's first point writes its rows. -/
theorem held_first (c : Dev nD) (t : Fin cfg0.N) (h0 : t.val % 3 = 0) (r k : Fin 1024) :
    (outsAt0 m c t.val t.isLt).2 (ix2 r k) = rowsAt m c t r k := by
  rw [outsAt0_A m c t h0]
  frame_out
  rw [pay1]
  simp only [blk0, blk2, blk3, blk4]

/-- Later points of a run leave those rows. -/
theorem held_next (c : Dev nD) (t : Fin cfg0.N) (h0 : ¬t.val % 3 = 0) :
    (outsAt0 m c t.val t.isLt).2 = (outsAt0 m c (t.val - 1) (Nat.lt_of_le_of_lt (Nat.sub_le _ _) t.isLt)).2 := by
  rw [outsAt0_B m c t h0]
  rfl

/-- At every point the held rows are those of its run. -/
theorem held (c : Dev nD) (t : Fin cfg0.N) (r k : Fin 1024) : (outsAt0 m c t.val t.isLt).2 (ix2 r k) = rowsAt m c t r k := by
  have h := Pipeline.eq_of_write_hold (N := cfg0.N) (fun n hn => fun (p : Fin 1024 × Fin 1024) => (outsAt0 m c n hn).2 (ix2 p.1 p.2)) 3
    (fun t p => rowsAt m c t p.1 p.2) (fun t h0 => funext fun p => held_first m c t h0 p.1 p.2)
    (fun t h0 => funext fun p => congrFun (held_next m c t h0) _) t
  refine (congrFun h (r, k)).trans ?_
  have e1 : rowOf ⟨3 * (t.val / 3), Pipeline.run_start_lt t⟩ r = rowOf t r := Fin.ext (by show 3 * (t.val / 3) / 3 * 1024 + r.val = t.val / 3 * 1024 + r.val; omega)
  have e2 : grp ⟨3 * (t.val / 3), Pipeline.run_start_lt t⟩ = grp t := Fin.ext (by show (3 * (t.val / 3) / 3 - 6) / 2 = (t.val / 3 - 6) / 2; omega)
  show modulated _ _ _ _ k = modulated _ _ _ _ k
  rw [e1, e2]

/-- The block a point stores is its held rows times its tile of the weight. -/
theorem out_eq (c : Dev nD) (t : Fin cfg0.N) (r d : Fin 1024) :
    (outsAt0 m c t.val t.isLt).1 (ix3 0 r d)
      = ∑ k : Fin 1024, (outsAt0 m c t.val t.isLt).2 (ix2 r k) * W m c (ix2 k (colOf t d)) := by
  by_cases h0 : t.val % 3 = 0
  · rw [outsAt0_A m c t h0]
    frame_out
    rw [pay2]
    simp only [blk1, View.readCov_eq_canon']
  · rw [outsAt0_B m c t h0]
    frame_out
    rw [pay2]
    simp only [blk1, read_unread_whole]
    rfl

/-- The array the kernel returns is the reference's. -/
theorem final (c : Dev nD) : (dats (F := Ideal) m 0 c).arrAt 5 cfg0.N
    = (QkvRefIdeal.Read.val_main_v73 (F := Ideal) (X m c) (W m c) (Ng m c) (Mods m c) : FVec Ideal S3x12288x1024 .f32) := by
  refine (dats m 0 c).arrAt_eq_of_covers 5 _ (by decide +kernel) fun t hf y => ?_
  blk_simp
  rw [after0_5]
  obtain ⟨r, d, rfl⟩ := two y
  rw [win_emb]
  refine (out_eq m c t r d).trans ?_
  refine Eq.trans ?_ (QkvRefIdeal.Reading.reads _ _ _ _ (plane t) (rowOf t r) d).symm
  have hr := r.isLt
  simp only [held]
  refine congrArg (fun g => QkvRefIdeal.Reading.row (X m c) (W m c) (Ng m c) (Mods m c) (rowOf t r) g (colOf t d)) (Fin.ext ?_)
  show (t.val / 3 - 6) / 2 = ((t.val / 3 * 1024 + r.val) / 1024 - 6) / 2
  omega

end Cert.QkvIdeal.Val
-- ==== Proof.QkvClaim.lean ====
module

public import proofs.«01_k».proof.Defs
public import proofs.«01_k».proof.Proof.QkvValue
public import proofs.«01_k».proof.Proof.Gen.Qkv
public import proofs.«01_k».proof.Proof.Gen.QkvIdeal
public import proofs.«01_k».proof.Proof.Gen.QkvIdeal.Value
public import proofs.«01_k».proof.Proof.Gen.QkvRefIdeal
public import proofs.«01_k».proof.Proof.Gen.QkvRefIdeal.Run
public import Idealize.ShloMosaic.Lib.Claim

/-! The value claim of the query, key and value projection, from the kernel's run and the reference's. -/

@[expose] public section

set_option maxRecDepth 16384

noncomputable section

namespace Cert.QkvClaim

open Idealize.ShloMosaic Idealize.ShloMosaic.TcCoe Idealize.SL.Sem

/-- Kernel and reference end with the same array. -/
theorem algebraic : Cert.algebraic_QkvIdeal_QkvRefIdeal
    (hQkvIdeal := Cert.QkvIdeal.Gen.facts) (hQkvRefIdeal := Cert.QkvRefIdeal.Gen.facts) := by
  intro m g m' g' _ ha
  refine ⟨fun c => (Cert.QkvRefIdeal.Read.val_main_v73 (F := Ideal)
      (m ((c.tc : Thread Cert.QkvIdeal.nD Cert.QkvIdeal.τ).loc Cert.QkvIdeal.main_arg0))
      (m ((c.tc : Thread Cert.QkvIdeal.nD Cert.QkvIdeal.τ).loc Cert.QkvIdeal.main_arg1))
      (m ((c.tc : Thread Cert.QkvIdeal.nD Cert.QkvIdeal.τ).loc Cert.QkvIdeal.main_arg2))
      (m ((c.tc : Thread Cert.QkvIdeal.nD Cert.QkvIdeal.τ).loc Cert.QkvIdeal.main_arg3)) :
      FVec Ideal Cert.QkvIdeal.S3x12288x1024 .f32), ?_, ?_⟩
  · exact (θ_run _ _ _).mono (fun r h c => ⟨(h c).1.trans (Cert.QkvIdeal.Val.final m c), (h c).2⟩) (Cert.QkvIdeal.Value.run_blocks (F := Ideal) m g)
  · refine (θ_run _ _ _).mono (fun r h c => ?_) (Cert.QkvRefIdeal.Value.run m' g')
    refine ⟨(h c).1.trans ?_, (h c).2⟩
    rw [Cert.QkvRefIdeal.Read.val_main_v73_eq]
    obtain ⟨a0, a1, a2, a3⟩ := ha c
    rw [a0, a1, a2, a3]

/-- The reference terminates, keeps its arguments and has no semaphore. -/
theorem reference_frame (m : (ℓ : Loc Cert.QkvRefIdeal.nD Cert.QkvRefIdeal.τ Cert.QkvRefIdeal.sig) → Buf (Elt Ideal) ℓ)
    (g : Dev Cert.QkvRefIdeal.nD → PrngReg) :
    θ_run (Cert.QkvRefIdeal.defs (F := Ideal)) (onTc (τ := Cert.QkvRefIdeal.τ) (Cert.QkvRefIdeal.main (F := Ideal)))
      ⟨m, fun _ => 0, g⟩ fun r => (∀ c : Dev Cert.QkvRefIdeal.nD,
        r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
        ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
        ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
        ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
        ∧ r.2.sem = fun _ => 0 :=
  (θ_run _ _ _).mono (fun r h => ⟨fun c => (h c).2, sem_eq_zero_of_no_sems (by decide) r.2⟩)
    (Cert.QkvRefIdeal.Value.run m g)

end Cert.QkvClaim

end
-- ==== Proof.NormSpec.lean ====
module

public import Idealize.ShloMosaic.Lib.Pipeline.ValueKit
public import Idealize.ShloMosaic.Lib.Pointwise
public import Idealize.ShloMosaic.Lib.Claim

/-! The root-mean-square norm of a row of any length, shared by the calls that normalize without modulation. -/

@[expose] public section

noncomputable section

namespace Cert.NormSpec

open Idealize.ShloMosaic

/-- A row divided by its root mean square (`n` is the row's length as a number) and scaled. -/
def normed {w : ℕ} (n : EReal) (x g : Fin w → EReal) (k : Fin w) : EReal :=
  x k * Ideal.rsqrt (Ideal.div (∑ l, x l * x l) n + Ideal.ofBits .f32 0x358637BD#32) * g k

theorem one : Ideal.ofBits .f32 0x3F800000#32 = 1 := by pointwise
theorem zero : Ideal.ofBits .f32 0x00000000#32 = 0 := by pointwise

end Cert.NormSpec

end
-- ==== Proof.NormPromptValue.lean ====
module

public import proofs.«01_k».proof.Proof.Gen.NormPromptIdeal.Frame
public import proofs.«01_k».proof.Proof.Gen.NormPromptRefIdeal.Run
public import proofs.«01_k».proof.Proof.Gen.NormPromptRefIdeal.Read
public import proofs.«01_k».proof.Proof.NormSpec
public import Idealize.ShloMosaic.Lib.Pipeline.ReadBack

/-! The array of the final norm of the prompt rows: every row is the reference's. -/

@[expose] public section

set_option maxRecDepth 16384

noncomputable section

namespace Cert.NormPromptRefIdeal.Reading

open Idealize.ShloMosaic Idealize.ShloMosaic.TcCoe Idealize.SL.Sem
open Cert.NormPromptRefIdeal Cert.NormPromptRefIdeal.Read Cert.NormSpec

/-- The row of the argument that row `r` of the result is made from. -/
theorem row0 (X0 : FVec Ideal S12288x1024 .f32) (r : Fin 8192) (k : Fin 1024) :
    val_main_v0 (F := Ideal) X0 (ix2 r k) = X0 (ix2 ⟨r.val, by omega⟩ k) := by
  rw [val_main_v0_apply]
  refine congrArg X0 (funext fun a => ?_)
  match a with | ⟨0, _⟩ => rfl | ⟨1, _⟩ => rfl

/-- The reference's row `r` is the norm of its row. -/
theorem reads (X0 : FVec Ideal S12288x1024 .f32) (X1 : FVec Ideal S1024 .f32) (r : Fin 8192) (k : Fin 1024) :
    val_main_v13 (F := Ideal) X0 X1 (ix2 r k)
      = normed (Ideal.ofBits .f32 0x44800000#32) (fun k => X0 (ix2 ⟨r.val, by omega⟩ k)) (fun k => X1 (ix1 k)) k := by
  rw [val_main_v13_apply, val_main_v10_apply, val_main_v9_apply, val_main_v8_apply, val_main_v7_apply, val_main_v5_apply, val_main_v3_apply,
    val_main_v2_apply, val_main_v4_apply, val_main_v6_apply, val_main_cst_0_apply, val_main_cst_1_apply, val_main_cst_apply,
    val_main_v12_apply, val_main_v11_apply]
  simp only [val_main_v1_apply]
  have e : ∀ l, idx_main_v2 (idx_main_v3 (idx_main_v9 (ix2 r k))) l = ix2 r l := by
    intro l
    funext a
    match a with | ⟨0, _⟩ => rfl | ⟨1, _⟩ => rfl
  have eg : idx_main_v11 (idx_main_v12 (ix2 r k)) = ix1 k := by
    funext a
    match a with | ⟨0, _⟩ => rfl
  simp only [e, eg]
  refine Eq.trans (b := normed (Ideal.ofBits .f32 0x44800000#32) (fun k => val_main_v0 (F := Ideal) X0 (ix2 r k)) (fun k => X1 (ix1 k)) k) ?_ ?_
  · generalize val_main_v0 (F := Ideal) X0 = y
    show y (ix2 r k) * Ideal.rsqrt (Ideal.div (Ideal.ofBits .f32 0x00000000#32 + ∑ l, y (ix2 r l) * y (ix2 r l)) _ + _) * _ = _
    rw [zero, zero_add]
    rfl
  · simp only [row0]

end Cert.NormPromptRefIdeal.Reading

namespace Cert.NormPromptIdeal.Val

open Idealize.ShloMosaic Idealize.ShloMosaic.TcCoe Idealize.SL.Sem
open Cert.NormPromptIdeal Cert.NormPromptIdeal.Gen Cert.NormSpec

variable (m : (ℓ : Loc nD τ sig) → Buf (Elt Ideal) ℓ)

/-- The stored block: the norm, then a modulation. -/
theorem pay1 (x : FVec Ideal S1024x1024 .f32) (g : FVec Ideal S1x1024 .f32) (sc sh : FVec Ideal S1x1x1x1024 .f32) (r : Fin 1024) (d : Fin 1024) :
    k0_pay1 (F := Ideal) x g sc sh (ix2 r d)
      = normed (Ideal.ofBits .f32 0x44800000#32) (fun k => x (ix2 r k)) (fun k => g (ix2 0 k)) d * (1 + sc (ix4 0 0 0 d)) + sh (ix4 0 0 0 d) := by
  unfold normed
  pointwise [k0_pay1]

/-- Which block each window stages at a grid point. -/
theorem idx : ∀ t : Fin cfg0.N,
    win0_0.index t = ![t.val, 0] ∧ win0_1.index t = ![0, 0] ∧ win0_2.index t = ![0, 0, 0, 0] ∧ win0_3.index t = ![0, 1, 0, 0]
    ∧ win0_4.index t = ![t.val, 0] :=
  (by decide +kernel : ∀ t : Fin grid0.N, _)

theorem tlt (t : Fin cfg0.N) : t.val < 8 := t.isLt

abbrev X (c : Dev nD) : FVec Ideal S12288x1024 .f32 := m ((c.tc : Thread nD τ).loc main_arg0)
abbrev Ng (c : Dev nD) : FVec Ideal S1024 .f32 := m ((c.tc : Thread nD τ).loc main_arg1)

theorem blk0 (c : Dev nD) (t : Fin cfg0.N) (r : Fin 1024) (k : Fin 1024) :
    (iblk m c 0 t : Vec Ideal S1024x1024 .f32) (ix2 r k) = X m c (ix2 ⟨t.val * 1024 + r.val, by have := tlt t; omega⟩ k) := by
  blk_ext! [iblk, V, idx t]

theorem blk1 (c : Dev nD) (t : Fin cfg0.N) (k : Fin 1024) : (iblk m c 1 t : Vec Ideal S1x1024 .f32) (ix2 0 k) = Ng m c (ix1 k) := by
  blk_ext! [iblk, V, idx t]

/-- The shift is zero. -/
theorem blk2 (c : Dev nD) (t : Fin cfg0.N) (k : Fin 1024) : (iblk m c 2 t : Vec Ideal S1x1x1x1024 .f32) (ix4 0 0 0 k) = (0 : EReal) := by
  exact zero

/-- The scale is zero. -/
theorem blk3 (c : Dev nD) (t : Fin cfg0.N) (k : Fin 1024) : (iblk m c 3 t : Vec Ideal S1x1x1x1024 .f32) (ix4 0 0 0 k) = (0 : EReal) := by
  exact zero

/-- Where element `(r, d)` of the stored block lies in the returned array. -/
theorem win_emb (t : Fin cfg0.N) (r : Fin 1024) (d : Fin 1024) :
    (win0_4.blk t).view.emb (ix2 r d : S1024x1024.Idx) = (ix2 ⟨t.val * 1024 + r.val, by have := tlt t; omega⟩ d : S8192x1024.Idx) := by
  blk_ext [idx t]

/-- Every index of a stored block is its two coordinates. -/
theorem two (y : S1024x1024.Idx) : ∃ (r : Fin 1024) (d : Fin 1024), y = ix2 r d :=
  ⟨y 0, y 1, by funext a; match a with | ⟨0, _⟩ => rfl | ⟨1, _⟩ => rfl⟩

/-- The block a point stores. -/
theorem out_eq (c : Dev nD) (t : Fin cfg0.N) (r : Fin 1024) (d : Fin 1024) :
    out0_4 (F := Ideal) (iblk m c 0 t) (iblk m c 1 t) (iblk m c 2 t) (iblk m c 3 t) (ix2 r d)
      = normed (Ideal.ofBits .f32 0x44800000#32) (fun k => X m c (ix2 ⟨t.val * 1024 + r.val, by have := tlt t; omega⟩ k)) (fun k => Ng m c (ix1 k)) d := by
  unfold out0_4
  rw [View.canon_cons_unit_lit _ _ _ (by decide)]
  frame_out
  rw [pay1]
  simp only [blk0, blk1, blk2, blk3, add_zero, mul_one]

/-- The array the kernel returns is the reference's. -/
theorem final (c : Dev nD) : (dats (F := Ideal) m 0 c).arrAt 4 cfg0.N
    = (NormPromptRefIdeal.Read.val_main_v13 (F := Ideal) (X m c) (Ng m c) : FVec Ideal S8192x1024 .f32) := by
  refine (dats m 0 c).arrAt_eq_of_covers 4 _ (by decide +kernel) fun t hf y => ?_
  blk_simp
  rw [after0_4]
  obtain ⟨r, d, rfl⟩ := two y
  rw [win_emb]
  exact (out_eq m c t r d).trans (NormPromptRefIdeal.Reading.reads (X m c) (Ng m c) ⟨t.val * 1024 + r.val, by have := tlt t; omega⟩ d).symm

end Cert.NormPromptIdeal.Val
-- ==== Proof.NormPromptClaim.lean ====
module

public import proofs.«01_k».proof.Defs
public import proofs.«01_k».proof.Proof.NormPromptValue
public import proofs.«01_k».proof.Proof.Gen.NormPrompt
public import proofs.«01_k».proof.Proof.Gen.NormPromptIdeal
public import proofs.«01_k».proof.Proof.Gen.NormPromptIdeal.Value
public import proofs.«01_k».proof.Proof.Gen.NormPromptRefIdeal
public import proofs.«01_k».proof.Proof.Gen.NormPromptRefIdeal.Run
public import Idealize.ShloMosaic.Lib.Claim

/-! The value claim of the final norm of the prompt rows, from the kernel's run and the reference's. -/

@[expose] public section

set_option maxRecDepth 16384

noncomputable section

namespace Cert.NormPromptClaim

open Idealize.ShloMosaic Idealize.ShloMosaic.TcCoe Idealize.SL.Sem

/-- Kernel and reference end with the same array. -/
theorem algebraic : Cert.algebraic_NormPromptIdeal_NormPromptRefIdeal
    (hNormPromptIdeal := Cert.NormPromptIdeal.Gen.facts) (hNormPromptRefIdeal := Cert.NormPromptRefIdeal.Gen.facts) := by
  intro m g m' g' _ ha
  refine ⟨fun c => (Cert.NormPromptRefIdeal.Read.val_main_v13 (F := Ideal)
      (m ((c.tc : Thread Cert.NormPromptIdeal.nD Cert.NormPromptIdeal.τ).loc Cert.NormPromptIdeal.main_arg0))
      (m ((c.tc : Thread Cert.NormPromptIdeal.nD Cert.NormPromptIdeal.τ).loc Cert.NormPromptIdeal.main_arg1)) :
      FVec Ideal Cert.NormPromptIdeal.S8192x1024 .f32), ?_, ?_⟩
  · exact (θ_run _ _ _).mono (fun r h c => ⟨(h c).1.trans (Cert.NormPromptIdeal.Val.final m c), (h c).2⟩) (Cert.NormPromptIdeal.Value.run_blocks (F := Ideal) m g)
  · refine (θ_run _ _ _).mono (fun r h c => ?_) (Cert.NormPromptRefIdeal.Value.run m' g')
    refine ⟨(h c).1.trans ?_, (h c).2⟩
    rw [Cert.NormPromptRefIdeal.Read.val_main_v13_eq]
    obtain ⟨a0, a1⟩ := ha c
    rw [a0, a1]

/-- The reference terminates, keeps its arguments and has no semaphore. -/
theorem reference_frame (m : (ℓ : Loc Cert.NormPromptRefIdeal.nD Cert.NormPromptRefIdeal.τ Cert.NormPromptRefIdeal.sig) → Buf (Elt Ideal) ℓ)
    (g : Dev Cert.NormPromptRefIdeal.nD → PrngReg) :
    θ_run (Cert.NormPromptRefIdeal.defs (F := Ideal)) (onTc (τ := Cert.NormPromptRefIdeal.τ) (Cert.NormPromptRefIdeal.main (F := Ideal)))
      ⟨m, fun _ => 0, g⟩ fun r => (∀ c : Dev Cert.NormPromptRefIdeal.nD,
        r.2.mem ((c.tc : Thread Cert.NormPromptRefIdeal.nD Cert.NormPromptRefIdeal.τ).loc Cert.NormPromptRefIdeal.main_arg0) = m ((c.tc : Thread Cert.NormPromptRefIdeal.nD Cert.NormPromptRefIdeal.τ).loc Cert.NormPromptRefIdeal.main_arg0)
        ∧ r.2.mem ((c.tc : Thread Cert.NormPromptRefIdeal.nD Cert.NormPromptRefIdeal.τ).loc Cert.NormPromptRefIdeal.main_arg1) = m ((c.tc : Thread Cert.NormPromptRefIdeal.nD Cert.NormPromptRefIdeal.τ).loc Cert.NormPromptRefIdeal.main_arg1))
        ∧ r.2.sem = fun _ => 0 :=
  (θ_run _ _ _).mono (fun r h => ⟨fun c => (h c).2, sem_eq_zero_of_no_sems (by decide) r.2⟩)
    (Cert.NormPromptRefIdeal.Value.run m g)

end Cert.NormPromptClaim

end
-- ==== Proof.NormSampleValue.lean ====
module

public import proofs.«01_k».proof.Proof.Gen.NormSampleIdeal.Frame
public import proofs.«01_k».proof.Proof.Gen.NormSampleRefIdeal.Run
public import proofs.«01_k».proof.Proof.Gen.NormSampleRefIdeal.Read
public import proofs.«01_k».proof.Proof.NormSpec
public import Idealize.ShloMosaic.Lib.Pipeline.ReadBack

/-! The array of the final norm of the sample rows: every row is the reference's. -/

@[expose] public section

set_option maxRecDepth 16384

noncomputable section

namespace Cert.NormSampleRefIdeal.Reading

open Idealize.ShloMosaic Idealize.ShloMosaic.TcCoe Idealize.SL.Sem
open Cert.NormSampleRefIdeal Cert.NormSampleRefIdeal.Read Cert.NormSpec

/-- The row of the argument that row `r` of the result is made from. -/
theorem row0 (X0 : FVec Ideal S12288x1024 .f32) (r : Fin 4096) (k : Fin 1024) :
    val_main_v0 (F := Ideal) X0 (ix2 r k) = X0 (ix2 ⟨8192 + r.val, by omega⟩ k) := by
  rw [val_main_v0_apply]
  refine congrArg X0 (funext fun a => ?_)
  match a with | ⟨0, _⟩ => rfl | ⟨1, _⟩ => rfl

/-- The reference's row `r` is the norm of its row. -/
theorem reads (X0 : FVec Ideal S12288x1024 .f32) (X1 : FVec Ideal S1024 .f32) (r : Fin 4096) (k : Fin 1024) :
    val_main_v13 (F := Ideal) X0 X1 (ix2 r k)
      = normed (Ideal.ofBits .f32 0x44800000#32) (fun k => X0 (ix2 ⟨8192 + r.val, by omega⟩ k)) (fun k => X1 (ix1 k)) k := by
  rw [val_main_v13_apply, val_main_v10_apply, val_main_v9_apply, val_main_v8_apply, val_main_v7_apply, val_main_v5_apply, val_main_v3_apply,
    val_main_v2_apply, val_main_v4_apply, val_main_v6_apply, val_main_cst_0_apply, val_main_cst_1_apply, val_main_cst_apply,
    val_main_v12_apply, val_main_v11_apply]
  simp only [val_main_v1_apply]
  have e : ∀ l, idx_main_v2 (idx_main_v3 (idx_main_v9 (ix2 r k))) l = ix2 r l := by
    intro l
    funext a
    match a with | ⟨0, _⟩ => rfl | ⟨1, _⟩ => rfl
  have eg : idx_main_v11 (idx_main_v12 (ix2 r k)) = ix1 k := by
    funext a
    match a with | ⟨0, _⟩ => rfl
  simp only [e, eg]
  refine Eq.trans (b := normed (Ideal.ofBits .f32 0x44800000#32) (fun k => val_main_v0 (F := Ideal) X0 (ix2 r k)) (fun k => X1 (ix1 k)) k) ?_ ?_
  · generalize val_main_v0 (F := Ideal) X0 = y
    show y (ix2 r k) * Ideal.rsqrt (Ideal.div (Ideal.ofBits .f32 0x00000000#32 + ∑ l, y (ix2 r l) * y (ix2 r l)) _ + _) * _ = _
    rw [zero, zero_add]
    rfl
  · simp only [row0]

end Cert.NormSampleRefIdeal.Reading

namespace Cert.NormSampleIdeal.Val

open Idealize.ShloMosaic Idealize.ShloMosaic.TcCoe Idealize.SL.Sem
open Cert.NormSampleIdeal Cert.NormSampleIdeal.Gen Cert.NormSpec

variable (m : (ℓ : Loc nD τ sig) → Buf (Elt Ideal) ℓ)

/-- The stored block: the norm, then a modulation. -/
theorem pay1 (x : FVec Ideal S1024x1024 .f32) (g : FVec Ideal S1x1024 .f32) (sc sh : FVec Ideal S1x1x1x1024 .f32) (r : Fin 1024) (d : Fin 1024) :
    k0_pay1 (F := Ideal) x g sc sh (ix2 r d)
      = normed (Ideal.ofBits .f32 0x44800000#32) (fun k => x (ix2 r k)) (fun k => g (ix2 0 k)) d * (1 + sc (ix4 0 0 0 d)) + sh (ix4 0 0 0 d) := by
  unfold normed
  pointwise [k0_pay1]

/-- Which block each window stages at a grid point. -/
theorem idx : ∀ t : Fin cfg0.N,
    win0_0.index t = ![t.val + 8, 0] ∧ win0_1.index t = ![0, 0] ∧ win0_2.index t = ![0, 0, 0, 0] ∧ win0_3.index t = ![0, 1, 0, 0]
    ∧ win0_4.index t = ![t.val, 0] :=
  (by decide +kernel : ∀ t : Fin grid0.N, _)

theorem tlt (t : Fin cfg0.N) : t.val < 4 := t.isLt

abbrev X (c : Dev nD) : FVec Ideal S12288x1024 .f32 := m ((c.tc : Thread nD τ).loc main_arg0)
abbrev Ng (c : Dev nD) : FVec Ideal S1024 .f32 := m ((c.tc : Thread nD τ).loc main_arg1)

theorem blk0 (c : Dev nD) (t : Fin cfg0.N) (r : Fin 1024) (k : Fin 1024) :
    (iblk m c 0 t : Vec Ideal S1024x1024 .f32) (ix2 r k) = X m c (ix2 ⟨8192 + (t.val * 1024 + r.val), by have := tlt t; omega⟩ k) := by
  blk_ext! [iblk, V, idx t]

theorem blk1 (c : Dev nD) (t : Fin cfg0.N) (k : Fin 1024) : (iblk m c 1 t : Vec Ideal S1x1024 .f32) (ix2 0 k) = Ng m c (ix1 k) := by
  blk_ext! [iblk, V, idx t]

/-- The shift is zero. -/
theorem blk2 (c : Dev nD) (t : Fin cfg0.N) (k : Fin 1024) : (iblk m c 2 t : Vec Ideal S1x1x1x1024 .f32) (ix4 0 0 0 k) = (0 : EReal) := by
  exact zero

/-- The scale is zero. -/
theorem blk3 (c : Dev nD) (t : Fin cfg0.N) (k : Fin 1024) : (iblk m c 3 t : Vec Ideal S1x1x1x1024 .f32) (ix4 0 0 0 k) = (0 : EReal) := by
  exact zero

/-- Where element `(r, d)` of the stored block lies in the returned array. -/
theorem win_emb (t : Fin cfg0.N) (r : Fin 1024) (d : Fin 1024) :
    (win0_4.blk t).view.emb (ix2 r d : S1024x1024.Idx) = (ix2 ⟨t.val * 1024 + r.val, by have := tlt t; omega⟩ d : S4096x1024.Idx) := by
  blk_ext [idx t]

/-- Every index of a stored block is its two coordinates. -/
theorem two (y : S1024x1024.Idx) : ∃ (r : Fin 1024) (d : Fin 1024), y = ix2 r d :=
  ⟨y 0, y 1, by funext a; match a with | ⟨0, _⟩ => rfl | ⟨1, _⟩ => rfl⟩

/-- The block a point stores. -/
theorem out_eq (c : Dev nD) (t : Fin cfg0.N) (r : Fin 1024) (d : Fin 1024) :
    out0_4 (F := Ideal) (iblk m c 0 t) (iblk m c 1 t) (iblk m c 2 t) (iblk m c 3 t) (ix2 r d)
      = normed (Ideal.ofBits .f32 0x44800000#32) (fun k => X m c (ix2 ⟨8192 + (t.val * 1024 + r.val), by have := tlt t; omega⟩ k)) (fun k => Ng m c (ix1 k)) d := by
  unfold out0_4
  rw [View.canon_cons_unit_lit _ _ _ (by decide)]
  frame_out
  rw [pay1]
  simp only [blk0, blk1, blk2, blk3, add_zero, mul_one]

/-- The array the kernel returns is the reference's. -/
theorem final (c : Dev nD) : (dats (F := Ideal) m 0 c).arrAt 4 cfg0.N
    = (NormSampleRefIdeal.Read.val_main_v13 (F := Ideal) (X m c) (Ng m c) : FVec Ideal S4096x1024 .f32) := by
  refine (dats m 0 c).arrAt_eq_of_covers 4 _ (by decide +kernel) fun t hf y => ?_
  blk_simp
  rw [after0_4]
  obtain ⟨r, d, rfl⟩ := two y
  rw [win_emb]
  exact (out_eq m c t r d).trans (NormSampleRefIdeal.Reading.reads (X m c) (Ng m c) ⟨t.val * 1024 + r.val, by have := tlt t; omega⟩ d).symm

end Cert.NormSampleIdeal.Val
-- ==== Proof.NormSampleClaim.lean ====
module

public import proofs.«01_k».proof.Defs
public import proofs.«01_k».proof.Proof.NormSampleValue
public import proofs.«01_k».proof.Proof.Gen.NormSample
public import proofs.«01_k».proof.Proof.Gen.NormSampleIdeal
public import proofs.«01_k».proof.Proof.Gen.NormSampleIdeal.Value
public import proofs.«01_k».proof.Proof.Gen.NormSampleRefIdeal
public import proofs.«01_k».proof.Proof.Gen.NormSampleRefIdeal.Run
public import Idealize.ShloMosaic.Lib.Claim

/-! The value claim of the final norm of the sample rows, from the kernel's run and the reference's. -/

@[expose] public section

set_option maxRecDepth 16384

noncomputable section

namespace Cert.NormSampleClaim

open Idealize.ShloMosaic Idealize.ShloMosaic.TcCoe Idealize.SL.Sem

/-- Kernel and reference end with the same array. -/
theorem algebraic : Cert.algebraic_NormSampleIdeal_NormSampleRefIdeal
    (hNormSampleIdeal := Cert.NormSampleIdeal.Gen.facts) (hNormSampleRefIdeal := Cert.NormSampleRefIdeal.Gen.facts) := by
  intro m g m' g' _ ha
  refine ⟨fun c => (Cert.NormSampleRefIdeal.Read.val_main_v13 (F := Ideal)
      (m ((c.tc : Thread Cert.NormSampleIdeal.nD Cert.NormSampleIdeal.τ).loc Cert.NormSampleIdeal.main_arg0))
      (m ((c.tc : Thread Cert.NormSampleIdeal.nD Cert.NormSampleIdeal.τ).loc Cert.NormSampleIdeal.main_arg1)) :
      FVec Ideal Cert.NormSampleIdeal.S4096x1024 .f32), ?_, ?_⟩
  · exact (θ_run _ _ _).mono (fun r h c => ⟨(h c).1.trans (Cert.NormSampleIdeal.Val.final m c), (h c).2⟩) (Cert.NormSampleIdeal.Value.run_blocks (F := Ideal) m g)
  · refine (θ_run _ _ _).mono (fun r h c => ?_) (Cert.NormSampleRefIdeal.Value.run m' g')
    refine ⟨(h c).1.trans ?_, (h c).2⟩
    rw [Cert.NormSampleRefIdeal.Read.val_main_v13_eq]
    obtain ⟨a0, a1⟩ := ha c
    rw [a0, a1]

/-- The reference terminates, keeps its arguments and has no semaphore. -/
theorem reference_frame (m : (ℓ : Loc Cert.NormSampleRefIdeal.nD Cert.NormSampleRefIdeal.τ Cert.NormSampleRefIdeal.sig) → Buf (Elt Ideal) ℓ)
    (g : Dev Cert.NormSampleRefIdeal.nD → PrngReg) :
    θ_run (Cert.NormSampleRefIdeal.defs (F := Ideal)) (onTc (τ := Cert.NormSampleRefIdeal.τ) (Cert.NormSampleRefIdeal.main (F := Ideal)))
      ⟨m, fun _ => 0, g⟩ fun r => (∀ c : Dev Cert.NormSampleRefIdeal.nD,
        r.2.mem ((c.tc : Thread Cert.NormSampleRefIdeal.nD Cert.NormSampleRefIdeal.τ).loc Cert.NormSampleRefIdeal.main_arg0) = m ((c.tc : Thread Cert.NormSampleRefIdeal.nD Cert.NormSampleRefIdeal.τ).loc Cert.NormSampleRefIdeal.main_arg0)
        ∧ r.2.mem ((c.tc : Thread Cert.NormSampleRefIdeal.nD Cert.NormSampleRefIdeal.τ).loc Cert.NormSampleRefIdeal.main_arg1) = m ((c.tc : Thread Cert.NormSampleRefIdeal.nD Cert.NormSampleRefIdeal.τ).loc Cert.NormSampleRefIdeal.main_arg1))
        ∧ r.2.sem = fun _ => 0 :=
  (θ_run _ _ _).mono (fun r h => ⟨fun c => (h c).2, sem_eq_zero_of_no_sems (by decide) r.2⟩)
    (Cert.NormSampleRefIdeal.Value.run m g)

end Cert.NormSampleClaim

end
-- ==== Proof.MlaAReference.lean ====
module

public import proofs.«01_k».proof.Proof.Gen.MlaARefIdeal.Run
public import proofs.«01_k».proof.Proof.Gen.MlaARefIdeal.Read
public import proofs.«01_k».proof.Proof.FfnSpec

/-! The reference of the latent attention's first projection, read element by element. -/

@[expose] public section

set_option maxRecDepth 16384

noncomputable section

namespace Cert.MlaARefIdeal.Reading

open Idealize.ShloMosaic Idealize.ShloMosaic.TcCoe Idealize.SL.Sem
open Cert.MlaARefIdeal Cert.MlaARefIdeal.Read Cert.FfnSpec

abbrev A0 := FVec Ideal S12288x1024 .f32
abbrev A1 := FVec Ideal S1024x512 .f32
abbrev A2 := FVec Ideal S1024x320 .f32
abbrev A3 := FVec Ideal S1024 .f32
abbrev A4 := FVec Ideal S3x6x1x1024 .f32

/-- Row `r` of the input, normalized and modulated by group `g`. -/
abbrev rowsOf (X0 : A0) (X3 : A3) (X4 : A4) (r : Fin 12288) (g : Fin 3) : Fin 1024 → EReal :=
  modulated (fun k => X0 (ix2 r k)) (fun k => X3 (ix1 k)) (fun k => X4 (ix4 g 1 0 k)) (fun k => X4 (ix4 g 0 0 k))

/-- The weight of the call: the query weight, the key-value weight and zero columns, side by side. -/
def weight (X1 : A1) (X2 : A2) (k d : Fin 1024) : EReal :=
  if h : d.val < 512 then X1 (ix2 k ⟨d.val, h⟩) else if h : d.val < 832 then X2 (ix2 k ⟨d.val - 512, by omega⟩) else 0

/-- Column `d` of the projection of row `r`, with the modulation of group `g`. -/
def row (X0 : A0) (X1 : A1) (X2 : A2) (X3 : A3) (X4 : A4) (r : Fin 12288) (g : Fin 3) (d : Fin 1024) : EReal :=
  ∑ k, rowsOf X0 X3 X4 r g k * weight X1 X2 k d

theorem x1 (X0 : A0) (b : Fin 32) (s : Fin 256) (k : Fin 1024) :
    val_main_v1 (F := Ideal) X0 (ix3 b s k) = X0 (ix2 ⟨b.val * 256 + s.val, by omega⟩ k) := by
  rw [val_main_v1_apply, val_main_v0_apply]
  refine congrArg X0 (funext fun a => Fin.ext ?_)
  match a with
  | ⟨0, _⟩ => show ((b.val * 256 + s.val) * 1024 + k.val) / 1024 = b.val * 256 + s.val; omega
  | ⟨1, _⟩ => show ((b.val * 256 + s.val) * 1024 + k.val) % 1024 = k.val; omega

theorem x3 (X0 : A0) (b : Fin 2) (s : Fin 2048) (k : Fin 1024) :
    val_main_v3 (F := Ideal) X0 (ix3 b s k) = X0 (ix2 ⟨8192 + (b.val * 2048 + s.val), by omega⟩ k) := by
  rw [val_main_v3_apply, val_main_v2_apply]
  refine congrArg X0 (funext fun a => Fin.ext ?_)
  match a with
  | ⟨0, _⟩ => show 8192 + ((b.val * 2048 + s.val) * 1024 + k.val) / 1024 = 8192 + (b.val * 2048 + s.val); omega
  | ⟨1, _⟩ => show ((b.val * 2048 + s.val) * 1024 + k.val) % 1024 = k.val; omega

theorem one : Ideal.ofBits .f32 0x3F800000#32 = 1 := by pointwise
theorem zero : Ideal.ofBits .f32 0x00000000#32 = 0 := by pointwise

theorem sum1 (X0 : A0) (b : Fin 32) (s : Fin 256) (k : Fin 1024) :
    val_main_v36 (F := Ideal) X0 (ix3 b s k)
      = Ideal.rsqrt (Ideal.div (∑ l, val_main_v1 (F := Ideal) X0 (ix3 b s l) * val_main_v1 (F := Ideal) X0 (ix3 b s l)) (Ideal.ofBits .f32 0x44800000#32)
          + Ideal.ofBits .f32 0x358637BD#32) := by
  rw [val_main_v36_apply, val_main_v35_apply, val_main_v34_apply, val_main_v32_apply, val_main_v30_apply, val_main_v29_apply,
    val_main_v33_apply, val_main_v31_apply, val_main_cst_0_apply, val_main_cst_1_apply, val_main_cst_apply]
  simp only [val_main_v28_apply]
  have e : ∀ l, idx_main_v29 (idx_main_v30 (idx_main_v36 (ix3 b s k))) l = ix3 b s l := by
    intro l
    funext a
    match a with | ⟨0, _⟩ => rfl | ⟨1, _⟩ => rfl | ⟨2, _⟩ => rfl
  simp only [e]
  generalize val_main_v1 (F := Ideal) X0 = y
  show Ideal.rsqrt (Ideal.div (Ideal.ofBits .f32 0x00000000#32 + ∑ l, y (ix3 b s l) * y (ix3 b s l)) _ + _) = _
  rw [zero, zero_add]
  rfl

theorem sum3 (X0 : A0) (b : Fin 2) (s : Fin 2048) (k : Fin 1024) :
    val_main_v57 (F := Ideal) X0 (ix3 b s k)
      = Ideal.rsqrt (Ideal.div (∑ l, val_main_v3 (F := Ideal) X0 (ix3 b s l) * val_main_v3 (F := Ideal) X0 (ix3 b s l)) (Ideal.ofBits .f32 0x44800000#32)
          + Ideal.ofBits .f32 0x358637BD#32) := by
  rw [val_main_v57_apply, val_main_v56_apply, val_main_v55_apply, val_main_v53_apply, val_main_v51_apply, val_main_v50_apply,
    val_main_v54_apply, val_main_v52_apply, val_main_cst_4_apply, val_main_cst_5_apply, val_main_cst_3_apply]
  simp only [val_main_v49_apply]
  have e : ∀ l, idx_main_v50 (idx_main_v51 (idx_main_v57 (ix3 b s k))) l = ix3 b s l := by
    intro l
    funext a
    match a with | ⟨0, _⟩ => rfl | ⟨1, _⟩ => rfl | ⟨2, _⟩ => rfl
  simp only [e]
  generalize val_main_v3 (F := Ideal) X0 = y
  show Ideal.rsqrt (Ideal.div (Ideal.ofBits .f32 0x00000000#32 + ∑ l, y (ix3 b s l) * y (ix3 b s l)) _ + _) = _
  rw [zero, zero_add]
  rfl

theorem mod1 (X0 : A0) (X3 : A3) (X4 : A4) (b : Fin 32) (s : Fin 256) (k : Fin 1024) :
    val_main_v48 (F := Ideal) X0 X3 X4 (ix3 b s k)
      = modulated (fun k => X0 (ix2 ⟨b.val * 256 + s.val, by omega⟩ k)) (fun k => X3 (ix1 k)) (fun k => X4 (ix4 0 1 0 k)) (fun k => X4 (ix4 0 0 0 k)) k := by
  have hk := k.isLt
  rw [val_main_v48_apply, val_main_v45_apply, val_main_v40_apply, val_main_v37_apply, sum1]
  simp only [x1]
  rw [val_main_v39_apply, val_main_v38_apply, val_main_v44_apply, val_main_v43_apply, val_main_v42_apply, val_main_v41_apply, val_main_cst_2_apply,
    val_main_v7_apply, val_main_v6_apply, val_main_v47_apply, val_main_v46_apply, val_main_v5_apply, val_main_v4_apply]
  have e4 : idx_main_v38 (idx_main_v39 (ix3 b s k)) = ix1 k := by
    funext a
    match a with | ⟨0, _⟩ => rfl
  have es : idx_main_v6 (idx_main_v7 (idx_main_v43 (idx_main_v44 (ix3 b s k)))) = ix4 0 1 0 k := by
    funext a
    match a with
    | ⟨0, _⟩ => rfl
    | ⟨1, _⟩ => rfl
    | ⟨2, _⟩ => rfl
    | ⟨3, _⟩ => refine Fin.ext ?_; show _ = k.val; simp; try omega
  have eh : idx_main_v4 (idx_main_v5 (idx_main_v46 (idx_main_v47 (ix3 b s k)))) = ix4 0 0 0 k := by
    funext a
    match a with
    | ⟨0, _⟩ => rfl
    | ⟨1, _⟩ => rfl
    | ⟨2, _⟩ => rfl
    | ⟨3, _⟩ => refine Fin.ext ?_; show _ = k.val; simp; try omega
  rw [e4, es, eh]
  unfold modulated
  rw [← one]
  rfl

theorem mod3 (X0 : A0) (X3 : A3) (X4 : A4) (b : Fin 2) (s : Fin 2048) (k : Fin 1024) :
    val_main_v67 (F := Ideal) X0 X3 X4 (ix3 b s k)
      = modulated (fun k => X0 (ix2 ⟨8192 + (b.val * 2048 + s.val), by omega⟩ k)) (fun k => X3 (ix1 k))
          (fun k => X4 (ix4 ⟨1 + b.val, by omega⟩ 1 0 k)) (fun k => X4 (ix4 ⟨1 + b.val, by omega⟩ 0 0 k)) k := by
  have hk := k.isLt
  have hb := b.isLt
  rw [val_main_v67_apply, val_main_v65_apply, val_main_v61_apply, val_main_v58_apply, sum3]
  simp only [x3]
  rw [val_main_v60_apply, val_main_v59_apply, val_main_v64_apply, val_main_v63_apply, val_main_v62_apply, val_main_cst_6_apply,
    val_main_v19_apply, val_main_v18_apply, val_main_v66_apply, val_main_v17_apply, val_main_v16_apply]
  have e4 : idx_main_v59 (idx_main_v60 (ix3 b s k)) = ix1 k := by
    funext a
    match a with | ⟨0, _⟩ => rfl
  have es : idx_main_v18 (idx_main_v19 (idx_main_v64 (ix3 b s k))) = ix4 ⟨1 + b.val, by omega⟩ 1 0 k := by
    funext a
    match a with
    | ⟨0, _⟩ => refine Fin.ext ?_; show 1 + ((b.val * 1 + 0) * 1024 + k.val) / 1024 = 1 + b.val; omega
    | ⟨1, _⟩ => rfl
    | ⟨2, _⟩ => rfl
    | ⟨3, _⟩ => refine Fin.ext ?_; show ((b.val * 1 + 0) * 1024 + k.val) % 1024 = k.val; omega
  have eh : idx_main_v16 (idx_main_v17 (idx_main_v66 (ix3 b s k))) = ix4 ⟨1 + b.val, by omega⟩ 0 0 k := by
    funext a
    match a with
    | ⟨0, _⟩ => refine Fin.ext ?_; show 1 + ((b.val * 1 + 0) * 1024 + k.val) / 1024 = 1 + b.val; omega
    | ⟨1, _⟩ => rfl
    | ⟨2, _⟩ => rfl
    | ⟨3, _⟩ => refine Fin.ext ?_; show ((b.val * 1 + 0) * 1024 + k.val) % 1024 = k.val; omega
  rw [e4, es, eh]
  unfold modulated
  rw [← one]
  rfl

/-- The prompt rows times the query weight. -/
theorem dot68 (X0 : A0) (X1 : A1) (X3 : A3) (X4 : A4) (b : Fin 32) (s : Fin 256) (e : Fin 512) :
    val_main_v68 (F := Ideal) X0 X1 X3 X4 (ix3 b s e) = ∑ k, rowsOf X0 X3 X4 ⟨b.val * 256 + s.val, by omega⟩ 0 k * X1 (ix2 k e) := by
  rw [val_main_v68_apply]
  have el : ∀ k, lidx_main_v68 (ix3 b s e) k = ix3 b s k := by
    intro k
    funext a
    match a with | ⟨0, _⟩ => rfl | ⟨1, _⟩ => rfl | ⟨2, _⟩ => rfl
  have er : ∀ k, ridx_main_v68 (ix3 b s e) k = ix2 k e := by
    intro k
    funext a
    match a with | ⟨0, _⟩ => rfl | ⟨1, _⟩ => rfl
  simp only [el, er, mod1]

/-- The sample rows times the query weight. -/
theorem dot70 (X0 : A0) (X1 : A1) (X3 : A3) (X4 : A4) (b : Fin 2) (s : Fin 2048) (e : Fin 512) :
    val_main_v70 (F := Ideal) X0 X1 X3 X4 (ix3 b s e) = ∑ k, rowsOf X0 X3 X4 ⟨8192 + (b.val * 2048 + s.val), by omega⟩ ⟨1 + b.val, by omega⟩ k * X1 (ix2 k e) := by
  rw [val_main_v70_apply]
  have el : ∀ k, lidx_main_v70 (ix3 b s e) k = ix3 b s k := by
    intro k
    funext a
    match a with | ⟨0, _⟩ => rfl | ⟨1, _⟩ => rfl | ⟨2, _⟩ => rfl
  have er : ∀ k, ridx_main_v70 (ix3 b s e) k = ix2 k e := by
    intro k
    funext a
    match a with | ⟨0, _⟩ => rfl | ⟨1, _⟩ => rfl
  simp only [el, er, mod3]

/-- The prompt rows times the key-value weight. -/
theorem dot73 (X0 : A0) (X2 : A2) (X3 : A3) (X4 : A4) (b : Fin 32) (s : Fin 256) (e : Fin 320) :
    val_main_v73 (F := Ideal) X0 X2 X3 X4 (ix3 b s e) = ∑ k, rowsOf X0 X3 X4 ⟨b.val * 256 + s.val, by omega⟩ 0 k * X2 (ix2 k e) := by
  rw [val_main_v73_apply]
  have el : ∀ k, lidx_main_v73 (ix3 b s e) k = ix3 b s k := by
    intro k
    funext a
    match a with | ⟨0, _⟩ => rfl | ⟨1, _⟩ => rfl | ⟨2, _⟩ => rfl
  have er : ∀ k, ridx_main_v73 (ix3 b s e) k = ix2 k e := by
    intro k
    funext a
    match a with | ⟨0, _⟩ => rfl | ⟨1, _⟩ => rfl
  simp only [el, er, mod1]

/-- The sample rows times the key-value weight. -/
theorem dot75 (X0 : A0) (X2 : A2) (X3 : A3) (X4 : A4) (b : Fin 2) (s : Fin 2048) (e : Fin 320) :
    val_main_v75 (F := Ideal) X0 X2 X3 X4 (ix3 b s e) = ∑ k, rowsOf X0 X3 X4 ⟨8192 + (b.val * 2048 + s.val), by omega⟩ ⟨1 + b.val, by omega⟩ k * X2 (ix2 k e) := by
  rw [val_main_v75_apply]
  have el : ∀ k, lidx_main_v75 (ix3 b s e) k = ix3 b s k := by
    intro k
    funext a
    match a with | ⟨0, _⟩ => rfl | ⟨1, _⟩ => rfl | ⟨2, _⟩ => rfl
  have er : ∀ k, ridx_main_v75 (ix3 b s e) k = ix2 k e := by
    intro k
    funext a
    match a with | ⟨0, _⟩ => rfl | ⟨1, _⟩ => rfl
  simp only [el, er, mod3]

theorem stack_lo512 (y : FVec Ideal S8192x512 .f32) (z : FVec Ideal S4096x512 .f32)
    (hc : _) (r : Fin 12288) (d : Fin 512) (h : r.val < 8192) :
    concatenate S12288x512 0 [⟨S8192x512, y⟩, ⟨S4096x512, z⟩] hc (ix2 r d) = y (ix2 ⟨r.val, h⟩ d) := by
  pointwise [h]

theorem stack_hi512 (y : FVec Ideal S8192x512 .f32) (z : FVec Ideal S4096x512 .f32)
    (hc : _) (r : Fin 12288) (d : Fin 512) (h : ¬r.val < 8192) :
    concatenate S12288x512 0 [⟨S8192x512, y⟩, ⟨S4096x512, z⟩] hc (ix2 r d)
      = z (ix2 ⟨r.val - 8192, by omega⟩ d) := by
  pointwise [h]

theorem stack_lo320 (y : FVec Ideal S8192x320 .f32) (z : FVec Ideal S4096x320 .f32)
    (hc : _) (r : Fin 12288) (d : Fin 320) (h : r.val < 8192) :
    concatenate S12288x320 0 [⟨S8192x320, y⟩, ⟨S4096x320, z⟩] hc (ix2 r d) = y (ix2 ⟨r.val, h⟩ d) := by
  pointwise [h]

theorem stack_hi320 (y : FVec Ideal S8192x320 .f32) (z : FVec Ideal S4096x320 .f32)
    (hc : _) (r : Fin 12288) (d : Fin 320) (h : ¬r.val < 8192) :
    concatenate S12288x320 0 [⟨S8192x320, y⟩, ⟨S4096x320, z⟩] hc (ix2 r d)
      = z (ix2 ⟨r.val - 8192, by omega⟩ d) := by
  pointwise [h]

/-- The queries of row `r`. -/
theorem rows72 (X0 : A0) (X1 : A1) (X3 : A3) (X4 : A4) (r : Fin 12288) (d : Fin 512) :
    val_main_v72 (F := Ideal) X0 X1 X3 X4 (ix2 r d)
      = ∑ k, rowsOf X0 X3 X4 r ⟨(r.val / 1024 - 6) / 2, by omega⟩ k * X1 (ix2 k d) := by
  have hr := r.isLt
  have hd := d.isLt
  unfold val_main_v72
  by_cases h : r.val < 8192
  · rw [stack_lo512 _ _ _ r d h, val_main_v69_apply]
    have e : idx_main_v69 (ix2 ⟨r.val, h⟩ d) = ix3 ⟨r.val / 256, by omega⟩ ⟨r.val % 256, by omega⟩ d := by
      funext a
      match a with
      | ⟨0, _⟩ => refine Fin.ext ?_; show (r.val * 512 + d.val) / 131072 = r.val / 256; omega
      | ⟨1, _⟩ => refine Fin.ext ?_; show (r.val * 512 + d.val) / 512 % 256 = r.val % 256; omega
      | ⟨2, _⟩ => refine Fin.ext ?_; show (r.val * 512 + d.val) % 512 = d.val; omega
    rw [e, dot68]
    have er : (⟨(⟨r.val / 256, by omega⟩ : Fin 32).val * 256 + (⟨r.val % 256, by omega⟩ : Fin 256).val, by omega⟩ : Fin 12288) = r :=
      Fin.ext (by show r.val / 256 * 256 + r.val % 256 = r.val; omega)
    have eg : (0 : Fin 3) = ⟨(r.val / 1024 - 6) / 2, by omega⟩ := Fin.ext (by show 0 = (r.val / 1024 - 6) / 2; omega)
    rw [er, eg]
  · rw [stack_hi512 _ _ _ r d h, val_main_v71_apply]
    have e : idx_main_v71 (ix2 ⟨r.val - 8192, by omega⟩ d) = ix3 ⟨(r.val - 8192) / 2048, by omega⟩ ⟨(r.val - 8192) % 2048, by omega⟩ d := by
      funext a
      match a with
      | ⟨0, _⟩ => refine Fin.ext ?_; show ((r.val - 8192) * 512 + d.val) / 1048576 = (r.val - 8192) / 2048; omega
      | ⟨1, _⟩ => refine Fin.ext ?_; show ((r.val - 8192) * 512 + d.val) / 512 % 2048 = (r.val - 8192) % 2048; omega
      | ⟨2, _⟩ => refine Fin.ext ?_; show ((r.val - 8192) * 512 + d.val) % 512 = d.val; omega
    rw [e, dot70]
    have er : (⟨8192 + ((⟨(r.val - 8192) / 2048, by omega⟩ : Fin 2).val * 2048 + (⟨(r.val - 8192) % 2048, by omega⟩ : Fin 2048).val), by omega⟩
        : Fin 12288) = r :=
      Fin.ext (by show 8192 + ((r.val - 8192) / 2048 * 2048 + (r.val - 8192) % 2048) = r.val; omega)
    have eg : (⟨1 + (⟨(r.val - 8192) / 2048, by omega⟩ : Fin 2).val, by omega⟩ : Fin 3) = ⟨(r.val / 1024 - 6) / 2, by omega⟩ :=
      Fin.ext (by show 1 + (r.val - 8192) / 2048 = (r.val / 1024 - 6) / 2; omega)
    rw [er, eg]

/-- The keys and values of row `r`. -/
theorem rows77 (X0 : A0) (X2 : A2) (X3 : A3) (X4 : A4) (r : Fin 12288) (d : Fin 320) :
    val_main_v77 (F := Ideal) X0 X2 X3 X4 (ix2 r d)
      = ∑ k, rowsOf X0 X3 X4 r ⟨(r.val / 1024 - 6) / 2, by omega⟩ k * X2 (ix2 k d) := by
  have hr := r.isLt
  have hd := d.isLt
  unfold val_main_v77
  by_cases h : r.val < 8192
  · rw [stack_lo320 _ _ _ r d h, val_main_v74_apply]
    have e : idx_main_v74 (ix2 ⟨r.val, h⟩ d) = ix3 ⟨r.val / 256, by omega⟩ ⟨r.val % 256, by omega⟩ d := by
      funext a
      match a with
      | ⟨0, _⟩ => refine Fin.ext ?_; show (r.val * 320 + d.val) / 81920 = r.val / 256; omega
      | ⟨1, _⟩ => refine Fin.ext ?_; show (r.val * 320 + d.val) / 320 % 256 = r.val % 256; omega
      | ⟨2, _⟩ => refine Fin.ext ?_; show (r.val * 320 + d.val) % 320 = d.val; omega
    rw [e, dot73]
    have er : (⟨(⟨r.val / 256, by omega⟩ : Fin 32).val * 256 + (⟨r.val % 256, by omega⟩ : Fin 256).val, by omega⟩ : Fin 12288) = r :=
      Fin.ext (by show r.val / 256 * 256 + r.val % 256 = r.val; omega)
    have eg : (0 : Fin 3) = ⟨(r.val / 1024 - 6) / 2, by omega⟩ := Fin.ext (by show 0 = (r.val / 1024 - 6) / 2; omega)
    rw [er, eg]
  · rw [stack_hi320 _ _ _ r d h, val_main_v76_apply]
    have e : idx_main_v76 (ix2 ⟨r.val - 8192, by omega⟩ d) = ix3 ⟨(r.val - 8192) / 2048, by omega⟩ ⟨(r.val - 8192) % 2048, by omega⟩ d := by
      funext a
      match a with
      | ⟨0, _⟩ => refine Fin.ext ?_; show ((r.val - 8192) * 320 + d.val) / 655360 = (r.val - 8192) / 2048; omega
      | ⟨1, _⟩ => refine Fin.ext ?_; show ((r.val - 8192) * 320 + d.val) / 320 % 2048 = (r.val - 8192) % 2048; omega
      | ⟨2, _⟩ => refine Fin.ext ?_; show ((r.val - 8192) * 320 + d.val) % 320 = d.val; omega
    rw [e, dot75]
    have er : (⟨8192 + ((⟨(r.val - 8192) / 2048, by omega⟩ : Fin 2).val * 2048 + (⟨(r.val - 8192) % 2048, by omega⟩ : Fin 2048).val), by omega⟩
        : Fin 12288) = r :=
      Fin.ext (by show 8192 + ((r.val - 8192) / 2048 * 2048 + (r.val - 8192) % 2048) = r.val; omega)
    have eg : (⟨1 + (⟨(r.val - 8192) / 2048, by omega⟩ : Fin 2).val, by omega⟩ : Fin 3) = ⟨(r.val / 1024 - 6) / 2, by omega⟩ :=
      Fin.ext (by show 1 + (r.val - 8192) / 2048 = (r.val / 1024 - 6) / 2; omega)
    rw [er, eg]

/-- Three blocks of columns side by side, read at a column of the first. -/
theorem side1 (x : FVec Ideal S12288x512 .f32) (y : FVec Ideal S12288x320 .f32) (z : FVec Ideal S12288x192 .f32)
    (hc : _) (r : Fin 12288) (d : Fin 1024) (h : d.val < 512) :
    concatenate S12288x1024 1 [⟨S12288x512, x⟩, ⟨S12288x320, y⟩, ⟨S12288x192, z⟩] hc (ix2 r d) = x (ix2 r ⟨d.val, h⟩) := by
  pointwise [h]

/-- Three blocks of columns side by side, read at a column of the second. -/
theorem side2 (x : FVec Ideal S12288x512 .f32) (y : FVec Ideal S12288x320 .f32) (z : FVec Ideal S12288x192 .f32)
    (hc : _) (r : Fin 12288) (d : Fin 1024) (h : ¬d.val < 512) (h' : d.val < 832) :
    concatenate S12288x1024 1 [⟨S12288x512, x⟩, ⟨S12288x320, y⟩, ⟨S12288x192, z⟩] hc (ix2 r d) = y (ix2 r ⟨d.val - 512, by omega⟩) := by
  have h'' : d.val - 512 < 320 := by omega
  pointwise [h, h', h'']

/-- Three blocks of columns side by side, read at a column of the third. -/
theorem side3 (x : FVec Ideal S12288x512 .f32) (y : FVec Ideal S12288x320 .f32) (z : FVec Ideal S12288x192 .f32)
    (hc : _) (r : Fin 12288) (d : Fin 1024) (h : ¬d.val < 512) (h' : ¬d.val < 832) :
    concatenate S12288x1024 1 [⟨S12288x512, x⟩, ⟨S12288x320, y⟩, ⟨S12288x192, z⟩] hc (ix2 r d) = z (ix2 r ⟨d.val - 512 - 320, by omega⟩) := by
  have h'' : ¬d.val - 512 < 320 := by omega
  pointwise [h, h', h'']

/-- The reference at row `r` and column `d`. -/
theorem reads (X0 : A0) (X1 : A1) (X2 : A2) (X3 : A3) (X4 : A4) (r : Fin 12288) (d : Fin 1024) :
    val_main_v79 (F := Ideal) X0 X1 X2 X3 X4 (ix2 r d) = row X0 X1 X2 X3 X4 r ⟨(r.val / 1024 - 6) / 2, by omega⟩ d := by
  unfold val_main_v79 row weight
  by_cases h : d.val < 512
  · rw [side1 _ _ _ _ r d h, rows72]
    simp only [h, dite_true]
  · by_cases h' : d.val < 832
    · rw [side2 _ _ _ _ r d h h', rows77]
      simp only [h, h', dite_true, dite_false]
    · rw [side3 _ _ _ _ r d h h', val_main_v78_apply, val_main_cst_7_apply]
      simp only [h, h', dite_false, mul_zero, Finset.sum_const_zero]
      exact zero

end Cert.MlaARefIdeal.Reading
-- ==== Proof.MlaAValue.lean ====
module

public import proofs.«01_k».proof.Proof.Gen.MlaAIdeal.Frame
public import proofs.«01_k».proof.Proof.MlaAReference
public import Idealize.ShloMosaic.Lib.Pipeline.ReadBack

/-! The array the first projection of the latent attention returns: every row is the reference's. -/

@[expose] public section

set_option maxRecDepth 16384

noncomputable section

namespace Cert.MlaAIdeal.Val

open Idealize.ShloMosaic Idealize.ShloMosaic.TcCoe Idealize.SL.Sem
open Cert.MlaAIdeal Cert.MlaAIdeal.Gen Cert.FfnSpec

variable (m : (ℓ : Loc nD τ sig) → Buf (Elt Ideal) ℓ)

/-- The rows a point works on: normalized and modulated. -/
theorem pay1 (x : FVec Ideal S1024x1024 .f32) (g : FVec Ideal S1x1024 .f32) (sc sh : FVec Ideal S1x1x1x1024 .f32) (r d : Fin 1024) :
    k0_pay1 (F := Ideal) x g sc sh (ix2 r d)
      = modulated (fun k => x (ix2 r k)) (fun k => g (ix2 0 k)) (fun k => sc (ix4 0 0 0 k)) (fun k => sh (ix4 0 0 0 k)) d := by
  unfold modulated
  pointwise [k0_pay1]

/-- The stored block: those rows times the weight. -/
theorem pay2 (xb : FVec Ideal S1024x1024 .bf16) (w : FVec Ideal S1024x1024 .f32) (r d : Fin 1024) :
    k0_pay2 (F := Ideal) xb w (ix2 r d) = ∑ k : Fin 1024, xb (ix2 r k) * w (ix2 k d) := by
  pointwise [k0_pay2]

/-- Which block each window stages at a grid point. -/
theorem idx : ∀ t : Fin cfg0.N,
    win0_0.index t = ![t.val, 0] ∧ win0_1.index t = ![0, 0] ∧ win0_2.index t = ![0, 0]
    ∧ win0_3.index t = ![(t.val - 6) / 2, 0, 0, 0] ∧ win0_4.index t = ![(t.val - 6) / 2, 1, 0, 0]
    ∧ win0_5.index t = ![t.val, 0] :=
  (by decide +kernel : ∀ t : Fin grid0.N, _)

theorem tlt (t : Fin cfg0.N) : t.val < 12 := t.isLt

abbrev X (c : Dev nD) : FVec Ideal S12288x1024 .f32 := m ((c.tc : Thread nD τ).loc main_arg0)
abbrev Q (c : Dev nD) : FVec Ideal S1024x512 .f32 := m ((c.tc : Thread nD τ).loc main_arg1)
abbrev K (c : Dev nD) : FVec Ideal S1024x320 .f32 := m ((c.tc : Thread nD τ).loc main_arg2)
abbrev Ng (c : Dev nD) : FVec Ideal S1024 .f32 := m ((c.tc : Thread nD τ).loc main_arg3)
abbrev Mods (c : Dev nD) : FVec Ideal S3x6x1x1024 .f32 := m ((c.tc : Thread nD τ).loc main_arg4)

/-- The modulation group of a grid point. -/
abbrev grp (t : Fin cfg0.N) : Fin 3 := ⟨(t.val - 6) / 2, by have := tlt t; omega⟩

/-- The row of the whole array that row `r` of a point's block is. -/
abbrev rowOf (t : Fin cfg0.N) (r : Fin 1024) : Fin 12288 := ⟨t.val * 1024 + r.val, by have := tlt t; omega⟩

/-- The weight array of the call, as the host makes it. -/
abbrev Wt (c : Dev nD) : FVec Ideal S1024x1024 .f32 :=
  concatenate S1024x1024 1 [⟨S1024x512, Q m c⟩,
    ⟨S1024x512, pad S1024x512 ![0, 0] ![0, 192] ![0, 0] (K m c) ((sitofp .f32 (fun _ => 0#32)) : FVec Ideal S_ .f32) pads_S1024x320_S1024x512_000_01920 h_S_⟩]
    concatenates_S1024x512_S1024x512_S1024x1024_d1

/-- It is the two weights and zero columns, side by side. -/
theorem wt (c : Dev nD) (k d : Fin 1024) : Wt m c (ix2 k d) = MlaARefIdeal.Reading.weight (Q m c) (K m c) k d := by
  unfold MlaARefIdeal.Reading.weight
  by_cases h : d.val < 512
  · simp only [h, dite_true]
    pointwise [h]
  by_cases h' : d.val < 832
  · have h'' : d.val - 512 < 320 := by omega
    simp only [h, h', dite_true, dite_false]
    pointwise [h, h'']
  · have h'' : ¬d.val - 512 < 320 := by omega
    simp only [h, h', dite_false]
    have z : (FloatOps.sitofp (F := Ideal) FTy.f32 0#32 : EReal) = 0 := by
      show (((0#32 : BitVec 32).toInt : ℝ) : EReal) = 0
      simp
    refine Eq.trans ?_ z
    pointwise [h, h'']

theorem blk0 (c : Dev nD) (t : Fin cfg0.N) (r k : Fin 1024) : (iblk m c 0 t : Vec Ideal S1024x1024 .f32) (ix2 r k) = X m c (ix2 (rowOf t r) k) := by
  blk_ext! [iblk, V, idx t]

theorem blk1 (c : Dev nD) (t : Fin cfg0.N) (k d : Fin 1024) : (iblk m c 1 t : Vec Ideal S1024x1024 .f32) (ix2 k d) = MlaARefIdeal.Reading.weight (Q m c) (K m c) k d := by
  have e : (win0_1.blk t).view.emb (ix2 k d : S1024x1024.Idx) = (ix2 k d : S1024x1024.Idx) := by blk_ext [idx t]
  refine Eq.trans ?_ (wt m c k d)
  show V m c main_v1 ((win0_1.blk t).view.emb (ix2 k d : S1024x1024.Idx)) = _
  rw [e]
  rfl

theorem blk2 (c : Dev nD) (t : Fin cfg0.N) (k : Fin 1024) : (iblk m c 2 t : Vec Ideal S1x1024 .f32) (ix2 0 k) = Ng m c (ix1 k) := by
  have e : (win0_2.blk t).view.emb (ix2 0 k : S1x1024.Idx) = (ix2 0 k : S1x1024.Idx) := by blk_ext [idx t]
  show V m c main_v2 ((win0_2.blk t).view.emb (ix2 0 k : S1x1024.Idx)) = _
  rw [e]
  show (shapeCast S1x1024 (Ng m c) shapeCasts_S1024_S1x1024 : FVec Ideal S1x1024 .f32) (ix2 0 k) = _
  pointwise

theorem blk3 (c : Dev nD) (t : Fin cfg0.N) (k : Fin 1024) : (iblk m c 3 t : Vec Ideal S1x1x1x1024 .f32) (ix4 0 0 0 k) = Mods m c (ix4 (grp t) 0 0 k) := by
  blk_ext! [iblk, V, idx t]

theorem blk4 (c : Dev nD) (t : Fin cfg0.N) (k : Fin 1024) : (iblk m c 4 t : Vec Ideal S1x1x1x1024 .f32) (ix4 0 0 0 k) = Mods m c (ix4 (grp t) 1 0 k) := by
  blk_ext! [iblk, V, idx t]

/-- Where element `(r, d)` of the stored block lies in the returned array. -/
theorem win_emb (t : Fin cfg0.N) (r d : Fin 1024) :
    (win0_5.blk t).view.emb (ix2 r d : S1024x1024.Idx) = (ix2 (rowOf t r) d : S12288x1024.Idx) := by
  blk_ext [idx t]

/-- Every index of a stored block is its two coordinates. -/
theorem two (y : S1024x1024.Idx) : ∃ r d : Fin 1024, y = ix2 r d :=
  ⟨y 0, y 1, by funext a; match a with | ⟨0, _⟩ => rfl | ⟨1, _⟩ => rfl⟩

/-- The block a point stores. -/
theorem out_eq (c : Dev nD) (t : Fin cfg0.N) (r d : Fin 1024) :
    outsAt0 m c t (ix2 r d) = MlaARefIdeal.Reading.row (X m c) (Q m c) (K m c) (Ng m c) (Mods m c) (rowOf t r) (grp t) d := by
  unfold outsAt0
  frame_out
  rw [pay2]
  simp only [View.readCov_eq_canon', pay1, blk0, blk1, blk2, blk3, blk4]
  rfl

/-- The array the kernel returns is the reference's. -/
theorem final (c : Dev nD) : (dats (F := Ideal) m 0 c).arrAt 5 cfg0.N
    = (MlaARefIdeal.Read.val_main_v79 (F := Ideal) (X m c) (Q m c) (K m c) (Ng m c) (Mods m c) : FVec Ideal S12288x1024 .f32) := by
  refine (dats m 0 c).arrAt_eq_of_covers 5 _ (by decide +kernel) fun t hf y => ?_
  blk_simp
  rw [after0_5]
  obtain ⟨r, d, rfl⟩ := two y
  rw [win_emb]
  have hr := r.isLt
  refine (out_eq m c t r d).trans ?_
  refine Eq.trans ?_ (MlaARefIdeal.Reading.reads _ _ _ _ _ (rowOf t r) d).symm
  refine congrArg (fun g => MlaARefIdeal.Reading.row (X m c) (Q m c) (K m c) (Ng m c) (Mods m c) (rowOf t r) g d) (Fin.ext ?_)
  show (t.val - 6) / 2 = ((t.val * 1024 + r.val) / 1024 - 6) / 2
  omega

end Cert.MlaAIdeal.Val
-- ==== Proof.MlaAClaim.lean ====
module

public import proofs.«01_k».proof.Defs
public import proofs.«01_k».proof.Proof.MlaAValue
public import proofs.«01_k».proof.Proof.Gen.MlaA
public import proofs.«01_k».proof.Proof.Gen.MlaAIdeal
public import proofs.«01_k».proof.Proof.Gen.MlaAIdeal.Value
public import proofs.«01_k».proof.Proof.Gen.MlaARefIdeal
public import proofs.«01_k».proof.Proof.Gen.MlaARefIdeal.Run
public import Idealize.ShloMosaic.Lib.Claim

/-! The value claim of the first projection of the latent attention, from the kernel's run and the reference's. -/

@[expose] public section

set_option maxRecDepth 16384

noncomputable section

namespace Cert.MlaAClaim

open Idealize.ShloMosaic Idealize.ShloMosaic.TcCoe Idealize.SL.Sem

/-- Kernel and reference end with the same array. -/
theorem algebraic : Cert.algebraic_MlaAIdeal_MlaARefIdeal
    (hMlaAIdeal := Cert.MlaAIdeal.Gen.facts) (hMlaARefIdeal := Cert.MlaARefIdeal.Gen.facts) := by
  intro m g m' g' _ ha
  refine ⟨fun c => (Cert.MlaARefIdeal.Read.val_main_v79 (F := Ideal)
      (m ((c.tc : Thread Cert.MlaAIdeal.nD Cert.MlaAIdeal.τ).loc Cert.MlaAIdeal.main_arg0))
      (m ((c.tc : Thread Cert.MlaAIdeal.nD Cert.MlaAIdeal.τ).loc Cert.MlaAIdeal.main_arg1))
      (m ((c.tc : Thread Cert.MlaAIdeal.nD Cert.MlaAIdeal.τ).loc Cert.MlaAIdeal.main_arg2))
      (m ((c.tc : Thread Cert.MlaAIdeal.nD Cert.MlaAIdeal.τ).loc Cert.MlaAIdeal.main_arg3))
      (m ((c.tc : Thread Cert.MlaAIdeal.nD Cert.MlaAIdeal.τ).loc Cert.MlaAIdeal.main_arg4)) :
      FVec Ideal Cert.MlaAIdeal.S12288x1024 .f32), ?_, ?_⟩
  · exact (θ_run _ _ _).mono (fun r h c => ⟨(h c).1.trans (Cert.MlaAIdeal.Val.final m c), (h c).2⟩) (Cert.MlaAIdeal.Value.run_blocks (F := Ideal) m g)
  · refine (θ_run _ _ _).mono (fun r h c => ?_) (Cert.MlaARefIdeal.Value.run m' g')
    refine ⟨(h c).1.trans ?_, (h c).2⟩
    rw [Cert.MlaARefIdeal.Read.val_main_v79_eq]
    obtain ⟨a0, a1, a2, a3, a4⟩ := ha c
    rw [a0, a1, a2, a3, a4]

/-- The reference terminates, keeps its arguments and has no semaphore. -/
theorem reference_frame (m : (ℓ : Loc Cert.MlaARefIdeal.nD Cert.MlaARefIdeal.τ Cert.MlaARefIdeal.sig) → Buf (Elt Ideal) ℓ)
    (g : Dev Cert.MlaARefIdeal.nD → PrngReg) :
    θ_run (Cert.MlaARefIdeal.defs (F := Ideal)) (onTc (τ := Cert.MlaARefIdeal.τ) (Cert.MlaARefIdeal.main (F := Ideal)))
      ⟨m, fun _ => 0, g⟩ fun r => (∀ c : Dev Cert.MlaARefIdeal.nD,
        r.2.mem ((c.tc : Thread Cert.MlaARefIdeal.nD Cert.MlaARefIdeal.τ).loc Cert.MlaARefIdeal.main_arg0) = m ((c.tc : Thread Cert.MlaARefIdeal.nD Cert.MlaARefIdeal.τ).loc Cert.MlaARefIdeal.main_arg0)
        ∧ r.2.mem ((c.tc : Thread Cert.MlaARefIdeal.nD Cert.MlaARefIdeal.τ).loc Cert.MlaARefIdeal.main_arg1) = m ((c.tc : Thread Cert.MlaARefIdeal.nD Cert.MlaARefIdeal.τ).loc Cert.MlaARefIdeal.main_arg1)
        ∧ r.2.mem ((c.tc : Thread Cert.MlaARefIdeal.nD Cert.MlaARefIdeal.τ).loc Cert.MlaARefIdeal.main_arg2) = m ((c.tc : Thread Cert.MlaARefIdeal.nD Cert.MlaARefIdeal.τ).loc Cert.MlaARefIdeal.main_arg2)
        ∧ r.2.mem ((c.tc : Thread Cert.MlaARefIdeal.nD Cert.MlaARefIdeal.τ).loc Cert.MlaARefIdeal.main_arg3) = m ((c.tc : Thread Cert.MlaARefIdeal.nD Cert.MlaARefIdeal.τ).loc Cert.MlaARefIdeal.main_arg3)
        ∧ r.2.mem ((c.tc : Thread Cert.MlaARefIdeal.nD Cert.MlaARefIdeal.τ).loc Cert.MlaARefIdeal.main_arg4) = m ((c.tc : Thread Cert.MlaARefIdeal.nD Cert.MlaARefIdeal.τ).loc Cert.MlaARefIdeal.main_arg4))
        ∧ r.2.sem = fun _ => 0 :=
  (θ_run _ _ _).mono (fun r h => ⟨fun c => (h c).2, sem_eq_zero_of_no_sems (by decide) r.2⟩)
    (Cert.MlaARefIdeal.Value.run m g)

end Cert.MlaAClaim

end
-- ==== Proof.MlaCkvValue.lean ====
module

public import proofs.«01_k».proof.Proof.Gen.MlaCkvIdeal.Frame
public import proofs.«01_k».proof.Proof.Gen.MlaCkvRefIdeal.Run
public import proofs.«01_k».proof.Proof.Gen.MlaCkvRefIdeal.Read
public import proofs.«01_k».proof.Proof.NormSpec
public import Idealize.ShloMosaic.Lib.Pipeline.ReadBack

/-! The array of the norm of the compressed keys and values: every row is the reference's. -/

@[expose] public section

set_option maxRecDepth 16384

noncomputable section

namespace Cert.MlaCkvRefIdeal.Reading

open Idealize.ShloMosaic Idealize.ShloMosaic.TcCoe Idealize.SL.Sem
open Cert.MlaCkvRefIdeal Cert.MlaCkvRefIdeal.Read Cert.NormSpec

/-- The row of the argument that row `r` of the result is made from. -/
theorem row0 (X0 : FVec Ideal S12288x1024 .f32) (r : Fin 12288) (k : Fin 256) :
    val_main_v0 (F := Ideal) X0 (ix2 r k) = X0 (ix2 r ⟨512 + k.val, by omega⟩) := by
  rw [val_main_v0_apply]
  refine congrArg X0 (funext fun a => ?_)
  match a with | ⟨0, _⟩ => rfl | ⟨1, _⟩ => rfl

/-- The reference's row `r` is the norm of its row. -/
theorem reads (X0 : FVec Ideal S12288x1024 .f32) (X1 : FVec Ideal S256 .f32) (r : Fin 12288) (k : Fin 256) :
    val_main_v13 (F := Ideal) X0 X1 (ix2 r k)
      = normed (Ideal.ofBits .f32 0x43800000#32) (fun k => X0 (ix2 r ⟨512 + k.val, by omega⟩)) (fun k => X1 (ix1 k)) k := by
  rw [val_main_v13_apply, val_main_v10_apply, val_main_v9_apply, val_main_v8_apply, val_main_v7_apply, val_main_v5_apply, val_main_v3_apply,
    val_main_v2_apply, val_main_v4_apply, val_main_v6_apply, val_main_cst_0_apply, val_main_cst_1_apply, val_main_cst_apply,
    val_main_v12_apply, val_main_v11_apply]
  simp only [val_main_v1_apply]
  have e : ∀ l, idx_main_v2 (idx_main_v3 (idx_main_v9 (ix2 r k))) l = ix2 r l := by
    intro l
    funext a
    match a with | ⟨0, _⟩ => rfl | ⟨1, _⟩ => rfl
  have eg : idx_main_v11 (idx_main_v12 (ix2 r k)) = ix1 k := by
    funext a
    match a with | ⟨0, _⟩ => rfl
  simp only [e, eg]
  refine Eq.trans (b := normed (Ideal.ofBits .f32 0x43800000#32) (fun k => val_main_v0 (F := Ideal) X0 (ix2 r k)) (fun k => X1 (ix1 k)) k) ?_ ?_
  · generalize val_main_v0 (F := Ideal) X0 = y
    show y (ix2 r k) * Ideal.rsqrt (Ideal.div (Ideal.ofBits .f32 0x00000000#32 + ∑ l, y (ix2 r l) * y (ix2 r l)) _ + _) * _ = _
    rw [zero, zero_add]
    rfl
  · simp only [row0]

end Cert.MlaCkvRefIdeal.Reading

namespace Cert.MlaCkvIdeal.Val

open Idealize.ShloMosaic Idealize.ShloMosaic.TcCoe Idealize.SL.Sem
open Cert.MlaCkvIdeal Cert.MlaCkvIdeal.Gen Cert.NormSpec

variable (m : (ℓ : Loc nD τ sig) → Buf (Elt Ideal) ℓ)

/-- The stored block: the norm, then a modulation. -/
theorem pay1 (x : FVec Ideal S1024x256 .f32) (g : FVec Ideal S1x256 .f32) (sc sh : FVec Ideal S1x1x1x256 .f32) (r : Fin 1024) (d : Fin 256) :
    k0_pay1 (F := Ideal) x g sc sh (ix2 r d)
      = normed (Ideal.ofBits .f32 0x43800000#32) (fun k => x (ix2 r k)) (fun k => g (ix2 0 k)) d * (1 + sc (ix4 0 0 0 d)) + sh (ix4 0 0 0 d) := by
  unfold normed
  pointwise [k0_pay1]

/-- Which block each window stages at a grid point. -/
theorem idx : ∀ t : Fin cfg0.N,
    win0_0.index t = ![t.val, 2] ∧ win0_1.index t = ![0, 0] ∧ win0_2.index t = ![0, 0, 0, 0] ∧ win0_3.index t = ![0, 1, 0, 0]
    ∧ win0_4.index t = ![t.val, 0] :=
  (by decide +kernel : ∀ t : Fin grid0.N, _)

theorem tlt (t : Fin cfg0.N) : t.val < 12 := t.isLt

abbrev X (c : Dev nD) : FVec Ideal S12288x1024 .f32 := m ((c.tc : Thread nD τ).loc main_arg0)
abbrev Ng (c : Dev nD) : FVec Ideal S256 .f32 := m ((c.tc : Thread nD τ).loc main_arg1)

theorem blk0 (c : Dev nD) (t : Fin cfg0.N) (r : Fin 1024) (k : Fin 256) :
    (iblk m c 0 t : Vec Ideal S1024x256 .f32) (ix2 r k) = X m c (ix2 ⟨t.val * 1024 + r.val, by have := tlt t; omega⟩ ⟨512 + k.val, by omega⟩) := by
  blk_ext! [iblk, V, idx t]

theorem blk1 (c : Dev nD) (t : Fin cfg0.N) (k : Fin 256) : (iblk m c 1 t : Vec Ideal S1x256 .f32) (ix2 0 k) = Ng m c (ix1 k) := by
  blk_ext! [iblk, V, idx t]

/-- The shift is zero. -/
theorem blk2 (c : Dev nD) (t : Fin cfg0.N) (k : Fin 256) : (iblk m c 2 t : Vec Ideal S1x1x1x256 .f32) (ix4 0 0 0 k) = (0 : EReal) := by
  exact zero

/-- The scale is zero. -/
theorem blk3 (c : Dev nD) (t : Fin cfg0.N) (k : Fin 256) : (iblk m c 3 t : Vec Ideal S1x1x1x256 .f32) (ix4 0 0 0 k) = (0 : EReal) := by
  exact zero

/-- Where element `(r, d)` of the stored block lies in the returned array. -/
theorem win_emb (t : Fin cfg0.N) (r : Fin 1024) (d : Fin 256) :
    (win0_4.blk t).view.emb (ix2 r d : S1024x256.Idx) = (ix2 ⟨t.val * 1024 + r.val, by have := tlt t; omega⟩ d : S12288x256.Idx) := by
  blk_ext [idx t]

/-- Every index of a stored block is its two coordinates. -/
theorem two (y : S1024x256.Idx) : ∃ (r : Fin 1024) (d : Fin 256), y = ix2 r d :=
  ⟨y 0, y 1, by funext a; match a with | ⟨0, _⟩ => rfl | ⟨1, _⟩ => rfl⟩

/-- The block a point stores. -/
theorem out_eq (c : Dev nD) (t : Fin cfg0.N) (r : Fin 1024) (d : Fin 256) :
    out0_4 (F := Ideal) (iblk m c 0 t) (iblk m c 1 t) (iblk m c 2 t) (iblk m c 3 t) (ix2 r d)
      = normed (Ideal.ofBits .f32 0x43800000#32) (fun k => X m c (ix2 ⟨t.val * 1024 + r.val, by have := tlt t; omega⟩ ⟨512 + k.val, by omega⟩)) (fun k => Ng m c (ix1 k)) d := by
  unfold out0_4
  rw [View.canon_cons_unit_lit _ _ _ (by decide)]
  frame_out
  rw [pay1]
  simp only [blk0, blk1, blk2, blk3, add_zero, mul_one]

/-- The array the kernel returns is the reference's. -/
theorem final (c : Dev nD) : (dats (F := Ideal) m 0 c).arrAt 4 cfg0.N
    = (MlaCkvRefIdeal.Read.val_main_v13 (F := Ideal) (X m c) (Ng m c) : FVec Ideal S12288x256 .f32) := by
  refine (dats m 0 c).arrAt_eq_of_covers 4 _ (by decide +kernel) fun t hf y => ?_
  blk_simp
  rw [after0_4]
  obtain ⟨r, d, rfl⟩ := two y
  rw [win_emb]
  exact (out_eq m c t r d).trans (MlaCkvRefIdeal.Reading.reads (X m c) (Ng m c) ⟨t.val * 1024 + r.val, by have := tlt t; omega⟩ d).symm

end Cert.MlaCkvIdeal.Val
-- ==== Proof.MlaCkvClaim.lean ====
module

public import proofs.«01_k».proof.Defs
public import proofs.«01_k».proof.Proof.MlaCkvValue
public import proofs.«01_k».proof.Proof.Gen.MlaCkv
public import proofs.«01_k».proof.Proof.Gen.MlaCkvIdeal
public import proofs.«01_k».proof.Proof.Gen.MlaCkvIdeal.Value
public import proofs.«01_k».proof.Proof.Gen.MlaCkvRefIdeal
public import proofs.«01_k».proof.Proof.Gen.MlaCkvRefIdeal.Run
public import Idealize.ShloMosaic.Lib.Claim

/-! The value claim of the norm of the compressed keys and values, from the kernel's run and the reference's. -/

@[expose] public section

set_option maxRecDepth 16384

noncomputable section

namespace Cert.MlaCkvClaim

open Idealize.ShloMosaic Idealize.ShloMosaic.TcCoe Idealize.SL.Sem

/-- Kernel and reference end with the same array. -/
theorem algebraic : Cert.algebraic_MlaCkvIdeal_MlaCkvRefIdeal
    (hMlaCkvIdeal := Cert.MlaCkvIdeal.Gen.facts) (hMlaCkvRefIdeal := Cert.MlaCkvRefIdeal.Gen.facts) := by
  intro m g m' g' _ ha
  refine ⟨fun c => (Cert.MlaCkvRefIdeal.Read.val_main_v13 (F := Ideal)
      (m ((c.tc : Thread Cert.MlaCkvIdeal.nD Cert.MlaCkvIdeal.τ).loc Cert.MlaCkvIdeal.main_arg0))
      (m ((c.tc : Thread Cert.MlaCkvIdeal.nD Cert.MlaCkvIdeal.τ).loc Cert.MlaCkvIdeal.main_arg1)) :
      FVec Ideal Cert.MlaCkvIdeal.S12288x256 .f32), ?_, ?_⟩
  · exact (θ_run _ _ _).mono (fun r h c => ⟨(h c).1.trans (Cert.MlaCkvIdeal.Val.final m c), (h c).2⟩) (Cert.MlaCkvIdeal.Value.run_blocks (F := Ideal) m g)
  · refine (θ_run _ _ _).mono (fun r h c => ?_) (Cert.MlaCkvRefIdeal.Value.run m' g')
    refine ⟨(h c).1.trans ?_, (h c).2⟩
    rw [Cert.MlaCkvRefIdeal.Read.val_main_v13_eq]
    obtain ⟨a0, a1⟩ := ha c
    rw [a0, a1]

/-- The reference terminates, keeps its arguments and has no semaphore. -/
theorem reference_frame (m : (ℓ : Loc Cert.MlaCkvRefIdeal.nD Cert.MlaCkvRefIdeal.τ Cert.MlaCkvRefIdeal.sig) → Buf (Elt Ideal) ℓ)
    (g : Dev Cert.MlaCkvRefIdeal.nD → PrngReg) :
    θ_run (Cert.MlaCkvRefIdeal.defs (F := Ideal)) (onTc (τ := Cert.MlaCkvRefIdeal.τ) (Cert.MlaCkvRefIdeal.main (F := Ideal)))
      ⟨m, fun _ => 0, g⟩ fun r => (∀ c : Dev Cert.MlaCkvRefIdeal.nD,
        r.2.mem ((c.tc : Thread Cert.MlaCkvRefIdeal.nD Cert.MlaCkvRefIdeal.τ).loc Cert.MlaCkvRefIdeal.main_arg0) = m ((c.tc : Thread Cert.MlaCkvRefIdeal.nD Cert.MlaCkvRefIdeal.τ).loc Cert.MlaCkvRefIdeal.main_arg0)
        ∧ r.2.mem ((c.tc : Thread Cert.MlaCkvRefIdeal.nD Cert.MlaCkvRefIdeal.τ).loc Cert.MlaCkvRefIdeal.main_arg1) = m ((c.tc : Thread Cert.MlaCkvRefIdeal.nD Cert.MlaCkvRefIdeal.τ).loc Cert.MlaCkvRefIdeal.main_arg1))
        ∧ r.2.sem = fun _ => 0 :=
  (θ_run _ _ _).mono (fun r h => ⟨fun c => (h c).2, sem_eq_zero_of_no_sems (by decide) r.2⟩)
    (Cert.MlaCkvRefIdeal.Value.run m g)

end Cert.MlaCkvClaim

end
-- ==== Proof.OutProjValue.lean ====
module

public import proofs.«01_k».proof.Proof.Gen.OutProjIdeal.Frame
public import proofs.«01_k».proof.Proof.Gen.OutProjRefIdeal.Run
public import proofs.«01_k».proof.Proof.Gen.OutProjRefIdeal.Read
public import proofs.«01_k».proof.Proof.NormSpec
public import Idealize.ShloMosaic.Lib.Pipeline.ReadBack

/-! The array of the output projection: every row is the reference's. -/

@[expose] public section

set_option maxRecDepth 16384

noncomputable section

namespace Cert.OutProjRefIdeal.Reading

open Idealize.ShloMosaic Idealize.ShloMosaic.TcCoe Idealize.SL.Sem
open Cert.OutProjRefIdeal Cert.OutProjRefIdeal.Read

abbrev A0 := FVec Ideal S8192x1024 .f32
abbrev A1 := FVec Ideal S4096x1024 .f32
abbrev A2 := FVec Ideal S1024x1024 .f32
abbrev A3 := FVec Ideal S12288x1024 .f32
abbrev A4 := FVec Ideal S3x6x1x1024 .f32

/-- Row `r` of the result: the residual row plus the gate of group `g` times the projection of the row `o`. -/
def row (o : Fin 1024 → EReal) (X2 : A2) (X3 : A3) (X4 : A4) (r : Fin 12288) (g : Fin 3) (d : Fin 1024) : EReal :=
  X3 (ix2 r d) + X4 (ix4 g 2 0 d) * ∑ k, o k * X2 (ix2 k d)

theorem x1 (X3 : A3) (b : Fin 32) (s : Fin 256) (k : Fin 1024) :
    val_main_v1 (F := Ideal) X3 (ix3 b s k) = X3 (ix2 ⟨b.val * 256 + s.val, by omega⟩ k) := by
  rw [val_main_v1_apply, val_main_v0_apply]
  refine congrArg X3 (funext fun a => Fin.ext ?_)
  match a with
  | ⟨0, _⟩ => show ((b.val * 256 + s.val) * 1024 + k.val) / 1024 = b.val * 256 + s.val; omega
  | ⟨1, _⟩ => show ((b.val * 256 + s.val) * 1024 + k.val) % 1024 = k.val; omega

theorem x3 (X3 : A3) (b : Fin 2) (s : Fin 2048) (k : Fin 1024) :
    val_main_v3 (F := Ideal) X3 (ix3 b s k) = X3 (ix2 ⟨8192 + (b.val * 2048 + s.val), by omega⟩ k) := by
  rw [val_main_v3_apply, val_main_v2_apply]
  refine congrArg X3 (funext fun a => Fin.ext ?_)
  match a with
  | ⟨0, _⟩ => show 8192 + ((b.val * 2048 + s.val) * 1024 + k.val) / 1024 = 8192 + (b.val * 2048 + s.val); omega
  | ⟨1, _⟩ => show ((b.val * 2048 + s.val) * 1024 + k.val) % 1024 = k.val; omega

theorem o6 (X0 : A0) (b : Fin 32) (s : Fin 256) (k : Fin 1024) :
    val_main_v6 (F := Ideal) X0 (ix3 b s k) = X0 (ix2 ⟨b.val * 256 + s.val, by omega⟩ k) := by
  rw [val_main_v6_apply]
  refine congrArg X0 (funext fun a => Fin.ext ?_)
  match a with
  | ⟨0, _⟩ => show ((b.val * 256 + s.val) * 1024 + k.val) / 1024 = b.val * 256 + s.val; omega
  | ⟨1, _⟩ => show ((b.val * 256 + s.val) * 1024 + k.val) % 1024 = k.val; omega

theorem o14 (X1 : A1) (b : Fin 2) (s : Fin 2048) (k : Fin 1024) :
    val_main_v14 (F := Ideal) X1 (ix3 b s k) = X1 (ix2 ⟨b.val * 2048 + s.val, by omega⟩ k) := by
  rw [val_main_v14_apply]
  refine congrArg X1 (funext fun a => Fin.ext ?_)
  match a with
  | ⟨0, _⟩ => show ((b.val * 2048 + s.val) * 1024 + k.val) / 1024 = b.val * 2048 + s.val; omega
  | ⟨1, _⟩ => show ((b.val * 2048 + s.val) * 1024 + k.val) % 1024 = k.val; omega

theorem out1 (X0 : A0) (X2 : A2) (X3 : A3) (X4 : A4) (b : Fin 32) (s : Fin 256) (d : Fin 1024) :
    val_main_v11 (F := Ideal) X0 X2 X3 X4 (ix3 b s d)
      = row (fun k => X0 (ix2 ⟨b.val * 256 + s.val, by omega⟩ k)) X2 X3 X4 ⟨b.val * 256 + s.val, by omega⟩ 0 d := by
  have hd := d.isLt
  rw [val_main_v11_apply, val_main_v10_apply, val_main_v9_apply, val_main_v8_apply, val_main_v5_apply, val_main_v4_apply, val_main_v7_apply, x1]
  have eg : idx_main_v4 (idx_main_v5 (idx_main_v8 (idx_main_v9 (ix3 b s d)))) = ix4 0 2 0 d := by
    funext a
    match a with
    | ⟨0, _⟩ => rfl
    | ⟨1, _⟩ => rfl
    | ⟨2, _⟩ => rfl
    | ⟨3, _⟩ => refine Fin.ext ?_; show (0 * 1024 + d.val) % 1024 = d.val; omega
  have el : ∀ h, lidx_main_v7 (ix3 b s d) h = ix3 b s h := by
    intro k
    funext a
    match a with | ⟨0, _⟩ => rfl | ⟨1, _⟩ => rfl | ⟨2, _⟩ => rfl
  have er : ∀ h, ridx_main_v7 (ix3 b s d) h = ix2 h d := by
    intro k
    funext a
    match a with | ⟨0, _⟩ => rfl | ⟨1, _⟩ => rfl
  simp only [eg, el, er, o6]
  rfl

theorem out3 (X1 : A1) (X2 : A2) (X3 : A3) (X4 : A4) (b : Fin 2) (s : Fin 2048) (d : Fin 1024) :
    val_main_v18 (F := Ideal) X1 X2 X3 X4 (ix3 b s d)
      = row (fun k => X1 (ix2 ⟨b.val * 2048 + s.val, by omega⟩ k)) X2 X3 X4 ⟨8192 + (b.val * 2048 + s.val), by omega⟩ ⟨1 + b.val, by omega⟩ d := by
  have hd := d.isLt
  have hb := b.isLt
  rw [val_main_v18_apply, val_main_v17_apply, val_main_v16_apply, val_main_v13_apply, val_main_v12_apply, val_main_v15_apply, x3]
  have eg : idx_main_v12 (idx_main_v13 (idx_main_v16 (ix3 b s d))) = ix4 ⟨1 + b.val, by omega⟩ 2 0 d := by
    funext a
    match a with
    | ⟨0, _⟩ => refine Fin.ext ?_; show 1 + ((b.val * 1 + 0) * 1024 + d.val) / 1024 = 1 + b.val; omega
    | ⟨1, _⟩ => rfl
    | ⟨2, _⟩ => rfl
    | ⟨3, _⟩ => refine Fin.ext ?_; show ((b.val * 1 + 0) * 1024 + d.val) % 1024 = d.val; omega
  have el : ∀ h, lidx_main_v15 (ix3 b s d) h = ix3 b s h := by
    intro k
    funext a
    match a with | ⟨0, _⟩ => rfl | ⟨1, _⟩ => rfl | ⟨2, _⟩ => rfl
  have er : ∀ h, ridx_main_v15 (ix3 b s d) h = ix2 h d := by
    intro k
    funext a
    match a with | ⟨0, _⟩ => rfl | ⟨1, _⟩ => rfl
  simp only [eg, el, er, o14]
  rfl

/-- Two blocks of rows stacked, read at a row of the first. -/
theorem stack_lo (y : FVec Ideal S8192x1024 .f32) (z : FVec Ideal S4096x1024 .f32)
    (hc : _) (r : Fin 12288) (d : Fin 1024) (h : r.val < 8192) :
    concatenate S12288x1024 0 [⟨S8192x1024, y⟩, ⟨S4096x1024, z⟩] hc (ix2 r d) = y (ix2 ⟨r.val, h⟩ d) := by
  pointwise [h]

/-- Two blocks of rows stacked, read at a row of the second. -/
theorem stack_hi (y : FVec Ideal S8192x1024 .f32) (z : FVec Ideal S4096x1024 .f32)
    (hc : _) (r : Fin 12288) (d : Fin 1024) (h : ¬r.val < 8192) :
    concatenate S12288x1024 0 [⟨S8192x1024, y⟩, ⟨S4096x1024, z⟩] hc (ix2 r d)
      = z (ix2 ⟨r.val - 8192, by omega⟩ d) := by
  pointwise [h]

/-- A prompt row of the reference. -/
theorem reads_lo (X0 : A0) (X1 : A1) (X2 : A2) (X3 : A3) (X4 : A4) (r : Fin 12288) (d : Fin 1024) (h : r.val < 8192) :
    val_main_v21 (F := Ideal) X0 X1 X2 X3 X4 (ix2 r d) = row (fun k => X0 (ix2 ⟨r.val, h⟩ k)) X2 X3 X4 r 0 d := by
  have hd := d.isLt
  unfold val_main_v21
  rw [stack_lo _ _ _ r d h, val_main_v19_apply]
  have e : idx_main_v19 (ix2 ⟨r.val, h⟩ d) = ix3 ⟨r.val / 256, by omega⟩ ⟨r.val % 256, by omega⟩ d := by
    funext a
    match a with
    | ⟨0, _⟩ => refine Fin.ext ?_; show (r.val * 1024 + d.val) / 262144 = r.val / 256; omega
    | ⟨1, _⟩ => refine Fin.ext ?_; show (r.val * 1024 + d.val) / 1024 % 256 = r.val % 256; omega
    | ⟨2, _⟩ => refine Fin.ext ?_; show (r.val * 1024 + d.val) % 1024 = d.val; omega
  rw [e, out1]
  have er : r.val / 256 * 256 + r.val % 256 = r.val := by omega
  simp only [er]

/-- A sample row of the reference. -/
theorem reads_hi (X0 : A0) (X1 : A1) (X2 : A2) (X3 : A3) (X4 : A4) (r : Fin 12288) (d : Fin 1024) (h : ¬r.val < 8192) :
    val_main_v21 (F := Ideal) X0 X1 X2 X3 X4 (ix2 r d)
      = row (fun k => X1 (ix2 ⟨r.val - 8192, by omega⟩ k)) X2 X3 X4 r ⟨1 + (r.val - 8192) / 2048, by omega⟩ d := by
  have hd := d.isLt
  have hr := r.isLt
  unfold val_main_v21
  rw [stack_hi _ _ _ r d h, val_main_v20_apply]
  have e : idx_main_v20 (ix2 ⟨r.val - 8192, by omega⟩ d) = ix3 ⟨(r.val - 8192) / 2048, by omega⟩ ⟨(r.val - 8192) % 2048, by omega⟩ d := by
    funext a
    match a with
    | ⟨0, _⟩ => refine Fin.ext ?_; show ((r.val - 8192) * 1024 + d.val) / 2097152 = (r.val - 8192) / 2048; omega
    | ⟨1, _⟩ => refine Fin.ext ?_; show ((r.val - 8192) * 1024 + d.val) / 1024 % 2048 = (r.val - 8192) % 2048; omega
    | ⟨2, _⟩ => refine Fin.ext ?_; show ((r.val - 8192) * 1024 + d.val) % 1024 = d.val; omega
  rw [e, out3]
  have er : (r.val - 8192) / 2048 * 2048 + (r.val - 8192) % 2048 = r.val - 8192 := by omega
  have er' : 8192 + (r.val - 8192) = r.val := by omega
  simp only [er, er']

end Cert.OutProjRefIdeal.Reading

namespace Cert.OutProjIdeal.Val

open Idealize.ShloMosaic Idealize.ShloMosaic.TcCoe Idealize.SL.Sem
open Cert.OutProjIdeal Cert.OutProjIdeal.Gen

variable (m : (ℓ : Loc nD τ sig) → Buf (Elt Ideal) ℓ)

/-- The stored block: the residual plus the gate times the held rows' product with the weight. -/
theorem pay3 (xb : FVec Ideal S1024x1024 .bf16) (w x : FVec Ideal S1024x1024 .f32) (g : FVec Ideal S1x1x1x1024 .f32) (r d : Fin 1024) :
    k0_pay3 (F := Ideal) xb w x g (ix2 r d) = x (ix2 r d) + g (ix4 0 0 0 d) * ∑ k : Fin 1024, xb (ix2 r k) * w (ix2 k d) := by
  pointwise [k0_pay3]

theorem pay1 (x : FVec Ideal S1024x1024 .f32) (r k : Fin 1024) : k0_pay1 (F := Ideal) x (ix2 r k) = x (ix2 r k) := by
  pointwise [k0_pay1]

theorem pay2 (x : FVec Ideal S1024x1024 .f32) (r k : Fin 1024) : k0_pay2 (F := Ideal) x (ix2 r k) = x (ix2 r k) := by
  pointwise [k0_pay2]

/-- Which block each window stages at a grid point. -/
theorem idx : ∀ t : Fin cfg0.N,
    win0_0.index t = ![min t.val 7, 0] ∧ win0_1.index t = ![t.val - 8, 0] ∧ win0_2.index t = ![0, 0] ∧ win0_3.index t = ![t.val, 0]
    ∧ win0_4.index t = ![(t.val - 6) / 2, 2, 0, 0] ∧ win0_5.index t = ![t.val, 0] :=
  (by decide +kernel : ∀ t : Fin grid0.N, _)

theorem tlt (t : Fin cfg0.N) : t.val < 12 := t.isLt

abbrev Oc (c : Dev nD) : FVec Ideal S8192x1024 .f32 := m ((c.tc : Thread nD τ).loc main_arg0)
abbrev Ol (c : Dev nD) : FVec Ideal S4096x1024 .f32 := m ((c.tc : Thread nD τ).loc main_arg1)
abbrev W (c : Dev nD) : FVec Ideal S1024x1024 .f32 := m ((c.tc : Thread nD τ).loc main_arg2)
abbrev X (c : Dev nD) : FVec Ideal S12288x1024 .f32 := m ((c.tc : Thread nD τ).loc main_arg3)
abbrev Mods (c : Dev nD) : FVec Ideal S3x6x1x1024 .f32 := m ((c.tc : Thread nD τ).loc main_arg4)

/-- The row of the whole array that row `r` of a point's block is. -/
abbrev rowOf (t : Fin cfg0.N) (r : Fin 1024) : Fin 12288 := ⟨t.val * 1024 + r.val, by have := tlt t; omega⟩

theorem blk0 (c : Dev nD) (t : Fin cfg0.N) (h : t.val < 8) (r k : Fin 1024) :
    (iblk m c 0 t : Vec Ideal S1024x1024 .f32) (ix2 r k) = Oc m c (ix2 ⟨t.val * 1024 + r.val, by omega⟩ k) := by
  have e : min t.val 7 = t.val := by omega
  blk_ext! [iblk, V, idx t, e]

theorem blk1 (c : Dev nD) (t : Fin cfg0.N) (r k : Fin 1024) :
    (iblk m c 1 t : Vec Ideal S1024x1024 .f32) (ix2 r k) = Ol m c (ix2 ⟨(t.val - 8) * 1024 + r.val, by have := tlt t; omega⟩ k) := by
  blk_ext! [iblk, V, idx t]

theorem blk2 (c : Dev nD) (t : Fin cfg0.N) (k d : Fin 1024) : (iblk m c 2 t : Vec Ideal S1024x1024 .f32) (ix2 k d) = W m c (ix2 k d) := by
  blk_ext! [iblk, V, idx t]

theorem blk3 (c : Dev nD) (t : Fin cfg0.N) (r k : Fin 1024) : (iblk m c 3 t : Vec Ideal S1024x1024 .f32) (ix2 r k) = X m c (ix2 (rowOf t r) k) := by
  blk_ext! [iblk, V, idx t]

theorem blk4 (c : Dev nD) (t : Fin cfg0.N) (k : Fin 1024) :
    (iblk m c 4 t : Vec Ideal S1x1x1x1024 .f32) (ix4 0 0 0 k) = Mods m c (ix4 ⟨(t.val - 6) / 2, by have := tlt t; omega⟩ 2 0 k) := by
  blk_ext! [iblk, V, idx t]

/-- Where element `(r, d)` of the stored block lies in the returned array. -/
theorem win_emb (t : Fin cfg0.N) (r d : Fin 1024) :
    (win0_5.blk t).view.emb (ix2 r d : S1024x1024.Idx) = (ix2 (rowOf t r) d : S12288x1024.Idx) := by
  blk_ext [idx t]

/-- Every index of a stored block is its two coordinates. -/
theorem two (y : S1024x1024.Idx) : ∃ r d : Fin 1024, y = ix2 r d :=
  ⟨y 0, y 1, by funext a; match a with | ⟨0, _⟩ => rfl | ⟨1, _⟩ => rfl⟩

/-- The block of a tile of prompt rows. -/
theorem out_lo (c : Dev nD) (t : Fin cfg0.N) (h : t.val < 8) (r d : Fin 1024) :
    outsAt0 m c t.val t.isLt (ix2 r d)
      = OutProjRefIdeal.Reading.row (fun k => Oc m c (ix2 ⟨t.val * 1024 + r.val, by omega⟩ k)) (W m c) (X m c) (Mods m c) (rowOf t r)
          ⟨(t.val - 6) / 2, by have := tlt t; omega⟩ d := by
  rw [outsAt0_A m c t h (by omega)]
  frame_out
  rw [pay3]
  simp only [blk2, blk3, blk4, View.readCov_eq_canon', pay1, blk0 m c t h]
  rfl

/-- The block of a tile of sample rows. -/
theorem out_hi (c : Dev nD) (t : Fin cfg0.N) (h : ¬t.val < 8) (r d : Fin 1024) :
    outsAt0 m c t.val t.isLt (ix2 r d)
      = OutProjRefIdeal.Reading.row (fun k => Ol m c (ix2 ⟨(t.val - 8) * 1024 + r.val, by have := tlt t; omega⟩ k)) (W m c) (X m c) (Mods m c) (rowOf t r)
          ⟨(t.val - 6) / 2, by have := tlt t; omega⟩ d := by
  rw [outsAt0_B m c t h (by omega)]
  frame_out
  rw [pay3]
  simp only [blk1, blk2, blk3, blk4, View.readCov_eq_canon', pay2]
  rfl

/-- The array the kernel returns is the reference's. -/
theorem final (c : Dev nD) : (dats (F := Ideal) m 0 c).arrAt 5 cfg0.N
    = (OutProjRefIdeal.Read.val_main_v21 (F := Ideal) (Oc m c) (Ol m c) (W m c) (X m c) (Mods m c) : FVec Ideal S12288x1024 .f32) := by
  refine (dats m 0 c).arrAt_eq_of_covers 5 _ (by decide +kernel) fun t hf y => ?_
  blk_simp
  rw [after0_5]
  obtain ⟨r, d, rfl⟩ := two y
  rw [win_emb]
  have hr := r.isLt
  have ht := tlt t
  by_cases h : t.val < 8
  · refine (out_lo m c t h r d).trans ?_
    refine Eq.trans ?_ (OutProjRefIdeal.Reading.reads_lo _ _ _ _ _ (rowOf t r) d (by show t.val * 1024 + r.val < 8192; omega)).symm
    refine congrArg (fun g => OutProjRefIdeal.Reading.row _ (W m c) (X m c) (Mods m c) (rowOf t r) g d) (Fin.ext ?_)
    show (t.val - 6) / 2 = 0
    omega
  · refine (out_hi m c t h r d).trans ?_
    refine Eq.trans ?_ (OutProjRefIdeal.Reading.reads_hi _ _ _ _ _ (rowOf t r) d (by show ¬t.val * 1024 + r.val < 8192; omega)).symm
    have e1 : (⟨(t.val - 6) / 2, by omega⟩ : Fin 3) = ⟨1 + ((rowOf t r).val - 8192) / 2048, by show 1 + (t.val * 1024 + r.val - 8192) / 2048 < 3; omega⟩ :=
      Fin.ext (by show (t.val - 6) / 2 = 1 + (t.val * 1024 + r.val - 8192) / 2048; omega)
    have e2 : (⟨(t.val - 8) * 1024 + r.val, by omega⟩ : Fin 4096) = ⟨(rowOf t r).val - 8192, by show t.val * 1024 + r.val - 8192 < 4096; omega⟩ :=
      Fin.ext (by show (t.val - 8) * 1024 + r.val = t.val * 1024 + r.val - 8192; omega)
    rw [e1, e2]

end Cert.OutProjIdeal.Val
-- ==== Proof.OutProjClaim.lean ====
module

public import proofs.«01_k».proof.Defs
public import proofs.«01_k».proof.Proof.OutProjValue
public import proofs.«01_k».proof.Proof.Gen.OutProj
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import Idealize.ShloMosaic.Lib.Claim

/-! The value claim of the output projection, from the kernel's run and the reference's. -/

@[expose] public section

set_option maxRecDepth 16384

noncomputable section

namespace Cert.OutProjClaim

open Idealize.ShloMosaic Idealize.ShloMosaic.TcCoe Idealize.SL.Sem

/-- Kernel and reference end with the same array. -/
theorem algebraic : Cert.algebraic_OutProjIdeal_OutProjRefIdeal
    (hOutProjIdeal := Cert.OutProjIdeal.Gen.facts) (hOutProjRefIdeal := Cert.OutProjRefIdeal.Gen.facts) := by
  intro m g m' g' _ ha
  refine ⟨fun c => (Cert.OutProjRefIdeal.Read.val_main_v21 (F := Ideal)
      (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1))
      (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3))
      (m ((c.tc : Thread Cert.OutProjIdeal.nD Cert.OutProjIdeal.τ).loc Cert.OutProjIdeal.main_arg4)) :
      FVec Ideal Cert.OutProjIdeal.S12288x1024 .f32), ?_, ?_⟩
  · exact (θ_run _ _ _).mono (fun r h c => ⟨(h c).1.trans (Cert.OutProjIdeal.Val.final m c), (h c).2⟩) (Cert.OutProjIdeal.Value.run_blocks (F := Ideal) m g)
  · refine (θ_run _ _ _).mono (fun r h c => ?_) (Cert.OutProjRefIdeal.Value.run m' g')
    refine ⟨(h c).1.trans ?_, (h c).2⟩
    rw [Cert.OutProjRefIdeal.Read.val_main_v21_eq]
    obtain ⟨a0, a1, a2, a3, a4⟩ := ha c
    rw [a0, a1, a2, a3, a4]

/-- The reference terminates, keeps its arguments and has no semaphore. -/
theorem reference_frame (m : (ℓ : Loc Cert.OutProjRefIdeal.nD Cert.OutProjRefIdeal.τ Cert.OutProjRefIdeal.sig) → Buf (Elt Ideal) ℓ)
    (g : Dev Cert.OutProjRefIdeal.nD → PrngReg) :
    θ_run (Cert.OutProjRefIdeal.defs (F := Ideal)) (onTc (τ := Cert.OutProjRefIdeal.τ) (Cert.OutProjRefIdeal.main (F := Ideal)))
      ⟨m, fun _ => 0, g⟩ fun r => (∀ c : Dev Cert.OutProjRefIdeal.nD,
        r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
        ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
        ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
        ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
        ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4))
        ∧ r.2.sem = fun _ => 0 :=
  (θ_run _ _ _).mono (fun r h => ⟨fun c => (h c).2, sem_eq_zero_of_no_sems (by decide) r.2⟩)
    (Cert.OutProjRefIdeal.Value.run m g)

end Cert.OutProjClaim

end
-- ==== Proof.MlaQValue.lean ====
module

public import proofs.«01_k».proof.Proof.Gen.MlaQIdeal.Frame
public import proofs.«01_k».proof.Proof.Gen.MlaQRefIdeal.Run
public import proofs.«01_k».proof.Proof.Gen.MlaQRefIdeal.Read
public import proofs.«01_k».proof.Proof.NormSpec
public import Idealize.ShloMosaic.Lib.Pipeline.ReadBack
public import Idealize.ShloMosaic.Lib.Pipeline.ValueKit.Held

/-! The array of the query expansion of the latent attention: every row is the reference's. -/

@[expose] public section

set_option maxRecDepth 16384

noncomputable section

namespace Cert.MlaQRefIdeal.Reading

open Idealize.ShloMosaic Idealize.ShloMosaic.TcCoe Idealize.SL.Sem
open Cert.MlaQRefIdeal Cert.MlaQRefIdeal.Read Cert.NormSpec

abbrev A0 := FVec Ideal S12288x1024 .f32
abbrev A1 := FVec Ideal S512x1536 .f32
abbrev A2 := FVec Ideal S512 .f32

/-- The normalized compressed queries of row `r`. -/
abbrev rowsOf (X0 : A0) (X2 : A2) (r : Fin 12288) : Fin 512 → EReal :=
  normed (Ideal.ofBits .f32 0x44000000#32) (fun k => X0 (ix2 r ⟨k.val, by omega⟩)) (fun k => X2 (ix1 k))

/-- The weight with each head of 192 columns filled up to 256 with zeros. -/
def weight (X1 : A1) (k : Fin 512) (d : Fin 2048) : EReal :=
  if h : d.val % 256 < 192 then X1 (ix2 k ⟨d.val / 256 * 192 + d.val % 256, by omega⟩) else 0

/-- Column `d` of row `r` of the expanded queries. -/
def row (X0 : A0) (X1 : A1) (X2 : A2) (r : Fin 12288) (d : Fin 2048) : EReal :=
  ∑ k, rowsOf X0 X2 r k * weight X1 k d

/-- The integer zero as a number. -/
theorem nil : (FloatOps.sitofp (F := Ideal) FTy.f32 0#32 : EReal) = 0 := by
  show (((0#32 : BitVec 32).toInt : ℝ) : EReal) = 0
  simp

theorem row0 (X0 : A0) (r : Fin 12288) (k : Fin 512) :
    val_main_v0 (F := Ideal) X0 (ix2 r k) = X0 (ix2 r ⟨k.val, by omega⟩) := by
  rw [val_main_v0_apply]
  refine congrArg X0 (funext fun a => ?_)
  match a with
  | ⟨0, _⟩ => rfl
  | ⟨1, _⟩ => refine Fin.ext ?_; show _ = k.val; simp

/-- The reference's norm. -/
theorem norm13 (X0 : A0) (X2 : A2) (r : Fin 12288) (k : Fin 512) :
    val_main_v13 (F := Ideal) X0 X2 (ix2 r k) = rowsOf X0 X2 r k := by
  rw [val_main_v13_apply, val_main_v10_apply, val_main_v9_apply, val_main_v8_apply, val_main_v7_apply, val_main_v5_apply, val_main_v3_apply,
    val_main_v2_apply, val_main_v4_apply, val_main_v6_apply, val_main_cst_0_apply, val_main_cst_1_apply, val_main_cst_apply,
    val_main_v12_apply, val_main_v11_apply]
  simp only [val_main_v1_apply]
  have e : ∀ l, idx_main_v2 (idx_main_v3 (idx_main_v9 (ix2 r k))) l = ix2 r l := by
    intro l
    funext a
    match a with | ⟨0, _⟩ => rfl | ⟨1, _⟩ => rfl
  have eg : idx_main_v11 (idx_main_v12 (ix2 r k)) = ix1 k := by
    funext a
    match a with | ⟨0, _⟩ => rfl
  simp only [e, eg]
  refine Eq.trans (b := normed (Ideal.ofBits .f32 0x44000000#32) (fun k => val_main_v0 (F := Ideal) X0 (ix2 r k)) (fun k => X2 (ix1 k)) k) ?_ ?_
  · generalize val_main_v0 (F := Ideal) X0 = y
    show y (ix2 r k) * Ideal.rsqrt (Ideal.div (Ideal.ofBits .f32 0x00000000#32 + ∑ l, y (ix2 r l) * y (ix2 r l)) _ + _) * _ = _
    rw [zero, zero_add]
    rfl
  · simp only [row0]

/-- The reference's product. -/
theorem dot14 (X0 : A0) (X1 : A1) (X2 : A2) (r : Fin 12288) (e : Fin 1536) :
    val_main_v14 (F := Ideal) X0 X1 X2 (ix2 r e) = ∑ k, rowsOf X0 X2 r k * X1 (ix2 k e) := by
  rw [val_main_v14_apply]
  have el : ∀ k, lidx_main_v14 (ix2 r e) k = ix2 r k := by
    intro k
    funext a
    match a with | ⟨0, _⟩ => rfl | ⟨1, _⟩ => rfl
  have er : ∀ k, ridx_main_v14 (ix2 r e) k = ix2 k e := by
    intro k
    funext a
    match a with | ⟨0, _⟩ => rfl | ⟨1, _⟩ => rfl
  simp only [el, er, norm13]

/-- Heads filled up, read at a column that was there. -/
theorem fill_in (x : FVec Ideal S12288x8x192 .f32) (v : FVec Ideal S_ .f32) (hp : _) (hu : _) (r : Fin 12288) (p : Fin 8) (e : Fin 256) (h : e.val < 192) :
    pad S12288x8x256 ![0, 0, 0] ![0, 0, 64] ![0, 0, 0] x v hp hu (ix3 r p e) = x (ix3 r p ⟨e.val, h⟩) := by
  pointwise [h]

/-- Heads filled up, read at a new column. -/
theorem fill_out (x : FVec Ideal S12288x8x192 .f32) (v : FVec Ideal S_ .f32) (hp : _) (hu : _) (r : Fin 12288) (p : Fin 8) (e : Fin 256) (h : ¬e.val < 192) :
    pad S12288x8x256 ![0, 0, 0] ![0, 0, 64] ![0, 0, 0] x v hp hu (ix3 r p e) = v (Shape.Idx.first hu) := by
  pointwise [h]

/-- The reference at row `r` and column `d`. -/
theorem reads (X0 : A0) (X1 : A1) (X2 : A2) (r : Fin 12288) (d : Fin 2048) :
    val_main_v17 (F := Ideal) X0 X1 X2 (ix2 r d) = row X0 X1 X2 r d := by
  have hd := d.isLt
  have hr := r.isLt
  rw [val_main_v17_apply]
  have e : idx_main_v17 (ix2 r d) = ix3 r ⟨d.val / 256, by omega⟩ ⟨d.val % 256, by omega⟩ := by
    funext a
    match a with
    | ⟨0, _⟩ => refine Fin.ext ?_; show (r.val * 2048 + d.val) / 2048 = r.val; omega
    | ⟨1, _⟩ => refine Fin.ext ?_; show (r.val * 2048 + d.val) / 256 % 8 = d.val / 256; omega
    | ⟨2, _⟩ => refine Fin.ext ?_; show (r.val * 2048 + d.val) % 256 = d.val % 256; omega
  rw [e]
  unfold val_main_v16 row weight
  by_cases h : d.val % 256 < 192
  · rw [fill_in _ _ _ _ r _ ⟨d.val % 256, by omega⟩ h, val_main_v15_apply]
    have e' : idx_main_v15 (ix3 r ⟨d.val / 256, by omega⟩ ⟨d.val % 256, h⟩) = ix2 r ⟨d.val / 256 * 192 + d.val % 256, by omega⟩ := by
      funext a
      match a with
      | ⟨0, _⟩ => refine Fin.ext ?_; show ((r.val * 8 + d.val / 256) * 192 + d.val % 256) / 1536 = r.val; omega
      | ⟨1, _⟩ => refine Fin.ext ?_; show ((r.val * 8 + d.val / 256) * 192 + d.val % 256) % 1536 = d.val / 256 * 192 + d.val % 256; omega
    rw [e', dot14]
    simp only [h, dite_true]
  · rw [fill_out _ _ _ _ r _ ⟨d.val % 256, by omega⟩ h, val_main_call0_v0_apply, val_main_c_apply]
    simp only [h, dite_false, mul_zero, Finset.sum_const_zero]
    exact nil

end Cert.MlaQRefIdeal.Reading

namespace Cert.MlaQIdeal.Val

open Idealize.ShloMosaic Idealize.ShloMosaic.TcCoe Idealize.SL.Sem
open Cert.MlaQIdeal Cert.MlaQIdeal.Gen Cert.NormSpec

variable (m : (ℓ : Loc nD τ sig) → Buf (Elt Ideal) ℓ)

/-- The rows a run works on: normalized. -/
theorem pay1 (x : FVec Ideal S1024x512 .f32) (g : FVec Ideal S1x512 .f32) (r : Fin 1024) (d : Fin 512) :
    k0_pay1 (F := Ideal) x g (ix2 r d) = normed (Ideal.ofBits .f32 0x44000000#32) (fun k => x (ix2 r k)) (fun k => g (ix2 0 k)) d := by
  unfold normed
  pointwise [k0_pay1]

/-- The stored block: held rows times a tile of the weight. -/
theorem pay2 (xb : FVec Ideal S1024x512 .bf16) (w : FVec Ideal S512x1024 .f32) (r d : Fin 1024) :
    k0_pay2 (F := Ideal) xb w (ix2 r d) = ∑ k : Fin 512, xb (ix2 r k) * w (ix2 k d) := by
  pointwise [k0_pay2]

/-- Which block each window stages at a grid point. -/
theorem idx : ∀ t : Fin cfg0.N,
    win0_0.index t = ![t.val / 2, 0] ∧ win0_1.index t = ![0, t.val % 2] ∧ win0_2.index t = ![0, 0] ∧ win0_3.index t = ![t.val / 2, t.val % 2] :=
  (by decide +kernel : ∀ t : Fin grid0.N, _)

theorem tlt (t : Fin cfg0.N) : t.val < 24 := t.isLt

abbrev X (c : Dev nD) : FVec Ideal S12288x1024 .f32 := m ((c.tc : Thread nD τ).loc main_arg0)
abbrev W (c : Dev nD) : FVec Ideal S512x1536 .f32 := m ((c.tc : Thread nD τ).loc main_arg1)
abbrev Ng (c : Dev nD) : FVec Ideal S512 .f32 := m ((c.tc : Thread nD τ).loc main_arg2)

/-- The row of the whole array that row `r` of a point's block is. -/
abbrev rowOf (t : Fin cfg0.N) (r : Fin 1024) : Fin 12288 := ⟨t.val / 2 * 1024 + r.val, by have := tlt t; omega⟩

/-- The column of the whole array that column `d` of a point's block is. -/
abbrev colOf (t : Fin cfg0.N) (d : Fin 1024) : Fin 2048 := ⟨t.val % 2 * 1024 + d.val, by omega⟩

/-- The weight's heads filled up, before the last reshape. -/
abbrev Heads (c : Dev nD) : FVec Ideal S512x8x256 .f32 :=
  pad S512x8x256 ![0, 0, 0] ![0, 0, 64] ![0, 0, 0] (shapeCast S512x8x192 (W m c) shapeCasts_S512x1536_S512x8x192 : FVec Ideal S512x8x192 .f32)
    ((sitofp .f32 (fun _ => 0#32)) : FVec Ideal S_ .f32) pads_S512x8x192_S512x8x256_000_000_0640 h_S_

/-- The weight array of the call, as the host makes it. -/
abbrev Wt (c : Dev nD) : FVec Ideal S512x2048 .f32 := shapeCast S512x2048 (Heads m c) shapeCasts_S512x8x256_S512x2048

/-- Heads filled up, read at a column that was there. -/
theorem fill_in (x : FVec Ideal S512x8x192 .f32) (v : FVec Ideal S_ .f32) (hp : _) (hu : _) (k : Fin 512) (p : Fin 8) (e : Fin 256) (h : e.val < 192) :
    pad S512x8x256 ![0, 0, 0] ![0, 0, 64] ![0, 0, 0] x v hp hu (ix3 k p e) = x (ix3 k p ⟨e.val, h⟩) := by
  pointwise [h]

/-- Heads filled up with one number, read at a new column. -/
theorem fill_out (x : FVec Ideal S512x8x192 .f32) (v : FVec Ideal S_ .f32) (hp : _) (hu : _) (k : Fin 512) (p : Fin 8) (e : Fin 256) (h : ¬e.val < 192) :
    pad S512x8x256 ![0, 0, 0] ![0, 0, 64] ![0, 0, 0] x v hp hu (ix3 k p e) = v (Shape.Idx.first hu) := by
  pointwise [h]

/-- It is the weight with each head filled up. -/
theorem wt (c : Dev nD) (k : Fin 512) (d : Fin 2048) : Wt m c (ix2 k d) = MlaQRefIdeal.Reading.weight (W m c) k d := by
  have hd := d.isLt
  have hk := k.isLt
  have e : Wt m c (ix2 k d) = Heads m c (ix3 k ⟨d.val / 256, by omega⟩ ⟨d.val % 256, by omega⟩) :=
    shapeCast_apply (Heads m c) shapeCasts_S512x8x256_S512x2048 (ix2 k d) (ix3 k ⟨d.val / 256, by omega⟩ ⟨d.val % 256, by omega⟩) (by
      rewrite [Shape.rowMajor_val_three, Shape.rowMajor_val_two]
      show (k.val * 8 + d.val / 256) * 256 + d.val % 256 = k.val * 2048 + d.val
      omega)
  refine e.trans ?_
  unfold MlaQRefIdeal.Reading.weight
  by_cases h : d.val % 256 < 192
  · simp only [h, dite_true]
    refine (fill_in _ _ _ _ k ⟨d.val / 256, by omega⟩ ⟨d.val % 256, by omega⟩ h).trans ?_
    exact shapeCast_apply (W m c) shapeCasts_S512x1536_S512x8x192 (ix3 k ⟨d.val / 256, by omega⟩ ⟨d.val % 256, h⟩)
      (ix2 k ⟨d.val / 256 * 192 + d.val % 256, by omega⟩) (by
        rewrite [Shape.rowMajor_val_two, Shape.rowMajor_val_three]
        show k.val * 1536 + (d.val / 256 * 192 + d.val % 256) = (k.val * 8 + d.val / 256) * 192 + d.val % 256
        omega)
  · simp only [h, dite_false]
    refine (fill_out _ _ _ _ k ⟨d.val / 256, by omega⟩ ⟨d.val % 256, by omega⟩ h).trans ?_
    exact MlaQRefIdeal.Reading.nil

theorem blk0 (c : Dev nD) (t : Fin cfg0.N) (r : Fin 1024) (k : Fin 512) :
    (iblk m c 0 t : Vec Ideal S1024x512 .f32) (ix2 r k) = X m c (ix2 (rowOf t r) ⟨k.val, by omega⟩) := by
  blk_ext! [iblk, V, idx t]

theorem blk1 (c : Dev nD) (t : Fin cfg0.N) (k : Fin 512) (d : Fin 1024) :
    (iblk m c 1 t : Vec Ideal S512x1024 .f32) (ix2 k d) = MlaQRefIdeal.Reading.weight (W m c) k (colOf t d) := by
  have e : (win0_1.blk t).view.emb (ix2 k d : S512x1024.Idx) = (ix2 k (colOf t d) : S512x2048.Idx) := by blk_ext [idx t]
  refine Eq.trans ?_ (wt m c k (colOf t d))
  show V m c main_v2 ((win0_1.blk t).view.emb (ix2 k d : S512x1024.Idx)) = _
  rw [e]
  rfl

theorem blk2 (c : Dev nD) (t : Fin cfg0.N) (k : Fin 512) : (iblk m c 2 t : Vec Ideal S1x512 .f32) (ix2 0 k) = Ng m c (ix1 k) := by
  have e : (win0_2.blk t).view.emb (ix2 0 k : S1x512.Idx) = (ix2 0 k : S1x512.Idx) := by blk_ext [idx t]
  show V m c main_v3 ((win0_2.blk t).view.emb (ix2 0 k : S1x512.Idx)) = _
  rw [e]
  show (shapeCast S1x512 (Ng m c) shapeCasts_S512_S1x512 : FVec Ideal S1x512 .f32) (ix2 0 k) = _
  pointwise

/-- Where element `(r, d)` of the stored block lies in the returned array. -/
theorem win_emb (t : Fin cfg0.N) (r d : Fin 1024) :
    (win0_3.blk t).view.emb (ix2 r d : S1024x1024.Idx) = (ix2 (rowOf t r) (colOf t d) : S12288x2048.Idx) := by
  blk_ext [idx t]

/-- Every index of a stored block is its two coordinates. -/
theorem two (y : S1024x1024.Idx) : ∃ r d : Fin 1024, y = ix2 r d :=
  ⟨y 0, y 1, by funext a; match a with | ⟨0, _⟩ => rfl | ⟨1, _⟩ => rfl⟩

/-- The normalized rows of a point's run. -/
abbrev rowsAt (c : Dev nD) (t : Fin cfg0.N) (r : Fin 1024) : Fin 512 → EReal := MlaQRefIdeal.Reading.rowsOf (X m c) (Ng m c) (rowOf t r)

/-- A run's first point writes its rows. -/
theorem held_first (c : Dev nD) (t : Fin cfg0.N) (h0 : t.val % 2 = 0) (r : Fin 1024) (k : Fin 512) :
    (outsAt0 m c t.val t.isLt).2 (ix2 r k) = rowsAt m c t r k := by
  rw [outsAt0_A m c t h0]
  frame_out
  rw [pay1]
  simp only [blk0, blk2]

/-- The second point of a run leaves those rows. -/
theorem held_next (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

/-- At every point the held rows are those of its run. -/
theorem held (c : Dev nD) (t : Fin cfg0.N) (r : Fin 1024) (k : Fin 512) : (outsAt0 m c t.val t.isLt).2 (ix2 r k) = rowsAt m c t r k := by
  have h := Pipeline.eq_of_write_hold (N := cfg0.N) (fun n hn => fun (p : Fin 1024 × Fin 512) => (outsAt0 m c n hn).2 (ix2 p.1 p.2)) 2
    (fun t p => rowsAt m c t p.1 p.2) (fun t h0 => funext fun p => held_first m c t h0 p.1 p.2)
    (fun t h0 => funext fun p => congrFun (held_next m c t h0) _) t
  refine (congrFun h (r, k)).trans ?_
  have e1 : rowOf ⟨2 * (t.val / 2), Pipeline.run_start_lt t⟩ r = rowOf t r := Fin.ext (by show 2 * (t.val / 2) / 2 * 1024 + r.val = t.val / 2 * 1024 + r.val; omega)
  show MlaQRefIdeal.Reading.rowsOf _ _ _ k = MlaQRefIdeal.Reading.rowsOf _ _ _ k
  rw [e1]

/-- The block a point stores is its held rows times its tile of the weight. -/
theorem out_eq (c : Dev nD) (t : Fin cfg0.N) (r d : Fin 1024) :
    (outsAt0 m c t.val t.isLt).1 (ix2 r d)
      = ∑ k : Fin 512, (outsAt0 m c t.val t.isLt).2 (ix2 r k) * MlaQRefIdeal.Reading.weight (W m c) k (colOf t d) := by
  by_cases h0 : t.val % 2 = 0
  · rw [outsAt0_A m c t h0]
    frame_out
    rw [pay2]
    simp only [blk1, View.readCov_eq_canon']
  · rw [outsAt0_B m c t h0]
    frame_out
    rw [pay2]
    simp only [blk1, read_unread_whole]
    rfl

/-- The array the kernel returns is the reference's. -/
theorem final (c : Dev nD) : (dats (F := Ideal) m 0 c).arrAt 3 cfg0.N
    = (MlaQRefIdeal.Read.val_main_v17 (F := Ideal) (X m c) (W m c) (Ng m c) : FVec Ideal S12288x2048 .f32) := by
  refine (dats m 0 c).arrAt_eq_of_covers 3 _ (by decide +kernel) fun t hf y => ?_
  blk_simp
  rw [after0_3]
  obtain ⟨r, d, rfl⟩ := two y
  rw [win_emb]
  refine (out_eq m c t r d).trans ?_
  refine Eq.trans ?_ (MlaQRefIdeal.Reading.reads _ _ _ (rowOf t r) (colOf t d)).symm
  simp only [held]
  rfl

end Cert.MlaQIdeal.Val
-- ==== Proof.MlaQClaim.lean ====
module

public import proofs.«01_k».proof.Defs
public import proofs.«01_k».proof.Proof.MlaQValue
public import proofs.«01_k».proof.Proof.Gen.MlaQ
public import proofs.«01_k».proof.Proof.Gen.MlaQIdeal
public import proofs.«01_k».proof.Proof.Gen.MlaQIdeal.Value
public import proofs.«01_k».proof.Proof.Gen.MlaQRefIdeal
public import proofs.«01_k».proof.Proof.Gen.MlaQRefIdeal.Run
public import Idealize.ShloMosaic.Lib.Claim

/-! The value claim of the query expansion of the latent attention, from the kernel's run and the reference's. -/

@[expose] public section

set_option maxRecDepth 16384

noncomputable section

namespace Cert.MlaQClaim

open Idealize.ShloMosaic Idealize.ShloMosaic.TcCoe Idealize.SL.Sem

/-- Kernel and reference end with the same array. -/
theorem algebraic : Cert.algebraic_MlaQIdeal_MlaQRefIdeal
    (hMlaQIdeal := Cert.MlaQIdeal.Gen.facts) (hMlaQRefIdeal := Cert.MlaQRefIdeal.Gen.facts) := by
  intro m g m' g' _ ha
  refine ⟨fun c => (Cert.MlaQRefIdeal.Read.val_main_v17 (F := Ideal)
      (m ((c.tc : Thread Cert.MlaQIdeal.nD Cert.MlaQIdeal.τ).loc Cert.MlaQIdeal.main_arg0))
      (m ((c.tc : Thread Cert.MlaQIdeal.nD Cert.MlaQIdeal.τ).loc Cert.MlaQIdeal.main_arg1))
      (m ((c.tc : Thread Cert.MlaQIdeal.nD Cert.MlaQIdeal.τ).loc Cert.MlaQIdeal.main_arg2)) :
      FVec Ideal Cert.MlaQIdeal.S12288x2048 .f32), ?_, ?_⟩
  · exact (θ_run _ _ _).mono (fun r h c => ⟨(h c).1.trans (Cert.MlaQIdeal.Val.final m c), (h c).2⟩) (Cert.MlaQIdeal.Value.run_blocks (F := Ideal) m g)
  · refine (θ_run _ _ _).mono (fun r h c => ?_) (Cert.MlaQRefIdeal.Value.run m' g')
    refine ⟨(h c).1.trans ?_, (h c).2⟩
    rw [Cert.MlaQRefIdeal.Read.val_main_v17_eq]
    obtain ⟨a0, a1, a2⟩ := ha c
    rw [a0, a1, a2]

/-- The reference terminates, keeps its arguments and has no semaphore. -/
theorem reference_frame (m : (ℓ : Loc Cert.MlaQRefIdeal.nD Cert.MlaQRefIdeal.τ Cert.MlaQRefIdeal.sig) → Buf (Elt Ideal) ℓ)
    (g : Dev Cert.MlaQRefIdeal.nD → PrngReg) :
    θ_run (Cert.MlaQRefIdeal.defs (F := Ideal)) (onTc (τ := Cert.MlaQRefIdeal.τ) (Cert.MlaQRefIdeal.main (F := Ideal)))
      ⟨m, fun _ => 0, g⟩ fun r => (∀ c : Dev Cert.MlaQRefIdeal.nD,
        r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
        ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
        ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2))
        ∧ r.2.sem = fun _ => 0 :=
  (θ_run _ _ _).mono (fun r h => ⟨fun c => (h c).2, sem_eq_zero_of_no_sems (by decide) r.2⟩)
    (Cert.MlaQRefIdeal.Value.run m g)

end Cert.MlaQClaim

end
-- ==== Proof.MlaKvbValue.lean ====
module

public import proofs.«01_k».proof.Proof.Gen.MlaKvbIdeal.Frame
public import proofs.«01_k».proof.Proof.Gen.MlaKvbRefIdeal.Run
public import proofs.«01_k».proof.Proof.Gen.MlaKvbRefIdeal.Read
public import proofs.«01_k».proof.Proof.NormSpec
public import Idealize.ShloMosaic.Lib.Pipeline.ReadBack
public import Idealize.ShloMosaic.Lib.Pipeline.ValueKit.Held

/-! The array of the key and value expansion of the latent attention: every row is the reference's. -/

@[expose] public section

set_option maxRecDepth 16384

noncomputable section

namespace Cert.MlaKvbRefIdeal.Reading

open Idealize.ShloMosaic Idealize.ShloMosaic.TcCoe Idealize.SL.Sem
open Cert.MlaKvbRefIdeal Cert.MlaKvbRefIdeal.Read

abbrev A0 := FVec Ideal S12288x256 .f32
abbrev A1 := FVec Ideal S2x512x256 .f32
abbrev A2 := FVec Ideal S256x2048 .f32

/-- Row `r` of the compressed keys and values, the cached ones after the new ones. -/
def rowsOf (X0 : A0) (X1 : A1) (r : Fin 13312) (k : Fin 256) : EReal :=
  if h : r.val < 12288 then X0 (ix2 ⟨r.val, h⟩ k) else X1 (ix3 ⟨(r.val - 12288) / 512, by omega⟩ ⟨(r.val - 12288) % 512, by omega⟩ k)

/-- Column `e` of row `r` of the expanded keys and values. -/
def row (X0 : A0) (X1 : A1) (X2 : A2) (r : Fin 13312) (e : Fin 2048) : EReal := ∑ k, rowsOf X0 X1 r k * X2 (ix2 k e)

/-- Two blocks of rows stacked, read at a row of the first. -/
theorem stack_lo (y : FVec Ideal S12288x2048 .f32) (z : FVec Ideal S1024x2048 .f32)
    (hc : _) (r : Fin 13312) (d : Fin 2048) (h : r.val < 12288) :
    concatenate S13312x2048 0 [⟨S12288x2048, y⟩, ⟨S1024x2048, z⟩] hc (ix2 r d) = y (ix2 ⟨r.val, h⟩ d) := by
  pointwise [h]

/-- Two blocks of rows stacked, read at a row of the second. -/
theorem stack_hi (y : FVec Ideal S12288x2048 .f32) (z : FVec Ideal S1024x2048 .f32)
    (hc : _) (r : Fin 13312) (d : Fin 2048) (h : ¬r.val < 12288) :
    concatenate S13312x2048 0 [⟨S12288x2048, y⟩, ⟨S1024x2048, z⟩] hc (ix2 r d)
      = z (ix2 ⟨r.val - 12288, by omega⟩ d) := by
  pointwise [h]

/-- The new rows' product. -/
theorem dot0 (X0 : A0) (X2 : A2) (r : Fin 12288) (e : Fin 2048) :
    val_main_v0 (F := Ideal) X0 X2 (ix2 r e) = ∑ k, X0 (ix2 r k) * X2 (ix2 k e) := by
  rw [val_main_v0_apply]
  have el : ∀ k, lidx_main_v0 (ix2 r e) k = ix2 r k := by
    intro k
    funext a
    match a with | ⟨0, _⟩ => rfl | ⟨1, _⟩ => rfl
  have er : ∀ k, ridx_main_v0 (ix2 r e) k = ix2 k e := by
    intro k
    funext a
    match a with | ⟨0, _⟩ => rfl | ⟨1, _⟩ => rfl
  simp only [el, er]

/-- The cached rows' product. -/
theorem dot1 (X1 : A1) (X2 : A2) (b : Fin 2) (s : Fin 512) (e : Fin 2048) :
    val_main_v1 (F := Ideal) X1 X2 (ix3 b s e) = ∑ k, X1 (ix3 b s k) * X2 (ix2 k e) := by
  rw [val_main_v1_apply]
  have el : ∀ k, lidx_main_v1 (ix3 b s e) k = ix3 b s k := by
    intro k
    funext a
    match a with | ⟨0, _⟩ => rfl | ⟨1, _⟩ => rfl | ⟨2, _⟩ => rfl
  have er : ∀ k, ridx_main_v1 (ix3 b s e) k = ix2 k e := by
    intro k
    funext a
    match a with | ⟨0, _⟩ => rfl | ⟨1, _⟩ => rfl
  simp only [el, er]

/-- The reference at row `r` and column `e`. -/
theorem reads (X0 : A0) (X1 : A1) (X2 : A2) (r : Fin 13312) (d : Fin 2048) :
    val_main_v3 (F := Ideal) X0 X1 X2 (ix2 r d) = row X0 X1 X2 r d := by
  have hr := r.isLt
  have hd := d.isLt
  unfold val_main_v3 row rowsOf
  by_cases h : r.val < 12288
  · rw [stack_lo _ _ _ r d h, dot0]
    simp only [h, dite_true]
  · rw [stack_hi _ _ _ r d h, val_main_v2_apply]
    have e : idx_main_v2 (ix2 ⟨r.val - 12288, by omega⟩ d) = ix3 ⟨(r.val - 12288) / 512, by omega⟩ ⟨(r.val - 12288) % 512, by omega⟩ d := by
      funext a
      match a with
      | ⟨0, _⟩ => refine Fin.ext ?_; show ((r.val - 12288) * 2048 + d.val) / 1048576 = (r.val - 12288) / 512; omega
      | ⟨1, _⟩ => refine Fin.ext ?_; show ((r.val - 12288) * 2048 + d.val) / 2048 % 512 = (r.val - 12288) % 512; omega
      | ⟨2, _⟩ => refine Fin.ext ?_; show ((r.val - 12288) * 2048 + d.val) % 2048 = d.val; omega
    rw [e, dot1]
    simp only [h, dite_false]

end Cert.MlaKvbRefIdeal.Reading

namespace Cert.MlaKvbIdeal.Val

open Idealize.ShloMosaic Idealize.ShloMosaic.TcCoe Idealize.SL.Sem
open Cert.MlaKvbIdeal Cert.MlaKvbIdeal.Gen

variable (m : (ℓ : Loc nD τ sig) → Buf (Elt Ideal) ℓ)

/-- The rows a run works on. -/
theorem pay1 (x : FVec Ideal S512x256 .f32) (r : Fin 512) (k : Fin 256) : k0_pay1 (F := Ideal) x (ix2 r k) = x (ix2 r k) := by
  pointwise [k0_pay1]

/-- The stored block: held rows times a tile of the weight. -/
theorem pay2 (xb : FVec Ideal S512x256 .bf16) (w : FVec Ideal S256x1024 .f32) (r : Fin 512) (d : Fin 1024) :
    k0_pay2 (F := Ideal) xb w (ix2 r d) = ∑ k : Fin 256, xb (ix2 r k) * w (ix2 k d) := by
  pointwise [k0_pay2]

/-- Which block each window stages at a grid point. -/
theorem idx : ∀ t : Fin cfg0.N,
    win0_0.index t = ![t.val / 2, 0] ∧ win0_1.index t = ![0, t.val % 2] ∧ win0_2.index t = ![t.val / 2, t.val % 2] :=
  (by decide +kernel : ∀ t : Fin grid0.N, _)

theorem tlt (t : Fin cfg0.N) : t.val < 52 := t.isLt

abbrev X (c : Dev nD) : FVec Ideal S12288x256 .f32 := m ((c.tc : Thread nD τ).loc main_arg0)
abbrev Z (c : Dev nD) : FVec Ideal S2x512x256 .f32 := m ((c.tc : Thread nD τ).loc main_arg1)
abbrev W (c : Dev nD) : FVec Ideal S256x2048 .f32 := m ((c.tc : Thread nD τ).loc main_arg2)

/-- The row of the whole array that row `r` of a point's block is. -/
abbrev rowOf (t : Fin cfg0.N) (r : Fin 512) : Fin 13312 := ⟨t.val / 2 * 512 + r.val, by have := tlt t; omega⟩

/-- The column of the whole array that column `d` of a point's block is. -/
abbrev colOf (t : Fin cfg0.N) (d : Fin 1024) : Fin 2048 := ⟨t.val % 2 * 1024 + d.val, by omega⟩

/-- The cached rows, one sequence after the other. -/
abbrev Flat (c : Dev nD) : FVec Ideal S1024x256 .f32 := shapeCast S1024x256 (Z m c) shapeCasts_S2x512x256_S1024x256

/-- The rows the call reads, as the host makes them. -/
abbrev All (c : Dev nD) : FVec Ideal S13312x256 .f32 :=
  concatenate S13312x256 0 [⟨S12288x256, X m c⟩, ⟨S1024x256, Flat m c⟩] concatenates_S12288x256_S1024x256_S13312x256_d0

/-- Two blocks of rows stacked, read at a row of the first. -/
theorem stack_lo (y : FVec Ideal S12288x256 .f32) (z : FVec Ideal S1024x256 .f32) (hc : _) (r : Fin 13312) (k : Fin 256) (h : r.val < 12288) :
    concatenate S13312x256 0 [⟨S12288x256, y⟩, ⟨S1024x256, z⟩] hc (ix2 r k) = y (ix2 ⟨r.val, h⟩ k) := by
  pointwise [h]

/-- Two blocks of rows stacked, read at a row of the second. -/
theorem stack_hi (y : FVec Ideal S12288x256 .f32) (z : FVec Ideal S1024x256 .f32) (hc : _) (r : Fin 13312) (k : Fin 256) (h : ¬r.val < 12288) :
    concatenate S13312x256 0 [⟨S12288x256, y⟩, ⟨S1024x256, z⟩] hc (ix2 r k) = z (ix2 ⟨r.val - 12288, by omega⟩ k) := by
  pointwise [h]

/-- They are the new rows, then the cached ones. -/
theorem all_eq (c : Dev nD) (r : Fin 13312) (k : Fin 256) : All m c (ix2 r k) = MlaKvbRefIdeal.Reading.rowsOf (X m c) (Z m c) r k := by
  have hr := r.isLt
  have hk := k.isLt
  unfold MlaKvbRefIdeal.Reading.rowsOf
  by_cases h : r.val < 12288
  · simp only [h, dite_true]
    exact stack_lo _ _ _ r k h
  · simp only [h, dite_false]
    refine Eq.trans (b := Flat m c (ix2 ⟨r.val - 12288, by omega⟩ k)) ?_ ?_
    · exact stack_hi _ _ _ r k h
    · exact shapeCast_apply (Z m c) shapeCasts_S2x512x256_S1024x256 (ix2 ⟨r.val - 12288, by omega⟩ k)
        (ix3 ⟨(r.val - 12288) / 512, by omega⟩ ⟨(r.val - 12288) % 512, by omega⟩ k) (by
          rewrite [Shape.rowMajor_val_three, Shape.rowMajor_val_two]
          show ((r.val - 12288) / 512 * 512 + (r.val - 12288) % 512) * 256 + k.val = (r.val - 12288) * 256 + k.val
          omega)

theorem blk0 (c : Dev nD) (t : Fin cfg0.N) (r : Fin 512) (k : Fin 256) :
    (iblk m c 0 t : Vec Ideal S512x256 .f32) (ix2 r k) = MlaKvbRefIdeal.Reading.rowsOf (X m c) (Z m c) (rowOf t r) k := by
  have e : (win0_0.blk t).view.emb (ix2 r k : S512x256.Idx) = (ix2 (rowOf t r) k : S13312x256.Idx) := by blk_ext [idx t]
  refine Eq.trans ?_ (all_eq m c (rowOf t r) k)
  show V m c main_v1 ((win0_0.blk t).view.emb (ix2 r k : S512x256.Idx)) = _
  rw [e]
  rfl

theorem blk1 (c : Dev nD) (t : Fin cfg0.N) (k : Fin 256) (d : Fin 1024) :
    (iblk m c 1 t : Vec Ideal S256x1024 .f32) (ix2 k d) = W m c (ix2 k (colOf t d)) := by
  blk_ext! [iblk, V, idx t]

/-- Where element `(r, d)` of the stored block lies in the returned array. -/
theorem win_emb (t : Fin cfg0.N) (r : Fin 512) (d : Fin 1024) :
    (win0_2.blk t).view.emb (ix2 r d : S512x1024.Idx) = (ix2 (rowOf t r) (colOf t d) : S13312x2048.Idx) := by
  blk_ext [idx t]

/-- Every index of a stored block is its two coordinates. -/
theorem two (y : S512x1024.Idx) : ∃ (r : Fin 512) (d : Fin 1024), y = ix2 r d :=
  ⟨y 0, y 1, by funext a; match a with | ⟨0, _⟩ => rfl | ⟨1, _⟩ => rfl⟩

/-- The rows of a point's run. -/
abbrev rowsAt (c : Dev nD) (t : Fin cfg0.N) (r : Fin 512) : Fin 256 → EReal := MlaKvbRefIdeal.Reading.rowsOf (X m c) (Z m c) (rowOf t r)

/-- A run's first point writes its rows. -/
theorem held_first (c : Dev nD) (t : Fin cfg0.N) (h0 : t.val % 2 = 0) (r : Fin 512) (k : Fin 256) :
    (outsAt0 m c t.val t.isLt).2 (ix2 r k) = rowsAt m c t r k := by
  rw [outsAt0_A m c t h0]
  frame_out
  rw [pay1]
  exact blk0 m c t r k

/-- The second point of a run leaves those rows. -/
theorem held_next (c : Dev nD) (t : Fin cfg0.N) (h0 : ¬t.val % 2 = 0) :
    (outsAt0 m c t.val t.isLt).2 = (outsAt0 m c (t.val - 1) (Nat.lt_of_le_of_lt (Nat.sub_le _ _) t.isLt)).2 := by
  rw [outsAt0_B m c t h0]
  rfl

/-- At every point the held rows are those of its run. -/
theorem held (c : Dev nD) (t : Fin cfg0.N) (r : Fin 512) (k : Fin 256) : (outsAt0 m c t.val t.isLt).2 (ix2 r k) = rowsAt m c t r k := by
  have h := Pipeline.eq_of_write_hold (N := cfg0.N) (fun n hn => fun (p : Fin 512 × Fin 256) => (outsAt0 m c n hn).2 (ix2 p.1 p.2)) 2
    (fun t p => rowsAt m c t p.1 p.2) (fun t h0 => funext fun p => held_first m c t h0 p.1 p.2)
    (fun t h0 => funext fun p => congrFun (held_next m c t h0) _) t
  refine (congrFun h (r, k)).trans ?_
  have e1 : rowOf ⟨2 * (t.val / 2), Pipeline.run_start_lt t⟩ r = rowOf t r := Fin.ext (by show 2 * (t.val / 2) / 2 * 512 + r.val = t.val / 2 * 512 + r.val; omega)
  show MlaKvbRefIdeal.Reading.rowsOf _ _ _ k = MlaKvbRefIdeal.Reading.rowsOf _ _ _ k
  rw [e1]

/-- The block a point stores is its held rows times its tile of the weight. -/
theorem out_eq (c : Dev nD) (t : Fin cfg0.N) (r : Fin 512) (d : Fin 1024) :
    (outsAt0 m c t.val t.isLt).1 (ix2 r d)
      = ∑ k : Fin 256, (outsAt0 m c t.val t.isLt).2 (ix2 r k) * W m c (ix2 k (colOf t d)) := by
  by_cases h0 : t.val % 2 = 0
  · rw [outsAt0_A m c t h0]
    frame_out
    rw [pay2]
    simp only [blk1, View.readCov_eq_canon']
  · rw [outsAt0_B m c t h0]
    frame_out
    rw [pay2]
    simp only [blk1, read_unread_whole]
    rfl

/-- The array the kernel returns is the reference's. -/
theorem final (c : Dev nD) : (dats (F := Ideal) m 0 c).arrAt 2 cfg0.N
    = (MlaKvbRefIdeal.Read.val_main_v3 (F := Ideal) (X m c) (Z m c) (W m c) : FVec Ideal S13312x2048 .f32) := by
  refine (dats m 0 c).arrAt_eq_of_covers 2 _ (by decide +kernel) fun t hf y => ?_
  blk_simp
  rw [after0_2]
  obtain ⟨r, d, rfl⟩ := two y
  rw [win_emb]
  refine (out_eq m c t r d).trans ?_
  refine Eq.trans ?_ (MlaKvbRefIdeal.Reading.reads _ _ _ (rowOf t r) (colOf t d)).symm
  simp only [held]
  rfl

end Cert.MlaKvbIdeal.Val
-- ==== Proof.MlaKvbClaim.lean ====
module

public import proofs.«01_k».proof.Defs
public import proofs.«01_k».proof.Proof.MlaKvbValue
public import proofs.«01_k».proof.Proof.Gen.MlaKvb
public import proofs.«01_k».proof.Proof.Gen.MlaKvbIdeal
public import proofs.«01_k».proof.Proof.Gen.MlaKvbIdeal.Value
public import proofs.«01_k».proof.Proof.Gen.MlaKvbRefIdeal
public import proofs.«01_k».proof.Proof.Gen.MlaKvbRefIdeal.Run
public import Idealize.ShloMosaic.Lib.Claim

/-! The value claim of the key and value expansion of the latent attention, from the kernel's run and the reference's. -/

@[expose] public section

set_option maxRecDepth 16384

noncomputable section

namespace Cert.MlaKvbClaim

open Idealize.ShloMosaic Idealize.ShloMosaic.TcCoe Idealize.SL.Sem

/-- Kernel and reference end with the same array. -/
theorem algebraic : Cert.algebraic_MlaKvbIdeal_MlaKvbRefIdeal
    (hMlaKvbIdeal := Cert.MlaKvbIdeal.Gen.facts) (hMlaKvbRefIdeal := Cert.MlaKvbRefIdeal.Gen.facts) := by
  intro m g m' g' _ ha
  refine ⟨fun c => (Cert.MlaKvbRefIdeal.Read.val_main_v3 (F := Ideal)
      (m ((c.tc : Thread Cert.MlaKvbIdeal.nD Cert.MlaKvbIdeal.τ).loc Cert.MlaKvbIdeal.main_arg0))
      (m ((c.tc : Thread Cert.MlaKvbIdeal.nD Cert.MlaKvbIdeal.τ).loc Cert.MlaKvbIdeal.main_arg1))
      (m ((c.tc : Thread Cert.MlaKvbIdeal.nD Cert.MlaKvbIdeal.τ).loc Cert.MlaKvbIdeal.main_arg2)) :
      FVec Ideal Cert.MlaKvbIdeal.S13312x2048 .f32), ?_, ?_⟩
  · exact (θ_run _ _ _).mono (fun r h c => ⟨(h c).1.trans (Cert.MlaKvbIdeal.Val.final m c), (h c).2⟩) (Cert.MlaKvbIdeal.Value.run_blocks (F := Ideal) m g)
  · refine (θ_run _ _ _).mono (fun r h c => ?_) (Cert.MlaKvbRefIdeal.Value.run m' g')
    refine ⟨(h c).1.trans ?_, (h c).2⟩
    rw [Cert.MlaKvbRefIdeal.Read.val_main_v3_eq]
    obtain ⟨a0, a1, a2⟩ := ha c
    rw [a0, a1, a2]

/-- The reference terminates, keeps its arguments and has no semaphore. -/
theorem reference_frame (m : (ℓ : Loc Cert.MlaKvbRefIdeal.nD Cert.MlaKvbRefIdeal.τ Cert.MlaKvbRefIdeal.sig) → Buf (Elt Ideal) ℓ)
    (g : Dev Cert.MlaKvbRefIdeal.nD → PrngReg) :
    θ_run (Cert.MlaKvbRefIdeal.defs (F := Ideal)) (onTc (τ := Cert.MlaKvbRefIdeal.τ) (Cert.MlaKvbRefIdeal.main (F := Ideal)))
      ⟨m, fun _ => 0, g⟩ fun r => (∀ c : Dev Cert.MlaKvbRefIdeal.nD,
        r.2.mem ((c.tc : Thread Cert.MlaKvbRefIdeal.nD Cert.MlaKvbRefIdeal.τ).loc Cert.MlaKvbRefIdeal.main_arg0) = m ((c.tc : Thread Cert.MlaKvbRefIdeal.nD Cert.MlaKvbRefIdeal.τ).loc Cert.MlaKvbRefIdeal.main_arg0)
        ∧ r.2.mem ((c.tc : Thread Cert.MlaKvbRefIdeal.nD Cert.MlaKvbRefIdeal.τ).loc Cert.MlaKvbRefIdeal.main_arg1) = m ((c.tc : Thread Cert.MlaKvbRefIdeal.nD Cert.MlaKvbRefIdeal.τ).loc Cert.MlaKvbRefIdeal.main_arg1)
        ∧ r.2.mem ((c.tc : Thread Cert.MlaKvbRefIdeal.nD Cert.MlaKvbRefIdeal.τ).loc Cert.MlaKvbRefIdeal.main_arg2) = m ((c.tc : Thread Cert.MlaKvbRefIdeal.nD Cert.MlaKvbRefIdeal.τ).loc Cert.MlaKvbRefIdeal.main_arg2))
        ∧ r.2.sem = fun _ => 0 :=
  (θ_run _ _ _).mono (fun r h => ⟨fun c => (h c).2, sem_eq_zero_of_no_sems (by decide) r.2⟩)
    (Cert.MlaKvbRefIdeal.Value.run m g)

end Cert.MlaKvbClaim

end
-- ==== Proof.MlaLatentSpec.lean ====
module

public import Idealize.ShloMosaic.Lib.Pointwise
public import proofs.«01_k».proof.Proof.DiffSpec

/-! The latent attention of one query over extended reals: one softmax over the keys (512 cached, 2048 new), applied to the
    values. The kernel reads the keys in two segments and multiplies the sum by a reciprocal at the end; the reference reads
    them joined and divides every weight. -/

@[expose] public section

set_option maxRecDepth 16384

noncomputable section

namespace Cert.MlaLatentSpec

open Idealize.ShloMosaic Cert.DiffSpec

/-- The factor on every score. -/
abbrev scale : EReal := Ideal.ofBits .f32 0x3D93CD3A#32

theorem fin_scale : Fin' scale := by
  have e : scale = ((9686330 : ℝ) : EReal) * (((2 ^ 27 : ℝ)⁻¹ : ℝ) : EReal) := by
    simp [scale, Ideal.ofBits, Ideal.ieee]
  rw [e]
  exact (fin_coe _).mul (fin_coe _)

/-- The values weighted by the exponentials of the scores, divided by the sum of the exponentials. -/
def att (s : Fin 512 → EReal) (t : Fin 2048 → EReal) (vA : Fin 512 → EReal) (vB : Fin 2048 → EReal) : EReal :=
  ((∑ k, Ideal.exp (s k - mx s t) * vA k) + ∑ k, Ideal.exp (t k - mx s t) * vB k) * Ideal.div 1 (dn s t)

/-- A nonnegative real factor distributes over a sum of extended reals. -/
theorem sum_mul {n : ℕ} (f : Fin n → EReal) (x : EReal) (h0 : 0 ≤ x) (h1 : x ≠ ⊤) : (∑ k, f k) * x = ∑ k, f k * x := by
  refine Finset.induction_on (motive := fun a => (∑ k ∈ a, f k) * x = ∑ k ∈ a, f k * x) Finset.univ (by simp) ?_
  intro i a hi ih
  rw [Finset.sum_insert hi, Finset.sum_insert hi, EReal.right_distrib_of_nonneg_of_ne_top h0 h1, ih]

theorem dn_nonneg (s : Fin 512 → EReal) (t : Fin 2048 → EReal) : 0 ≤ dn s t :=
  add_nonneg (Finset.sum_nonneg fun _ _ => exp_nonneg _) (Finset.sum_nonneg fun _ _ => exp_nonneg _)

/-- The reciprocal of a positive number is a nonnegative real. -/
theorem recip (l : EReal) (h0 : 0 ≤ l) (h : l ≠ 0) : 0 ≤ Ideal.div 1 l ∧ Ideal.div 1 l ≠ ⊤ := by
  induction l with
  | bot => exact absurd h0 (by simp)
  | top => simp [Ideal.div]
  | coe r =>
    have hr : (0 : ℝ) ≤ r := EReal.coe_nonneg.mp h0
    have hi : (0 : ℝ) ≤ r⁻¹ := inv_nonneg.mpr hr
    have e : Ideal.div 1 (r : EReal) = ((r⁻¹ : ℝ) : EReal) := by
      unfold Ideal.div
      rw [if_neg h, one_mul]
      exact (EReal.coe_inv r).symm
    rw [e]
    exact ⟨EReal.coe_nonneg.mpr hi, EReal.coe_ne_top _⟩

/-- The joined form the reference computes is the segmented form the kernel computes. -/
theorem att_join (s : Fin 512 → EReal) (t : Fin 2048 → EReal) (vA : Fin 512 → EReal) (vB : Fin 2048 → EReal) (h : dn s t ≠ 0) :
    ∑ c, join vA vB c * Ideal.div (Ideal.exp (join s t c - mx s t)) (dn s t) = att s t vA vB := by
  obtain ⟨h0, h1⟩ := recip _ (dn_nonneg s t) h
  unfold att
  rw [EReal.right_distrib_of_nonneg_of_ne_top h0 h1, sum_mul _ _ h0 h1, sum_mul _ _ h0 h1, sum_split]
  simp only [join_left, join_right]
  refine congrArg₂ (· + ·) (Finset.sum_congr rfl fun k _ => ?_) (Finset.sum_congr rfl fun k _ => ?_)
  · rw [← mul_one_div _ _ h, mul_comm (vA k), mul_assoc, mul_assoc, mul_comm (vA k)]
  · rw [← mul_one_div _ _ h, mul_comm (vB k), mul_assoc, mul_assoc, mul_comm (vB k)]

end Cert.MlaLatentSpec

end
-- ==== Proof.MlaLatentScores.lean ====
module

public import proofs.«01_k».proof.Proof.Gen.MlaLatentIdeal.Skeleton
public import Idealize.ShloMosaic.Lib.Pointwise
public import proofs.«01_k».proof.Proof.DiffSpec
public import proofs.«01_k».proof.Proof.MlaLatentSpec

/-! What one grid point of the latent attention computes, read at a row and a lane. -/

@[expose] public section

set_option maxRecDepth 16384

noncomputable section

namespace Cert.MlaLatentIdeal.Val

open Idealize.ShloMosaic Idealize.ShloMosaic.TcCoe Idealize.SL.Sem
open Cert.MlaLatentIdeal Cert.MlaLatentIdeal.Gen
open Cert.DiffSpec Cert.MlaLatentSpec

/-- The scores of row `r` against the cached keys. -/
theorem score_cache (v0 v2 : Vec Ideal S256x128 .f32) (v4 : Vec Ideal S512x128 .f32) (v7 : Vec Ideal S1x512x128 .f32) (r : Fin 256) (k : Fin 512) :
    k0_pay4 (F := Ideal) v0 v2 v4 v7 (ix2 r k)
      = ((∑ d : Fin 128, v0 (ix2 r d) * v4 (ix2 k d)) + ∑ d : Fin 128, v2 (ix2 r d) * v7 (ix3 0 k d)) * scale := by
  pointwise [k0_pay4, k0_pay3, k0_pay2]

/-- The scores of row `r` against the new keys. -/
theorem score_new (v0 v2 : Vec Ideal S256x128 .f32) (v14 v17 : Vec Ideal S2048x128 .f32) (r : Fin 256) (k : Fin 2048) :
    k0_pay5 (F := Ideal) v0 v2 v14 v17 (ix2 r k)
      = ((∑ d : Fin 128, v0 (ix2 r d) * v14 (ix2 k d)) + ∑ d : Fin 128, v2 (ix2 r d) * v17 (ix2 k d)) * scale := by
  pointwise [k0_pay5, k0_pay3, k0_pay2]

/-- The block a grid point stores, at row `r` and lane `d`, from its staged blocks. -/
theorem pay_eq (v0 v2 : Vec Ideal S256x128 .f32) (v4 : Vec Ideal S512x128 .f32) (v7 : Vec Ideal S1x512x128 .f32)
    (v14 v17 : Vec Ideal S2048x128 .f32) (v43 : Vec Ideal S512x128 .f32) (v47 : Vec Ideal S2048x128 .f32)
    (r : Fin 256) (d : Fin 128) :
    k0_pay1 (F := Ideal) (k0_pay7 v0 v2 v4 v7 v14 v17) (k0_pay8 v0 v2 v4 v7 v14 v17) v43 v47 (ix2 r d)
      = att (fun k => ((∑ d : Fin 128, v0 (ix2 r d) * v4 (ix2 k d)) + ∑ d : Fin 128, v2 (ix2 r d) * v7 (ix3 0 k d)) * scale)
          (fun k => ((∑ d : Fin 128, v0 (ix2 r d) * v14 (ix2 k d)) + ∑ d : Fin 128, v2 (ix2 r d) * v17 (ix2 k d)) * scale)
          (fun k => v43 (ix2 k d)) (fun k => v47 (ix2 k d)) := by
  pointwise [k0_pay1, k0_pay7, k0_pay8, k0_pay6, score_cache, score_new]
  unfold att dn mx
  rfl

end Cert.MlaLatentIdeal.Val

end
-- ==== Proof.MlaLatentReference.lean ====
module

public import proofs.«01_k».proof.Proof.Gen.MlaLatentRefIdeal.Read
public import Idealize.ShloMosaic.Lib.Pointwise
public import proofs.«01_k».proof.Proof.DiffSpec
public import proofs.«01_k».proof.Proof.MlaLatentSpec

/-! The reference's latent attention read at one element. -/

@[expose] public section

set_option maxRecDepth 16384

noncomputable section

namespace Cert.MlaLatentRefIdeal.Val

open Idealize.ShloMosaic Idealize.ShloMosaic.TcCoe Idealize.SL.Sem
open Cert.MlaLatentRefIdeal Cert.MlaLatentRefIdeal.Gen Cert.MlaLatentRefIdeal.Read Cert.DiffSpec Cert.MlaLatentSpec

abbrev A0 := FVec Ideal S4096x2048 .f32
abbrev A1 := FVec Ideal S13312x2048 .f32
abbrev A2 := FVec Ideal S2x512x64 .f32
abbrev A3 := FVec Ideal S4096x64 .f32

/-- A maximum over the last of four axes, at any sizes. -/
theorem reduce_last {n0 n1 n2 n3 : ℕ} (y : FVec Ideal ⟨4, ![n0, n1, n2, n3]⟩ .f32) (z : FVec Ideal S_ .f32)
    (h : (⟨4, ![n0, n1, n2, n3]⟩ : Shape).ReducesTo [3] ⟨3, ![n0, n1, n2]⟩) (hu : 0 < S_.numel)
    (i0 : Fin n0) (i1 : Fin n1) (i2 : Fin n2) :
    Host.reduce FloatOps.maximumf y z h hu (ix3 i0 i1 i2)
      = Finset.univ.fold max (z (Shape.Idx.first hu)) fun c : Fin n3 => y (ix4 i0 i1 i2 c) := by
  simp only [pointwise]

/-- The largest score of a query. -/
theorem largest (X0 : A0) (X1 : A1) (X2 : A2) (X3 : A3) (b : Fin 2) (h : Fin 8) (i : Fin 2048) :
    val_main_v18 (F := Ideal) X0 X1 X2 X3 (ix3 b h i)
      = max negInf (Finset.univ.fold max negInf fun c => val_main_v15 (F := Ideal) X0 X1 X2 X3 (ix4 b h i c)) := by
  unfold val_main_v18 val_main_v16
  generalize val_main_v15 (F := Ideal) X0 X1 X2 X3 = y
  refine (maximumf_apply _ _ _).trans ?_
  refine congrArg₂ max ?_ (reduce_last y _ reducesTo_S2x8x2048x2560_S2x8x2048_d3 _ b h i)
  rw [val_main_v17_apply]
  rfl

theorem expo (X0 : A0) (X1 : A1) (X2 : A2) (X3 : A3) (b : Fin 2) (h : Fin 8) (i : Fin 2048) (c : Fin 2560) :
    val_main_v22 (F := Ideal) X0 X1 X2 X3 (ix4 b h i c)
      = Ideal.exp (val_main_v15 (F := Ideal) X0 X1 X2 X3 (ix4 b h i c) - val_main_v18 (F := Ideal) X0 X1 X2 X3 (ix3 b h i)) := by
  rw [val_main_v22_apply, val_main_v21_apply, val_main_v20_apply, val_main_v19_apply]
  have e : idx_main_v19 (idx_main_v20 (ix4 b h i c)) = ix3 b h i := by
    funext a
    match a with | ⟨0, _⟩ => rfl | ⟨1, _⟩ => rfl | ⟨2, _⟩ => rfl
  rw [e]
  generalize val_main_v15 (F := Ideal) X0 X1 X2 X3 (ix4 b h i c) = y
  generalize val_main_v18 (F := Ideal) X0 X1 X2 X3 (ix3 b h i) = z
  rfl

theorem soft (X0 : A0) (X1 : A1) (X2 : A2) (X3 : A3) (b : Fin 2) (h : Fin 8) (i : Fin 2048) (c : Fin 2560) :
    val_main_v26 (F := Ideal) X0 X1 X2 X3 (ix4 b h i c)
      = Ideal.div (val_main_v22 (F := Ideal) X0 X1 X2 X3 (ix4 b h i c))
          (∑ x : Fin 2560, val_main_v22 (F := Ideal) X0 X1 X2 X3 (ix4 b h i x)) := by
  rw [val_main_v26_apply, val_main_v25_apply, val_main_v24_apply, val_main_v23_apply]
  have e : idx_main_v24 (idx_main_v25 (ix4 b h i c)) = ix3 b h i := by
    funext a
    match a with | ⟨0, _⟩ => rfl | ⟨1, _⟩ => rfl | ⟨2, _⟩ => rfl
  have e2 : ∀ x, idx_main_v23 (ix3 b h i) x = ix4 b h i x := by
    intro x
    funext a
    match a with | ⟨0, _⟩ => rfl | ⟨1, _⟩ => rfl | ⟨2, _⟩ => rfl | ⟨3, _⟩ => rfl
  rw [e]
  simp only [e2]
  have e3 : val_main_cst_2 (F := Ideal) (Shape.Idx.first h_S_) = 0 := by
    rw [val_main_cst_2_apply]
    simp [Ideal.ofBits, Ideal.ieee]
  rw [e3, zero_add]
  generalize val_main_v22 (F := Ideal) X0 X1 X2 X3 (ix4 b h i c) = y
  generalize (∑ x : Fin 2560, val_main_v22 (F := Ideal) X0 X1 X2 X3 (ix4 b h i x)) = z
  rfl

theorem value (X0 : A0) (X1 : A1) (X2 : A2) (X3 : A3) (b : Fin 2) (h : Fin 8) (i : Fin 2048) (d : Fin 128) :
    val_main_v29 (F := Ideal) X0 X1 X2 X3 (ix4 b i h d)
      = ∑ c : Fin 2560, val_main_v27 (F := Ideal) X1 (ix4 b c h d) * val_main_v26 (F := Ideal) X0 X1 X2 X3 (ix4 b h i c) := by
  rw [val_main_v29_apply, val_main_v28_apply]
  refine Finset.sum_congr rfl fun c _ => ?_
  have e : lidx_main_v28 (idx_main_v29 (ix4 b i h d)) c = ix4 b c h d := by
    funext a
    match a with | ⟨0, _⟩ => rfl | ⟨1, _⟩ => rfl | ⟨2, _⟩ => rfl | ⟨3, _⟩ => rfl
  have e2 : ridx_main_v28 (idx_main_v29 (ix4 b i h d)) c = ix4 b h i c := by
    funext a
    match a with | ⟨0, _⟩ => rfl | ⟨1, _⟩ => rfl | ⟨2, _⟩ => rfl | ⟨3, _⟩ => rfl
  rw [e, e2]

/-- Query `i`'s score against cached key `k`, head `h`: the 128 lanes of its own key and the 64 lanes of the shared one. -/
def cachedScore (X0 : A0) (X1 : A1) (X2 : A2) (b : Fin 2) (h : Fin 8) (i : Fin 2048) (k : Fin 512) : EReal :=
  ((∑ x : Fin 128, X0 (ix2 ⟨b.val * 2048 + i.val, by omega⟩ ⟨h.val * 256 + x.val, by omega⟩)
        * X1 (ix2 ⟨12288 + (b.val * 512 + k.val), by omega⟩ ⟨h.val * 256 + x.val, by omega⟩))
    + ∑ x : Fin 64, X0 (ix2 ⟨b.val * 2048 + i.val, by omega⟩ ⟨h.val * 256 + (128 + x.val), by omega⟩) * X2 (ix3 b k x))
    * scale

/-- Query `i`'s score against new key `k`, head `h`. -/
def newScore (X0 : A0) (X1 : A1) (X3 : A3) (b : Fin 2) (h : Fin 8) (i : Fin 2048) (k : Fin 2048) : EReal :=
  ((∑ x : Fin 128, X0 (ix2 ⟨b.val * 2048 + i.val, by omega⟩ ⟨h.val * 256 + x.val, by omega⟩)
        * X1 (ix2 ⟨8192 + (b.val * 2048 + k.val), by omega⟩ ⟨h.val * 256 + x.val, by omega⟩))
    + ∑ x : Fin 64, X0 (ix2 ⟨b.val * 2048 + i.val, by omega⟩ ⟨h.val * 256 + (128 + x.val), by omega⟩)
        * X3 (ix2 ⟨b.val * 2048 + k.val, by omega⟩ x))
    * scale

/-- The queries' lanes and the keys that enter a score hold finite numbers. -/
structure Finite (X0 : A0) (X1 : A1) (X2 : A2) (X3 : A3) : Prop where
  q : ∀ (r : Fin 4096) (h : Fin 8) (x : Fin 192), Fin' (X0 (ix2 r ⟨h.val * 256 + x.val, by omega⟩))
  k : ∀ (r : Fin 5120) (h : Fin 8) (x : Fin 128), Fin' (X1 (ix2 ⟨8192 + r.val, by omega⟩ ⟨h.val * 256 + x.val, by omega⟩))
  c : ∀ i, Fin' (X2 i)
  n : ∀ i, Fin' (X3 i)

theorem cachedScore_finite (X0 : A0) (X1 : A1) (X2 : A2) (X3 : A3) (f : Finite X0 X1 X2 X3) (b : Fin 2) (h : Fin 8) (i : Fin 2048)
    (k : Fin 512) : Fin' (cachedScore X0 X1 X2 b h i k) := by
  refine ((fin_sum _ fun x => (f.q _ h ⟨x.val, by omega⟩).mul ?_).add (fin_sum _ fun x => (f.q _ h ⟨128 + x.val, by omega⟩).mul (f.c _))).mul fin_scale
  have e : (⟨12288 + (b.val * 512 + k.val), by omega⟩ : Fin 13312) = ⟨8192 + (⟨4096 + (b.val * 512 + k.val), by omega⟩ : Fin 5120).val, by omega⟩ :=
    Fin.ext (by show 12288 + (b.val * 512 + k.val) = 8192 + (4096 + (b.val * 512 + k.val)); omega)
  rw [e]
  exact f.k _ h x

theorem newScore_finite (X0 : A0) (X1 : A1) (X2 : A2) (X3 : A3) (f : Finite X0 X1 X2 X3) (b : Fin 2) (h : Fin 8) (i : Fin 2048)
    (k : Fin 2048) : Fin' (newScore X0 X1 X3 b h i k) :=
  ((fin_sum _ fun x => (f.q _ h ⟨x.val, by omega⟩).mul (f.k ⟨b.val * 2048 + k.val, by omega⟩ h x)).add
    (fin_sum _ fun x => (f.q _ h ⟨128 + x.val, by omega⟩).mul (f.n _))).mul fin_scale

/-- A sum over 192 lanes is the sum over the first 128 and that over the last 64. -/
theorem sum_lanes (f : Fin 192 → EReal) :
    ∑ l, f l = (∑ x : Fin 128, f ⟨x.val, by omega⟩) + ∑ x : Fin 64, f ⟨128 + x.val, by omega⟩ :=
  @Fin.sum_univ_add EReal _ 128 64 f

theorem product (X0 : A0) (X1 : A1) (X2 : A2) (X3 : A3) (b : Fin 2) (h : Fin 8) (i : Fin 2048) (c : Fin 2560) :
    val_main_v15 (F := Ideal) X0 X1 X2 X3 (ix4 b h i c)
      = (∑ l : Fin 192, val_main_v1 (F := Ideal) X0 (ix4 b i h l) * val_main_v12 (F := Ideal) X1 X2 X3 (ix4 b c h l)) * scale := by
  unfold val_main_v15 val_main_v13 val_main_v14 val_main_cst
  generalize val_main_v1 (F := Ideal) X0 = y
  generalize val_main_v12 (F := Ideal) X1 X2 X3 = z
  pointwise []

theorem query (X0 : A0) (b : Fin 2) (i : Fin 2048) (h : Fin 8) (l : Fin 192) :
    val_main_v1 (F := Ideal) X0 (ix4 b i h l) = X0 (ix2 ⟨b.val * 2048 + i.val, by omega⟩ ⟨h.val * 256 + l.val, by omega⟩) := by
  pointwise [val_main_v1, val_main_v0]

/-- The joined keys and values. -/
theorem joined (X1 : A1) (b : Fin 2) (c : Fin 2560) (h : Fin 8) (l : Fin 256) :
    val_main_v6 (F := Ideal) X1 (ix4 b c h l)
      = join (fun k => X1 (ix2 ⟨12288 + (b.val * 512 + k.val), by omega⟩ ⟨h.val * 256 + l.val, by omega⟩))
          (fun k => X1 (ix2 ⟨8192 + (b.val * 2048 + k.val), by omega⟩ ⟨h.val * 256 + l.val, by omega⟩)) c := by
  pointwise [val_main_v6, val_main_v5, val_main_v4, val_main_v3, val_main_v2]
  unfold join
  rfl

/-- The joined shared keys. -/
theorem shared (X2 : A2) (X3 : A3) (b : Fin 2) (c : Fin 2560) (x : Fin 64) :
    val_main_v8 (F := Ideal) X2 X3 (ix3 b c x)
      = join (fun k => X2 (ix3 b k x)) (fun k => X3 (ix2 ⟨b.val * 2048 + k.val, by omega⟩ x)) c := by
  pointwise [val_main_v8, val_main_v7]
  unfold join
  rfl

theorem key_low (X1 : A1) (X2 : A2) (X3 : A3) (b : Fin 2) (c : Fin 2560) (h : Fin 8) (x : Fin 128) :
    val_main_v12 (F := Ideal) X1 X2 X3 (ix4 b c h ⟨x.val, by omega⟩) = val_main_v6 (F := Ideal) X1 (ix4 b c h ⟨x.val, by omega⟩) := by
  unfold val_main_v12 val_main_v11 val_main_v10 val_main_v9
  generalize val_main_v6 (F := Ideal) X1 = y
  generalize val_main_v8 (F := Ideal) X2 X3 = z
  pointwise []

theorem key_high (X1 : A1) (X2 : A2) (X3 : A3) (b : Fin 2) (c : Fin 2560) (h : Fin 8) (x : Fin 64) :
    val_main_v12 (F := Ideal) X1 X2 X3 (ix4 b c h ⟨128 + x.val, by omega⟩) = val_main_v8 (F := Ideal) X2 X3 (ix3 b c x) := by
  unfold val_main_v12 val_main_v11 val_main_v10 val_main_v9
  generalize val_main_v6 (F := Ideal) X1 = y
  generalize val_main_v8 (F := Ideal) X2 X3 = z
  pointwise []

theorem values (X1 : A1) (b : Fin 2) (c : Fin 2560) (h : Fin 8) (d : Fin 128) :
    val_main_v27 (F := Ideal) X1 (ix4 b c h d)
      = join (fun k => X1 (ix2 ⟨12288 + (b.val * 512 + k.val), by omega⟩ ⟨h.val * 256 + (128 + d.val), by omega⟩))
          (fun k => X1 (ix2 ⟨8192 + (b.val * 2048 + k.val), by omega⟩ ⟨h.val * 256 + (128 + d.val), by omega⟩)) c := by
  refine Eq.trans ?_ (joined X1 b c h ⟨128 + d.val, by omega⟩)
  unfold val_main_v27
  generalize val_main_v6 (F := Ideal) X1 = y
  pointwise []

theorem score (X0 : A0) (X1 : A1) (X2 : A2) (X3 : A3) (b : Fin 2) (h : Fin 8) (i : Fin 2048) (c : Fin 2560) :
    val_main_v15 (F := Ideal) X0 X1 X2 X3 (ix4 b h i c) = join (cachedScore X0 X1 X2 b h i) (newScore X0 X1 X3 b h i) c := by
  rw [product, sum_lanes]
  simp only [query, key_low, key_high, joined, shared]
  unfold join cachedScore newScore
  by_cases hc : (c : ℕ) < 512
  · simp only [hc, dite_true]
  · simp only [hc, dite_false]

/-- The weights applied to the values, in the segmented form. -/
theorem attended (X0 : A0) (X1 : A1) (X2 : A2) (X3 : A3) (b : Fin 2) (h : Fin 8) (i : Fin 2048) (d : Fin 128)
    (h0 : dn (cachedScore X0 X1 X2 b h i) (newScore X0 X1 X3 b h i) ≠ 0) :
    val_main_v29 (F := Ideal) X0 X1 X2 X3 (ix4 b i h d)
      = att (cachedScore X0 X1 X2 b h i) (newScore X0 X1 X3 b h i)
          (fun k => X1 (ix2 ⟨12288 + (b.val * 512 + k.val), by omega⟩ ⟨h.val * 256 + (128 + d.val), by omega⟩))
          (fun k => X1 (ix2 ⟨8192 + (b.val * 2048 + k.val), by omega⟩ ⟨h.val * 256 + (128 + d.val), by omega⟩)) := by
  have hs : (fun c => val_main_v15 (F := Ideal) X0 X1 X2 X3 (ix4 b h i c))
      = join (cachedScore X0 X1 X2 b h i) (newScore X0 X1 X3 b h i) := funext fun c => score X0 X1 X2 X3 b h i c
  have hm : val_main_v18 (F := Ideal) X0 X1 X2 X3 (ix3 b h i)
      = mx (cachedScore X0 X1 X2 b h i) (newScore X0 X1 X3 b h i) := by
    rw [largest, hs, max_join]
  rw [value, ← att_join _ _ _ _ h0]
  refine Finset.sum_congr rfl fun c _ => ?_
  rw [values, soft]
  simp only [expo, hm, score, den_join]

theorem out (X0 : A0) (X1 : A1) (X2 : A2) (X3 : A3) (r : Fin 4096) (l : Fin 1024) :
    val_main_v30 (F := Ideal) X0 X1 X2 X3 (ix2 r l)
      = val_main_v29 (F := Ideal) X0 X1 X2 X3
            (ix4 ⟨r.val / 2048, by omega⟩ ⟨r.val % 2048, by omega⟩ ⟨l.val / 128, by omega⟩ ⟨l.val % 128, by omega⟩) := by
  unfold val_main_v30
  generalize val_main_v29 (F := Ideal) X0 X1 X2 X3 = y
  pointwise []

end Cert.MlaLatentRefIdeal.Val

end
-- ==== Proof.MlaLatentValue.lean ====
module

public import proofs.«01_k».proof.Proof.Gen.MlaLatentIdeal.Value
public import proofs.«01_k».proof.Proof.MlaLatentScores
public import proofs.«01_k».proof.Proof.MlaLatentReference
public import proofs.«01_k».proof.Proof.Gen.Pre_finite_mla
public import Idealize.ShloMosaic.Lib.Pipeline.ValueKit
public import Idealize.ShloMosaic.Lib.Pointwise
public import Idealize.ShloMosaic.Lib.Claim
public import Idealize.ShloMosaic.Lib.ReduceAll

/-! The array the latent-attention call returns, block by block: every block is the reference's. -/

@[expose] public section

set_option maxRecDepth 16384

noncomputable section

namespace Cert.MlaLatentIdeal.Val

open Idealize.ShloMosaic Idealize.ShloMosaic.TcCoe Idealize.SL.Sem
open Cert.MlaLatentIdeal Cert.MlaLatentIdeal.Gen Cert.DiffSpec Cert.MlaLatentSpec

variable (m : (ℓ : Loc nD τ sig) → Buf (Elt Ideal) ℓ)

abbrev Q (c : Dev nD) : FVec Ideal S4096x2048 .f32 := m ((c.tc : Thread nD τ).loc main_arg0)
abbrev KV (c : Dev nD) : FVec Ideal S13312x2048 .f32 := m ((c.tc : Thread nD τ).loc main_arg1)
abbrev PC (c : Dev nD) : FVec Ideal S2x512x64 .f32 := m ((c.tc : Thread nD τ).loc main_arg2)
abbrev PN (c : Dev nD) : FVec Ideal S4096x64 .f32 := m ((c.tc : Thread nD τ).loc main_arg3)

/-- Which block each window stages at a grid point. -/
theorem idx : ∀ t : Fin cfg0.N,
    win0_0.index t = ![t.val / 64 * 8 + t.val % 8, t.val / 8 % 8] ∧ win0_1.index t = ![24 + t.val / 64, t.val / 8 % 8]
    ∧ win0_2.index t = ![4 + t.val / 64, t.val / 8 % 8] ∧ win0_3.index t = ![t.val / 64, 0, 0]
    ∧ win0_4.index t = ![t.val / 64, 0] ∧ win0_5.index t = ![t.val / 64 * 8 + t.val % 8, t.val / 8 % 8] :=
  (by decide +kernel : ∀ t : Fin grid0.N, _)

theorem tlt (t : Fin cfg0.N) : t.val < 128 := t.isLt

theorem blk0 (c : Dev nD) (t : Fin cfg0.N) (r : Fin 256) (l : Fin 256) :
    (iblk m c 0 t : Vec Ideal S256x256 .f32) (ix2 r l)
      = Q m c (ix2 ⟨(t.val / 64 * 8 + t.val % 8) * 256 + r.val, by have := tlt t; omega⟩ ⟨t.val / 8 % 8 * 256 + l.val, by omega⟩) := by
  blk_ext! [iblk, V, idx t]

theorem blk1 (c : Dev nD) (t : Fin cfg0.N) (k : Fin 512) (l : Fin 256) :
    (iblk m c 1 t : Vec Ideal S512x256 .f32) (ix2 k l)
      = KV m c (ix2 ⟨12288 + (t.val / 64 * 512 + k.val), by have := tlt t; omega⟩ ⟨t.val / 8 % 8 * 256 + l.val, by omega⟩) := by
  blk_ext! [iblk, V, idx t]

theorem blk2 (c : Dev nD) (t : Fin cfg0.N) (k : Fin 2048) (l : Fin 256) :
    (X0_2 m c t : Vec Ideal S2048x256 .f32) (ix2 k l)
      = KV m c (ix2 ⟨8192 + (t.val / 64 * 2048 + k.val), by have := tlt t; omega⟩ ⟨t.val / 8 % 8 * 256 + l.val, by omega⟩) := by
  unfold X0_2 Pipeline.Window.fill
  rw [dif_pos (moved0_2 t _)]
  blk_ext! [iblk, V, idx t]

theorem rows3 (c : Dev nD) (t : Fin cfg0.N) (k : Fin 512) (l : Fin 128) :
    (iblk m c 3 t : Vec Ideal S1x512x128 .f32) (ix3 0 k l)
      = (V m c main_v1 : FVec Ideal S2x512x128 .f32) (ix3 ⟨t.val / 64, by have := tlt t; omega⟩ k l) := by
  blk_ext [iblk, idx t]

theorem rows4 (c : Dev nD) (t : Fin cfg0.N) (k : Fin 2048) (l : Fin 128) :
    (iblk m c 4 t : Vec Ideal S2048x128 .f32) (ix2 k l)
      = (V m c main_v0 : FVec Ideal S4096x128 .f32) (ix2 ⟨t.val / 64 * 2048 + k.val, by have := tlt t; omega⟩ l) := by
  blk_ext [iblk, idx t]

/-- Where element `(r, d)` of the stored block lies in the returned array. -/
theorem win_emb (t : Fin cfg0.N) (r : Fin 256) (d : Fin 128) :
    (win0_5.blk t).view.emb (ix2 r d : S256x128.Idx)
      = (ix2 ⟨(t.val / 64 * 8 + t.val % 8) * 256 + r.val, by have := tlt t; omega⟩ ⟨t.val / 8 % 8 * 128 + d.val, by omega⟩ : S4096x1024.Idx) := by
  blk_ext [idx t]

/-- The zero that fills up the shared keys. -/
abbrev fillZero : FVec Ideal S_ .f32 := sitofp .f32 (fun _ => 0#32)

theorem fillZero_eq (i : S_.Idx) : fillZero i = 0 := by
  show (((0#32 : BitVec 32).toInt : ℝ) : EReal) = 0
  simp

/-- The cached shared keys, filled up with zero lanes. -/
theorem shared_cached (x : FVec Ideal S2x512x64 .f32) (v : FVec Ideal S_ .f32) (hp : _) (hu : _) (b : Fin 2) (k : Fin 512) (l : Fin 128) :
    pad S2x512x128 ![0, 0, 0] ![0, 0, 64] ![0, 0, 0] x v hp hu (ix3 b k l) = if h : l.val < 64 then x (ix3 b k ⟨l.val, h⟩) else v (Shape.Idx.first hu) := by
  by_cases h : l.val < 64
  · rw [dif_pos h]
    pointwise [h]
  · rw [dif_neg h]
    pointwise [h]

/-- The new shared keys, filled up with zero lanes. -/
theorem shared_new (x : FVec Ideal S4096x64 .f32) (v : FVec Ideal S_ .f32) (hp : _) (hu : _) (k : Fin 4096) (l : Fin 128) :
    pad S4096x128 ![0, 0] ![0, 64] ![0, 0] x v hp hu (ix2 k l) = if h : l.val < 64 then x (ix2 k ⟨l.val, h⟩) else v (Shape.Idx.first hu) := by
  by_cases h : l.val < 64
  · rw [dif_pos h]
    pointwise [h]
  · rw [dif_neg h]
    pointwise [h]

theorem entry1 (c : Dev nD) : (V m c main_v1 : FVec Ideal S2x512x128 .f32)
    = pad S2x512x128 ![0, 0, 0] ![0, 0, 64] ![0, 0, 0] (PC m c) fillZero pads_S2x512x64_S2x512x128_000_000_0640 h_S_ := by
  entry_read
  rfl

theorem entry0 (c : Dev nD) : (V m c main_v0 : FVec Ideal S4096x128 .f32)
    = pad S4096x128 ![0, 0] ![0, 64] ![0, 0] (PN m c) fillZero pads_S4096x64_S4096x128_000_0640 h_S_ := by
  entry_read
  rfl

theorem blk3 (c : Dev nD) (t : Fin cfg0.N) (k : Fin 512) (l : Fin 128) :
    (iblk m c 3 t : Vec Ideal S1x512x128 .f32) (ix3 0 k l)
      = if h : l.val < 64 then PC m c (ix3 ⟨t.val / 64, by have := tlt t; omega⟩ k ⟨l.val, h⟩) else 0 := by
  rw [rows3, entry1, shared_cached, fillZero_eq]

theorem blk4 (c : Dev nD) (t : Fin cfg0.N) (k : Fin 2048) (l : Fin 128) :
    (iblk m c 4 t : Vec Ideal S2048x128 .f32) (ix2 k l)
      = if h : l.val < 64 then PN m c (ix2 ⟨t.val / 64 * 2048 + k.val, by have := tlt t; omega⟩ ⟨l.val, h⟩) else 0 := by
  rw [rows4, entry0, shared_new, fillZero_eq]

/-- A product summed over 128 lanes whose second factor is zero from lane 64 on is the sum over the first 64. -/
theorem sum_filled (q : Fin 128 → EReal) (p : Fin 64 → EReal) :
    (∑ l : Fin 128, q l * (if h : l.val < 64 then p ⟨l.val, h⟩ else 0)) = ∑ x : Fin 64, q ⟨x.val, by omega⟩ * p x := by
  refine (@Fin.sum_univ_add EReal _ 64 64 (fun l : Fin 128 => q l * (if h : l.val < 64 then p ⟨l.val, h⟩ else 0))).trans ?_
  refine Eq.trans (congrArg₂ (· + ·) (Finset.sum_congr rfl fun x _ => ?_) (Finset.sum_eq_zero fun x _ => ?_)) (add_zero _)
  · show q (Fin.castAdd 64 x) * (if h : (Fin.castAdd 64 x).val < 64 then p ⟨(Fin.castAdd 64 x).val, h⟩ else 0) = _
    rw [dif_pos (show (Fin.castAdd 64 x).val < 64 from x.isLt)]
    rfl
  · show q (Fin.natAdd 64 x) * (if h : (Fin.natAdd 64 x).val < 64 then p ⟨(Fin.natAdd 64 x).val, h⟩ else 0) = _
    rw [dif_neg (show ¬(Fin.natAdd 64 x).val < 64 by show ¬64 + x.val < 64; omega), mul_zero]

/-- Half of a staged block's 256 columns, read at an element. -/
theorem ld_half {n : ℕ} (X : Vec Ideal ⟨2, ![n, 256]⟩ .f32) (o : ℕ) (ho : o + 128 ≤ 256)
    (inb : ∀ a, (![0, o] : Fin 2 → ℕ) a + (![n, 128] : Fin 2 → ℕ) a ≤ (⟨2, ![n, 256]⟩ : Shape).size a) (r : Fin n) (d : Fin 128) :
    View.ld X (Rect.unit (s := ⟨2, ![n, 256]⟩) ![0, o] ![n, 128] inb) (ix2 r d) = X (ix2 r ⟨o + d.val, by omega⟩) := by
  refine View.ld_unit_apply_of X _ _ inb (ix2 r d) (ix2 r ⟨o + d.val, by omega⟩) fun a => ?_
  match a with
  | ⟨0, _⟩ => exact (Nat.zero_add _).symm
  | ⟨1, _⟩ => rfl

open Cert.MlaLatentRefIdeal.Val (cachedScore newScore cachedScore_finite newScore_finite attended out Finite)

theorem qrow (c : Dev nD) (t : Fin cfg0.N) (r : Fin 256) (l : Fin 256) :
    (iblk m c 0 t : Vec Ideal S256x256 .f32) (ix2 r l)
      = Q m c (ix2 ⟨(⟨t.val / 64, by have := tlt t; omega⟩ : Fin 2).val * 2048 + (⟨t.val % 8 * 256 + r.val, by omega⟩ : Fin 2048).val, by omega⟩
          ⟨(⟨t.val / 8 % 8, by omega⟩ : Fin 8).val * 256 + l.val, by omega⟩) := by
  rw [blk0]
  refine congrArg (Q m c) (congrArg₂ ix2 (Fin.ext ?_) rfl)
  show (t.val / 64 * 8 + t.val % 8) * 256 + r.val = t.val / 64 * 2048 + (t.val % 8 * 256 + r.val)
  omega

/-- The batch entry, the head and the query of a grid point's row. -/
abbrev bOf (t : Fin cfg0.N) : Fin 2 := ⟨t.val / 64, by have := tlt t; omega⟩
abbrev hOf (t : Fin cfg0.N) : Fin 8 := ⟨t.val / 8 % 8, by omega⟩
abbrev iOf (t : Fin cfg0.N) (r : Fin 256) : Fin 2048 := ⟨t.val % 8 * 256 + r.val, by omega⟩

theorem qA (c : Dev nD) (t : Fin cfg0.N) (r : Fin 256) (x : Fin 128) :
    View.ld (iblk m c 0 t : Vec Ideal S256x256 .f32) (Rect.unit ![0, 0] ![256, 128] inb_S256x256_S256x128_0_0) (ix2 r x)
      = Q m c (ix2 ⟨(bOf t).val * 2048 + (iOf t r).val, by omega⟩ ⟨(hOf t).val * 256 + x.val, by omega⟩) := by
  refine (ld_half (iblk m c 0 t : Vec Ideal S256x256 .f32) 0 (by omega) inb_S256x256_S256x128_0_0 r x).trans ((qrow m c t r _).trans ?_)
  refine congrArg (Q m c) (congrArg (ix2 _) (Fin.ext ?_))
  show t.val / 8 % 8 * 256 + (0 + x.val) = t.val / 8 % 8 * 256 + x.val
  omega

theorem qB (c : Dev nD) (t : Fin cfg0.N) (r : Fin 256) (x : Fin 128) :
    View.ld (iblk m c 0 t : Vec Ideal S256x256 .f32) (Rect.unit ![0, 128] ![256, 128] inb_S256x256_S256x128_0_128) (ix2 r x)
      = Q m c (ix2 ⟨(bOf t).val * 2048 + (iOf t r).val, by omega⟩ ⟨(hOf t).val * 256 + (128 + x.val), by omega⟩) :=
  (ld_half (iblk m c 0 t : Vec Ideal S256x256 .f32) 128 (by omega) inb_S256x256_S256x128_0_128 r x).trans (qrow m c t r _)

theorem cA (c : Dev nD) (t : Fin cfg0.N) (k : Fin 512) (x : Fin 128) :
    View.ld (iblk m c 1 t : Vec Ideal S512x256 .f32) (Rect.unit ![0, 0] ![512, 128] inb_S512x256_S512x128_0_0) (ix2 k x)
      = KV m c (ix2 ⟨12288 + ((bOf t).val * 512 + k.val), by omega⟩ ⟨(hOf t).val * 256 + x.val, by omega⟩) := by
  refine (ld_half (iblk m c 1 t : Vec Ideal S512x256 .f32) 0 (by omega) inb_S512x256_S512x128_0_0 k x).trans ((blk1 m c t k _).trans ?_)
  refine congrArg (KV m c) (congrArg (ix2 _) (Fin.ext ?_))
  show t.val / 8 % 8 * 256 + (0 + x.val) = t.val / 8 % 8 * 256 + x.val
  omega

theorem cB (c : Dev nD) (t : Fin cfg0.N) (k : Fin 512) (x : Fin 128) :
    View.ld (iblk m c 1 t : Vec Ideal S512x256 .f32) (Rect.unit ![0, 128] ![512, 128] inb_S512x256_S512x128_0_128) (ix2 k x)
      = KV m c (ix2 ⟨12288 + ((bOf t).val * 512 + k.val), by omega⟩ ⟨(hOf t).val * 256 + (128 + x.val), by omega⟩) :=
  (ld_half (iblk m c 1 t : Vec Ideal S512x256 .f32) 128 (by omega) inb_S512x256_S512x128_0_128 k x).trans (blk1 m c t k _)

theorem nA (c : Dev nD) (t : Fin cfg0.N) (k : Fin 2048) (x : Fin 128) :
    View.ld (X0_2 m c t : Vec Ideal S2048x256 .f32) (Rect.unit ![0, 0] ![2048, 128] inb_S2048x256_S2048x128_0_0) (ix2 k x)
      = KV m c (ix2 ⟨8192 + ((bOf t).val * 2048 + k.val), by omega⟩ ⟨(hOf t).val * 256 + x.val, by omega⟩) := by
  refine (ld_half (X0_2 m c t : Vec Ideal S2048x256 .f32) 0 (by omega) inb_S2048x256_S2048x128_0_0 k x).trans ((blk2 m c t k _).trans ?_)
  refine congrArg (KV m c) (congrArg (ix2 _) (Fin.ext ?_))
  show t.val / 8 % 8 * 256 + (0 + x.val) = t.val / 8 % 8 * 256 + x.val
  omega

theorem nB (c : Dev nD) (t : Fin cfg0.N) (k : Fin 2048) (x : Fin 128) :
    View.ld (X0_2 m c t : Vec Ideal S2048x256 .f32) (Rect.unit ![0, 128] ![2048, 128] inb_S2048x256_S2048x128_0_128) (ix2 k x)
      = KV m c (ix2 ⟨8192 + ((bOf t).val * 2048 + k.val), by omega⟩ ⟨(hOf t).val * 256 + (128 + x.val), by omega⟩) :=
  (ld_half (X0_2 m c t : Vec Ideal S2048x256 .f32) 128 (by omega) inb_S2048x256_S2048x128_0_128 k x).trans (blk2 m c t k _)

/-- The score a grid point forms against a cached key is the plain formula's. -/
theorem staged_cached (c : Dev nD) (t : Fin cfg0.N) (r : Fin 256) (k : Fin 512)
    (v0 v2 : FVec Ideal S256x128 .f32) (v4 : FVec Ideal S512x128 .f32) (v7 : FVec Ideal S1x512x128 .f32)
    (h0 : ∀ x, v0 (ix2 r x) = Q m c (ix2 ⟨(bOf t).val * 2048 + (iOf t r).val, by omega⟩ ⟨(hOf t).val * 256 + x.val, by omega⟩))
    (h2 : ∀ x, v2 (ix2 r x) = Q m c (ix2 ⟨(bOf t).val * 2048 + (iOf t r).val, by omega⟩ ⟨(hOf t).val * 256 + (128 + x.val), by omega⟩))
    (h4 : ∀ x, v4 (ix2 k x) = KV m c (ix2 ⟨12288 + ((bOf t).val * 512 + k.val), by omega⟩ ⟨(hOf t).val * 256 + x.val, by omega⟩))
    (h7 : ∀ x, v7 (ix3 0 k x) = if h : x.val < 64 then PC m c (ix3 (bOf t) k ⟨x.val, h⟩) else 0) :
    ((∑ x : Fin 128, v0 (ix2 r x) * v4 (ix2 k x)) + ∑ x : Fin 128, v2 (ix2 r x) * v7 (ix3 0 k x)) * scale
      = cachedScore (Q m c) (KV m c) (PC m c) (bOf t) (hOf t) (iOf t r) k := by
  unfold cachedScore
  refine congrArg (· * scale) (congrArg₂ (· + ·) (Finset.sum_congr rfl fun x _ => congrArg₂ (· * ·) (h0 x) (h4 x)) ?_)
  exact (Finset.sum_congr rfl fun x _ => congrArg₂ (· * ·) (h2 x) (h7 x)).trans
    (sum_filled (fun x => Q m c (ix2 ⟨(bOf t).val * 2048 + (iOf t r).val, by omega⟩ ⟨(hOf t).val * 256 + (128 + x.val), by omega⟩))
      (fun x => PC m c (ix3 (bOf t) k x)))

/-- The score a grid point forms against a new key is the plain formula's. -/
theorem staged_new (c : Dev nD) (t : Fin cfg0.N) (r : Fin 256) (k : Fin 2048)
    (v0 v2 : FVec Ideal S256x128 .f32) (v14 v17 : FVec Ideal S2048x128 .f32)
    (h0 : ∀ x, v0 (ix2 r x) = Q m c (ix2 ⟨(bOf t).val * 2048 + (iOf t r).val, by omega⟩ ⟨(hOf t).val * 256 + x.val, by omega⟩))
    (h2 : ∀ x, v2 (ix2 r x) = Q m c (ix2 ⟨(bOf t).val * 2048 + (iOf t r).val, by omega⟩ ⟨(hOf t).val * 256 + (128 + x.val), by omega⟩))
    (h4 : ∀ x, v14 (ix2 k x) = KV m c (ix2 ⟨8192 + ((bOf t).val * 2048 + k.val), by omega⟩ ⟨(hOf t).val * 256 + x.val, by omega⟩))
    (h7 : ∀ x, v17 (ix2 k x) = if h : x.val < 64 then PN m c (ix2 ⟨(bOf t).val * 2048 + k.val, by omega⟩ ⟨x.val, h⟩) else 0) :
    ((∑ x : Fin 128, v0 (ix2 r x) * v14 (ix2 k x)) + ∑ x : Fin 128, v2 (ix2 r x) * v17 (ix2 k x)) * scale
      = newScore (Q m c) (KV m c) (PN m c) (bOf t) (hOf t) (iOf t r) k := by
  unfold newScore
  refine congrArg (· * scale) (congrArg₂ (· + ·) (Finset.sum_congr rfl fun x _ => congrArg₂ (· * ·) (h0 x) (h4 x)) ?_)
  exact (Finset.sum_congr rfl fun x _ => congrArg₂ (· * ·) (h2 x) (h7 x)).trans
    (sum_filled (fun x => Q m c (ix2 ⟨(bOf t).val * 2048 + (iOf t r).val, by omega⟩ ⟨(hOf t).val * 256 + (128 + x.val), by omega⟩))
      (fun x => PN m c (ix2 ⟨(bOf t).val * 2048 + k.val, by omega⟩ x)))

/-- What a grid point stores is the payload of its staged blocks. -/
theorem stored_pay (c : Dev nD) (t : Fin cfg0.N) (r : Fin 256) (d : Fin 128) (z : EReal)
    (h : k0_pay1
        (k0_pay7 (View.ld (iblk m c 0 t) (Rect.unit ![0, 0] ![256, 128] inb_S256x256_S256x128_0_0)) (View.ld (iblk m c 0 t) (Rect.unit ![0, 128] ![256, 128] inb_S256x256_S256x128_0_128))
          (View.ld (iblk m c 1 t) (Rect.unit ![0, 0] ![512, 128] inb_S512x256_S512x128_0_0)) (iblk m c 3 t) (View.ld (X0_2 m c t) (Rect.unit ![0, 0] ![2048, 128] inb_S2048x256_S2048x128_0_0)) (iblk m c 4 t))
        (k0_pay8 (View.ld (iblk m c 0 t) (Rect.unit ![0, 0] ![256, 128] inb_S256x256_S256x128_0_0)) (View.ld (iblk m c 0 t) (Rect.unit ![0, 128] ![256, 128] inb_S256x256_S256x128_0_128))
          (View.ld (iblk m c 1 t) (Rect.unit ![0, 0] ![512, 128] inb_S512x256_S512x128_0_0)) (iblk m c 3 t) (View.ld (X0_2 m c t) (Rect.unit ![0, 0] ![2048, 128] inb_S2048x256_S2048x128_0_0)) (iblk m c 4 t))
        (View.ld (iblk m c 1 t) (Rect.unit ![0, 128] ![512, 128] inb_S512x256_S512x128_0_128)) (View.ld (X0_2 m c t) (Rect.unit ![0, 128] ![2048, 128] inb_S2048x256_S2048x128_0_128)) (ix2 r d) = z) :
    outsAt0 m c t (ix2 r d) = z := by
  refine Eq.trans ?_ h
  unfold outsAt0
  frame_out
  rfl

/-- What a grid point stores at row `r` and lane `d` is the attention of that row's query over all its keys. -/
theorem stored (c : Dev nD) (t : Fin cfg0.N) (r : Fin 256) (d : Fin 128) :
    outsAt0 m c t (ix2 r d)
      = att (cachedScore (Q m c) (KV m c) (PC m c) (bOf t) (hOf t) (iOf t r))
          (newScore (Q m c) (KV m c) (PN m c) (bOf t) (hOf t) (iOf t r))
          (fun k => KV m c (ix2 ⟨12288 + ((bOf t).val * 512 + k.val), by omega⟩ ⟨(hOf t).val * 256 + (128 + d.val), by omega⟩))
          (fun k => KV m c (ix2 ⟨8192 + ((bOf t).val * 2048 + k.val), by omega⟩ ⟨(hOf t).val * 256 + (128 + d.val), by omega⟩)) := by
  refine stored_pay m c t r d _ ((pay_eq _ _ _ _ _ _ _ _ r d).trans ?_)
  have e1 := funext fun k => staged_cached m c t r k _ _ _ _ (qA m c t r) (qB m c t r) (cA m c t k) (blk3 m c t k)
  have e2 := funext fun k => staged_new m c t r k _ _ _ _ (qA m c t r) (qB m c t r) (nA m c t k) (blk4 m c t k)
  exact congr (congr (congr (congrArg att e1) e2) (funext fun k => cB m c t k d)) (funext fun k => nB m c t k d)

/-- A grid point's block, element by element, is the reference's. -/
theorem point (c : Dev nD) (f : Finite (Q m c) (KV m c) (PC m c) (PN m c)) (t : Fin cfg0.N) (r : Fin 256) (d : Fin 128) :
    outsAt0 m c t (ix2 r d)
      = MlaLatentRefIdeal.Read.val_main_v30 (F := Ideal) (Q m c) (KV m c) (PC m c) (PN m c)
        (ix2 ⟨(t.val / 64 * 8 + t.val % 8) * 256 + r.val, by have := tlt t; omega⟩ ⟨t.val / 8 % 8 * 128 + d.val, by omega⟩) := by
  have ht := tlt t
  rw [out]
  have e1 : (⟨((t.val / 64 * 8 + t.val % 8) * 256 + r.val) / 2048, by omega⟩ : Fin 2) = bOf t := Fin.ext (by show ((t.val / 64 * 8 + t.val % 8) * 256 + r.val) / 2048 = t.val / 64; omega)
  have e2 : (⟨((t.val / 64 * 8 + t.val % 8) * 256 + r.val) % 2048, by omega⟩ : Fin 2048) = iOf t r := Fin.ext (by show ((t.val / 64 * 8 + t.val % 8) * 256 + r.val) % 2048 = t.val % 8 * 256 + r.val; omega)
  have e3 : (⟨(t.val / 8 % 8 * 128 + d.val) / 128, by omega⟩ : Fin 8) = hOf t := Fin.ext (by show (t.val / 8 % 8 * 128 + d.val) / 128 = t.val / 8 % 8; omega)
  have e4 : (⟨(t.val / 8 % 8 * 128 + d.val) % 128, by omega⟩ : Fin 128) = d := Fin.ext (by show (t.val / 8 % 8 * 128 + d.val) % 128 = d.val; omega)
  simp only [e1, e2, e3, e4]
  have hdn : dn (cachedScore (Q m c) (KV m c) (PC m c) (bOf t) (hOf t) (iOf t r)) (newScore (Q m c) (KV m c) (PN m c) (bOf t) (hOf t) (iOf t r)) ≠ 0 :=
    dn_ne_zero _ _ (cachedScore_finite _ _ _ _ f _ _ _) (newScore_finite _ _ _ _ f _ _ _)
  rw [attended _ _ _ _ _ _ _ _ hdn]
  exact stored m c t r d

theorem final (c : Dev nD) (f : Finite (Q m c) (KV m c) (PC m c) (PN m c)) : (dats (F := Ideal) m 0 c).arrAt 5 cfg0.N
    = (MlaLatentRefIdeal.Read.val_main_v30 (F := Ideal) (Q m c) (KV m c) (PC m c) (PN m c) : FVec Ideal S4096x1024 .f32) := by
  refine (dats m 0 c).arrAt_eq_of_covers 5 _ (by decide +kernel) fun t _ y => ?_
  blk_simp
  rw [after0_5]
  obtain ⟨r, d, rfl⟩ : ∃ (r : Fin 256) (d : Fin 128), y = (ix2 r d : S256x128.Idx) := ⟨y 0, y 1, by funext a; match a with | ⟨0, _⟩ => rfl | ⟨1, _⟩ => rfl⟩
  rw [win_emb]
  exact point m c f t r d

/-- An absolute value below +∞ says the number is finite. -/
theorem finite (x : EReal) (h : Ideal.cmp .olt (max x (-x)) (Ideal.ofBits .f32 0x7F800000#32) = 1#1) : Fin' x := by
  have ht : Ideal.ofBits .f32 0x7F800000#32 = ⊤ := by simp [Ideal.ofBits, Ideal.ieee]
  rw [ht] at h
  constructor
  · rintro rfl
    simp [Ideal.cmp] at h
  · rintro rfl
    simp [Ideal.cmp] at h

/-- The query lanes the precondition reads. -/
theorem query_lane (x : FVec Ideal S4096x2048 .f32) (h1 : _) (h2 : _) (r : Fin 4096) (h : Fin 8) (l : Fin 192) :
    extractStridedSlice Cert.Pre_finite_mla.S4096x8x192 ![0, 0, 0] (shapeCast Cert.Pre_finite_mla.S4096x8x256 x h1) h2 (ix3 r h l)
      = x (ix2 r ⟨h.val * 256 + l.val, by omega⟩) := by
  pointwise []

/-- The key lanes the precondition reads. -/
theorem key_lane (x : FVec Ideal S13312x2048 .f32) (h0 : _) (h1 : _) (h2 : _) (r : Fin 5120) (h : Fin 8) (l : Fin 128) :
    extractStridedSlice Cert.Pre_finite_mla.S5120x8x128 ![0, 0, 0] (shapeCast Cert.Pre_finite_mla.S5120x8x256
        (extractStridedSlice Cert.Pre_finite_mla.S5120x2048 ![8192, 0] x h0) h1) h2 (ix3 r h l)
      = x (ix2 ⟨8192 + r.val, by omega⟩ ⟨h.val * 256 + l.val, by omega⟩) := by
  pointwise []

/-- The precondition says that the lanes the scores read are finite. -/
theorem pre_finite (c : Dev nD) (hp : Cert.Pre_finite_mla.fn (F := Ideal) (Q m c) (KV m c) (PC m c) (PN m c) = fun _ => 1#1) :
    Finite (Q m c) (KV m c) (PC m c) (PN m c) := by
  have h := congrFun hp ix0
  unfold Cert.Pre_finite_mla.fn Cert.Pre_finite_mla.fn_part1 at h
  obtain ⟨h012, h3⟩ := IntOp.andi_eq_one.mp h
  obtain ⟨h01, h2⟩ := IntOp.andi_eq_one.mp h012
  obtain ⟨h0, h1⟩ := IntOp.andi_eq_one.mp h01
  have : Subsingleton Cert.Pre_finite_mla.S_.Idx := ⟨fun a b => funext fun k => k.elim0⟩
  refine ⟨fun r h x => ?_, fun r h x => ?_, fun i => finite _ (Host.reduce_andi_all _ _ _ _ _ h2 i),
    fun i => finite _ (Host.reduce_andi_all _ _ _ _ _ h3 i)⟩
  · rw [← query_lane (Q m c) Cert.Pre_finite_mla.Gen.facts.shapeCasts_S4096x2048_S4096x8x256 Cert.Pre_finite_mla.Gen.facts.slices_S4096x8x256_S4096x8x192_0_0_0 r h x]
    exact finite _ (Host.reduce_andi_all _ _ _ _ _ h0 (ix3 r h x))
  · rw [← key_lane (KV m c) Cert.Pre_finite_mla.Gen.facts.slices_S13312x2048_S5120x2048_8192_0 Cert.Pre_finite_mla.Gen.facts.shapeCasts_S5120x2048_S5120x8x256
      Cert.Pre_finite_mla.Gen.facts.slices_S5120x8x256_S5120x8x128_0_0_0 r h x]
    exact finite _ (Host.reduce_andi_all _ _ _ _ _ h1 (ix3 r h x))

end Cert.MlaLatentIdeal.Val

end
-- ==== Proof.MlaLatentClaim.lean ====
module

public import proofs.«01_k».proof.Defs
public import proofs.«01_k».proof.Proof.MlaLatentValue
public import proofs.«01_k».proof.Proof.Gen.MlaLatent
public import proofs.«01_k».proof.Proof.Gen.MlaLatentIdeal
public import proofs.«01_k».proof.Proof.Gen.MlaLatentRefIdeal
public import proofs.«01_k».proof.Proof.Gen.MlaLatentRefIdeal.Run
public import proofs.«01_k».proof.Proof.Gen.Pre_finite_mla
public import Idealize.ShloMosaic.Lib.Claim

/-! The value claim of the latent attention, from the kernel's run and the reference's. -/

@[expose] public section

set_option maxRecDepth 16384

noncomputable section

namespace Cert.MlaLatentClaim

open Idealize.ShloMosaic Idealize.ShloMosaic.TcCoe Idealize.SL.Sem

/-- Kernel and reference end with the same array, wherever what the scores read is finite. -/
theorem algebraic : Cert.algebraic_MlaLatentIdeal_MlaLatentRefIdeal_pre_finite_mla
    (hMlaLatentIdeal := Cert.MlaLatentIdeal.Gen.facts) (hMlaLatentRefIdeal := Cert.MlaLatentRefIdeal.Gen.facts)
    (hPre_finite_mla := Cert.Pre_finite_mla.Gen.facts) := by
  intro m g m' g' hp ha
  refine ⟨fun c => (Cert.MlaLatentRefIdeal.Read.val_main_v30 (F := Ideal)
      (m ((c.tc : Thread Cert.MlaLatentIdeal.nD Cert.MlaLatentIdeal.τ).loc Cert.MlaLatentIdeal.main_arg0))
      (m ((c.tc : Thread Cert.MlaLatentIdeal.nD Cert.MlaLatentIdeal.τ).loc Cert.MlaLatentIdeal.main_arg1))
      (m ((c.tc : Thread Cert.MlaLatentIdeal.nD Cert.MlaLatentIdeal.τ).loc Cert.MlaLatentIdeal.main_arg2))
      (m ((c.tc : Thread Cert.MlaLatentIdeal.nD Cert.MlaLatentIdeal.τ).loc Cert.MlaLatentIdeal.main_arg3)) :
      FVec Ideal Cert.MlaLatentIdeal.S4096x1024 .f32), ?_, ?_⟩
  · refine (θ_run _ _ _).mono (fun r h c => ?_) (Cert.MlaLatentIdeal.Value.run_blocks m g)
    exact ⟨(h c).1.trans (Cert.MlaLatentIdeal.Val.final m c (Cert.MlaLatentIdeal.Val.pre_finite m c (hp c))), (h c).2⟩
  · refine (θ_run _ _ _).mono (fun r h c => ?_) (Cert.MlaLatentRefIdeal.Value.run m' g')
    refine ⟨(h c).1.trans ?_, (h c).2⟩
    rw [Cert.MlaLatentRefIdeal.Read.val_main_v30_eq]
    obtain ⟨a0, a1, a2, a3⟩ := ha c
    rw [a0, a1, a2, a3]

/-- The reference terminates, keeps its arguments and has no semaphore. -/
theorem reference_frame (m : (ℓ : Loc Cert.MlaLatentRefIdeal.nD Cert.MlaLatentRefIdeal.τ Cert.MlaLatentRefIdeal.sig) → Buf (Elt Ideal) ℓ)
    (g : Dev Cert.MlaLatentRefIdeal.nD → PrngReg) :
    θ_run (Cert.MlaLatentRefIdeal.defs (F := Ideal)) (onTc (τ := Cert.MlaLatentRefIdeal.τ) (Cert.MlaLatentRefIdeal.main (F := Ideal)))
      ⟨m, fun _ => 0, g⟩ fun r => (∀ c : Dev Cert.MlaLatentRefIdeal.nD,
        r.2.mem ((c.tc : Thread Cert.MlaLatentRefIdeal.nD Cert.MlaLatentRefIdeal.τ).loc Cert.MlaLatentRefIdeal.main_arg0) = m ((c.tc : Thread Cert.MlaLatentRefIdeal.nD Cert.MlaLatentRefIdeal.τ).loc Cert.MlaLatentRefIdeal.main_arg0)
        ∧ r.2.mem ((c.tc : Thread Cert.MlaLatentRefIdeal.nD Cert.MlaLatentRefIdeal.τ).loc Cert.MlaLatentRefIdeal.main_arg1) = m ((c.tc : Thread Cert.MlaLatentRefIdeal.nD Cert.MlaLatentRefIdeal.τ).loc Cert.MlaLatentRefIdeal.main_arg1)
        ∧ r.2.mem ((c.tc : Thread Cert.MlaLatentRefIdeal.nD Cert.MlaLatentRefIdeal.τ).loc Cert.MlaLatentRefIdeal.main_arg2) = m ((c.tc : Thread Cert.MlaLatentRefIdeal.nD Cert.MlaLatentRefIdeal.τ).loc Cert.MlaLatentRefIdeal.main_arg2)
        ∧ r.2.mem ((c.tc : Thread Cert.MlaLatentRefIdeal.nD Cert.MlaLatentRefIdeal.τ).loc Cert.MlaLatentRefIdeal.main_arg3) = m ((c.tc : Thread Cert.MlaLatentRefIdeal.nD Cert.MlaLatentRefIdeal.τ).loc Cert.MlaLatentRefIdeal.main_arg3))
        ∧ r.2.sem = fun _ => 0 :=
  (θ_run _ _ _).mono (fun r h => ⟨fun c => (h c).2, sem_eq_zero_of_no_sems (by decide) r.2⟩)
    (Cert.MlaLatentRefIdeal.Value.run m g)

end Cert.MlaLatentClaim

end
-- ==== Proof.lean ====
module

public import proofs.«01_k».proof.Defs
public import proofs.«01_k».proof.Proof.Gen.DiffLatent
public import proofs.«01_k».proof.Proof.Gen.DiffLatent.Skeleton
public import proofs.«01_k».proof.Proof.Gen.DiffLatent.Launch
public import proofs.«01_k».proof.Proof.Gen.DiffLatent.Points
public import proofs.«01_k».proof.Proof.Gen.DiffLatent.Frame
public import proofs.«01_k».proof.Proof.Gen.DiffLatentIdeal
public import proofs.«01_k».proof.Proof.Gen.DiffLatentIdeal.Skeleton
public import proofs.«01_k».proof.Proof.Gen.DiffLatentIdeal.Launch
public import proofs.«01_k».proof.Proof.Gen.DiffLatentIdeal.Points
public import proofs.«01_k».proof.Proof.Gen.DiffLatentIdeal.Frame
public import proofs.«01_k».proof.Proof.Gen.DiffLatentRefIdeal
public import proofs.«01_k».proof.Proof.Gen.Pre_finite_scores
public import proofs.«01_k».proof.Proof.DiffClaim
public import proofs.«01_k».proof.Proof.Gen.FfnDense
public import proofs.«01_k».proof.Proof.Gen.FfnDense.Skeleton
public import proofs.«01_k».proof.Proof.Gen.FfnDense.Launch
public import proofs.«01_k».proof.Proof.Gen.FfnDense.Points
public import proofs.«01_k».proof.Proof.Gen.FfnDense.Frame
public import proofs.«01_k».proof.Proof.Gen.FfnDenseIdeal
public import proofs.«01_k».proof.Proof.Gen.FfnDenseIdeal.Frame
public import proofs.«01_k».proof.Proof.Gen.FfnDenseRefIdeal
public import proofs.«01_k».proof.Proof.FfnClaim
public import proofs.«01_k».proof.Proof.Gen.FfnMoe
public import proofs.«01_k».proof.Proof.Gen.FfnMoe.Skeleton
public import proofs.«01_k».proof.Proof.Gen.FfnMoe.Launch
public import proofs.«01_k».proof.Proof.Gen.FfnMoeIdeal
public import proofs.«01_k».proof.Proof.Gen.FfnMoeIdeal.Skeleton
public import proofs.«01_k».proof.Proof.Gen.FfnMoeIdeal.Launch
public import proofs.«01_k».proof.Proof.Gen.FfnMoeRefIdeal
public import proofs.«01_k».proof.Proof.Gen.FfnMoeRefIdeal.Run
public import proofs.«01_k».proof.Proof.Gen.FfnMoeRefIdeal.Read
public import proofs.«01_k».proof.Proof.Gen.Pre_experts_in_range
public import proofs.«01_k».proof.Proof.MoeClaim
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.QkvClaim
public import proofs.«01_k».proof.Proof.Gen.NormPrompt
public import proofs.«01_k».proof.Proof.Gen.NormPrompt.Frame
public import proofs.«01_k».proof.Proof.Gen.NormPromptIdeal
public import proofs.«01_k».proof.Proof.Gen.NormPromptIdeal.Frame
public import proofs.«01_k».proof.Proof.Gen.NormPromptRefIdeal
public import proofs.«01_k».proof.Proof.NormPromptClaim
public import proofs.«01_k».proof.Proof.Gen.NormSample
public import proofs.«01_k».proof.Proof.Gen.NormSample.Frame
public import proofs.«01_k».proof.Proof.Gen.NormSampleIdeal
public import proofs.«01_k».proof.Proof.Gen.NormSampleIdeal.Frame
public import proofs.«01_k».proof.Proof.Gen.NormSampleRefIdeal
public import proofs.«01_k».proof.Proof.NormSampleClaim
public import proofs.«01_k».proof.Proof.Gen.MlaA
public import proofs.«01_k».proof.Proof.Gen.MlaA.Frame
public import proofs.«01_k».proof.Proof.Gen.MlaAIdeal
public import proofs.«01_k».proof.Proof.Gen.MlaAIdeal.Frame
public import proofs.«01_k».proof.Proof.Gen.MlaARefIdeal
public import proofs.«01_k».proof.Proof.MlaAClaim
public import proofs.«01_k».proof.Proof.Gen.MlaCkv
public import proofs.«01_k».proof.Proof.Gen.MlaCkv.Frame
public import proofs.«01_k».proof.Proof.Gen.MlaCkvIdeal
public import proofs.«01_k».proof.Proof.Gen.MlaCkvIdeal.Frame
public import proofs.«01_k».proof.Proof.Gen.MlaCkvRefIdeal
public import proofs.«01_k».proof.Proof.MlaCkvClaim
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.OutProjClaim
public import proofs.«01_k».proof.Proof.Gen.MlaQ
public import proofs.«01_k».proof.Proof.Gen.MlaQ.Frame
public import proofs.«01_k».proof.Proof.Gen.MlaQIdeal
public import proofs.«01_k».proof.Proof.Gen.MlaQIdeal.Frame
public import proofs.«01_k».proof.Proof.Gen.MlaQRefIdeal
public import proofs.«01_k».proof.Proof.MlaQClaim
public import proofs.«01_k».proof.Proof.Gen.MlaKvb
public import proofs.«01_k».proof.Proof.Gen.MlaKvb.Frame
public import proofs.«01_k».proof.Proof.Gen.MlaKvbIdeal
public import proofs.«01_k».proof.Proof.Gen.MlaKvbIdeal.Frame
public import proofs.«01_k».proof.Proof.Gen.MlaKvbRefIdeal
public import proofs.«01_k».proof.Proof.MlaKvbClaim
public import proofs.«01_k».proof.Proof.Gen.MlaLatent
public import proofs.«01_k».proof.Proof.Gen.MlaLatent.Frame
public import proofs.«01_k».proof.Proof.Gen.MlaLatentIdeal
public import proofs.«01_k».proof.Proof.Gen.MlaLatentIdeal.Frame
public import proofs.«01_k».proof.Proof.Gen.MlaLatentRefIdeal
public import proofs.«01_k».proof.Proof.Gen.Pre_finite_mla
public import proofs.«01_k».proof.Proof.MlaLatentClaim
public import Idealize.ShloMosaic.Adequacy
public import Idealize.ShloMosaic.Init

@[expose] public section

noncomputable section

namespace Cert.Proof

open Idealize.ShloMosaic Idealize.SL.Sem Cert.DiffLatent

theorem claim : Cert.Claim :=
  ⟨Cert.DiffLatent.Gen.facts, Cert.DiffLatentIdeal.Gen.facts, Cert.DiffLatentRefIdeal.Gen.facts,
    Cert.FfnDense.Gen.facts, Cert.FfnDenseIdeal.Gen.facts, Cert.FfnDenseRefIdeal.Gen.facts,
    Cert.FfnMoe.Gen.facts, Cert.FfnMoeIdeal.Gen.facts, Cert.FfnMoeRefIdeal.Gen.facts,
    Cert.Qkv.Gen.facts, Cert.QkvIdeal.Gen.facts, Cert.QkvRefIdeal.Gen.facts,
    Cert.NormPrompt.Gen.facts, Cert.NormPromptIdeal.Gen.facts, Cert.NormPromptRefIdeal.Gen.facts,
    Cert.NormSample.Gen.facts, Cert.NormSampleIdeal.Gen.facts, Cert.NormSampleRefIdeal.Gen.facts,
    Cert.MlaA.Gen.facts, Cert.MlaAIdeal.Gen.facts, Cert.MlaARefIdeal.Gen.facts,
    Cert.MlaCkv.Gen.facts, Cert.MlaCkvIdeal.Gen.facts, Cert.MlaCkvRefIdeal.Gen.facts,
    Cert.OutProj.Gen.facts, Cert.OutProjIdeal.Gen.facts, Cert.OutProjRefIdeal.Gen.facts,
    Cert.MlaQ.Gen.facts, Cert.MlaQIdeal.Gen.facts, Cert.MlaQRefIdeal.Gen.facts,
    Cert.MlaKvb.Gen.facts, Cert.MlaKvbIdeal.Gen.facts, Cert.MlaKvbRefIdeal.Gen.facts,
    Cert.MlaLatent.Gen.facts, Cert.MlaLatentIdeal.Gen.facts, Cert.MlaLatentRefIdeal.Gen.facts,
    Cert.Pre_finite_scores.Gen.facts, Cert.Pre_experts_in_range.Gen.facts, Cert.Pre_finite_mla.Gen.facts,
    fun m ρ _ => Cert.DiffLatent.Gen.frame m ρ,
    fun m ρ _ => Cert.DiffLatentIdeal.Gen.frame m ρ,
    fun m ρ _ => Cert.DiffLatentIdeal.Gen.frame m ρ,
    fun m ρ _ => Cert.DiffClaim.reference_frame m ρ,
    fun m ρ _ => Cert.DiffClaim.reference_frame m ρ,
    fun m ρ _ => Cert.FfnDense.Gen.frame m ρ,
    fun m ρ _ => Cert.FfnDenseIdeal.Gen.frame m ρ,
    fun m ρ _ => Cert.FfnClaim.reference_frame m ρ,
    Cert.MoeClaim.frame,
    Cert.MoeClaim.frame_ideal,
    fun m ρ _ => Cert.MoeClaim.reference_frame m ρ,
    fun m ρ _ => Cert.Qkv.Gen.frame m ρ,
    fun m ρ _ => Cert.QkvIdeal.Gen.frame m ρ,
    fun m ρ _ => Cert.QkvClaim.reference_frame m ρ,
    fun m ρ _ => Cert.NormPrompt.Gen.frame m ρ,
    fun m ρ _ => Cert.NormPromptIdeal.Gen.frame m ρ,
    fun m ρ _ => Cert.NormPromptClaim.reference_frame m ρ,
    fun m ρ _ => Cert.NormSample.Gen.frame m ρ,
    fun m ρ _ => Cert.NormSampleIdeal.Gen.frame m ρ,
    fun m ρ _ => Cert.NormSampleClaim.reference_frame m ρ,
    fun m ρ _ => Cert.MlaA.Gen.frame m ρ,
    fun m ρ _ => Cert.MlaAIdeal.Gen.frame m ρ,
    fun m ρ _ => Cert.MlaAClaim.reference_frame m ρ,
    fun m ρ _ => Cert.MlaCkv.Gen.frame m ρ,
    fun m ρ _ => Cert.MlaCkvIdeal.Gen.frame m ρ,
    fun m ρ _ => Cert.MlaCkvClaim.reference_frame m ρ,
    fun m ρ _ => Cert.OutProj.Gen.frame m ρ,
    fun m ρ _ => Cert.OutProjIdeal.Gen.frame m ρ,
    fun m ρ _ => Cert.OutProjClaim.reference_frame m ρ,
    fun m ρ _ => Cert.MlaQ.Gen.frame m ρ,
    fun m ρ _ => Cert.MlaQIdeal.Gen.frame m ρ,
    fun m ρ _ => Cert.MlaQClaim.reference_frame m ρ,
    fun m ρ _ => Cert.MlaKvb.Gen.frame m ρ,
    fun m ρ _ => Cert.MlaKvbIdeal.Gen.frame m ρ,
    fun m ρ _ => Cert.MlaKvbClaim.reference_frame m ρ,
    fun m ρ _ => Cert.MlaLatent.Gen.frame m ρ,
    fun m ρ _ => Cert.MlaLatentIdeal.Gen.frame m ρ,
    fun m ρ _ => Cert.MlaLatentIdeal.Gen.frame m ρ,
    fun m ρ _ => Cert.MlaLatentClaim.reference_frame m ρ,
    fun m ρ _ => Cert.MlaLatentClaim.reference_frame m ρ,
    trivial,
    Cert.DiffClaim.algebraic,
    trivial,
    Cert.FfnClaim.algebraic,
    trivial,
    Cert.MoeClaim.algebraic,
    trivial,
    Cert.QkvClaim.algebraic,
    trivial,
    Cert.NormPromptClaim.algebraic,
    trivial,
    Cert.NormSampleClaim.algebraic,
    trivial,
    Cert.MlaAClaim.algebraic,
    trivial,
    Cert.MlaCkvClaim.algebraic,
    trivial,
    Cert.OutProjClaim.algebraic,
    trivial,
    Cert.MlaQClaim.algebraic,
    trivial,
    Cert.MlaKvbClaim.algebraic,
    trivial,
    Cert.MlaLatentClaim.algebraic⟩

end Cert.Proof

end
